-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_RefFfnUpIdeal (m : (ℓ : Loc Cert.RefFfnUpIdeal.nD Cert.RefFfnUpIdeal.τ Cert.RefFfnUpIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_RefDownLnIdeal (m : (ℓ : Loc Cert.RefDownLnIdeal.nD Cert.RefDownLnIdeal.τ Cert.RefDownLnIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_RefOutLnIdeal (m : (ℓ : Loc Cert.RefOutLnIdeal.nD Cert.RefOutLnIdeal.τ Cert.RefOutLnIdeal.sig) → Buf (Elt Ideal) ℓ) : Prop :=
  True

def Pre_ProjQk (m : (ℓ : Loc Cert.ProjQk.nD Cert.ProjQk.τ Cert.ProjQk.sig) → Buf (Elt Bits) ℓ) : Prop :=
  True

def Pre_ProjQkIdeal (m : (ℓ : Loc Cert.ProjQkIdeal.nD Cert.ProjQkIdeal.τ Cert.ProjQkIdeal.sig) → Buf (Elt Ideal) ℓ) : Prop :=
  True

def Pre_RefProjQkIdeal (m : (ℓ : Loc Cert.RefProjQkIdeal.nD Cert.RefProjQkIdeal.τ Cert.RefProjQkIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_RefProjAIdeal (m : (ℓ : Loc Cert.RefProjAIdeal.nD Cert.RefProjAIdeal.τ Cert.RefProjAIdeal.sig) → Buf (Elt Ideal) ℓ) : Prop :=
  True

def Pre_VtAttn (m : (ℓ : Loc Cert.VtAttn.nD Cert.VtAttn.τ Cert.VtAttn.sig) → Buf (Elt Bits) ℓ) : Prop :=
  True

def Pre_VtAttnIdeal (m : (ℓ : Loc Cert.VtAttnIdeal.nD Cert.VtAttnIdeal.τ Cert.VtAttnIdeal.sig) → Buf (Elt Ideal) ℓ) : Prop :=
  True

def Pre_RefVtAttnIdeal (m : (ℓ : Loc Cert.RefVtAttnIdeal.nD Cert.RefVtAttnIdeal.τ Cert.RefVtAttnIdeal.sig) → Buf (Elt Ideal) ℓ) : Prop :=
  True

def Pre_FirstHalf (m : (ℓ : Loc Cert.FirstHalf.nD Cert.FirstHalf.τ Cert.FirstHalf.sig) → Buf (Elt Bits) ℓ) : Prop :=
  True

def Pre_FirstHalfIdeal (m : (ℓ : Loc Cert.FirstHalfIdeal.nD Cert.FirstHalfIdeal.τ Cert.FirstHalfIdeal.sig) → Buf (Elt Ideal) ℓ) : Prop :=
  True

def Pre_FirstHalfIdeal_finite [hPre_finite : Cert.Pre_finite.Facts] (m : (ℓ : Loc Cert.FirstHalfIdeal.nD Cert.FirstHalfIdeal.τ Cert.FirstHalfIdeal.sig) → Buf (Elt Ideal) ℓ) : Prop :=
  ∀ c : Dev Cert.FirstHalfIdeal.nD,
    (Cert.Pre_finite.fn (F := Ideal) (m ((c.tc : Thread Cert.FirstHalfIdeal.nD Cert.FirstHalfIdeal.τ).loc Cert.FirstHalfIdeal.main_arg0)) (m ((c.tc : Thread Cert.FirstHalfIdeal.nD Cert.FirstHalfIdeal.τ).loc Cert.FirstHalfIdeal.main_arg1)) (m ((c.tc : Thread Cert.FirstHalfIdeal.nD Cert.FirstHalfIdeal.τ).loc Cert.FirstHalfIdeal.main_arg2)) (m ((c.tc : Thread Cert.FirstHalfIdeal.nD Cert.FirstHalfIdeal.τ).loc Cert.FirstHalfIdeal.main_arg3)) (m ((c.tc : Thread Cert.FirstHalfIdeal.nD Cert.FirstHalfIdeal.τ).loc Cert.FirstHalfIdeal.main_arg4)) (m ((c.tc : Thread Cert.FirstHalfIdeal.nD Cert.FirstHalfIdeal.τ).loc Cert.FirstHalfIdeal.main_arg5)) (m ((c.tc : Thread Cert.FirstHalfIdeal.nD Cert.FirstHalfIdeal.τ).loc Cert.FirstHalfIdeal.main_arg6))).1 = (fun _ => 1#1)
    ∧ (Cert.Pre_finite.fn (F := Ideal) (m ((c.tc : Thread Cert.FirstHalfIdeal.nD Cert.FirstHalfIdeal.τ).loc Cert.FirstHalfIdeal.main_arg0)) (m ((c.tc : Thread Cert.FirstHalfIdeal.nD Cert.FirstHalfIdeal.τ).loc Cert.FirstHalfIdeal.main_arg1)) (m ((c.tc : Thread Cert.FirstHalfIdeal.nD Cert.FirstHalfIdeal.τ).loc Cert.FirstHalfIdeal.main_arg2)) (m ((c.tc : Thread Cert.FirstHalfIdeal.nD Cert.FirstHalfIdeal.τ).loc Cert.FirstHalfIdeal.main_arg3)) (m ((c.tc : Thread Cert.FirstHalfIdeal.nD Cert.FirstHalfIdeal.τ).loc Cert.FirstHalfIdeal.main_arg4)) (m ((c.tc : Thread Cert.FirstHalfIdeal.nD Cert.FirstHalfIdeal.τ).loc Cert.FirstHalfIdeal.main_arg5)) (m ((c.tc : Thread Cert.FirstHalfIdeal.nD Cert.FirstHalfIdeal.τ).loc Cert.FirstHalfIdeal.main_arg6))).2.1 = (fun _ => 1#1)
    ∧ (Cert.Pre_finite.fn (F := Ideal) (m ((c.tc : Thread Cert.FirstHalfIdeal.nD Cert.FirstHalfIdeal.τ).loc Cert.FirstHalfIdeal.main_arg0)) (m ((c.tc : Thread Cert.FirstHalfIdeal.nD Cert.FirstHalfIdeal.τ).loc Cert.FirstHalfIdeal.main_arg1)) (m ((c.tc : Thread Cert.FirstHalfIdeal.nD Cert.FirstHalfIdeal.τ).loc Cert.FirstHalfIdeal.main_arg2)) (m ((c.tc : Thread Cert.FirstHalfIdeal.nD Cert.FirstHalfIdeal.τ).loc Cert.FirstHalfIdeal.main_arg3)) (m ((c.tc : Thread Cert.FirstHalfIdeal.nD Cert.FirstHalfIdeal.τ).loc Cert.FirstHalfIdeal.main_arg4)) (m ((c.tc : Thread Cert.FirstHalfIdeal.nD Cert.FirstHalfIdeal.τ).loc Cert.FirstHalfIdeal.main_arg5)) (m ((c.tc : Thread Cert.FirstHalfIdeal.nD Cert.FirstHalfIdeal.τ).loc Cert.FirstHalfIdeal.main_arg6))).2.2 = (fun _ => 1#1)

def Pre_RefFirstHalfIdeal (m : (ℓ : Loc Cert.RefFirstHalfIdeal.nD Cert.RefFirstHalfIdeal.τ Cert.RefFirstHalfIdeal.sig) → Buf (Elt Ideal) ℓ) : Prop :=
  True

def Pre_RefFirstHalfIdeal_finite [hPre_finite : Cert.Pre_finite.Facts] (m : (ℓ : Loc Cert.RefFirstHalfIdeal.nD Cert.RefFirstHalfIdeal.τ Cert.RefFirstHalfIdeal.sig) → Buf (Elt Ideal) ℓ) : Prop :=
  ∀ c : Dev Cert.RefFirstHalfIdeal.nD,
    (Cert.Pre_finite.fn (F := Ideal) (m ((c.tc : Thread Cert.RefFirstHalfIdeal.nD Cert.RefFirstHalfIdeal.τ).loc Cert.RefFirstHalfIdeal.main_arg0)) (m ((c.tc : Thread Cert.RefFirstHalfIdeal.nD Cert.RefFirstHalfIdeal.τ).loc Cert.RefFirstHalfIdeal.main_arg1)) (m ((c.tc : Thread Cert.RefFirstHalfIdeal.nD Cert.RefFirstHalfIdeal.τ).loc Cert.RefFirstHalfIdeal.main_arg2)) (m ((c.tc : Thread Cert.RefFirstHalfIdeal.nD Cert.RefFirstHalfIdeal.τ).loc Cert.RefFirstHalfIdeal.main_arg3)) (m ((c.tc : Thread Cert.RefFirstHalfIdeal.nD Cert.RefFirstHalfIdeal.τ).loc Cert.RefFirstHalfIdeal.main_arg4)) (m ((c.tc : Thread Cert.RefFirstHalfIdeal.nD Cert.RefFirstHalfIdeal.τ).loc Cert.RefFirstHalfIdeal.main_arg5)) (m ((c.tc : Thread Cert.RefFirstHalfIdeal.nD Cert.RefFirstHalfIdeal.τ).loc Cert.RefFirstHalfIdeal.main_arg6))).1 = (fun _ => 1#1)
    ∧ (Cert.Pre_finite.fn (F := Ideal) (m ((c.tc : Thread Cert.RefFirstHalfIdeal.nD Cert.RefFirstHalfIdeal.τ).loc Cert.RefFirstHalfIdeal.main_arg0)) (m ((c.tc : Thread Cert.RefFirstHalfIdeal.nD Cert.RefFirstHalfIdeal.τ).loc Cert.RefFirstHalfIdeal.main_arg1)) (m ((c.tc : Thread Cert.RefFirstHalfIdeal.nD Cert.RefFirstHalfIdeal.τ).loc Cert.RefFirstHalfIdeal.main_arg2)) (m ((c.tc : Thread Cert.RefFirstHalfIdeal.nD Cert.RefFirstHalfIdeal.τ).loc Cert.RefFirstHalfIdeal.main_arg3)) (m ((c.tc : Thread Cert.RefFirstHalfIdeal.nD Cert.RefFirstHalfIdeal.τ).loc Cert.RefFirstHalfIdeal.main_arg4)) (m ((c.tc : Thread Cert.RefFirstHalfIdeal.nD Cert.RefFirstHalfIdeal.τ).loc Cert.RefFirstHalfIdeal.main_arg5)) (m ((c.tc : Thread Cert.RefFirstHalfIdeal.nD Cert.RefFirstHalfIdeal.τ).loc Cert.RefFirstHalfIdeal.main_arg6))).2.1 = (fun _ => 1#1)
    ∧ (Cert.Pre_finite.fn (F := Ideal) (m ((c.tc : Thread Cert.RefFirstHalfIdeal.nD Cert.RefFirstHalfIdeal.τ).loc Cert.RefFirstHalfIdeal.main_arg0)) (m ((c.tc : Thread Cert.RefFirstHalfIdeal.nD Cert.RefFirstHalfIdeal.τ).loc Cert.RefFirstHalfIdeal.main_arg1)) (m ((c.tc : Thread Cert.RefFirstHalfIdeal.nD Cert.RefFirstHalfIdeal.τ).loc Cert.RefFirstHalfIdeal.main_arg2)) (m ((c.tc : Thread Cert.RefFirstHalfIdeal.nD Cert.RefFirstHalfIdeal.τ).loc Cert.RefFirstHalfIdeal.main_arg3)) (m ((c.tc : Thread Cert.RefFirstHalfIdeal.nD Cert.RefFirstHalfIdeal.τ).loc Cert.RefFirstHalfIdeal.main_arg4)) (m ((c.tc : Thread Cert.RefFirstHalfIdeal.nD Cert.RefFirstHalfIdeal.τ).loc Cert.RefFirstHalfIdeal.main_arg5)) (m ((c.tc : Thread Cert.RefFirstHalfIdeal.nD Cert.RefFirstHalfIdeal.τ).loc Cert.RefFirstHalfIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_RefFfnUpIdeal [hRefFfnUpIdeal : Cert.RefFfnUpIdeal.Facts] : Prop :=
  ∀ (m : (ℓ : Loc Cert.RefFfnUpIdeal.nD Cert.RefFfnUpIdeal.τ Cert.RefFfnUpIdeal.sig) → Buf (Elt Ideal) ℓ) (g : Dev Cert.RefFfnUpIdeal.nD → PrngReg), Pre_RefFfnUpIdeal m →
    θ_run (Cert.RefFfnUpIdeal.defs (F := Ideal)) (onTc (τ := Cert.RefFfnUpIdeal.τ) (Cert.RefFfnUpIdeal.main (F := Ideal))) ⟨m, fun _ => 0, g⟩ (fun r => (∀ c : Dev Cert.RefFfnUpIdeal.nD,
      r.2.mem ((c.tc : Thread Cert.RefFfnUpIdeal.nD Cert.RefFfnUpIdeal.τ).loc Cert.RefFfnUpIdeal.main_arg0) = m ((c.tc : Thread Cert.RefFfnUpIdeal.nD Cert.RefFfnUpIdeal.τ).loc Cert.RefFfnUpIdeal.main_arg0)
      ∧ r.2.mem ((c.tc : Thread Cert.RefFfnUpIdeal.nD Cert.RefFfnUpIdeal.τ).loc Cert.RefFfnUpIdeal.main_arg1) = m ((c.tc : Thread Cert.RefFfnUpIdeal.nD Cert.RefFfnUpIdeal.τ).loc Cert.RefFfnUpIdeal.main_arg1)
      ∧ r.2.mem ((c.tc : Thread Cert.RefFfnUpIdeal.nD Cert.RefFfnUpIdeal.τ).loc Cert.RefFfnUpIdeal.main_arg2) = m ((c.tc : Thread Cert.RefFfnUpIdeal.nD Cert.RefFfnUpIdeal.τ).loc Cert.RefFfnUpIdeal.main_arg2)
      ∧ r.2.mem ((c.tc : Thread Cert.RefFfnUpIdeal.nD Cert.RefFfnUpIdeal.τ).loc Cert.RefFfnUpIdeal.main_arg3) = m ((c.tc : Thread Cert.RefFfnUpIdeal.nD Cert.RefFfnUpIdeal.τ).loc Cert.RefFfnUpIdeal.main_arg3))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_RefDownLnIdeal [hRefDownLnIdeal : Cert.RefDownLnIdeal.Facts] : Prop :=
  ∀ (m : (ℓ : Loc Cert.RefDownLnIdeal.nD Cert.RefDownLnIdeal.τ Cert.RefDownLnIdeal.sig) → Buf (Elt Ideal) ℓ) (g : Dev Cert.RefDownLnIdeal.nD → PrngReg), Pre_RefDownLnIdeal m →
    θ_run (Cert.RefDownLnIdeal.defs (F := Ideal)) (onTc (τ := Cert.RefDownLnIdeal.τ) (Cert.RefDownLnIdeal.main (F := Ideal))) ⟨m, fun _ => 0, g⟩ (fun r => (∀ c : Dev Cert.RefDownLnIdeal.nD,
      r.2.mem ((c.tc : Thread Cert.RefDownLnIdeal.nD Cert.RefDownLnIdeal.τ).loc Cert.RefDownLnIdeal.main_arg0) = m ((c.tc : Thread Cert.RefDownLnIdeal.nD Cert.RefDownLnIdeal.τ).loc Cert.RefDownLnIdeal.main_arg0)
      ∧ r.2.mem ((c.tc : Thread Cert.RefDownLnIdeal.nD Cert.RefDownLnIdeal.τ).loc Cert.RefDownLnIdeal.main_arg1) = m ((c.tc : Thread Cert.RefDownLnIdeal.nD Cert.RefDownLnIdeal.τ).loc Cert.RefDownLnIdeal.main_arg1)
      ∧ r.2.mem ((c.tc : Thread Cert.RefDownLnIdeal.nD Cert.RefDownLnIdeal.τ).loc Cert.RefDownLnIdeal.main_arg2) = m ((c.tc : Thread Cert.RefDownLnIdeal.nD Cert.RefDownLnIdeal.τ).loc Cert.RefDownLnIdeal.main_arg2)
      ∧ r.2.mem ((c.tc : Thread Cert.RefDownLnIdeal.nD Cert.RefDownLnIdeal.τ).loc Cert.RefDownLnIdeal.main_arg3) = m ((c.tc : Thread Cert.RefDownLnIdeal.nD Cert.RefDownLnIdeal.τ).loc Cert.RefDownLnIdeal.main_arg3)
      ∧ r.2.mem ((c.tc : Thread Cert.RefDownLnIdeal.nD Cert.RefDownLnIdeal.τ).loc Cert.RefDownLnIdeal.main_arg4) = m ((c.tc : Thread Cert.RefDownLnIdeal.nD Cert.RefDownLnIdeal.τ).loc Cert.RefDownLnIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_RefOutLnIdeal [hRefOutLnIdeal : Cert.RefOutLnIdeal.Facts] : Prop :=
  ∀ (m : (ℓ : Loc Cert.RefOutLnIdeal.nD Cert.RefOutLnIdeal.τ Cert.RefOutLnIdeal.sig) → Buf (Elt Ideal) ℓ) (g : Dev Cert.RefOutLnIdeal.nD → PrngReg), Pre_RefOutLnIdeal m →
    θ_run (Cert.RefOutLnIdeal.defs (F := Ideal)) (onTc (τ := Cert.RefOutLnIdeal.τ) (Cert.RefOutLnIdeal.main (F := Ideal))) ⟨m, fun _ => 0, g⟩ (fun r => (∀ c : Dev Cert.RefOutLnIdeal.nD,
      r.2.mem ((c.tc : Thread Cert.RefOutLnIdeal.nD Cert.RefOutLnIdeal.τ).loc Cert.RefOutLnIdeal.main_arg0) = m ((c.tc : Thread Cert.RefOutLnIdeal.nD Cert.RefOutLnIdeal.τ).loc Cert.RefOutLnIdeal.main_arg0)
      ∧ r.2.mem ((c.tc : Thread Cert.RefOutLnIdeal.nD Cert.RefOutLnIdeal.τ).loc Cert.RefOutLnIdeal.main_arg1) = m ((c.tc : Thread Cert.RefOutLnIdeal.nD Cert.RefOutLnIdeal.τ).loc Cert.RefOutLnIdeal.main_arg1)
      ∧ r.2.mem ((c.tc : Thread Cert.RefOutLnIdeal.nD Cert.RefOutLnIdeal.τ).loc Cert.RefOutLnIdeal.main_arg2) = m ((c.tc : Thread Cert.RefOutLnIdeal.nD Cert.RefOutLnIdeal.τ).loc Cert.RefOutLnIdeal.main_arg2)
      ∧ r.2.mem ((c.tc : Thread Cert.RefOutLnIdeal.nD Cert.RefOutLnIdeal.τ).loc Cert.RefOutLnIdeal.main_arg3) = m ((c.tc : Thread Cert.RefOutLnIdeal.nD Cert.RefOutLnIdeal.τ).loc Cert.RefOutLnIdeal.main_arg3)
      ∧ r.2.mem ((c.tc : Thread Cert.RefOutLnIdeal.nD Cert.RefOutLnIdeal.τ).loc Cert.RefOutLnIdeal.main_arg4) = m ((c.tc : Thread Cert.RefOutLnIdeal.nD Cert.RefOutLnIdeal.τ).loc Cert.RefOutLnIdeal.main_arg4))
      ∧ r.2.sem = fun _ => 0)

def quiescent_ProjQk [hProjQk : Cert.ProjQk.Facts] : Prop :=
  ∀ (m : (ℓ : Loc Cert.ProjQk.nD Cert.ProjQk.τ Cert.ProjQk.sig) → Buf (Elt Bits) ℓ) (g : Dev Cert.ProjQk.nD → PrngReg), Pre_ProjQk m →
    θ_run (Cert.ProjQk.defs (F := Bits)) (onTc (τ := Cert.ProjQk.τ) (Cert.ProjQk.main (F := Bits))) ⟨m, fun _ => 0, g⟩ (fun r => (∀ c : Dev Cert.ProjQk.nD,
      r.2.mem ((c.tc : Thread Cert.ProjQk.nD Cert.ProjQk.τ).loc Cert.ProjQk.main_arg0) = m ((c.tc : Thread Cert.ProjQk.nD Cert.ProjQk.τ).loc Cert.ProjQk.main_arg0)
      ∧ r.2.mem ((c.tc : Thread Cert.ProjQk.nD Cert.ProjQk.τ).loc Cert.ProjQk.main_arg1) = m ((c.tc : Thread Cert.ProjQk.nD Cert.ProjQk.τ).loc Cert.ProjQk.main_arg1))
      ∧ r.2.sem = fun _ => 0)

def quiescent_ProjQkIdeal [hProjQkIdeal : Cert.ProjQkIdeal.Facts] : Prop :=
  ∀ (m : (ℓ : Loc Cert.ProjQkIdeal.nD Cert.ProjQkIdeal.τ Cert.ProjQkIdeal.sig) → Buf (Elt Ideal) ℓ) (g : Dev Cert.ProjQkIdeal.nD → PrngReg), Pre_ProjQkIdeal m →
    θ_run (Cert.ProjQkIdeal.defs (F := Ideal)) (onTc (τ := Cert.ProjQkIdeal.τ) (Cert.ProjQkIdeal.main (F := Ideal))) ⟨m, fun _ => 0, g⟩ (fun r => (∀ c : Dev Cert.ProjQkIdeal.nD,
      r.2.mem ((c.tc : Thread Cert.ProjQkIdeal.nD Cert.ProjQkIdeal.τ).loc Cert.ProjQkIdeal.main_arg0) = m ((c.tc : Thread Cert.ProjQkIdeal.nD Cert.ProjQkIdeal.τ).loc Cert.ProjQkIdeal.main_arg0)
      ∧ r.2.mem ((c.tc : Thread Cert.ProjQkIdeal.nD Cert.ProjQkIdeal.τ).loc Cert.ProjQkIdeal.main_arg1) = m ((c.tc : Thread Cert.ProjQkIdeal.nD Cert.ProjQkIdeal.τ).loc Cert.ProjQkIdeal.main_arg1))
      ∧ r.2.sem = fun _ => 0)

def quiescent_RefProjQkIdeal [hRefProjQkIdeal : Cert.RefProjQkIdeal.Facts] : Prop :=
  ∀ (m : (ℓ : Loc Cert.RefProjQkIdeal.nD Cert.RefProjQkIdeal.τ Cert.RefProjQkIdeal.sig) → Buf (Elt Ideal) ℓ) (g : Dev Cert.RefProjQkIdeal.nD → PrngReg), Pre_RefProjQkIdeal m →
    θ_run (Cert.RefProjQkIdeal.defs (F := Ideal)) (onTc (τ := Cert.RefProjQkIdeal.τ) (Cert.RefProjQkIdeal.main (F := Ideal))) ⟨m, fun _ => 0, g⟩ (fun r => (∀ c : Dev Cert.RefProjQkIdeal.nD,
      r.2.mem ((c.tc : Thread Cert.RefProjQkIdeal.nD Cert.RefProjQkIdeal.τ).loc Cert.RefProjQkIdeal.main_arg0) = m ((c.tc : Thread Cert.RefProjQkIdeal.nD Cert.RefProjQkIdeal.τ).loc Cert.RefProjQkIdeal.main_arg0)
      ∧ r.2.mem ((c.tc : Thread Cert.RefProjQkIdeal.nD Cert.RefProjQkIdeal.τ).loc Cert.RefProjQkIdeal.main_arg1) = m ((c.tc : Thread Cert.RefProjQkIdeal.nD Cert.RefProjQkIdeal.τ).loc Cert.RefProjQkIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_RefProjAIdeal [hRefProjAIdeal : Cert.RefProjAIdeal.Facts] : Prop :=
  ∀ (m : (ℓ : Loc Cert.RefProjAIdeal.nD Cert.RefProjAIdeal.τ Cert.RefProjAIdeal.sig) → Buf (Elt Ideal) ℓ) (g : Dev Cert.RefProjAIdeal.nD → PrngReg), Pre_RefProjAIdeal m →
    θ_run (Cert.RefProjAIdeal.defs (F := Ideal)) (onTc (τ := Cert.RefProjAIdeal.τ) (Cert.RefProjAIdeal.main (F := Ideal))) ⟨m, fun _ => 0, g⟩ (fun r => (∀ c : Dev Cert.RefProjAIdeal.nD,
      r.2.mem ((c.tc : Thread Cert.RefProjAIdeal.nD Cert.RefProjAIdeal.τ).loc Cert.RefProjAIdeal.main_arg0) = m ((c.tc : Thread Cert.RefProjAIdeal.nD Cert.RefProjAIdeal.τ).loc Cert.RefProjAIdeal.main_arg0)
      ∧ r.2.mem ((c.tc : Thread Cert.RefProjAIdeal.nD Cert.RefProjAIdeal.τ).loc Cert.RefProjAIdeal.main_arg1) = m ((c.tc : Thread Cert.RefProjAIdeal.nD Cert.RefProjAIdeal.τ).loc Cert.RefProjAIdeal.main_arg1))
      ∧ r.2.sem = fun _ => 0)

def quiescent_VtAttn [hVtAttn : Cert.VtAttn.Facts] : Prop :=
  ∀ (m : (ℓ : Loc Cert.VtAttn.nD Cert.VtAttn.τ Cert.VtAttn.sig) → Buf (Elt Bits) ℓ) (g : Dev Cert.VtAttn.nD → PrngReg), Pre_VtAttn m →
    θ_run (Cert.VtAttn.defs (F := Bits)) (onTc (τ := Cert.VtAttn.τ) (Cert.VtAttn.main (F := Bits))) ⟨m, fun _ => 0, g⟩ (fun r => (∀ c : Dev Cert.VtAttn.nD,
      r.2.mem ((c.tc : Thread Cert.VtAttn.nD Cert.VtAttn.τ).loc Cert.VtAttn.main_arg0) = m ((c.tc : Thread Cert.VtAttn.nD Cert.VtAttn.τ).loc Cert.VtAttn.main_arg0)
      ∧ r.2.mem ((c.tc : Thread Cert.VtAttn.nD Cert.VtAttn.τ).loc Cert.VtAttn.main_arg1) = m ((c.tc : Thread Cert.VtAttn.nD Cert.VtAttn.τ).loc Cert.VtAttn.main_arg1)
      ∧ r.2.mem ((c.tc : Thread Cert.VtAttn.nD Cert.VtAttn.τ).loc Cert.VtAttn.main_arg2) = m ((c.tc : Thread Cert.VtAttn.nD Cert.VtAttn.τ).loc Cert.VtAttn.main_arg2)
      ∧ r.2.mem ((c.tc : Thread Cert.VtAttn.nD Cert.VtAttn.τ).loc Cert.VtAttn.main_arg3) = m ((c.tc : Thread Cert.VtAttn.nD Cert.VtAttn.τ).loc Cert.VtAttn.main_arg3)
      ∧ r.2.mem ((c.tc : Thread Cert.VtAttn.nD Cert.VtAttn.τ).loc Cert.VtAttn.main_arg4) = m ((c.tc : Thread Cert.VtAttn.nD Cert.VtAttn.τ).loc Cert.VtAttn.main_arg4)
      ∧ r.2.mem ((c.tc : Thread Cert.VtAttn.nD Cert.VtAttn.τ).loc Cert.VtAttn.main_arg5) = m ((c.tc : Thread Cert.VtAttn.nD Cert.VtAttn.τ).loc Cert.VtAttn.main_arg5)
      ∧ r.2.mem ((c.tc : Thread Cert.VtAttn.nD Cert.VtAttn.τ).loc Cert.VtAttn.main_arg6) = m ((c.tc : Thread Cert.VtAttn.nD Cert.VtAttn.τ).loc Cert.VtAttn.main_arg6))
      ∧ r.2.sem = fun _ => 0)

def quiescent_VtAttnIdeal [hVtAttnIdeal : Cert.VtAttnIdeal.Facts] : Prop :=
  ∀ (m : (ℓ : Loc Cert.VtAttnIdeal.nD Cert.VtAttnIdeal.τ Cert.VtAttnIdeal.sig) → Buf (Elt Ideal) ℓ) (g : Dev Cert.VtAttnIdeal.nD → PrngReg), Pre_VtAttnIdeal m →
    θ_run (Cert.VtAttnIdeal.defs (F := Ideal)) (onTc (τ := Cert.VtAttnIdeal.τ) (Cert.VtAttnIdeal.main (F := Ideal))) ⟨m, fun _ => 0, g⟩ (fun r => (∀ c : Dev Cert.VtAttnIdeal.nD,
      r.2.mem ((c.tc : Thread Cert.VtAttnIdeal.nD Cert.VtAttnIdeal.τ).loc Cert.VtAttnIdeal.main_arg0) = m ((c.tc : Thread Cert.VtAttnIdeal.nD Cert.VtAttnIdeal.τ).loc Cert.VtAttnIdeal.main_arg0)
      ∧ r.2.mem ((c.tc : Thread Cert.VtAttnIdeal.nD Cert.VtAttnIdeal.τ).loc Cert.VtAttnIdeal.main_arg1) = m ((c.tc : Thread Cert.VtAttnIdeal.nD Cert.VtAttnIdeal.τ).loc Cert.VtAttnIdeal.main_arg1)
      ∧ r.2.mem ((c.tc : Thread Cert.VtAttnIdeal.nD Cert.VtAttnIdeal.τ).loc Cert.VtAttnIdeal.main_arg2) = m ((c.tc : Thread Cert.VtAttnIdeal.nD Cert.VtAttnIdeal.τ).loc Cert.VtAttnIdeal.main_arg2)
      ∧ r.2.mem ((c.tc : Thread Cert.VtAttnIdeal.nD Cert.VtAttnIdeal.τ).loc Cert.VtAttnIdeal.main_arg3) = m ((c.tc : Thread Cert.VtAttnIdeal.nD Cert.VtAttnIdeal.τ).loc Cert.VtAttnIdeal.main_arg3)
      ∧ r.2.mem ((c.tc : Thread Cert.VtAttnIdeal.nD Cert.VtAttnIdeal.τ).loc Cert.VtAttnIdeal.main_arg4) = m ((c.tc : Thread Cert.VtAttnIdeal.nD Cert.VtAttnIdeal.τ).loc Cert.VtAttnIdeal.main_arg4)
      ∧ r.2.mem ((c.tc : Thread Cert.VtAttnIdeal.nD Cert.VtAttnIdeal.τ).loc Cert.VtAttnIdeal.main_arg5) = m ((c.tc : Thread Cert.VtAttnIdeal.nD Cert.VtAttnIdeal.τ).loc Cert.VtAttnIdeal.main_arg5)
      ∧ r.2.mem ((c.tc : Thread Cert.VtAttnIdeal.nD Cert.VtAttnIdeal.τ).loc Cert.VtAttnIdeal.main_arg6) = m ((c.tc : Thread Cert.VtAttnIdeal.nD Cert.VtAttnIdeal.τ).loc Cert.VtAttnIdeal.main_arg6))
      ∧ r.2.sem = fun _ => 0)

def quiescent_RefVtAttnIdeal [hRefVtAttnIdeal : Cert.RefVtAttnIdeal.Facts] : Prop :=
  ∀ (m : (ℓ : Loc Cert.RefVtAttnIdeal.nD Cert.RefVtAttnIdeal.τ Cert.RefVtAttnIdeal.sig) → Buf (Elt Ideal) ℓ) (g : Dev Cert.RefVtAttnIdeal.nD → PrngReg), Pre_RefVtAttnIdeal m →
    θ_run (Cert.RefVtAttnIdeal.defs (F := Ideal)) (onTc (τ := Cert.RefVtAttnIdeal.τ) (Cert.RefVtAttnIdeal.main (F := Ideal))) ⟨m, fun _ => 0, g⟩ (fun r => (∀ c : Dev Cert.RefVtAttnIdeal.nD,
      r.2.mem ((c.tc : Thread Cert.RefVtAttnIdeal.nD Cert.RefVtAttnIdeal.τ).loc Cert.RefVtAttnIdeal.main_arg0) = m ((c.tc : Thread Cert.RefVtAttnIdeal.nD Cert.RefVtAttnIdeal.τ).loc Cert.RefVtAttnIdeal.main_arg0)
      ∧ r.2.mem ((c.tc : Thread Cert.RefVtAttnIdeal.nD Cert.RefVtAttnIdeal.τ).loc Cert.RefVtAttnIdeal.main_arg1) = m ((c.tc : Thread Cert.RefVtAttnIdeal.nD Cert.RefVtAttnIdeal.τ).loc Cert.RefVtAttnIdeal.main_arg1)
      ∧ r.2.mem ((c.tc : Thread Cert.RefVtAttnIdeal.nD Cert.RefVtAttnIdeal.τ).loc Cert.RefVtAttnIdeal.main_arg2) = m ((c.tc : Thread Cert.RefVtAttnIdeal.nD Cert.RefVtAttnIdeal.τ).loc Cert.RefVtAttnIdeal.main_arg2)
      ∧ r.2.mem ((c.tc : Thread Cert.RefVtAttnIdeal.nD Cert.RefVtAttnIdeal.τ).loc Cert.RefVtAttnIdeal.main_arg3) = m ((c.tc : Thread Cert.RefVtAttnIdeal.nD Cert.RefVtAttnIdeal.τ).loc Cert.RefVtAttnIdeal.main_arg3)
      ∧ r.2.mem ((c.tc : Thread Cert.RefVtAttnIdeal.nD Cert.RefVtAttnIdeal.τ).loc Cert.RefVtAttnIdeal.main_arg4) = m ((c.tc : Thread Cert.RefVtAttnIdeal.nD Cert.RefVtAttnIdeal.τ).loc Cert.RefVtAttnIdeal.main_arg4)
      ∧ r.2.mem ((c.tc : Thread Cert.RefVtAttnIdeal.nD Cert.RefVtAttnIdeal.τ).loc Cert.RefVtAttnIdeal.main_arg5) = m ((c.tc : Thread Cert.RefVtAttnIdeal.nD Cert.RefVtAttnIdeal.τ).loc Cert.RefVtAttnIdeal.main_arg5)
      ∧ r.2.mem ((c.tc : Thread Cert.RefVtAttnIdeal.nD Cert.RefVtAttnIdeal.τ).loc Cert.RefVtAttnIdeal.main_arg6) = m ((c.tc : Thread Cert.RefVtAttnIdeal.nD Cert.RefVtAttnIdeal.τ).loc Cert.RefVtAttnIdeal.main_arg6))
      ∧ r.2.sem = fun _ => 0)

def quiescent_FirstHalf [hFirstHalf : Cert.FirstHalf.Facts] : Prop :=
  ∀ (m : (ℓ : Loc Cert.FirstHalf.nD Cert.FirstHalf.τ Cert.FirstHalf.sig) → Buf (Elt Bits) ℓ) (g : Dev Cert.FirstHalf.nD → PrngReg), Pre_FirstHalf m →
    θ_run (Cert.FirstHalf.defs (F := Bits)) (onTc (τ := Cert.FirstHalf.τ) (Cert.FirstHalf.main (F := Bits))) ⟨m, fun _ => 0, g⟩ (fun r => (∀ c : Dev Cert.FirstHalf.nD,
      r.2.mem ((c.tc : Thread Cert.FirstHalf.nD Cert.FirstHalf.τ).loc Cert.FirstHalf.main_arg0) = m ((c.tc : Thread Cert.FirstHalf.nD Cert.FirstHalf.τ).loc Cert.FirstHalf.main_arg0)
      ∧ r.2.mem ((c.tc : Thread Cert.FirstHalf.nD Cert.FirstHalf.τ).loc Cert.FirstHalf.main_arg1) = m ((c.tc : Thread Cert.FirstHalf.nD Cert.FirstHalf.τ).loc Cert.FirstHalf.main_arg1)
      ∧ r.2.mem ((c.tc : Thread Cert.FirstHalf.nD Cert.FirstHalf.τ).loc Cert.FirstHalf.main_arg2) = m ((c.tc : Thread Cert.FirstHalf.nD Cert.FirstHalf.τ).loc Cert.FirstHalf.main_arg2)
      ∧ r.2.mem ((c.tc : Thread Cert.FirstHalf.nD Cert.FirstHalf.τ).loc Cert.FirstHalf.main_arg3) = m ((c.tc : Thread Cert.FirstHalf.nD Cert.FirstHalf.τ).loc Cert.FirstHalf.main_arg3)
      ∧ r.2.mem ((c.tc : Thread Cert.FirstHalf.nD Cert.FirstHalf.τ).loc Cert.FirstHalf.main_arg4) = m ((c.tc : Thread Cert.FirstHalf.nD Cert.FirstHalf.τ).loc Cert.FirstHalf.main_arg4)
      ∧ r.2.mem ((c.tc : Thread Cert.FirstHalf.nD Cert.FirstHalf.τ).loc Cert.FirstHalf.main_arg5) = m ((c.tc : Thread Cert.FirstHalf.nD Cert.FirstHalf.τ).loc Cert.FirstHalf.main_arg5)
      ∧ r.2.mem ((c.tc : Thread Cert.FirstHalf.nD Cert.FirstHalf.τ).loc Cert.FirstHalf.main_arg6) = m ((c.tc : Thread Cert.FirstHalf.nD Cert.FirstHalf.τ).loc Cert.FirstHalf.main_arg6))
      ∧ r.2.sem = fun _ => 0)

def quiescent_FirstHalfIdeal [hFirstHalfIdeal : Cert.FirstHalfIdeal.Facts] : Prop :=
  ∀ (m : (ℓ : Loc Cert.FirstHalfIdeal.nD Cert.FirstHalfIdeal.τ Cert.FirstHalfIdeal.sig) → Buf (Elt Ideal) ℓ) (g : Dev Cert.FirstHalfIdeal.nD → PrngReg), Pre_FirstHalfIdeal m →
    θ_run (Cert.FirstHalfIdeal.defs (F := Ideal)) (onTc (τ := Cert.FirstHalfIdeal.τ) (Cert.FirstHalfIdeal.main (F := Ideal))) ⟨m, fun _ => 0, g⟩ (fun r => (∀ c : Dev Cert.FirstHalfIdeal.nD,
      r.2.mem ((c.tc : Thread Cert.FirstHalfIdeal.nD Cert.FirstHalfIdeal.τ).loc Cert.FirstHalfIdeal.main_arg0) = m ((c.tc : Thread Cert.FirstHalfIdeal.nD Cert.FirstHalfIdeal.τ).loc Cert.FirstHalfIdeal.main_arg0)
      ∧ r.2.mem ((c.tc : Thread Cert.FirstHalfIdeal.nD Cert.FirstHalfIdeal.τ).loc Cert.FirstHalfIdeal.main_arg1) = m ((c.tc : Thread Cert.FirstHalfIdeal.nD Cert.FirstHalfIdeal.τ).loc Cert.FirstHalfIdeal.main_arg1)
      ∧ r.2.mem ((c.tc : Thread Cert.FirstHalfIdeal.nD Cert.FirstHalfIdeal.τ).loc Cert.FirstHalfIdeal.main_arg2) = m ((c.tc : Thread Cert.FirstHalfIdeal.nD Cert.FirstHalfIdeal.τ).loc Cert.FirstHalfIdeal.main_arg2)
      ∧ r.2.mem ((c.tc : Thread Cert.FirstHalfIdeal.nD Cert.FirstHalfIdeal.τ).loc Cert.FirstHalfIdeal.main_arg3) = m ((c.tc : Thread Cert.FirstHalfIdeal.nD Cert.FirstHalfIdeal.τ).loc Cert.FirstHalfIdeal.main_arg3)
      ∧ r.2.mem ((c.tc : Thread Cert.FirstHalfIdeal.nD Cert.FirstHalfIdeal.τ).loc Cert.FirstHalfIdeal.main_arg4) = m ((c.tc : Thread Cert.FirstHalfIdeal.nD Cert.FirstHalfIdeal.τ).loc Cert.FirstHalfIdeal.main_arg4)
      ∧ r.2.mem ((c.tc : Thread Cert.FirstHalfIdeal.nD Cert.FirstHalfIdeal.τ).loc Cert.FirstHalfIdeal.main_arg5) = m ((c.tc : Thread Cert.FirstHalfIdeal.nD Cert.FirstHalfIdeal.τ).loc Cert.FirstHalfIdeal.main_arg5)
      ∧ r.2.mem ((c.tc : Thread Cert.FirstHalfIdeal.nD Cert.FirstHalfIdeal.τ).loc Cert.FirstHalfIdeal.main_arg6) = m ((c.tc : Thread Cert.FirstHalfIdeal.nD Cert.FirstHalfIdeal.τ).loc Cert.FirstHalfIdeal.main_arg6))
      ∧ r.2.sem = fun _ => 0)

def quiescent_FirstHalfIdeal_pre_finite [hFirstHalfIdeal : Cert.FirstHalfIdeal.Facts] [hPre_finite : Cert.Pre_finite.Facts] : Prop :=
  ∀ (m : (ℓ : Loc Cert.FirstHalfIdeal.nD Cert.FirstHalfIdeal.τ Cert.FirstHalfIdeal.sig) → Buf (Elt Ideal) ℓ) (g : Dev Cert.FirstHalfIdeal.nD → PrngReg), Pre_FirstHalfIdeal_finite m →
    θ_run (Cert.FirstHalfIdeal.defs (F := Ideal)) (onTc (τ := Cert.FirstHalfIdeal.τ) (Cert.FirstHalfIdeal.main (F := Ideal))) ⟨m, fun _ => 0, g⟩ (fun r => (∀ c : Dev Cert.FirstHalfIdeal.nD,
      r.2.mem ((c.tc : Thread Cert.FirstHalfIdeal.nD Cert.FirstHalfIdeal.τ).loc Cert.FirstHalfIdeal.main_arg0) = m ((c.tc : Thread Cert.FirstHalfIdeal.nD Cert.FirstHalfIdeal.τ).loc Cert.FirstHalfIdeal.main_arg0)
      ∧ r.2.mem ((c.tc : Thread Cert.FirstHalfIdeal.nD Cert.FirstHalfIdeal.τ).loc Cert.FirstHalfIdeal.main_arg1) = m ((c.tc : Thread Cert.FirstHalfIdeal.nD Cert.FirstHalfIdeal.τ).loc Cert.FirstHalfIdeal.main_arg1)
      ∧ r.2.mem ((c.tc : Thread Cert.FirstHalfIdeal.nD Cert.FirstHalfIdeal.τ).loc Cert.FirstHalfIdeal.main_arg2) = m ((c.tc : Thread Cert.FirstHalfIdeal.nD Cert.FirstHalfIdeal.τ).loc Cert.FirstHalfIdeal.main_arg2)
      ∧ r.2.mem ((c.tc : Thread Cert.FirstHalfIdeal.nD Cert.FirstHalfIdeal.τ).loc Cert.FirstHalfIdeal.main_arg3) = m ((c.tc : Thread Cert.FirstHalfIdeal.nD Cert.FirstHalfIdeal.τ).loc Cert.FirstHalfIdeal.main_arg3)
      ∧ r.2.mem ((c.tc : Thread Cert.FirstHalfIdeal.nD Cert.FirstHalfIdeal.τ).loc Cert.FirstHalfIdeal.main_arg4) = m ((c.tc : Thread Cert.FirstHalfIdeal.nD Cert.FirstHalfIdeal.τ).loc Cert.FirstHalfIdeal.main_arg4)
      ∧ r.2.mem ((c.tc : Thread Cert.FirstHalfIdeal.nD Cert.FirstHalfIdeal.τ).loc Cert.FirstHalfIdeal.main_arg5) = m ((c.tc : Thread Cert.FirstHalfIdeal.nD Cert.FirstHalfIdeal.τ).loc Cert.FirstHalfIdeal.main_arg5)
      ∧ r.2.mem ((c.tc : Thread Cert.FirstHalfIdeal.nD Cert.FirstHalfIdeal.τ).loc Cert.FirstHalfIdeal.main_arg6) = m ((c.tc : Thread Cert.FirstHalfIdeal.nD Cert.FirstHalfIdeal.τ).loc Cert.FirstHalfIdeal.main_arg6))
      ∧ r.2.sem = fun _ => 0)

def quiescent_RefFirstHalfIdeal [hRefFirstHalfIdeal : Cert.RefFirstHalfIdeal.Facts] : Prop :=
  ∀ (m : (ℓ : Loc Cert.RefFirstHalfIdeal.nD Cert.RefFirstHalfIdeal.τ Cert.RefFirstHalfIdeal.sig) → Buf (Elt Ideal) ℓ) (g : Dev Cert.RefFirstHalfIdeal.nD → PrngReg), Pre_RefFirstHalfIdeal m →
    θ_run (Cert.RefFirstHalfIdeal.defs (F := Ideal)) (onTc (τ := Cert.RefFirstHalfIdeal.τ) (Cert.RefFirstHalfIdeal.main (F := Ideal))) ⟨m, fun _ => 0, g⟩ (fun r => (∀ c : Dev Cert.RefFirstHalfIdeal.nD,
      r.2.mem ((c.tc : Thread Cert.RefFirstHalfIdeal.nD Cert.RefFirstHalfIdeal.τ).loc Cert.RefFirstHalfIdeal.main_arg0) = m ((c.tc : Thread Cert.RefFirstHalfIdeal.nD Cert.RefFirstHalfIdeal.τ).loc Cert.RefFirstHalfIdeal.main_arg0)
      ∧ r.2.mem ((c.tc : Thread Cert.RefFirstHalfIdeal.nD Cert.RefFirstHalfIdeal.τ).loc Cert.RefFirstHalfIdeal.main_arg1) = m ((c.tc : Thread Cert.RefFirstHalfIdeal.nD Cert.RefFirstHalfIdeal.τ).loc Cert.RefFirstHalfIdeal.main_arg1)
      ∧ r.2.mem ((c.tc : Thread Cert.RefFirstHalfIdeal.nD Cert.RefFirstHalfIdeal.τ).loc Cert.RefFirstHalfIdeal.main_arg2) = m ((c.tc : Thread Cert.RefFirstHalfIdeal.nD Cert.RefFirstHalfIdeal.τ).loc Cert.RefFirstHalfIdeal.main_arg2)
      ∧ r.2.mem ((c.tc : Thread Cert.RefFirstHalfIdeal.nD Cert.RefFirstHalfIdeal.τ).loc Cert.RefFirstHalfIdeal.main_arg3) = m ((c.tc : Thread Cert.RefFirstHalfIdeal.nD Cert.RefFirstHalfIdeal.τ).loc Cert.RefFirstHalfIdeal.main_arg3)
      ∧ r.2.mem ((c.tc : Thread Cert.RefFirstHalfIdeal.nD Cert.RefFirstHalfIdeal.τ).loc Cert.RefFirstHalfIdeal.main_arg4) = m ((c.tc : Thread Cert.RefFirstHalfIdeal.nD Cert.RefFirstHalfIdeal.τ).loc Cert.RefFirstHalfIdeal.main_arg4)
      ∧ r.2.mem ((c.tc : Thread Cert.RefFirstHalfIdeal.nD Cert.RefFirstHalfIdeal.τ).loc Cert.RefFirstHalfIdeal.main_arg5) = m ((c.tc : Thread Cert.RefFirstHalfIdeal.nD Cert.RefFirstHalfIdeal.τ).loc Cert.RefFirstHalfIdeal.main_arg5)
      ∧ r.2.mem ((c.tc : Thread Cert.RefFirstHalfIdeal.nD Cert.RefFirstHalfIdeal.τ).loc Cert.RefFirstHalfIdeal.main_arg6) = m ((c.tc : Thread Cert.RefFirstHalfIdeal.nD Cert.RefFirstHalfIdeal.τ).loc Cert.RefFirstHalfIdeal.main_arg6))
      ∧ r.2.sem = fun _ => 0)

def quiescent_RefFirstHalfIdeal_pre_finite [hRefFirstHalfIdeal : Cert.RefFirstHalfIdeal.Facts] [hPre_finite : Cert.Pre_finite.Facts] : Prop :=
  ∀ (m : (ℓ : Loc Cert.RefFirstHalfIdeal.nD Cert.RefFirstHalfIdeal.τ Cert.RefFirstHalfIdeal.sig) → Buf (Elt Ideal) ℓ) (g : Dev Cert.RefFirstHalfIdeal.nD → PrngReg), Pre_RefFirstHalfIdeal_finite m →
    θ_run (Cert.RefFirstHalfIdeal.defs (F := Ideal)) (onTc (τ := Cert.RefFirstHalfIdeal.τ) (Cert.RefFirstHalfIdeal.main (F := Ideal))) ⟨m, fun _ => 0, g⟩ (fun r => (∀ c : Dev Cert.RefFirstHalfIdeal.nD,
      r.2.mem ((c.tc : Thread Cert.RefFirstHalfIdeal.nD Cert.RefFirstHalfIdeal.τ).loc Cert.RefFirstHalfIdeal.main_arg0) = m ((c.tc : Thread Cert.RefFirstHalfIdeal.nD Cert.RefFirstHalfIdeal.τ).loc Cert.RefFirstHalfIdeal.main_arg0)
      ∧ r.2.mem ((c.tc : Thread Cert.RefFirstHalfIdeal.nD Cert.RefFirstHalfIdeal.τ).loc Cert.RefFirstHalfIdeal.main_arg1) = m ((c.tc : Thread Cert.RefFirstHalfIdeal.nD Cert.RefFirstHalfIdeal.τ).loc Cert.RefFirstHalfIdeal.main_arg1)
      ∧ r.2.mem ((c.tc : Thread Cert.RefFirstHalfIdeal.nD Cert.RefFirstHalfIdeal.τ).loc Cert.RefFirstHalfIdeal.main_arg2) = m ((c.tc : Thread Cert.RefFirstHalfIdeal.nD Cert.RefFirstHalfIdeal.τ).loc Cert.RefFirstHalfIdeal.main_arg2)
      ∧ r.2.mem ((c.tc : Thread Cert.RefFirstHalfIdeal.nD Cert.RefFirstHalfIdeal.τ).loc Cert.RefFirstHalfIdeal.main_arg3) = m ((c.tc : Thread Cert.RefFirstHalfIdeal.nD Cert.RefFirstHalfIdeal.τ).loc Cert.RefFirstHalfIdeal.main_arg3)
      ∧ r.2.mem ((c.tc : Thread Cert.RefFirstHalfIdeal.nD Cert.RefFirstHalfIdeal.τ).loc Cert.RefFirstHalfIdeal.main_arg4) = m ((c.tc : Thread Cert.RefFirstHalfIdeal.nD Cert.RefFirstHalfIdeal.τ).loc Cert.RefFirstHalfIdeal.main_arg4)
      ∧ r.2.mem ((c.tc : Thread Cert.RefFirstHalfIdeal.nD Cert.RefFirstHalfIdeal.τ).loc Cert.RefFirstHalfIdeal.main_arg5) = m ((c.tc : Thread Cert.RefFirstHalfIdeal.nD Cert.RefFirstHalfIdeal.τ).loc Cert.RefFirstHalfIdeal.main_arg5)
      ∧ r.2.mem ((c.tc : Thread Cert.RefFirstHalfIdeal.nD Cert.RefFirstHalfIdeal.τ).loc Cert.RefFirstHalfIdeal.main_arg6) = m ((c.tc : Thread Cert.RefFirstHalfIdeal.nD Cert.RefFirstHalfIdeal.τ).loc Cert.RefFirstHalfIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FfnUp_FfnUpIdeal : Prop :=
  True

def algebraic_FfnUpIdeal_RefFfnUpIdeal [hFfnUpIdeal : Cert.FfnUpIdeal.Facts] [hRefFfnUpIdeal : Cert.RefFfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.RefFfnUpIdeal.nD Cert.RefFfnUpIdeal.τ Cert.RefFfnUpIdeal.sig) → Buf (Elt Ideal) ℓ) (g' : Dev Cert.RefFfnUpIdeal.nD → PrngReg), Pre_FfnUpIdeal m →
    (∀ c : Dev Cert.FfnUpIdeal.nD,
      m' ((c.tc : Thread Cert.RefFfnUpIdeal.nD Cert.RefFfnUpIdeal.τ).loc Cert.RefFfnUpIdeal.main_arg0) = m ((c.tc : Thread Cert.FfnUpIdeal.nD Cert.FfnUpIdeal.τ).loc Cert.FfnUpIdeal.main_arg0)
      ∧ m' ((c.tc : Thread Cert.RefFfnUpIdeal.nD Cert.RefFfnUpIdeal.τ).loc Cert.RefFfnUpIdeal.main_arg1) = m ((c.tc : Thread Cert.FfnUpIdeal.nD Cert.FfnUpIdeal.τ).loc Cert.FfnUpIdeal.main_arg1)
      ∧ m' ((c.tc : Thread Cert.RefFfnUpIdeal.nD Cert.RefFfnUpIdeal.τ).loc Cert.RefFfnUpIdeal.main_arg2) = m ((c.tc : Thread Cert.FfnUpIdeal.nD Cert.FfnUpIdeal.τ).loc Cert.FfnUpIdeal.main_arg2)
      ∧ m' ((c.tc : Thread Cert.RefFfnUpIdeal.nD Cert.RefFfnUpIdeal.τ).loc Cert.RefFfnUpIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v5)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.RefFfnUpIdeal.defs (F := Ideal)) (onTc (τ := Cert.RefFfnUpIdeal.τ) (Cert.RefFfnUpIdeal.main (F := Ideal))) ⟨m', fun _ => 0, g'⟩ (fun r => ∀ c : Dev Cert.RefFfnUpIdeal.nD,
          r.2.mem ((c.tc : Thread Cert.RefFfnUpIdeal.nD Cert.RefFfnUpIdeal.τ).loc Cert.RefFfnUpIdeal.main_v32) = v0 c
          ∧ r.2.mem ((c.tc : Thread Cert.RefFfnUpIdeal.nD Cert.RefFfnUpIdeal.τ).loc Cert.RefFfnUpIdeal.main_arg0) = m' ((c.tc : Thread Cert.RefFfnUpIdeal.nD Cert.RefFfnUpIdeal.τ).loc Cert.RefFfnUpIdeal.main_arg0)
          ∧ r.2.mem ((c.tc : Thread Cert.RefFfnUpIdeal.nD Cert.RefFfnUpIdeal.τ).loc Cert.RefFfnUpIdeal.main_arg1) = m' ((c.tc : Thread Cert.RefFfnUpIdeal.nD Cert.RefFfnUpIdeal.τ).loc Cert.RefFfnUpIdeal.main_arg1)
          ∧ r.2.mem ((c.tc : Thread Cert.RefFfnUpIdeal.nD Cert.RefFfnUpIdeal.τ).loc Cert.RefFfnUpIdeal.main_arg2) = m' ((c.tc : Thread Cert.RefFfnUpIdeal.nD Cert.RefFfnUpIdeal.τ).loc Cert.RefFfnUpIdeal.main_arg2)
          ∧ r.2.mem ((c.tc : Thread Cert.RefFfnUpIdeal.nD Cert.RefFfnUpIdeal.τ).loc Cert.RefFfnUpIdeal.main_arg3) = m' ((c.tc : Thread Cert.RefFfnUpIdeal.nD Cert.RefFfnUpIdeal.τ).loc Cert.RefFfnUpIdeal.main_arg3))

def preserves_DownLn_DownLnIdeal : Prop :=
  True

def algebraic_DownLnIdeal_RefDownLnIdeal [hDownLnIdeal : Cert.DownLnIdeal.Facts] [hRefDownLnIdeal : Cert.RefDownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.RefDownLnIdeal.nD Cert.RefDownLnIdeal.τ Cert.RefDownLnIdeal.sig) → Buf (Elt Ideal) ℓ) (g' : Dev Cert.RefDownLnIdeal.nD → PrngReg), Pre_DownLnIdeal m →
    (∀ c : Dev Cert.DownLnIdeal.nD,
      m' ((c.tc : Thread Cert.RefDownLnIdeal.nD Cert.RefDownLnIdeal.τ).loc Cert.RefDownLnIdeal.main_arg0) = m ((c.tc : Thread Cert.DownLnIdeal.nD Cert.DownLnIdeal.τ).loc Cert.DownLnIdeal.main_arg0)
      ∧ m' ((c.tc : Thread Cert.RefDownLnIdeal.nD Cert.RefDownLnIdeal.τ).loc Cert.RefDownLnIdeal.main_arg1) = m ((c.tc : Thread Cert.DownLnIdeal.nD Cert.DownLnIdeal.τ).loc Cert.DownLnIdeal.main_arg1)
      ∧ m' ((c.tc : Thread Cert.RefDownLnIdeal.nD Cert.RefDownLnIdeal.τ).loc Cert.RefDownLnIdeal.main_arg2) = m ((c.tc : Thread Cert.DownLnIdeal.nD Cert.DownLnIdeal.τ).loc Cert.DownLnIdeal.main_arg2)
      ∧ m' ((c.tc : Thread Cert.RefDownLnIdeal.nD Cert.RefDownLnIdeal.τ).loc Cert.RefDownLnIdeal.main_arg3) = m ((c.tc : Thread Cert.DownLnIdeal.nD Cert.DownLnIdeal.τ).loc Cert.DownLnIdeal.main_arg3)
      ∧ m' ((c.tc : Thread Cert.RefDownLnIdeal.nD Cert.RefDownLnIdeal.τ).loc Cert.RefDownLnIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v6)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v6) = v0 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.RefDownLnIdeal.defs (F := Ideal)) (onTc (τ := Cert.RefDownLnIdeal.τ) (Cert.RefDownLnIdeal.main (F := Ideal))) ⟨m', fun _ => 0, g'⟩ (fun r => ∀ c : Dev Cert.RefDownLnIdeal.nD,
          r.2.mem ((c.tc : Thread Cert.RefDownLnIdeal.nD Cert.RefDownLnIdeal.τ).loc Cert.RefDownLnIdeal.main_v28) = v0 c
          ∧ r.2.mem ((c.tc : Thread Cert.RefDownLnIdeal.nD Cert.RefDownLnIdeal.τ).loc Cert.RefDownLnIdeal.main_arg0) = m' ((c.tc : Thread Cert.RefDownLnIdeal.nD Cert.RefDownLnIdeal.τ).loc Cert.RefDownLnIdeal.main_arg0)
          ∧ r.2.mem ((c.tc : Thread Cert.RefDownLnIdeal.nD Cert.RefDownLnIdeal.τ).loc Cert.RefDownLnIdeal.main_arg1) = m' ((c.tc : Thread Cert.RefDownLnIdeal.nD Cert.RefDownLnIdeal.τ).loc Cert.RefDownLnIdeal.main_arg1)
          ∧ r.2.mem ((c.tc : Thread Cert.RefDownLnIdeal.nD Cert.RefDownLnIdeal.τ).loc Cert.RefDownLnIdeal.main_arg2) = m' ((c.tc : Thread Cert.RefDownLnIdeal.nD Cert.RefDownLnIdeal.τ).loc Cert.RefDownLnIdeal.main_arg2)
          ∧ r.2.mem ((c.tc : Thread Cert.RefDownLnIdeal.nD Cert.RefDownLnIdeal.τ).loc Cert.RefDownLnIdeal.main_arg3) = m' ((c.tc : Thread Cert.RefDownLnIdeal.nD Cert.RefDownLnIdeal.τ).loc Cert.RefDownLnIdeal.main_arg3)
          ∧ r.2.mem ((c.tc : Thread Cert.RefDownLnIdeal.nD Cert.RefDownLnIdeal.τ).loc Cert.RefDownLnIdeal.main_arg4) = m' ((c.tc : Thread Cert.RefDownLnIdeal.nD Cert.RefDownLnIdeal.τ).loc Cert.RefDownLnIdeal.main_arg4))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v8) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_OutLn_OutLnIdeal : Prop :=
  True

def algebraic_OutLnIdeal_RefOutLnIdeal [hOutLnIdeal : Cert.OutLnIdeal.Facts] [hRefOutLnIdeal : Cert.RefOutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.RefOutLnIdeal.nD Cert.RefOutLnIdeal.τ Cert.RefOutLnIdeal.sig) → Buf (Elt Ideal) ℓ) (g' : Dev Cert.RefOutLnIdeal.nD → PrngReg), Pre_OutLnIdeal m →
    (∀ c : Dev Cert.OutLnIdeal.nD,
      m' ((c.tc : Thread Cert.RefOutLnIdeal.nD Cert.RefOutLnIdeal.τ).loc Cert.RefOutLnIdeal.main_arg0) = m ((c.tc : Thread Cert.OutLnIdeal.nD Cert.OutLnIdeal.τ).loc Cert.OutLnIdeal.main_arg0)
      ∧ m' ((c.tc : Thread Cert.RefOutLnIdeal.nD Cert.RefOutLnIdeal.τ).loc Cert.RefOutLnIdeal.main_arg1) = m ((c.tc : Thread Cert.OutLnIdeal.nD Cert.OutLnIdeal.τ).loc Cert.OutLnIdeal.main_arg1)
      ∧ m' ((c.tc : Thread Cert.RefOutLnIdeal.nD Cert.RefOutLnIdeal.τ).loc Cert.RefOutLnIdeal.main_arg2) = m ((c.tc : Thread Cert.OutLnIdeal.nD Cert.OutLnIdeal.τ).loc Cert.OutLnIdeal.main_arg2)
      ∧ m' ((c.tc : Thread Cert.RefOutLnIdeal.nD Cert.RefOutLnIdeal.τ).loc Cert.RefOutLnIdeal.main_arg3) = m ((c.tc : Thread Cert.OutLnIdeal.nD Cert.OutLnIdeal.τ).loc Cert.OutLnIdeal.main_arg3)
      ∧ m' ((c.tc : Thread Cert.RefOutLnIdeal.nD Cert.RefOutLnIdeal.τ).loc Cert.RefOutLnIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v6_0)) (v1 : (c : Dev Cert.OutLnIdeal.nD) → Buf (Elt Ideal) ((c.tc : Thread Cert.OutLnIdeal.nD Cert.OutLnIdeal.τ).loc Cert.OutLnIdeal.main_v6_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v6_0) = v0 c
          ∧ r.2.mem ((c.tc : Thread Cert.OutLnIdeal.nD Cert.OutLnIdeal.τ).loc Cert.OutLnIdeal.main_v6_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.RefOutLnIdeal.defs (F := Ideal)) (onTc (τ := Cert.RefOutLnIdeal.τ) (Cert.RefOutLnIdeal.main (F := Ideal))) ⟨m', fun _ => 0, g'⟩ (fun r => ∀ c : Dev Cert.RefOutLnIdeal.nD,
          r.2.mem ((c.tc : Thread Cert.RefOutLnIdeal.nD Cert.RefOutLnIdeal.τ).loc Cert.RefOutLnIdeal.main_v28) = v0 c
          ∧ r.2.mem ((c.tc : Thread Cert.RefOutLnIdeal.nD Cert.RefOutLnIdeal.τ).loc Cert.RefOutLnIdeal.main_v29) = v1 c
          ∧ r.2.mem ((c.tc : Thread Cert.RefOutLnIdeal.nD Cert.RefOutLnIdeal.τ).loc Cert.RefOutLnIdeal.main_arg0) = m' ((c.tc : Thread Cert.RefOutLnIdeal.nD Cert.RefOutLnIdeal.τ).loc Cert.RefOutLnIdeal.main_arg0)
          ∧ r.2.mem ((c.tc : Thread Cert.RefOutLnIdeal.nD Cert.RefOutLnIdeal.τ).loc Cert.RefOutLnIdeal.main_arg1) = m' ((c.tc : Thread Cert.RefOutLnIdeal.nD Cert.RefOutLnIdeal.τ).loc Cert.RefOutLnIdeal.main_arg1)
          ∧ r.2.mem ((c.tc : Thread Cert.RefOutLnIdeal.nD Cert.RefOutLnIdeal.τ).loc Cert.RefOutLnIdeal.main_arg2) = m' ((c.tc : Thread Cert.RefOutLnIdeal.nD Cert.RefOutLnIdeal.τ).loc Cert.RefOutLnIdeal.main_arg2)
          ∧ r.2.mem ((c.tc : Thread Cert.RefOutLnIdeal.nD Cert.RefOutLnIdeal.τ).loc Cert.RefOutLnIdeal.main_arg3) = m' ((c.tc : Thread Cert.RefOutLnIdeal.nD Cert.RefOutLnIdeal.τ).loc Cert.RefOutLnIdeal.main_arg3)
          ∧ r.2.mem ((c.tc : Thread Cert.RefOutLnIdeal.nD Cert.RefOutLnIdeal.τ).loc Cert.RefOutLnIdeal.main_arg4) = m' ((c.tc : Thread Cert.RefOutLnIdeal.nD Cert.RefOutLnIdeal.τ).loc Cert.RefOutLnIdeal.main_arg4))

def preserves_ProjQk_ProjQkIdeal : Prop :=
  True

def algebraic_ProjQkIdeal_RefProjQkIdeal [hProjQkIdeal : Cert.ProjQkIdeal.Facts] [hRefProjQkIdeal : Cert.RefProjQkIdeal.Facts] : Prop :=
  ∀ (m : (ℓ : Loc Cert.ProjQkIdeal.nD Cert.ProjQkIdeal.τ Cert.ProjQkIdeal.sig) → Buf (Elt Ideal) ℓ) (g : Dev Cert.ProjQkIdeal.nD → PrngReg)
    (m' : (ℓ : Loc Cert.RefProjQkIdeal.nD Cert.RefProjQkIdeal.τ Cert.RefProjQkIdeal.sig) → Buf (Elt Ideal) ℓ) (g' : Dev Cert.RefProjQkIdeal.nD → PrngReg), Pre_ProjQkIdeal m →
    (∀ c : Dev Cert.ProjQkIdeal.nD,
      m' ((c.tc : Thread Cert.RefProjQkIdeal.nD Cert.RefProjQkIdeal.τ).loc Cert.RefProjQkIdeal.main_arg0) = m ((c.tc : Thread Cert.ProjQkIdeal.nD Cert.ProjQkIdeal.τ).loc Cert.ProjQkIdeal.main_arg0)
      ∧ m' ((c.tc : Thread Cert.RefProjQkIdeal.nD Cert.RefProjQkIdeal.τ).loc Cert.RefProjQkIdeal.main_arg1) = m ((c.tc : Thread Cert.ProjQkIdeal.nD Cert.ProjQkIdeal.τ).loc Cert.ProjQkIdeal.main_arg1)) →
    ∃ (v0 : (c : Dev Cert.ProjQkIdeal.nD) → Buf (Elt Ideal) ((c.tc : Thread Cert.ProjQkIdeal.nD Cert.ProjQkIdeal.τ).loc Cert.ProjQkIdeal.main_v64_0)) (v1 : (c : Dev Cert.ProjQkIdeal.nD) → Buf (Elt Ideal) ((c.tc : Thread Cert.ProjQkIdeal.nD Cert.ProjQkIdeal.τ).loc Cert.ProjQkIdeal.main_v64_1)),
      θ_run (Cert.ProjQkIdeal.defs (F := Ideal)) (onTc (τ := Cert.ProjQkIdeal.τ) (Cert.ProjQkIdeal.main (F := Ideal))) ⟨m, fun _ => 0, g⟩ (fun r => ∀ c : Dev Cert.ProjQkIdeal.nD,
          r.2.mem ((c.tc : Thread Cert.ProjQkIdeal.nD Cert.ProjQkIdeal.τ).loc Cert.ProjQkIdeal.main_v64_0) = v0 c
          ∧ r.2.mem ((c.tc : Thread Cert.ProjQkIdeal.nD Cert.ProjQkIdeal.τ).loc Cert.ProjQkIdeal.main_v64_1) = v1 c
          ∧ r.2.mem ((c.tc : Thread Cert.ProjQkIdeal.nD Cert.ProjQkIdeal.τ).loc Cert.ProjQkIdeal.main_arg0) = m ((c.tc : Thread Cert.ProjQkIdeal.nD Cert.ProjQkIdeal.τ).loc Cert.ProjQkIdeal.main_arg0)
          ∧ r.2.mem ((c.tc : Thread Cert.ProjQkIdeal.nD Cert.ProjQkIdeal.τ).loc Cert.ProjQkIdeal.main_arg1) = m ((c.tc : Thread Cert.ProjQkIdeal.nD Cert.ProjQkIdeal.τ).loc Cert.ProjQkIdeal.main_arg1))
      ∧ θ_run (Cert.RefProjQkIdeal.defs (F := Ideal)) (onTc (τ := Cert.RefProjQkIdeal.τ) (Cert.RefProjQkIdeal.main (F := Ideal))) ⟨m', fun _ => 0, g'⟩ (fun r => ∀ c : Dev Cert.RefProjQkIdeal.nD,
          r.2.mem ((c.tc : Thread Cert.RefProjQkIdeal.nD Cert.RefProjQkIdeal.τ).loc Cert.RefProjQkIdeal.main_v65) = v0 c
          ∧ r.2.mem ((c.tc : Thread Cert.RefProjQkIdeal.nD Cert.RefProjQkIdeal.τ).loc Cert.RefProjQkIdeal.main_v67) = v1 c
          ∧ r.2.mem ((c.tc : Thread Cert.RefProjQkIdeal.nD Cert.RefProjQkIdeal.τ).loc Cert.RefProjQkIdeal.main_arg0) = m' ((c.tc : Thread Cert.RefProjQkIdeal.nD Cert.RefProjQkIdeal.τ).loc Cert.RefProjQkIdeal.main_arg0)
          ∧ r.2.mem ((c.tc : Thread Cert.RefProjQkIdeal.nD Cert.RefProjQkIdeal.τ).loc Cert.RefProjQkIdeal.main_arg1) = m' ((c.tc : Thread Cert.RefProjQkIdeal.nD Cert.RefProjQkIdeal.τ).loc Cert.RefProjQkIdeal.main_arg1))

def preserves_ProjA_ProjAIdeal : Prop :=
  True

def algebraic_ProjAIdeal_RefProjAIdeal [hProjAIdeal : Cert.ProjAIdeal.Facts] [hRefProjAIdeal : Cert.RefProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.RefProjAIdeal.nD Cert.RefProjAIdeal.τ Cert.RefProjAIdeal.sig) → Buf (Elt Ideal) ℓ) (g' : Dev Cert.RefProjAIdeal.nD → PrngReg), Pre_ProjAIdeal m →
    (∀ c : Dev Cert.ProjAIdeal.nD,
      m' ((c.tc : Thread Cert.RefProjAIdeal.nD Cert.RefProjAIdeal.τ).loc Cert.RefProjAIdeal.main_arg0) = m ((c.tc : Thread Cert.ProjAIdeal.nD Cert.ProjAIdeal.τ).loc Cert.ProjAIdeal.main_arg0)
      ∧ m' ((c.tc : Thread Cert.RefProjAIdeal.nD Cert.RefProjAIdeal.τ).loc Cert.RefProjAIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v64)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v64) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.RefProjAIdeal.defs (F := Ideal)) (onTc (τ := Cert.RefProjAIdeal.τ) (Cert.RefProjAIdeal.main (F := Ideal))) ⟨m', fun _ => 0, g'⟩ (fun r => ∀ c : Dev Cert.RefProjAIdeal.nD,
          r.2.mem ((c.tc : Thread Cert.RefProjAIdeal.nD Cert.RefProjAIdeal.τ).loc Cert.RefProjAIdeal.main_v69) = v0 c
          ∧ r.2.mem ((c.tc : Thread Cert.RefProjAIdeal.nD Cert.RefProjAIdeal.τ).loc Cert.RefProjAIdeal.main_arg0) = m' ((c.tc : Thread Cert.RefProjAIdeal.nD Cert.RefProjAIdeal.τ).loc Cert.RefProjAIdeal.main_arg0)
          ∧ r.2.mem ((c.tc : Thread Cert.RefProjAIdeal.nD Cert.RefProjAIdeal.τ).loc Cert.RefProjAIdeal.main_arg1) = m' ((c.tc : Thread Cert.RefProjAIdeal.nD Cert.RefProjAIdeal.τ).loc Cert.RefProjAIdeal.main_arg1))

def preserves_VtAttn_VtAttnIdeal : Prop :=
  True

def algebraic_VtAttnIdeal_RefVtAttnIdeal [hVtAttnIdeal : Cert.VtAttnIdeal.Facts] [hRefVtAttnIdeal : Cert.RefVtAttnIdeal.Facts] : Prop :=
  ∀ (m : (ℓ : Loc Cert.VtAttnIdeal.nD Cert.VtAttnIdeal.τ Cert.VtAttnIdeal.sig) → Buf (Elt Ideal) ℓ) (g : Dev Cert.VtAttnIdeal.nD → PrngReg)
    (m' : (ℓ : Loc Cert.RefVtAttnIdeal.nD Cert.RefVtAttnIdeal.τ Cert.RefVtAttnIdeal.sig) → Buf (Elt Ideal) ℓ) (g' : Dev Cert.RefVtAttnIdeal.nD → PrngReg), Pre_VtAttnIdeal m →
    (∀ c : Dev Cert.VtAttnIdeal.nD,
      m' ((c.tc : Thread Cert.RefVtAttnIdeal.nD Cert.RefVtAttnIdeal.τ).loc Cert.RefVtAttnIdeal.main_arg0) = m ((c.tc : Thread Cert.VtAttnIdeal.nD Cert.VtAttnIdeal.τ).loc Cert.VtAttnIdeal.main_arg0)
      ∧ m' ((c.tc : Thread Cert.RefVtAttnIdeal.nD Cert.RefVtAttnIdeal.τ).loc Cert.RefVtAttnIdeal.main_arg1) = m ((c.tc : Thread Cert.VtAttnIdeal.nD Cert.VtAttnIdeal.τ).loc Cert.VtAttnIdeal.main_arg1)
      ∧ m' ((c.tc : Thread Cert.RefVtAttnIdeal.nD Cert.RefVtAttnIdeal.τ).loc Cert.RefVtAttnIdeal.main_arg2) = m ((c.tc : Thread Cert.VtAttnIdeal.nD Cert.VtAttnIdeal.τ).loc Cert.VtAttnIdeal.main_arg2)
      ∧ m' ((c.tc : Thread Cert.RefVtAttnIdeal.nD Cert.RefVtAttnIdeal.τ).loc Cert.RefVtAttnIdeal.main_arg3) = m ((c.tc : Thread Cert.VtAttnIdeal.nD Cert.VtAttnIdeal.τ).loc Cert.VtAttnIdeal.main_arg3)
      ∧ m' ((c.tc : Thread Cert.RefVtAttnIdeal.nD Cert.RefVtAttnIdeal.τ).loc Cert.RefVtAttnIdeal.main_arg4) = m ((c.tc : Thread Cert.VtAttnIdeal.nD Cert.VtAttnIdeal.τ).loc Cert.VtAttnIdeal.main_arg4)
      ∧ m' ((c.tc : Thread Cert.RefVtAttnIdeal.nD Cert.RefVtAttnIdeal.τ).loc Cert.RefVtAttnIdeal.main_arg5) = m ((c.tc : Thread Cert.VtAttnIdeal.nD Cert.VtAttnIdeal.τ).loc Cert.VtAttnIdeal.main_arg5)
      ∧ m' ((c.tc : Thread Cert.RefVtAttnIdeal.nD Cert.RefVtAttnIdeal.τ).loc Cert.RefVtAttnIdeal.main_arg6) = m ((c.tc : Thread Cert.VtAttnIdeal.nD Cert.VtAttnIdeal.τ).loc Cert.VtAttnIdeal.main_arg6)) →
    ∃ (v0 : (c : Dev Cert.VtAttnIdeal.nD) → Buf (Elt Ideal) ((c.tc : Thread Cert.VtAttnIdeal.nD Cert.VtAttnIdeal.τ).loc Cert.VtAttnIdeal.main_v12_0)),
      θ_run (Cert.VtAttnIdeal.defs (F := Ideal)) (onTc (τ := Cert.VtAttnIdeal.τ) (Cert.VtAttnIdeal.main (F := Ideal))) ⟨m, fun _ => 0, g⟩ (fun r => ∀ c : Dev Cert.VtAttnIdeal.nD,
          r.2.mem ((c.tc : Thread Cert.VtAttnIdeal.nD Cert.VtAttnIdeal.τ).loc Cert.VtAttnIdeal.main_v12_0) = v0 c
          ∧ r.2.mem ((c.tc : Thread Cert.VtAttnIdeal.nD Cert.VtAttnIdeal.τ).loc Cert.VtAttnIdeal.main_arg0) = m ((c.tc : Thread Cert.VtAttnIdeal.nD Cert.VtAttnIdeal.τ).loc Cert.VtAttnIdeal.main_arg0)
          ∧ r.2.mem ((c.tc : Thread Cert.VtAttnIdeal.nD Cert.VtAttnIdeal.τ).loc Cert.VtAttnIdeal.main_arg1) = m ((c.tc : Thread Cert.VtAttnIdeal.nD Cert.VtAttnIdeal.τ).loc Cert.VtAttnIdeal.main_arg1)
          ∧ r.2.mem ((c.tc : Thread Cert.VtAttnIdeal.nD Cert.VtAttnIdeal.τ).loc Cert.VtAttnIdeal.main_arg2) = m ((c.tc : Thread Cert.VtAttnIdeal.nD Cert.VtAttnIdeal.τ).loc Cert.VtAttnIdeal.main_arg2)
          ∧ r.2.mem ((c.tc : Thread Cert.VtAttnIdeal.nD Cert.VtAttnIdeal.τ).loc Cert.VtAttnIdeal.main_arg3) = m ((c.tc : Thread Cert.VtAttnIdeal.nD Cert.VtAttnIdeal.τ).loc Cert.VtAttnIdeal.main_arg3)
          ∧ r.2.mem ((c.tc : Thread Cert.VtAttnIdeal.nD Cert.VtAttnIdeal.τ).loc Cert.VtAttnIdeal.main_arg4) = m ((c.tc : Thread Cert.VtAttnIdeal.nD Cert.VtAttnIdeal.τ).loc Cert.VtAttnIdeal.main_arg4)
          ∧ r.2.mem ((c.tc : Thread Cert.VtAttnIdeal.nD Cert.VtAttnIdeal.τ).loc Cert.VtAttnIdeal.main_arg5) = m ((c.tc : Thread Cert.VtAttnIdeal.nD Cert.VtAttnIdeal.τ).loc Cert.VtAttnIdeal.main_arg5)
          ∧ r.2.mem ((c.tc : Thread Cert.VtAttnIdeal.nD Cert.VtAttnIdeal.τ).loc Cert.VtAttnIdeal.main_arg6) = m ((c.tc : Thread Cert.VtAttnIdeal.nD Cert.VtAttnIdeal.τ).loc Cert.VtAttnIdeal.main_arg6))
      ∧ θ_run (Cert.RefVtAttnIdeal.defs (F := Ideal)) (onTc (τ := Cert.RefVtAttnIdeal.τ) (Cert.RefVtAttnIdeal.main (F := Ideal))) ⟨m', fun _ => 0, g'⟩ (fun r => ∀ c : Dev Cert.RefVtAttnIdeal.nD,
          r.2.mem ((c.tc : Thread Cert.RefVtAttnIdeal.nD Cert.RefVtAttnIdeal.τ).loc Cert.RefVtAttnIdeal.main_v5) = v0 c
          ∧ r.2.mem ((c.tc : Thread Cert.RefVtAttnIdeal.nD Cert.RefVtAttnIdeal.τ).loc Cert.RefVtAttnIdeal.main_arg0) = m' ((c.tc : Thread Cert.RefVtAttnIdeal.nD Cert.RefVtAttnIdeal.τ).loc Cert.RefVtAttnIdeal.main_arg0)
          ∧ r.2.mem ((c.tc : Thread Cert.RefVtAttnIdeal.nD Cert.RefVtAttnIdeal.τ).loc Cert.RefVtAttnIdeal.main_arg1) = m' ((c.tc : Thread Cert.RefVtAttnIdeal.nD Cert.RefVtAttnIdeal.τ).loc Cert.RefVtAttnIdeal.main_arg1)
          ∧ r.2.mem ((c.tc : Thread Cert.RefVtAttnIdeal.nD Cert.RefVtAttnIdeal.τ).loc Cert.RefVtAttnIdeal.main_arg2) = m' ((c.tc : Thread Cert.RefVtAttnIdeal.nD Cert.RefVtAttnIdeal.τ).loc Cert.RefVtAttnIdeal.main_arg2)
          ∧ r.2.mem ((c.tc : Thread Cert.RefVtAttnIdeal.nD Cert.RefVtAttnIdeal.τ).loc Cert.RefVtAttnIdeal.main_arg3) = m' ((c.tc : Thread Cert.RefVtAttnIdeal.nD Cert.RefVtAttnIdeal.τ).loc Cert.RefVtAttnIdeal.main_arg3)
          ∧ r.2.mem ((c.tc : Thread Cert.RefVtAttnIdeal.nD Cert.RefVtAttnIdeal.τ).loc Cert.RefVtAttnIdeal.main_arg4) = m' ((c.tc : Thread Cert.RefVtAttnIdeal.nD Cert.RefVtAttnIdeal.τ).loc Cert.RefVtAttnIdeal.main_arg4)
          ∧ r.2.mem ((c.tc : Thread Cert.RefVtAttnIdeal.nD Cert.RefVtAttnIdeal.τ).loc Cert.RefVtAttnIdeal.main_arg5) = m' ((c.tc : Thread Cert.RefVtAttnIdeal.nD Cert.RefVtAttnIdeal.τ).loc Cert.RefVtAttnIdeal.main_arg5)
          ∧ r.2.mem ((c.tc : Thread Cert.RefVtAttnIdeal.nD Cert.RefVtAttnIdeal.τ).loc Cert.RefVtAttnIdeal.main_arg6) = m' ((c.tc : Thread Cert.RefVtAttnIdeal.nD Cert.RefVtAttnIdeal.τ).loc Cert.RefVtAttnIdeal.main_arg6))

def preserves_FirstHalf_FirstHalfIdeal : Prop :=
  IdealRules.named_const.Statement Cert.FirstHalfIdeal.κ "log2e" .f32 0x3FB8AA3B#32 (((Real.log 2)⁻¹ : ℝ) : EReal)
  ∧ IdealRules.named_const.Statement Cert.FirstHalfIdeal.κ "mask" .f32 0xF149F2CA#32 ⊥

def algebraic_FirstHalfIdeal_RefFirstHalfIdeal_pre_finite [hFirstHalfIdeal : Cert.FirstHalfIdeal.Facts] [hRefFirstHalfIdeal : Cert.RefFirstHalfIdeal.Facts] [hPre_finite : Cert.Pre_finite.Facts] : Prop :=
  ∀ (m : (ℓ : Loc Cert.FirstHalfIdeal.nD Cert.FirstHalfIdeal.τ Cert.FirstHalfIdeal.sig) → Buf (Elt Ideal) ℓ) (g : Dev Cert.FirstHalfIdeal.nD → PrngReg)
    (m' : (ℓ : Loc Cert.RefFirstHalfIdeal.nD Cert.RefFirstHalfIdeal.τ Cert.RefFirstHalfIdeal.sig) → Buf (Elt Ideal) ℓ) (g' : Dev Cert.RefFirstHalfIdeal.nD → PrngReg), Pre_FirstHalfIdeal_finite m →
    (∀ c : Dev Cert.FirstHalfIdeal.nD,
      m' ((c.tc : Thread Cert.RefFirstHalfIdeal.nD Cert.RefFirstHalfIdeal.τ).loc Cert.RefFirstHalfIdeal.main_arg0) = m ((c.tc : Thread Cert.FirstHalfIdeal.nD Cert.FirstHalfIdeal.τ).loc Cert.FirstHalfIdeal.main_arg0)
      ∧ m' ((c.tc : Thread Cert.RefFirstHalfIdeal.nD Cert.RefFirstHalfIdeal.τ).loc Cert.RefFirstHalfIdeal.main_arg1) = m ((c.tc : Thread Cert.FirstHalfIdeal.nD Cert.FirstHalfIdeal.τ).loc Cert.FirstHalfIdeal.main_arg1)
      ∧ m' ((c.tc : Thread Cert.RefFirstHalfIdeal.nD Cert.RefFirstHalfIdeal.τ).loc Cert.RefFirstHalfIdeal.main_arg2) = m ((c.tc : Thread Cert.FirstHalfIdeal.nD Cert.FirstHalfIdeal.τ).loc Cert.FirstHalfIdeal.main_arg2)
      ∧ m' ((c.tc : Thread Cert.RefFirstHalfIdeal.nD Cert.RefFirstHalfIdeal.τ).loc Cert.RefFirstHalfIdeal.main_arg3) = m ((c.tc : Thread Cert.FirstHalfIdeal.nD Cert.FirstHalfIdeal.τ).loc Cert.FirstHalfIdeal.main_arg3)
      ∧ m' ((c.tc : Thread Cert.RefFirstHalfIdeal.nD Cert.RefFirstHalfIdeal.τ).loc Cert.RefFirstHalfIdeal.main_arg4) = m ((c.tc : Thread Cert.FirstHalfIdeal.nD Cert.FirstHalfIdeal.τ).loc Cert.FirstHalfIdeal.main_arg4)
      ∧ m' ((c.tc : Thread Cert.RefFirstHalfIdeal.nD Cert.RefFirstHalfIdeal.τ).loc Cert.RefFirstHalfIdeal.main_arg5) = m ((c.tc : Thread Cert.FirstHalfIdeal.nD Cert.FirstHalfIdeal.τ).loc Cert.FirstHalfIdeal.main_arg5)
      ∧ m' ((c.tc : Thread Cert.RefFirstHalfIdeal.nD Cert.RefFirstHalfIdeal.τ).loc Cert.RefFirstHalfIdeal.main_arg6) = m ((c.tc : Thread Cert.FirstHalfIdeal.nD Cert.FirstHalfIdeal.τ).loc Cert.FirstHalfIdeal.main_arg6)) →
    ∃ (v0 : (c : Dev Cert.FirstHalfIdeal.nD) → Buf (Elt Ideal) ((c.tc : Thread Cert.FirstHalfIdeal.nD Cert.FirstHalfIdeal.τ).loc Cert.FirstHalfIdeal.main_v12_1)),
      θ_run (Cert.FirstHalfIdeal.defs (F := Ideal)) (onTc (τ := Cert.FirstHalfIdeal.τ) (Cert.FirstHalfIdeal.main (F := Ideal))) ⟨m, fun _ => 0, g⟩ (fun r => ∀ c : Dev Cert.FirstHalfIdeal.nD,
          r.2.mem ((c.tc : Thread Cert.FirstHalfIdeal.nD Cert.FirstHalfIdeal.τ).loc Cert.FirstHalfIdeal.main_v12_1) = v0 c
          ∧ r.2.mem ((c.tc : Thread Cert.FirstHalfIdeal.nD Cert.FirstHalfIdeal.τ).loc Cert.FirstHalfIdeal.main_arg0) = m ((c.tc : Thread Cert.FirstHalfIdeal.nD Cert.FirstHalfIdeal.τ).loc Cert.FirstHalfIdeal.main_arg0)
          ∧ r.2.mem ((c.tc : Thread Cert.FirstHalfIdeal.nD Cert.FirstHalfIdeal.τ).loc Cert.FirstHalfIdeal.main_arg1) = m ((c.tc : Thread Cert.FirstHalfIdeal.nD Cert.FirstHalfIdeal.τ).loc Cert.FirstHalfIdeal.main_arg1)
          ∧ r.2.mem ((c.tc : Thread Cert.FirstHalfIdeal.nD Cert.FirstHalfIdeal.τ).loc Cert.FirstHalfIdeal.main_arg2) = m ((c.tc : Thread Cert.FirstHalfIdeal.nD Cert.FirstHalfIdeal.τ).loc Cert.FirstHalfIdeal.main_arg2)
          ∧ r.2.mem ((c.tc : Thread Cert.FirstHalfIdeal.nD Cert.FirstHalfIdeal.τ).loc Cert.FirstHalfIdeal.main_arg3) = m ((c.tc : Thread Cert.FirstHalfIdeal.nD Cert.FirstHalfIdeal.τ).loc Cert.FirstHalfIdeal.main_arg3)
          ∧ r.2.mem ((c.tc : Thread Cert.FirstHalfIdeal.nD Cert.FirstHalfIdeal.τ).loc Cert.FirstHalfIdeal.main_arg4) = m ((c.tc : Thread Cert.FirstHalfIdeal.nD Cert.FirstHalfIdeal.τ).loc Cert.FirstHalfIdeal.main_arg4)
          ∧ r.2.mem ((c.tc : Thread Cert.FirstHalfIdeal.nD Cert.FirstHalfIdeal.τ).loc Cert.FirstHalfIdeal.main_arg5) = m ((c.tc : Thread Cert.FirstHalfIdeal.nD Cert.FirstHalfIdeal.τ).loc Cert.FirstHalfIdeal.main_arg5)
          ∧ r.2.mem ((c.tc : Thread Cert.FirstHalfIdeal.nD Cert.FirstHalfIdeal.τ).loc Cert.FirstHalfIdeal.main_arg6) = m ((c.tc : Thread Cert.FirstHalfIdeal.nD Cert.FirstHalfIdeal.τ).loc Cert.FirstHalfIdeal.main_arg6))
      ∧ θ_run (Cert.RefFirstHalfIdeal.defs (F := Ideal)) (onTc (τ := Cert.RefFirstHalfIdeal.τ) (Cert.RefFirstHalfIdeal.main (F := Ideal))) ⟨m', fun _ => 0, g'⟩ (fun r => ∀ c : Dev Cert.RefFirstHalfIdeal.nD,
          r.2.mem ((c.tc : Thread Cert.RefFirstHalfIdeal.nD Cert.RefFirstHalfIdeal.τ).loc Cert.RefFirstHalfIdeal.main_v74) = v0 c
          ∧ r.2.mem ((c.tc : Thread Cert.RefFirstHalfIdeal.nD Cert.RefFirstHalfIdeal.τ).loc Cert.RefFirstHalfIdeal.main_arg0) = m' ((c.tc : Thread Cert.RefFirstHalfIdeal.nD Cert.RefFirstHalfIdeal.τ).loc Cert.RefFirstHalfIdeal.main_arg0)
          ∧ r.2.mem ((c.tc : Thread Cert.RefFirstHalfIdeal.nD Cert.RefFirstHalfIdeal.τ).loc Cert.RefFirstHalfIdeal.main_arg1) = m' ((c.tc : Thread Cert.RefFirstHalfIdeal.nD Cert.RefFirstHalfIdeal.τ).loc Cert.RefFirstHalfIdeal.main_arg1)
          ∧ r.2.mem ((c.tc : Thread Cert.RefFirstHalfIdeal.nD Cert.RefFirstHalfIdeal.τ).loc Cert.RefFirstHalfIdeal.main_arg2) = m' ((c.tc : Thread Cert.RefFirstHalfIdeal.nD Cert.RefFirstHalfIdeal.τ).loc Cert.RefFirstHalfIdeal.main_arg2)
          ∧ r.2.mem ((c.tc : Thread Cert.RefFirstHalfIdeal.nD Cert.RefFirstHalfIdeal.τ).loc Cert.RefFirstHalfIdeal.main_arg3) = m' ((c.tc : Thread Cert.RefFirstHalfIdeal.nD Cert.RefFirstHalfIdeal.τ).loc Cert.RefFirstHalfIdeal.main_arg3)
          ∧ r.2.mem ((c.tc : Thread Cert.RefFirstHalfIdeal.nD Cert.RefFirstHalfIdeal.τ).loc Cert.RefFirstHalfIdeal.main_arg4) = m' ((c.tc : Thread Cert.RefFirstHalfIdeal.nD Cert.RefFirstHalfIdeal.τ).loc Cert.RefFirstHalfIdeal.main_arg4)
          ∧ r.2.mem ((c.tc : Thread Cert.RefFirstHalfIdeal.nD Cert.RefFirstHalfIdeal.τ).loc Cert.RefFirstHalfIdeal.main_arg5) = m' ((c.tc : Thread Cert.RefFirstHalfIdeal.nD Cert.RefFirstHalfIdeal.τ).loc Cert.RefFirstHalfIdeal.main_arg5)
          ∧ r.2.mem ((c.tc : Thread Cert.RefFirstHalfIdeal.nD Cert.RefFirstHalfIdeal.τ).loc Cert.RefFirstHalfIdeal.main_arg6) = m' ((c.tc : Thread Cert.RefFirstHalfIdeal.nD Cert.RefFirstHalfIdeal.τ).loc Cert.RefFirstHalfIdeal.main_arg6))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hRefFfnUpIdeal : Cert.RefFfnUpIdeal.Facts) (hDownLn : Cert.DownLn.Facts) (hDownLnIdeal : Cert.DownLnIdeal.Facts) (hRefDownLnIdeal : Cert.RefDownLnIdeal.Facts) (hMerge : Cert.Merge.Facts) (hMergeIdeal : Cert.MergeIdeal.Facts) (hRefMergeIdeal : Cert.RefMergeIdeal.Facts) (hOutLn : Cert.OutLn.Facts) (hOutLnIdeal : Cert.OutLnIdeal.Facts) (hRefOutLnIdeal : Cert.RefOutLnIdeal.Facts) (hProjQk : Cert.ProjQk.Facts) (hProjQkIdeal : Cert.ProjQkIdeal.Facts) (hRefProjQkIdeal : Cert.RefProjQkIdeal.Facts) (hProjA : Cert.ProjA.Facts) (hProjAIdeal : Cert.ProjAIdeal.Facts) (hRefProjAIdeal : Cert.RefProjAIdeal.Facts) (hVtAttn : Cert.VtAttn.Facts) (hVtAttnIdeal : Cert.VtAttnIdeal.Facts) (hRefVtAttnIdeal : Cert.RefVtAttnIdeal.Facts) (hFirstHalf : Cert.FirstHalf.Facts) (hFirstHalfIdeal : Cert.FirstHalfIdeal.Facts) (hRefFirstHalfIdeal : Cert.RefFirstHalfIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_RefFfnUpIdeal (hRefFfnUpIdeal := hRefFfnUpIdeal)
    ∧ quiescent_DownLn (hDownLn := hDownLn)
    ∧ quiescent_DownLnIdeal (hDownLnIdeal := hDownLnIdeal)
    ∧ quiescent_RefDownLnIdeal (hRefDownLnIdeal := hRefDownLnIdeal)
    ∧ quiescent_Merge (hMerge := hMerge)
    ∧ quiescent_MergeIdeal (hMergeIdeal := hMergeIdeal)
    ∧ quiescent_RefMergeIdeal (hRefMergeIdeal := hRefMergeIdeal)
    ∧ quiescent_OutLn (hOutLn := hOutLn)
    ∧ quiescent_OutLnIdeal (hOutLnIdeal := hOutLnIdeal)
    ∧ quiescent_RefOutLnIdeal (hRefOutLnIdeal := hRefOutLnIdeal)
    ∧ quiescent_ProjQk (hProjQk := hProjQk)
    ∧ quiescent_ProjQkIdeal (hProjQkIdeal := hProjQkIdeal)
    ∧ quiescent_RefProjQkIdeal (hRefProjQkIdeal := hRefProjQkIdeal)
    ∧ quiescent_ProjA (hProjA := hProjA)
    ∧ quiescent_ProjAIdeal (hProjAIdeal := hProjAIdeal)
    ∧ quiescent_RefProjAIdeal (hRefProjAIdeal := hRefProjAIdeal)
    ∧ quiescent_VtAttn (hVtAttn := hVtAttn)
    ∧ quiescent_VtAttnIdeal (hVtAttnIdeal := hVtAttnIdeal)
    ∧ quiescent_RefVtAttnIdeal (hRefVtAttnIdeal := hRefVtAttnIdeal)
    ∧ quiescent_FirstHalf (hFirstHalf := hFirstHalf)
    ∧ quiescent_FirstHalfIdeal (hFirstHalfIdeal := hFirstHalfIdeal)
    ∧ quiescent_FirstHalfIdeal_pre_finite (hFirstHalfIdeal := hFirstHalfIdeal) (hPre_finite := hPre_finite)
    ∧ quiescent_RefFirstHalfIdeal (hRefFirstHalfIdeal := hRefFirstHalfIdeal)
    ∧ quiescent_RefFirstHalfIdeal_pre_finite (hRefFirstHalfIdeal := hRefFirstHalfIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_RefFfnUpIdeal (hFfnUpIdeal := hFfnUpIdeal) (hRefFfnUpIdeal := hRefFfnUpIdeal)
    ∧ preserves_DownLn_DownLnIdeal
    ∧ algebraic_DownLnIdeal_RefDownLnIdeal (hDownLnIdeal := hDownLnIdeal) (hRefDownLnIdeal := hRefDownLnIdeal)
    ∧ preserves_Merge_MergeIdeal
    ∧ algebraic_MergeIdeal_RefMergeIdeal (hMergeIdeal := hMergeIdeal) (hRefMergeIdeal := hRefMergeIdeal)
    ∧ preserves_OutLn_OutLnIdeal
    ∧ algebraic_OutLnIdeal_RefOutLnIdeal (hOutLnIdeal := hOutLnIdeal) (hRefOutLnIdeal := hRefOutLnIdeal)
    ∧ preserves_ProjQk_ProjQkIdeal
    ∧ algebraic_ProjQkIdeal_RefProjQkIdeal (hProjQkIdeal := hProjQkIdeal) (hRefProjQkIdeal := hRefProjQkIdeal)
    ∧ preserves_ProjA_ProjAIdeal
    ∧ algebraic_ProjAIdeal_RefProjAIdeal (hProjAIdeal := hProjAIdeal) (hRefProjAIdeal := hRefProjAIdeal)
    ∧ preserves_VtAttn_VtAttnIdeal
    ∧ algebraic_VtAttnIdeal_RefVtAttnIdeal (hVtAttnIdeal := hVtAttnIdeal) (hRefVtAttnIdeal := hRefVtAttnIdeal)
    ∧ preserves_FirstHalf_FirstHalfIdeal
    ∧ algebraic_FirstHalfIdeal_RefFirstHalfIdeal_pre_finite (hFirstHalfIdeal := hFirstHalfIdeal) (hRefFirstHalfIdeal := hRefFirstHalfIdeal) (hPre_finite := hPre_finite)
-- ==== Pre_finite.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S_ : Shape := ⟨0, ![]⟩

class Facts : Prop where
  bcast_S_S4x4096x32x64 : S_.BroadcastsInDim S4x4096x32x64 (![] : Fin 0 → Fin S4x4096x32x64.rank)
  bcast_S_S4x4096x4x64 : S_.BroadcastsInDim S4x4096x4x64 (![] : Fin 0 → Fin S4x4096x4x64.rank)
  bcast_S_S32 : S_.BroadcastsInDim S32 (![] : Fin 0 → Fin S32.rank)

variable [Facts]

def fn {F : FTy → Type} [FloatOps F] (main_arg0 : FVec F S4x4096x2048 .f32) (main_arg1 : FVec F S2048x12800 .f32) (main_arg2 : FVec F S4x4096x32x64 .f32) (main_arg3 : FVec F S4x4096x4x64 .f32) (main_arg4 : FVec F S4x4096x4x64 .f32) (main_arg5 : FVec F S32 .f32) (main_arg6 : FVec F S16384x2048 .bf16) : IVec S4x4096x32x64 1 × IVec S4x4096x4x64 1 × IVec S32 1 :=
  let main_v0 : FVec F S4x4096x32x64 .f32 := Host.absf main_arg2
  let main_cst : FVec F S_ .f32 := constant S_ .f32 0x7F800000#32
  let main_v1 : FVec F S4x4096x32x64 .f32 := broadcastInDim S4x4096x32x64 ![] bcast_S_S4x4096x32x64 main_cst
  let main_v2 : IVec S4x4096x32x64 1 := cmpf .olt main_v0 main_v1
  let main_v3 : FVec F S4x4096x4x64 .f32 := Host.absf main_arg3
  let main_cst_0 : FVec F S_ .f32 := constant S_ .f32 0x7F800000#32
  let main_v4 : FVec F S4x4096x4x64 .f32 := broadcastInDim S4x4096x4x64 ![] bcast_S_S4x4096x4x64 main_cst_0
  let main_v5 : IVec S4x4096x4x64 1 := cmpf .olt main_v3 main_v4
  let main_v6 : FVec F S32 .f32 := Host.absf main_arg5
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  (main_v2, main_v5, main_v8)
-- ==== Kernel.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S_ : Shape := ⟨0, ![]⟩
abbrev S16384x256 : Shape := ⟨2, ![16384, 256]⟩
abbrev S16384x2560 : Shape := ⟨2, ![16384, 2560]⟩
abbrev S16384x4096 : Shape := ⟨2, ![16384, 4096]⟩
abbrev S1024x2048 : Shape := ⟨2, ![1024, 2048]⟩
abbrev S2048x2048 : Shape := ⟨2, ![2048, 2048]⟩
abbrev S256x2048 : Shape := ⟨2, ![256, 2048]⟩
abbrev S128x512 : Shape := ⟨2, ![128, 512]⟩
abbrev S256x512 : Shape := ⟨2, ![256, 512]⟩
abbrev S2048x256 : Shape := ⟨2, ![2048, 256]⟩
abbrev S1024x256 : Shape := ⟨2, ![1024, 256]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S64x128 : Shape := ⟨2, ![64, 128]⟩
abbrev S64x256 : Shape := ⟨2, ![64, 256]⟩
abbrev S128x2048 : Shape := ⟨2, ![128, 2048]⟩
abbrev S128x128 : Shape := ⟨2, ![128, 128]⟩
abbrev S64x1024 : Shape := ⟨2, ![64, 1024]⟩
abbrev S256x1024 : Shape := ⟨2, ![256, 1024]⟩
abbrev S1 : Shape := ⟨1, ![1]⟩
abbrev S128 : Shape := ⟨1, ![128]⟩
abbrev S1x128 : Shape := ⟨2, ![1, 128]⟩

abbrev nBuf : Space → Nat
  | .hbm => 23
  | .vmem => 14
  | .smem => 1
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S4x4096x32x64, .f32⟩
  | .hbm, ⟨3, _⟩ => ⟨S4x4096x4x64, .f32⟩
  | .hbm, ⟨4, _⟩ => ⟨S4x4096x4x64, .f32⟩
  | .hbm, ⟨5, _⟩ => ⟨S32, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S2048x12800, .bf16⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x32x64, .f32⟩
  | .hbm, ⟨15, _⟩ => ⟨S4x4096x32x64, .f32⟩
  | .hbm, ⟨16, _⟩ => ⟨S16384x2048, .f32⟩
  | .hbm, ⟨17, _⟩ => ⟨S16384x256, .f32⟩
  | .hbm, ⟨18, _⟩ => ⟨S16384x256, .f32⟩
  | .hbm, ⟨19, _⟩ => ⟨S16384x2560, .f32⟩
  | .hbm, ⟨20, _⟩ => ⟨S16384x2560, .bf16⟩
  | .hbm, ⟨21, _⟩ => ⟨S16384x4096, .bf16⟩
  | .hbm, ⟨22, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S1024x2048, .bf16⟩
  | .local _ .vmem, ⟨11, _⟩ => ⟨S1024x2048, .bf16⟩
  | .local _ .vmem, ⟨12, _⟩ => ⟨S256x2048, .bf16⟩
  | .local _ .vmem, ⟨13, _⟩ => ⟨S256x2048, .bf16⟩
  | .local _ .smem, ⟨0, _⟩ => ⟨S32, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c8704_i32 : BitVec 32 := 8704#32
  let arg1 : BitVec 32 := BitVec.ofNat 32 (i 1).val
  let c2048_i32 : BitVec 32 := 2048#32
  let v0 : BitVec 32 := Scalar.muli arg1 c2048_i32
  let v1 : BitVec 32 := Scalar.addi c8704_i32 v0
  v1
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c8704_i32 : BitVec 32 := 8704#32
  let v1 : BitVec 32 := Scalar.addi c8704_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.addi c32_i32 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.addi c32_i32 v1
  let c2_i32_0 : BitVec 32 := 2#32
  let v3 : BitVec 32 := Scalar.muli v2 c2_i32_0
  let c1_i32 : BitVec 32 := 1#32
  let v4 : BitVec 32 := Scalar.subi v3 c1_i32
  let c0_i32 : BitVec 32 := 0#32
  let v5 : BitVec 32 := Scalar.maxsi v4 c0_i32
  let c4_i32 : BitVec 32 := 4#32
  let c0_i32_1 : BitVec 32 := 0#32
  ![v5.toNat, c4_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.addi c32_i32 v1
  let c4_i32 : BitVec 32 := 4#32
  let c0_i32 : BitVec 32 := 0#32
  ![v2.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.addi c32_i32 v1
  let c0_i32 : BitVec 32 := 0#32
  let c0_i32_0 : BitVec 32 := 0#32
  ![v2.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S2048x4096 : Shape := ⟨2, ![2048, 4096]⟩
abbrev S4x4096x4096 : Shape := ⟨3, ![4, 4096, 4096]⟩
abbrev S_ : Shape := ⟨0, ![]⟩
abbrev S4x32x128x4x8x64 : Shape := ⟨6, ![4, 32, 128, 4, 8, 64]⟩
abbrev S4x32x128x4x64 : Shape := ⟨5, ![4, 32, 128, 4, 64]⟩
abbrev S4x33x128x4x64 : Shape := ⟨5, ![4, 33, 128, 4, 64]⟩
abbrev S4x32x256x4x64 : Shape := ⟨5, ![4, 32, 256, 4, 64]⟩
abbrev S4x32x4x256x128x8 : Shape := ⟨6, ![4, 32, 4, 256, 128, 8]⟩
abbrev S4x32x4x8x128x256 : Shape := ⟨6, ![4, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x8 : Shape := ⟨2, ![4, 8]⟩
abbrev S1x1x4x8x1x1 : Shape := ⟨6, ![1, 1, 4, 8, 1, 1]⟩
abbrev S4x32x4x8x128 : Shape := ⟨5, ![4, 32, 4, 8, 128]⟩
abbrev S4x32x4x8x128x1 : Shape := ⟨6, ![4, 32, 4, 8, 128, 1]⟩
abbrev S4x32x4x64x8x128 : Shape := ⟨6, ![4, 32, 4, 64, 8, 128]⟩
abbrev S16384x4096 : Shape := ⟨2, ![16384, 4096]⟩
abbrev S8192x2048 : Shape := ⟨2, ![8192, 2048]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S4x4096x32x64, .f32⟩
  | .hbm, ⟨3, _⟩ => ⟨S4x4096x4x64, .f32⟩
  | .hbm, ⟨4, _⟩ => ⟨S4x4096x4x64, .f32⟩
  | .hbm, ⟨5, _⟩ => ⟨S32, .f32⟩
  | .hbm, ⟨6, _⟩ => ⟨S16384x2048, .bf16⟩
  | .hbm, ⟨7, _⟩ => ⟨S2048x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x32x128x4x8x64, .f32⟩
  | .hbm, ⟨18, _⟩ => ⟨S4x32x128x4x64, .f32⟩
  | .hbm, ⟨19, _⟩ => ⟨S4x32x128x4x64, .f32⟩
  | .hbm, ⟨20, _⟩ => ⟨S_, .i32⟩
  | .hbm, ⟨21, _⟩ => ⟨S_, .f32⟩
  | .hbm, ⟨22, _⟩ => ⟨S4x33x128x4x64, .f32⟩
  | .hbm, ⟨23, _⟩ => ⟨S4x32x128x4x64, .f32⟩
  | .hbm, ⟨24, _⟩ => ⟨S4x32x256x4x64, .f32⟩
  | .hbm, ⟨25, _⟩ => ⟨S_, .i32⟩
  | .hbm, ⟨26, _⟩ => ⟨S_, .f32⟩
  | .hbm, ⟨27, _⟩ => ⟨S4x33x128x4x64, .f32⟩
  | .hbm, ⟨28, _⟩ => ⟨S4x32x128x4x64, .f32⟩
  | .hbm, ⟨29, _⟩ => ⟨S4x32x256x4x64, .f32⟩
  | .hbm, ⟨30, _⟩ => ⟨S4x32x4x256x128x8, .f32⟩
  | .hbm, ⟨31, _⟩ => ⟨S4x32x4x8x128x256, .f32⟩
  | .hbm, ⟨32, _⟩ => ⟨S_, .f32⟩
  | .hbm, ⟨33, _⟩ => ⟨S4x32x4x8x128x256, .f32⟩
  | .hbm, ⟨34, _⟩ => ⟨S4x32x4x8x128x256, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x256, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S32, .i32⟩
  | .hbm, ⟨56, _⟩ => ⟨S32x1, .i32⟩
  | .hbm, ⟨57, _⟩ => ⟨S_, .i32⟩
  | .hbm, ⟨58, _⟩ => ⟨S32x1, .i32⟩
  | .hbm, ⟨59, _⟩ => ⟨S32x1, .i32⟩
  | .hbm, ⟨60, _⟩ => ⟨S256, .i32⟩
  | .hbm, ⟨61, _⟩ => ⟨S1x256, .i32⟩
  | .hbm, ⟨62, _⟩ => ⟨S32x256, .i32⟩
  | .hbm, ⟨63, _⟩ => ⟨S32x256, .i32⟩
  | .hbm, ⟨64, _⟩ => ⟨S32x256, .i32⟩
  | .hbm, ⟨65, _⟩ => ⟨S_, .i32⟩
  | .hbm, ⟨66, _⟩ => ⟨S32x256, .i32⟩
  | .hbm, ⟨67, _⟩ => ⟨S32x256, .i32⟩
  | .hbm, ⟨68, _⟩ => ⟨S_, .i32⟩
  | .hbm, ⟨69, _⟩ => ⟨S32x256, .i32⟩
  | .hbm, ⟨70, _⟩ => ⟨S32x256, .i1⟩
  | .hbm, ⟨71, _⟩ => ⟨S1x128x256, .i1⟩
  | .hbm, ⟨72, _⟩ => ⟨S32x1x256, .i1⟩
  | .hbm, ⟨73, _⟩ => ⟨S32x128x256, .i1⟩
  | .hbm, ⟨74, _⟩ => ⟨S32x128x256, .i1⟩
  | .hbm, ⟨75, _⟩ => ⟨S32x128x256, .i1⟩
  | .hbm, ⟨76, _⟩ => ⟨S1x32x1x1x128x256, .i1⟩
  | .hbm, ⟨77, _⟩ => ⟨S_, .f32⟩
  | .hbm, ⟨78, _⟩ => ⟨S_, .f32⟩
  | .hbm, ⟨79, _⟩ => ⟨S4x32x4x8x128x256, .i1⟩
  | .hbm, ⟨80, _⟩ => ⟨S4x32x4x8x128x256, .f32⟩
  | .hbm, ⟨81, _⟩ => ⟨S4x32x4x8x128x256, .f32⟩
  | .hbm, ⟨82, _⟩ => ⟨S4x8, .f32⟩
  | .hbm, ⟨83, _⟩ => ⟨S1x1x4x8x1x1, .f32⟩
  | .hbm, ⟨84, _⟩ => ⟨S_, .f32⟩
  | .hbm, ⟨85, _⟩ => ⟨S4x32x4x8x128, .f32⟩
  | .hbm, ⟨86, _⟩ => ⟨S4x32x4x8x128x1, .f32⟩
  | .hbm, ⟨87, _⟩ => ⟨S4x32x4x8x128x1, .f32⟩
  | .hbm, ⟨88, _⟩ => ⟨S4x32x4x8x128x1, .f32⟩
  | .hbm, ⟨89, _⟩ => ⟨S4x32x4x8x128x256, .f32⟩
  | .hbm, ⟨90, _⟩ => ⟨S4x32x4x8x128x256, .f32⟩
  | .hbm, ⟨91, _⟩ => ⟨S4x32x4x8x128x256, .f32⟩
  | .hbm, ⟨92, _⟩ => ⟨S_, .f32⟩
  | .hbm, ⟨93, _⟩ => ⟨S4x32x4x8x128, .f32⟩
  | .hbm, ⟨94, _⟩ => ⟨S4x32x4x8x128x1, .f32⟩
  | .hbm, ⟨95, _⟩ => ⟨S4x32x4x8x128x1, .f32⟩
  | .hbm, ⟨96, _⟩ => ⟨S4x32x4x8x128x1, .f32⟩
  | .hbm, ⟨97, _⟩ => ⟨S4x32x4x8x128x1, .f32⟩
  | .hbm, ⟨98, _⟩ => ⟨S4x32x4x8x128x1, .f32⟩
  | .hbm, ⟨99, _⟩ => ⟨S4x32x4x8x128x256, .f32⟩
  | .hbm, ⟨100, _⟩ => ⟨S4x32x4x8x128x256, .f32⟩
  | .hbm, ⟨101, _⟩ => ⟨S4x32x4x64x8x128, .f32⟩
  | .hbm, ⟨102, _⟩ => ⟨S4x32x128x4x8x64, .f32⟩
  | .hbm, ⟨103, _⟩ => ⟨S4x4096x2048, .f32⟩
  | .hbm, ⟨104, _⟩ => ⟨S16384x2048, .f32⟩
  | .hbm, ⟨105, _⟩ => ⟨S16384x2048, .bf16⟩
  | .hbm, ⟨106, _⟩ => ⟨S16384x4096, .f32⟩
  | .hbm, ⟨107, _⟩ => ⟨S16384x4096, .bf16⟩
  | .hbm, ⟨108, _⟩ => ⟨S8192x2048, .bf16⟩
  | .hbm, ⟨109, _⟩ => ⟨S8192x2048, .bf16⟩
  | .hbm, ⟨110, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== FfnUp.lean ====
abbrev S4x4096x2048 : Shape := ⟨3, ![4, 4096, 2048]⟩
abbrev S2048x11264 : Shape := ⟨2, ![2048, 11264]⟩
abbrev S3x11264 : Shape := ⟨2, ![3, 11264]⟩
abbrev S11264 : Shape := ⟨1, ![11264]⟩
abbrev S16384x2048 : Shape := ⟨2, ![16384, 2048]⟩
abbrev S1x3x11264 : Shape := ⟨3, ![1, 3, 11264]⟩
abbrev S1x1x11264 : Shape := ⟨3, ![1, 1, 11264]⟩
abbrev S16384x5632 : Shape := ⟨2, ![16384, 5632]⟩
abbrev S16x2048 : Shape := ⟨2, ![16, 2048]⟩
abbrev S2048x2816 : Shape := ⟨2, ![2048, 2816]⟩
abbrev S1024x2048 : Shape := ⟨2, ![1024, 2048]⟩
abbrev S1x3x2816 : Shape := ⟨3, ![1, 3, 2816]⟩
abbrev S1x1x2816 : Shape := ⟨3, ![1, 1, 2816]⟩
abbrev S1024x2816 : Shape := ⟨2, ![1024, 2816]⟩
abbrev S1040x2048 : Shape := ⟨2, ![1040, 2048]⟩
abbrev S2048x256 : Shape := ⟨2, ![2048, 256]⟩
abbrev S1040x256 : Shape := ⟨2, ![1040, 256]⟩
abbrev S1x1x256 : Shape := ⟨3, ![1, 1, 256]⟩
abbrev S1x256 : Shape := ⟨2, ![1, 256]⟩
abbrev S1024x256 : Shape := ⟨2, ![1024, 256]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S16384x2048, .f32⟩
  | .hbm, ⟨5, _⟩ => ⟨S16384x2048, .bf16⟩
  | .hbm, ⟨6, _⟩ => ⟨S2048x11264, .bf16⟩
  | .hbm, ⟨7, _⟩ => ⟨S1x3x11264, .f32⟩
  | .hbm, ⟨8, _⟩ => ⟨S1x1x11264, .f32⟩
  | .hbm, ⟨9, _⟩ => ⟨S16384x5632, .bf16⟩
  | .local _ .vmem, ⟨0, _⟩ => ⟨S16x2048, .bf16⟩
  | .local _ .vmem, ⟨1, _⟩ => ⟨S16x2048, .bf16⟩
  | .local _ .vmem, ⟨2, _⟩ => ⟨S2048x2816, .bf16⟩
  | .local _ .vmem, ⟨3, _⟩ => ⟨S2048x2816, .bf16⟩
  | .local _ .vmem, ⟨4, _⟩ => ⟨S1024x2048, .bf16⟩
  | .local _ .vmem, ⟨5, _⟩ => ⟨S1024x2048, .bf16⟩
  | .local _ .vmem, ⟨6, _⟩ => ⟨S1x3x2816, .f32⟩
  | .local _ .vmem, ⟨7, _⟩ => ⟨S1x3x2816, .f32⟩
  | .local _ .vmem, ⟨8, _⟩ => ⟨S1x3x2816, .f32⟩
  | .local _ .vmem, ⟨9, _⟩ => ⟨S1x3x2816, .f32⟩
  | .local _ .vmem, ⟨10, _⟩ => ⟨S1x1x2816, .f32⟩
  | .local _ .vmem, ⟨11, _⟩ => ⟨S1x1x2816, .f32⟩
  | .local _ .vmem, ⟨12, _⟩ => ⟨S1x1x2816, .f32⟩
  | .local _ .vmem, ⟨13, _⟩ => ⟨S1x1x2816, .f32⟩
  | .local _ .vmem, ⟨14, _⟩ => ⟨S1024x2816, .bf16⟩
  | .local _ .vmem, ⟨15, _⟩ => ⟨S1024x2816, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefFfnUpIdeal.lean ====
abbrev S4x4096x2048 : Shape := ⟨3, ![4, 4096, 2048]⟩
abbrev S2048x11264 : Shape := ⟨2, ![2048, 11264]⟩
abbrev S3x11264 : Shape := ⟨2, ![3, 11264]⟩
abbrev S11264 : Shape := ⟨1, ![11264]⟩
abbrev S4x4096x11264 : Shape := ⟨3, ![4, 4096, 11264]⟩
abbrev S_ : Shape := ⟨0, ![]⟩
abbrev S4x4098x11264 : Shape := ⟨3, ![4, 4098, 11264]⟩
abbrev S1x11264 : Shape := ⟨2, ![1, 11264]⟩
abbrev S1x1x11264 : Shape := ⟨3, ![1, 1, 11264]⟩
abbrev S4x4096x5632 : Shape := ⟨3, ![4, 4096, 5632]⟩
abbrev S16384x5632 : Shape := ⟨2, ![16384, 5632]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S4x4096x11264, .f32⟩
  | .hbm, ⟨5, _⟩ => ⟨S_, .i32⟩
  | .hbm, ⟨6, _⟩ => ⟨S_, .f32⟩
  | .hbm, ⟨7, _⟩ => ⟨S4x4098x11264, .f32⟩
  | .hbm, ⟨8, _⟩ => ⟨S1x11264, .f32⟩
  | .hbm, ⟨9, _⟩ => ⟨S11264, .f32⟩
  | .hbm, ⟨10, _⟩ => ⟨S4x4096x11264, .f32⟩
  | .hbm, ⟨11, _⟩ => ⟨S1x1x11264, .f32⟩
  | .hbm, ⟨12, _⟩ => ⟨S4x4096x11264, .f32⟩
  | .hbm, ⟨13, _⟩ => ⟨S4x4096x11264, .f32⟩
  | .hbm, ⟨14, _⟩ => ⟨S_, .f32⟩
  | .hbm, ⟨15, _⟩ => ⟨S4x4096x11264, .f32⟩
  | .hbm, ⟨16, _⟩ => ⟨S4x4096x11264, .f32⟩
  | .hbm, ⟨17, _⟩ => ⟨S1x11264, .f32⟩
  | .hbm, ⟨18, _⟩ => ⟨S11264, .f32⟩
  | .hbm, ⟨19, _⟩ => ⟨S4x4096x11264, .f32⟩
  | .hbm, ⟨20, _⟩ => ⟨S1x1x11264, .f32⟩
  | .hbm, ⟨21, _⟩ => ⟨S4x4096x11264, .f32⟩
  | .hbm, ⟨22, _⟩ => ⟨S4x4096x11264, .f32⟩
  | .hbm, ⟨23, _⟩ => ⟨S4x4096x11264, .f32⟩
  | .hbm, ⟨24, _⟩ => ⟨S1x11264, .f32⟩
  | .hbm, ⟨25, _⟩ => ⟨S11264, .f32⟩
  | .hbm, ⟨26, _⟩ => ⟨S4x4096x11264, .f32⟩
  | .hbm, ⟨27, _⟩ => ⟨S1x1x11264, .f32⟩
  | .hbm, ⟨28, _⟩ => ⟨S4x4096x11264, .f32⟩
  | .hbm, ⟨29, _⟩ => ⟨S4x4096x11264, .f32⟩
  | .hbm, ⟨30, _⟩ => ⟨S4x4096x11264, .f32⟩
  | .hbm, ⟨31, _⟩ => ⟨S1x1x11264, .f32⟩
  | .hbm, ⟨32, _⟩ => ⟨S4x4096x11264, .f32⟩
  | .hbm, ⟨33, _⟩ => ⟨S4x4096x11264, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S_, .f32⟩
  | .hbm, ⟨39, _⟩ => ⟨S4x4096x5632, .f32⟩
  | .hbm, ⟨40, _⟩ => ⟨S4x4096x5632, .f32⟩
  | .hbm, ⟨41, _⟩ => ⟨S_, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S16384x5632, .f32⟩
  | .hbm, ⟨47, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== DownLn.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S2048 : Shape := ⟨1, ![2048]⟩
abbrev S16384x5632 : Shape := ⟨2, ![16384, 5632]⟩
abbrev S16384x2048 : Shape := ⟨2, ![16384, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x5632, .f32⟩
  | .hbm, ⟨6, _⟩ => ⟨S16384x5632, .bf16⟩
  | .hbm, ⟨7, _⟩ => ⟨S5632x2048, .bf16⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDownLnIdeal.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S16384x2048, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Merge.lean ====
abbrev S4x4096x2048 : Shape := ⟨3, ![4, 4096, 2048]⟩
abbrev S2048x2048 : Shape := ⟨2, ![2048, 2048]⟩
abbrev S4x4096x4096 : Shape := ⟨3, ![4, 4096, 4096]⟩
abbrev S16384x2048 : Shape := ⟨2, ![16384, 2048]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S2048x2048, .f32⟩
  | .hbm, ⟨4, _⟩ => ⟨S4x4096x4096, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S2048x2048, .bf16⟩
  | .hbm, ⟨10, _⟩ => ⟨S2048x2048, .bf16⟩
  | .hbm, ⟨11, _⟩ => ⟨S16384x4096, .f32⟩
  | .hbm, ⟨12, _⟩ => ⟨S16384x4096, .bf16⟩
  | .hbm, ⟨13, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefMergeIdeal.lean ====
abbrev S4x4096x2048 : Shape := ⟨3, ![4, 4096, 2048]⟩
abbrev S2048x2048 : Shape := ⟨2, ![2048, 2048]⟩
abbrev S4x4096x4096 : Shape := ⟨3, ![4, 4096, 4096]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S2048x2048, .f32⟩
  | .hbm, ⟨4, _⟩ => ⟨S4x4096x4096, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | .hbm, ⟨13, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== OutLn.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOutLnIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S16384x2048, .f32⟩
  | .hbm, ⟨40, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== ProjQk.lean ====
abbrev S4x4096x2048 : Shape := ⟨3, ![4, 4096, 2048]⟩
abbrev S2048x12800 : Shape := ⟨2, ![2048, 12800]⟩
abbrev S16384x2048 : Shape := ⟨2, ![16384, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S64 : Shape := ⟨1, ![64]⟩
abbrev S1x64 : Shape := ⟨2, ![1, 64]⟩
abbrev S4096x64 : Shape := ⟨2, ![4096, 64]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x1x64 : Shape := ⟨4, ![1, 4096, 1, 64]⟩
abbrev S1x4096x2x64 : Shape := ⟨4, ![1, 4096, 2, 64]⟩
abbrev S1x4096x128 : Shape := ⟨3, ![1, 4096, 128]⟩
abbrev S3x4096x128 : Shape := ⟨3, ![3, 4096, 128]⟩
abbrev S2x4096x128 : Shape := ⟨3, ![2, 4096, 128]⟩
abbrev S4x8x2x128x4096 : Shape := ⟨5, ![4, 8, 2, 128, 4096]⟩
abbrev S1024x2048 : Shape := ⟨2, ![1024, 2048]⟩
abbrev S2048x4096 : Shape := ⟨2, ![2048, 4096]⟩
abbrev S2x1024x128 : Shape := ⟨3, ![2, 1024, 128]⟩
abbrev S1x8x2x128x1024 : Shape := ⟨5, ![1, 8, 2, 128, 1024]⟩
abbrev S2048x256 : Shape := ⟨2, ![2048, 256]⟩
abbrev S1024x256 : Shape := ⟨2, ![1024, 256]⟩
abbrev S1024x128 : Shape := ⟨2, ![1024, 128]⟩
abbrev S1x1024x128 : Shape := ⟨3, ![1, 1024, 128]⟩
abbrev S128x1024 : Shape := ⟨2, ![128, 1024]⟩
abbrev S1x1x1x128x1024 : Shape := ⟨5, ![1, 1, 1, 128, 1024]⟩

abbrev nBuf : Space → Nat
  | .hbm => 79
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S16384x2048, .f32⟩
  | .hbm, ⟨3, _⟩ => ⟨S16384x2048, .bf16⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S4096, .f32⟩
  | .hbm, ⟨45, _⟩ => ⟨S4096x1, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .f32⟩
  | .hbm, ⟨51, _⟩ => ⟨S4096x64, .f32⟩
  | .hbm, ⟨52, _⟩ => ⟨S_, .f32⟩
  | .hbm, ⟨53, _⟩ => ⟨S4096x32, .f32⟩
  | .hbm, ⟨54, _⟩ => ⟨S1x4096x1x32, .f32⟩
  | .hbm, ⟨55, _⟩ => ⟨S1x4096x4x32, .f32⟩
  | .hbm, ⟨56, _⟩ => ⟨S4096x128, .f32⟩
  | .hbm, ⟨57, _⟩ => ⟨S4096x64, .f32⟩
  | .hbm, ⟨58, _⟩ => ⟨S1x4096x1x64, .f32⟩
  | .hbm, ⟨59, _⟩ => ⟨S1x4096x2x64, .f32⟩
  | .hbm, ⟨60, _⟩ => ⟨S4096x128, .f32⟩
  | .hbm, ⟨61, _⟩ => ⟨S4096x32, .f32⟩
  | .hbm, ⟨62, _⟩ => ⟨S4096x64, .f32⟩
  | .hbm, ⟨63, _⟩ => ⟨S1x4096x1x64, .f32⟩
  | .hbm, ⟨64, _⟩ => ⟨S1x4096x2x64, .f32⟩
  | .hbm, ⟨65, _⟩ => ⟨S4096x128, .f32⟩
  | .hbm, ⟨66, _⟩ => ⟨S1x4096x128, .f32⟩
  | .hbm, ⟨67, _⟩ => ⟨S1x4096x128, .f32⟩
  | .hbm, ⟨68, _⟩ => ⟨S1x4096x128, .f32⟩
  | .hbm, ⟨69, _⟩ => ⟨S3x4096x128, .f32⟩
  | .hbm, ⟨70, _⟩ => ⟨S4096x128, .f32⟩
  | .hbm, ⟨71, _⟩ => ⟨S4096x64, .f32⟩
  | .hbm, ⟨72, _⟩ => ⟨S4096x128, .f32⟩
  | .hbm, ⟨73, _⟩ => ⟨S1x4096x128, .f32⟩
  | .hbm, ⟨74, _⟩ => ⟨S1x4096x128, .f32⟩
  | .hbm, ⟨75, _⟩ => ⟨S2x4096x128, .f32⟩
  | .hbm, ⟨76, _⟩ => ⟨S2048x12800, .bf16⟩
  | .hbm, ⟨77, _⟩ => ⟨S4x8x2x128x4096, .bf16⟩
  | .hbm, ⟨78, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x4096, .bf16⟩
  | .local _ .vmem, ⟨3, _⟩ => ⟨S2x1024x128, .f32⟩
  | .local _ .vmem, ⟨4, _⟩ => ⟨S2x1024x128, .f32⟩
  | .local _ .vmem, ⟨5, _⟩ => ⟨S1x8x2x128x1024, .bf16⟩
  | .local _ .vmem, ⟨6, _⟩ => ⟨S1x8x2x128x1024, .bf16⟩
  | .local _ .vmem, ⟨7, _⟩ => ⟨S1024x2048, .bf16⟩
  | .local _ .vmem, ⟨8, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64_0 : Ref sig .tc := ⟨.hbm, 77, rfl⟩
abbrev main_v64_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2560_i32 : BitVec 32 := 2560#32
  let c0_i32_0 : BitVec 32 := 0#32
  ![c0_i32.toNat, c2560_i32.toNat]

def cc0_transform_2 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefProjQkIdeal.lean ====
abbrev S4x4096x2048 : Shape := ⟨3, ![4, 4096, 2048]⟩
abbrev S2048x12800 : Shape := ⟨2, ![2048, 12800]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4x4096x12800 : Shape := ⟨3, ![4, 4096, 12800]⟩
abbrev S4x4096x8x2x128 : Shape := ⟨5, ![4, 4096, 8, 2, 128]⟩
abbrev S4096x1x1x64 : Shape := ⟨4, ![4096, 1, 1, 64]⟩
abbrev S4x4096x8x2x64 : Shape := ⟨5, ![4, 4096, 8, 2, 64]⟩
abbrev S1x4096x1x1x64 : Shape := ⟨5, ![1, 4096, 1, 1, 64]⟩
abbrev S4x8x2x128x4096 : Shape := ⟨5, ![4, 8, 2, 128, 4096]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4096, .f32⟩
  | .hbm, ⟨19, _⟩ => ⟨S4096x1, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4x4096x12800, .f32⟩
  | .hbm, ⟨27, _⟩ => ⟨S4x4096x2048, .f32⟩
  | .hbm, ⟨28, _⟩ => ⟨S4x4096x8x2x128, .f32⟩
  | .hbm, ⟨29, _⟩ => ⟨S4x4096x2048, .f32⟩
  | .hbm, ⟨30, _⟩ => ⟨S4x4096x8x2x128, .f32⟩
  | .hbm, ⟨31, _⟩ => ⟨S4096x1x1x64, .f32⟩
  | .hbm, ⟨32, _⟩ => ⟨S4096x1x1x64, .f32⟩
  | .hbm, ⟨33, _⟩ => ⟨S4x4096x8x2x64, .f32⟩
  | .hbm, ⟨34, _⟩ => ⟨S4x4096x8x2x64, .f32⟩
  | .hbm, ⟨35, _⟩ => ⟨S1x4096x1x1x64, .f32⟩
  | .hbm, ⟨36, _⟩ => ⟨S4x4096x8x2x64, .f32⟩
  | .hbm, ⟨37, _⟩ => ⟨S4x4096x8x2x64, .f32⟩
  | .hbm, ⟨38, _⟩ => ⟨S1x4096x1x1x64, .f32⟩
  | .hbm, ⟨39, _⟩ => ⟨S4x4096x8x2x64, .f32⟩
  | .hbm, ⟨40, _⟩ => ⟨S4x4096x8x2x64, .f32⟩
  | .hbm, ⟨41, _⟩ => ⟨S4x4096x8x2x64, .f32⟩
  | .hbm, ⟨42, _⟩ => ⟨S1x4096x1x1x64, .f32⟩
  | .hbm, ⟨43, _⟩ => ⟨S4x4096x8x2x64, .f32⟩
  | .hbm, ⟨44, _⟩ => ⟨S4x4096x8x2x64, .f32⟩
  | .hbm, ⟨45, _⟩ => ⟨S1x4096x1x1x64, .f32⟩
  | .hbm, ⟨46, _⟩ => ⟨S4x4096x8x2x64, .f32⟩
  | .hbm, ⟨47, _⟩ => ⟨S4x4096x8x2x64, .f32⟩
  | .hbm, ⟨48, _⟩ => ⟨S4x4096x8x2x64, .f32⟩
  | .hbm, ⟨49, _⟩ => ⟨S4x4096x8x2x128, .f32⟩
  | .hbm, ⟨50, _⟩ => ⟨S_, .f32⟩
  | .hbm, ⟨51, _⟩ => ⟨S4x4096x8x2x128, .f32⟩
  | .hbm, ⟨52, _⟩ => ⟨S4x4096x8x2x128, .f32⟩
  | .hbm, ⟨53, _⟩ => ⟨S4096x1x1x64, .f32⟩
  | .hbm, ⟨54, _⟩ => ⟨S4096x1x1x64, .f32⟩
  | .hbm, ⟨55, _⟩ => ⟨S4x4096x8x2x64, .f32⟩
  | .hbm, ⟨56, _⟩ => ⟨S4x4096x8x2x64, .f32⟩
  | .hbm, ⟨57, _⟩ => ⟨S1x4096x1x1x64, .f32⟩
  | .hbm, ⟨58, _⟩ => ⟨S4x4096x8x2x64, .f32⟩
  | .hbm, ⟨59, _⟩ => ⟨S4x4096x8x2x64, .f32⟩
  | .hbm, ⟨60, _⟩ => ⟨S1x4096x1x1x64, .f32⟩
  | .hbm, ⟨61, _⟩ => ⟨S4x4096x8x2x64, .f32⟩
  | .hbm, ⟨62, _⟩ => ⟨S4x4096x8x2x64, .f32⟩
  | .hbm, ⟨63, _⟩ => ⟨S4x4096x8x2x64, .f32⟩
  | .hbm, ⟨64, _⟩ => ⟨S1x4096x1x1x64, .f32⟩
  | .hbm, ⟨65, _⟩ => ⟨S4x4096x8x2x64, .f32⟩
  | .hbm, ⟨66, _⟩ => ⟨S4x4096x8x2x64, .f32⟩
  | .hbm, ⟨67, _⟩ => ⟨S1x4096x1x1x64, .f32⟩
  | .hbm, ⟨68, _⟩ => ⟨S4x4096x8x2x64, .f32⟩
  | .hbm, ⟨69, _⟩ => ⟨S4x4096x8x2x64, .f32⟩
  | .hbm, ⟨70, _⟩ => ⟨S4x4096x8x2x64, .f32⟩
  | .hbm, ⟨71, _⟩ => ⟨S4x4096x8x2x128, .f32⟩
  | .hbm, ⟨72, _⟩ => ⟨S4x8x2x128x4096, .f32⟩
  | .hbm, ⟨73, _⟩ => ⟨S4x8x2x128x4096, .bf16⟩
  | .hbm, ⟨74, _⟩ => ⟨S16384x2048, .f32⟩
  | .hbm, ⟨75, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩

abbrev nD : Nat := 1
abbrev τ : Topo := Topo.v7x

variable {F : FTy → Type} [FloatOps F]
-- ==== ProjA.lean ====
abbrev S4x4096x2048 : Shape := ⟨3, ![4, 4096, 2048]⟩
abbrev S2048x12800 : Shape := ⟨2, ![2048, 12800]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S64 : Shape := ⟨1, ![64]⟩
abbrev S1x64 : Shape := ⟨2, ![1, 64]⟩
abbrev S4096x64 : Shape := ⟨2, ![4096, 64]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x1x64 : Shape := ⟨4, ![1, 4096, 1, 64]⟩
abbrev S1x4096x2x64 : Shape := ⟨4, ![1, 4096, 2, 64]⟩
abbrev S1x4096x128 : Shape := ⟨3, ![1, 4096, 128]⟩
abbrev S3x4096x128 : Shape := ⟨3, ![3, 4096, 128]⟩
abbrev S2x4096x128 : Shape := ⟨3, ![2, 4096, 128]⟩
abbrev S16384x2048 : Shape := ⟨2, ![16384, 2048]⟩
abbrev S16384x2560 : Shape := ⟨2, ![16384, 2560]⟩
abbrev S512x2048 : Shape := ⟨2, ![512, 2048]⟩
abbrev S2048x2560 : Shape := ⟨2, ![2048, 2560]⟩
abbrev S3x512x128 : Shape := ⟨3, ![3, 512, 128]⟩
abbrev S512x2560 : Shape := ⟨2, ![512, 2560]⟩
abbrev S1x512x128 : Shape := ⟨3, ![1, 512, 128]⟩
abbrev S512x128 : Shape := ⟨2, ![512, 128]⟩

abbrev nBuf : Space → Nat
  | .hbm => 78
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S4096, .f32⟩
  | .hbm, ⟨43, _⟩ => ⟨S4096x1, .f32⟩
  | .hbm, ⟨44, _⟩ => ⟨S1x64, .f32⟩
  | .hbm, ⟨45, _⟩ => ⟨S4096x64, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S_, .f32⟩
  | .hbm, ⟨51, _⟩ => ⟨S4096x32, .f32⟩
  | .hbm, ⟨52, _⟩ => ⟨S1x4096x1x32, .f32⟩
  | .hbm, ⟨53, _⟩ => ⟨S1x4096x4x32, .f32⟩
  | .hbm, ⟨54, _⟩ => ⟨S4096x128, .f32⟩
  | .hbm, ⟨55, _⟩ => ⟨S4096x64, .f32⟩
  | .hbm, ⟨56, _⟩ => ⟨S1x4096x1x64, .f32⟩
  | .hbm, ⟨57, _⟩ => ⟨S1x4096x2x64, .f32⟩
  | .hbm, ⟨58, _⟩ => ⟨S4096x128, .f32⟩
  | .hbm, ⟨59, _⟩ => ⟨S4096x32, .f32⟩
  | .hbm, ⟨60, _⟩ => ⟨S4096x64, .f32⟩
  | .hbm, ⟨61, _⟩ => ⟨S1x4096x1x64, .f32⟩
  | .hbm, ⟨62, _⟩ => ⟨S1x4096x2x64, .f32⟩
  | .hbm, ⟨63, _⟩ => ⟨S4096x128, .f32⟩
  | .hbm, ⟨64, _⟩ => ⟨S1x4096x128, .f32⟩
  | .hbm, ⟨65, _⟩ => ⟨S1x4096x128, .f32⟩
  | .hbm, ⟨66, _⟩ => ⟨S1x4096x128, .f32⟩
  | .hbm, ⟨67, _⟩ => ⟨S3x4096x128, .f32⟩
  | .hbm, ⟨68, _⟩ => ⟨S4096x128, .f32⟩
  | .hbm, ⟨69, _⟩ => ⟨S4096x64, .f32⟩
  | .hbm, ⟨70, _⟩ => ⟨S4096x128, .f32⟩
  | .hbm, ⟨71, _⟩ => ⟨S1x4096x128, .f32⟩
  | .hbm, ⟨72, _⟩ => ⟨S1x4096x128, .f32⟩
  | .hbm, ⟨73, _⟩ => ⟨S2x4096x128, .f32⟩
  | .hbm, ⟨74, _⟩ => ⟨S16384x2048, .f32⟩
  | .hbm, ⟨75, _⟩ => ⟨S16384x2048, .bf16⟩
  | .hbm, ⟨76, _⟩ => ⟨S2048x12800, .bf16⟩
  | .hbm, ⟨77, _⟩ => ⟨S16384x2560, .bf16⟩
  | .local _ .vmem, ⟨0, _⟩ => ⟨S512x2048, .bf16⟩
  | .local _ .vmem, ⟨1, _⟩ => ⟨S512x2048, .bf16⟩
  | .local _ .vmem, ⟨2, _⟩ => ⟨S2048x2560, .bf16⟩
  | .local _ .vmem, ⟨3, _⟩ => ⟨S3x512x128, .f32⟩
  | .local _ .vmem, ⟨4, _⟩ => ⟨S3x512x128, .f32⟩
  | .local _ .vmem, ⟨5, _⟩ => ⟨S512x2560, .bf16⟩
  | .local _ .vmem, ⟨6, _⟩ => ⟨S512x2560, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefProjAIdeal.lean ====
abbrev S4x4096x2048 : Shape := ⟨3, ![4, 4096, 2048]⟩
abbrev S2048x12800 : Shape := ⟨2, ![2048, 12800]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4x4096x12800 : Shape := ⟨3, ![4, 4096, 12800]⟩
abbrev S4x4096x32x64 : Shape := ⟨4, ![4, 4096, 32, 64]⟩
abbrev S4096x1x32 : Shape := ⟨3, ![4096, 1, 32]⟩
abbrev S4x4096x32x32 : Shape := ⟨4, ![4, 4096, 32, 32]⟩
abbrev S1x4096x1x32 : Shape := ⟨4, ![1, 4096, 1, 32]⟩
abbrev S4x4096x256 : Shape := ⟨3, ![4, 4096, 256]⟩
abbrev S4x4096x4x64 : Shape := ⟨4, ![4, 4096, 4, 64]⟩
abbrev S4x4096x4x32 : Shape := ⟨4, ![4, 4096, 4, 32]⟩
abbrev S16384x2048 : Shape := ⟨2, ![16384, 2048]⟩
abbrev S16384x256 : Shape := ⟨2, ![16384, 256]⟩
abbrev S16384x2560 : Shape := ⟨2, ![16384, 2560]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4x4096x12800, .f32⟩
  | .hbm, ⟨27, _⟩ => ⟨S4x4096x2048, .f32⟩
  | .hbm, ⟨28, _⟩ => ⟨S4x4096x32x64, .f32⟩
  | .hbm, ⟨29, _⟩ => ⟨S4096x1x32, .f32⟩
  | .hbm, ⟨30, _⟩ => ⟨S4096x1x32, .f32⟩
  | .hbm, ⟨31, _⟩ => ⟨S4x4096x32x32, .f32⟩
  | .hbm, ⟨32, _⟩ => ⟨S4x4096x32x32, .f32⟩
  | .hbm, ⟨33, _⟩ => ⟨S1x4096x1x32, .f32⟩
  | .hbm, ⟨34, _⟩ => ⟨S4x4096x32x32, .f32⟩
  | .hbm, ⟨35, _⟩ => ⟨S4x4096x32x32, .f32⟩
  | .hbm, ⟨36, _⟩ => ⟨S1x4096x1x32, .f32⟩
  | .hbm, ⟨37, _⟩ => ⟨S4x4096x32x32, .f32⟩
  | .hbm, ⟨38, _⟩ => ⟨S4x4096x32x32, .f32⟩
  | .hbm, ⟨39, _⟩ => ⟨S4x4096x32x32, .f32⟩
  | .hbm, ⟨40, _⟩ => ⟨S1x4096x1x32, .f32⟩
  | .hbm, ⟨41, _⟩ => ⟨S4x4096x32x32, .f32⟩
  | .hbm, ⟨42, _⟩ => ⟨S4x4096x32x32, .f32⟩
  | .hbm, ⟨43, _⟩ => ⟨S1x4096x1x32, .f32⟩
  | .hbm, ⟨44, _⟩ => ⟨S4x4096x32x32, .f32⟩
  | .hbm, ⟨45, _⟩ => ⟨S4x4096x32x32, .f32⟩
  | .hbm, ⟨46, _⟩ => ⟨S4x4096x32x32, .f32⟩
  | .hbm, ⟨47, _⟩ => ⟨S4x4096x32x64, .f32⟩
  | .hbm, ⟨48, _⟩ => ⟨S_, .f32⟩
  | .hbm, ⟨49, _⟩ => ⟨S4x4096x32x64, .f32⟩
  | .hbm, ⟨50, _⟩ => ⟨S4x4096x32x64, .f32⟩
  | .hbm, ⟨51, _⟩ => ⟨S4x4096x256, .f32⟩
  | .hbm, ⟨52, _⟩ => ⟨S4x4096x4x64, .f32⟩
  | .hbm, ⟨53, _⟩ => ⟨S4096x1x32, .f32⟩
  | .hbm, ⟨54, _⟩ => ⟨S4096x1x32, .f32⟩
  | .hbm, ⟨55, _⟩ => ⟨S4x4096x4x32, .f32⟩
  | .hbm, ⟨56, _⟩ => ⟨S4x4096x4x32, .f32⟩
  | .hbm, ⟨57, _⟩ => ⟨S1x4096x1x32, .f32⟩
  | .hbm, ⟨58, _⟩ => ⟨S4x4096x4x32, .f32⟩
  | .hbm, ⟨59, _⟩ => ⟨S4x4096x4x32, .f32⟩
  | .hbm, ⟨60, _⟩ => ⟨S1x4096x1x32, .f32⟩
  | .hbm, ⟨61, _⟩ => ⟨S4x4096x4x32, .f32⟩
  | .hbm, ⟨62, _⟩ => ⟨S4x4096x4x32, .f32⟩
  | .hbm, ⟨63, _⟩ => ⟨S4x4096x4x32, .f32⟩
  | .hbm, ⟨64, _⟩ => ⟨S1x4096x1x32, .f32⟩
  | .hbm, ⟨65, _⟩ => ⟨S4x4096x4x32, .f32⟩
  | .hbm, ⟨66, _⟩ => ⟨S4x4096x4x32, .f32⟩
  | .hbm, ⟨67, _⟩ => ⟨S1x4096x1x32, .f32⟩
  | .hbm, ⟨68, _⟩ => ⟨S4x4096x4x32, .f32⟩
  | .hbm, ⟨69, _⟩ => ⟨S4x4096x4x32, .f32⟩
  | .hbm, ⟨70, _⟩ => ⟨S4x4096x4x32, .f32⟩
  | .hbm, ⟨71, _⟩ => ⟨S4x4096x4x64, .f32⟩
  | .hbm, ⟨72, _⟩ => ⟨S4x4096x256, .f32⟩
  | .hbm, ⟨73, _⟩ => ⟨S16384x2048, .f32⟩
  | .hbm, ⟨74, _⟩ => ⟨S16384x256, .f32⟩
  | .hbm, ⟨75, _⟩ => ⟨S16384x256, .f32⟩
  | .hbm, ⟨76, _⟩ => ⟨S16384x2560, .f32⟩
  | .hbm, ⟨77, _⟩ => ⟨S16384x2560, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩

abbrev nD : Nat := 1
abbrev τ : Topo := Topo.v7x

variable {F : FTy → Type} [FloatOps F]
-- ==== VtAttn.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S_ : Shape := ⟨0, ![]⟩
abbrev S16384x256 : Shape := ⟨2, ![16384, 256]⟩
abbrev S16384x2560 : Shape := ⟨2, ![16384, 2560]⟩
abbrev S4x8x8x256x512 : Shape := ⟨5, ![4, 8, 8, 256, 512]⟩
abbrev S1024x2048 : Shape := ⟨2, ![1024, 2048]⟩
abbrev S2048x1024 : Shape := ⟨2, ![2048, 1024]⟩
abbrev S256x2048 : Shape := ⟨2, ![256, 2048]⟩
abbrev S128x512 : Shape := ⟨2, ![128, 512]⟩
abbrev S256x512 : Shape := ⟨2, ![256, 512]⟩
abbrev S1x4x2x256x512 : Shape := ⟨5, ![1, 4, 2, 256, 512]⟩
abbrev S2048x256 : Shape := ⟨2, ![2048, 256]⟩
abbrev S1024x256 : Shape := ⟨2, ![1024, 256]⟩
abbrev S512x256 : Shape := ⟨2, ![512, 256]⟩
abbrev S1x1x1x256x512 : Shape := ⟨5, ![1, 1, 1, 256, 512]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S64x128 : Shape := ⟨2, ![64, 128]⟩
abbrev S64x256 : Shape := ⟨2, ![64, 256]⟩
abbrev S128x2048 : Shape := ⟨2, ![128, 2048]⟩
abbrev S128x128 : Shape := ⟨2, ![128, 128]⟩
abbrev S64x1024 : Shape := ⟨2, ![64, 1024]⟩
abbrev S256x1024 : Shape := ⟨2, ![256, 1024]⟩
abbrev S1 : Shape := ⟨1, ![1]⟩
abbrev S128 : Shape := ⟨1, ![128]⟩
abbrev S1x128 : Shape := ⟨2, ![1, 128]⟩

abbrev nBuf : Space → Nat
  | .hbm => 23
  | .vmem => 14
  | .smem => 1
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S4x4096x32x64, .f32⟩
  | .hbm, ⟨3, _⟩ => ⟨S4x4096x4x64, .f32⟩
  | .hbm, ⟨4, _⟩ => ⟨S4x4096x4x64, .f32⟩
  | .hbm, ⟨5, _⟩ => ⟨S32, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S2048x12800, .bf16⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x32x64, .f32⟩
  | .hbm, ⟨15, _⟩ => ⟨S4x4096x32x64, .f32⟩
  | .hbm, ⟨16, _⟩ => ⟨S16384x2048, .f32⟩
  | .hbm, ⟨17, _⟩ => ⟨S16384x256, .f32⟩
  | .hbm, ⟨18, _⟩ => ⟨S16384x256, .f32⟩
  | .hbm, ⟨19, _⟩ => ⟨S16384x2560, .f32⟩
  | .hbm, ⟨20, _⟩ => ⟨S16384x2560, .bf16⟩
  | .hbm, ⟨21, _⟩ => ⟨S4x8x8x256x512, .bf16⟩
  | .hbm, ⟨22, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x2048, .bf16⟩
  | .local _ .vmem, ⟨5, _⟩ => ⟨S256x2048, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S1x4x2x256x512, .bf16⟩
  | .local _ .vmem, ⟨11, _⟩ => ⟨S1x4x2x256x512, .bf16⟩
  | .local _ .vmem, ⟨12, _⟩ => ⟨S256x2048, .bf16⟩
  | .local _ .vmem, ⟨13, _⟩ => ⟨S256x2048, .bf16⟩
  | .local _ .smem, ⟨0, _⟩ => ⟨S32, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c6656_i32 : BitVec 32 := 6656#32
  let arg1 : BitVec 32 := BitVec.ofNat 32 (i 1).val
  let c1024_i32 : BitVec 32 := 1024#32
  let v0 : BitVec 32 := Scalar.muli arg1 c1024_i32
  let v1 : BitVec 32 := Scalar.addi c6656_i32 v0
  v1
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c6656_i32 : BitVec 32 := 6656#32
  let v1 : BitVec 32 := Scalar.addi c6656_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c2_i32_0 : BitVec 32 := 2#32
  let v3 : BitVec 32 := Scalar.muli v2 c2_i32_0
  let c1_i32 : BitVec 32 := 1#32
  let v4 : BitVec 32 := Scalar.subi v3 c1_i32
  let c0_i32_1 : BitVec 32 := 0#32
  let v5 : BitVec 32 := Scalar.maxsi v4 c0_i32_1
  let c4_i32 : BitVec 32 := 4#32
  let c0_i32_2 : BitVec 32 := 0#32
  ![v5.toNat, c4_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c4_i32 : BitVec 32 := 4#32
  let c0_i32_0 : BitVec 32 := 0#32
  ![v2.toNat, c4_i32.toNat]

def cc0_transform_7 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, arg1.toNat, v26.toNat, c0_i32_10.toNat, c0_i32_11.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefVtAttnIdeal.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S4x4096x12800 : Shape := ⟨3, ![4, 4096, 12800]⟩
abbrev S4x4096x8x256 : Shape := ⟨4, ![4, 4096, 8, 256]⟩
abbrev S4x8x512x8x256 : Shape := ⟨5, ![4, 8, 512, 8, 256]⟩
abbrev S4x8x8x256x512 : Shape := ⟨5, ![4, 8, 8, 256, 512]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S4x4096x32x64, .f32⟩
  | .hbm, ⟨3, _⟩ => ⟨S4x4096x4x64, .f32⟩
  | .hbm, ⟨4, _⟩ => ⟨S4x4096x4x64, .f32⟩
  | .hbm, ⟨5, _⟩ => ⟨S32, .f32⟩
  | .hbm, ⟨6, _⟩ => ⟨S16384x2048, .bf16⟩
  | .hbm, ⟨7, _⟩ => ⟨S4x4096x12800, .f32⟩
  | .hbm, ⟨8, _⟩ => ⟨S4x4096x2048, .f32⟩
  | .hbm, ⟨9, _⟩ => ⟨S4x4096x8x256, .f32⟩
  | .hbm, ⟨10, _⟩ => ⟨S4x8x512x8x256, .f32⟩
  | .hbm, ⟨11, _⟩ => ⟨S4x8x8x256x512, .f32⟩
  | .hbm, ⟨12, _⟩ => ⟨S4x8x8x256x512, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== FirstHalf.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S_ : Shape := ⟨0, ![]⟩
abbrev S16384x256 : Shape := ⟨2, ![16384, 256]⟩
abbrev S16384x2560 : Shape := ⟨2, ![16384, 2560]⟩
abbrev S4x8x8x256x512 : Shape := ⟨5, ![4, 8, 8, 256, 512]⟩
abbrev S1024x2048 : Shape := ⟨2, ![1024, 2048]⟩
abbrev S2048x1024 : Shape := ⟨2, ![2048, 1024]⟩
abbrev S256x2048 : Shape := ⟨2, ![256, 2048]⟩
abbrev S128x512 : Shape := ⟨2, ![128, 512]⟩
abbrev S256x512 : Shape := ⟨2, ![256, 512]⟩
abbrev S1x4x2x256x512 : Shape := ⟨5, ![1, 4, 2, 256, 512]⟩
abbrev S2048x256 : Shape := ⟨2, ![2048, 256]⟩
abbrev S1024x256 : Shape := ⟨2, ![1024, 256]⟩
abbrev S512x256 : Shape := ⟨2, ![512, 256]⟩
abbrev S1x1x1x256x512 : Shape := ⟨5, ![1, 1, 1, 256, 512]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S64x128 : Shape := ⟨2, ![64, 128]⟩
abbrev S64x256 : Shape := ⟨2, ![64, 256]⟩
abbrev S128x2048 : Shape := ⟨2, ![128, 2048]⟩
abbrev S128x128 : Shape := ⟨2, ![128, 128]⟩
abbrev S64x1024 : Shape := ⟨2, ![64, 1024]⟩
abbrev S256x1024 : Shape := ⟨2, ![256, 1024]⟩
abbrev S1 : Shape := ⟨1, ![1]⟩
abbrev S128 : Shape := ⟨1, ![128]⟩
abbrev S1x128 : Shape := ⟨2, ![1, 128]⟩

abbrev nBuf : Space → Nat
  | .hbm => 23
  | .vmem => 14
  | .smem => 1
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S4x4096x32x64, .f32⟩
  | .hbm, ⟨3, _⟩ => ⟨S4x4096x4x64, .f32⟩
  | .hbm, ⟨4, _⟩ => ⟨S4x4096x4x64, .f32⟩
  | .hbm, ⟨5, _⟩ => ⟨S32, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S2048x12800, .bf16⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x32x64, .f32⟩
  | .hbm, ⟨15, _⟩ => ⟨S4x4096x32x64, .f32⟩
  | .hbm, ⟨16, _⟩ => ⟨S16384x2048, .f32⟩
  | .hbm, ⟨17, _⟩ => ⟨S16384x256, .f32⟩
  | .hbm, ⟨18, _⟩ => ⟨S16384x256, .f32⟩
  | .hbm, ⟨19, _⟩ => ⟨S16384x2560, .f32⟩
  | .hbm, ⟨20, _⟩ => ⟨S16384x2560, .bf16⟩
  | .hbm, ⟨21, _⟩ => ⟨S4x8x8x256x512, .bf16⟩
  | .hbm, ⟨22, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x2048, .bf16⟩
  | .local _ .vmem, ⟨5, _⟩ => ⟨S256x2048, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S1x4x2x256x512, .bf16⟩
  | .local _ .vmem, ⟨11, _⟩ => ⟨S1x4x2x256x512, .bf16⟩
  | .local _ .vmem, ⟨12, _⟩ => ⟨S256x2048, .bf16⟩
  | .local _ .vmem, ⟨13, _⟩ => ⟨S256x2048, .bf16⟩
  | .local _ .smem, ⟨0, _⟩ => ⟨S32, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c6656_i32 : BitVec 32 := 6656#32
  let arg1 : BitVec 32 := BitVec.ofNat 32 (i 1).val
  let c1024_i32 : BitVec 32 := 1024#32
  let v0 : BitVec 32 := Scalar.muli arg1 c1024_i32
  let v1 : BitVec 32 := Scalar.addi c6656_i32 v0
  v1
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c6656_i32 : BitVec 32 := 6656#32
  let v1 : BitVec 32 := Scalar.addi c6656_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c2_i32_0 : BitVec 32 := 2#32
  let v3 : BitVec 32 := Scalar.muli v2 c2_i32_0
  let c1_i32 : BitVec 32 := 1#32
  let v4 : BitVec 32 := Scalar.subi v3 c1_i32
  let c0_i32_1 : BitVec 32 := 0#32
  let v5 : BitVec 32 := Scalar.maxsi v4 c0_i32_1
  let c4_i32 : BitVec 32 := 4#32
  let c0_i32_2 : BitVec 32 := 0#32
  ![v5.toNat, c4_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c4_i32 : BitVec 32 := 4#32
  let c0_i32_0 : BitVec 32 := 0#32
  ![v2.toNat, c4_i32.toNat]

def cc0_transform_7 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, arg1.toNat, v26.toNat, c0_i32_10.toNat, c0_i32_11.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FirstHalfIdeal.lean ====
variable {F : FTy → Type} [FloatOps F] [Named F]
def κ : String → Option EReal := fun
  | "log2e" => some (((Real.log 2)⁻¹ : ℝ) : EReal)
  | "mask" => some ⊥
  | _ => none
-- ==== RefFirstHalfIdeal.lean ====
abbrev S4x4096x2048 : Shape := ⟨3, ![4, 4096, 2048]⟩
abbrev S2048x12800 : Shape := ⟨2, ![2048, 12800]⟩
abbrev S4x4096x32x64 : Shape := ⟨4, ![4, 4096, 32, 64]⟩
abbrev S4x4096x4x64 : Shape := ⟨4, ![4, 4096, 4, 64]⟩
abbrev S32 : Shape := ⟨1, ![32]⟩
abbrev S16384x2048 : Shape := ⟨2, ![16384, 2048]⟩
abbrev S4x32x128x4x8x64 : Shape := ⟨6, ![4, 32, 128, 4, 8, 64]⟩
abbrev S4x32x128x4x64 : Shape := ⟨5, ![4, 32, 128, 4, 64]⟩
abbrev S_ : Shape := ⟨0, ![]⟩
abbrev S4x33x128x4x64 : Shape := ⟨5, ![4, 33, 128, 4, 64]⟩
abbrev S4x32x256x4x64 : Shape := ⟨5, ![4, 32, 256, 4, 64]⟩
abbrev S4x32x4x256x128x8 : Shape := ⟨6, ![4, 32, 4, 256, 128, 8]⟩
abbrev S4x32x4x8x128x256 : Shape := ⟨6, ![4, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x8 : Shape := ⟨2, ![4, 8]⟩
abbrev S1x1x4x8x1x1 : Shape := ⟨6, ![1, 1, 4, 8, 1, 1]⟩
abbrev S4x32x4x8x128 : Shape := ⟨5, ![4, 32, 4, 8, 128]⟩
abbrev S4x32x4x8x128x1 : Shape := ⟨6, ![4, 32, 4, 8, 128, 1]⟩
abbrev S4x32x4x64x8x128 : Shape := ⟨6, ![4, 32, 4, 64, 8, 128]⟩
abbrev S8192x2048 : Shape := ⟨2, ![8192, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x12800, .f32⟩
  | .hbm, ⟨2, _⟩ => ⟨S4x4096x32x64, .f32⟩
  | .hbm, ⟨3, _⟩ => ⟨S4x4096x4x64, .f32⟩
  | .hbm, ⟨4, _⟩ => ⟨S4x4096x4x64, .f32⟩
  | .hbm, ⟨5, _⟩ => ⟨S32, .f32⟩
  | .hbm, ⟨6, _⟩ => ⟨S16384x2048, .bf16⟩
  | .hbm, ⟨7, _⟩ => ⟨S4x32x128x4x8x64, .f32⟩
  | .hbm, ⟨8, _⟩ => ⟨S4x32x128x4x64, .f32⟩
  | .hbm, ⟨9, _⟩ => ⟨S4x32x128x4x64, .f32⟩
  | .hbm, ⟨10, _⟩ => ⟨S_, .i32⟩
  | .hbm, ⟨11, _⟩ => ⟨S_, .f32⟩
  | .hbm, ⟨12, _⟩ => ⟨S4x33x128x4x64, .f32⟩
  | .hbm, ⟨13, _⟩ => ⟨S4x32x128x4x64, .f32⟩
  | .hbm, ⟨14, _⟩ => ⟨S4x32x256x4x64, .f32⟩
  | .hbm, ⟨15, _⟩ => ⟨S_, .i32⟩
  | .hbm, ⟨16, _⟩ => ⟨S_, .f32⟩
  | .hbm, ⟨17, _⟩ => ⟨S4x33x128x4x64, .f32⟩
  | .hbm, ⟨18, _⟩ => ⟨S4x32x128x4x64, .f32⟩
  | .hbm, ⟨19, _⟩ => ⟨S4x32x256x4x64, .f32⟩
  | .hbm, ⟨20, _⟩ => ⟨S4x32x4x256x128x8, .f32⟩
  | .hbm, ⟨21, _⟩ => ⟨S4x32x4x8x128x256, .f32⟩
  | .hbm, ⟨22, _⟩ => ⟨S_, .f32⟩
  | .hbm, ⟨23, _⟩ => ⟨S4x32x4x8x128x256, .f32⟩
  | .hbm, ⟨24, _⟩ => ⟨S4x32x4x8x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x256, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S32, .i32⟩
  | .hbm, ⟨46, _⟩ => ⟨S32x1, .i32⟩
  | .hbm, ⟨47, _⟩ => ⟨S_, .i32⟩
  | .hbm, ⟨48, _⟩ => ⟨S32x1, .i32⟩
  | .hbm, ⟨49, _⟩ => ⟨S32x1, .i32⟩
  | .hbm, ⟨50, _⟩ => ⟨S256, .i32⟩
  | .hbm, ⟨51, _⟩ => ⟨S1x256, .i32⟩
  | .hbm, ⟨52, _⟩ => ⟨S32x256, .i32⟩
  | .hbm, ⟨53, _⟩ => ⟨S32x256, .i32⟩
  | .hbm, ⟨54, _⟩ => ⟨S32x256, .i32⟩
  | .hbm, ⟨55, _⟩ => ⟨S_, .i32⟩
  | .hbm, ⟨56, _⟩ => ⟨S32x256, .i32⟩
  | .hbm, ⟨57, _⟩ => ⟨S32x256, .i32⟩
  | .hbm, ⟨58, _⟩ => ⟨S_, .i32⟩
  | .hbm, ⟨59, _⟩ => ⟨S32x256, .i32⟩
  | .hbm, ⟨60, _⟩ => ⟨S32x256, .i1⟩
  | .hbm, ⟨61, _⟩ => ⟨S1x128x256, .i1⟩
  | .hbm, ⟨62, _⟩ => ⟨S32x1x256, .i1⟩
  | .hbm, ⟨63, _⟩ => ⟨S32x128x256, .i1⟩
  | .hbm, ⟨64, _⟩ => ⟨S32x128x256, .i1⟩
  | .hbm, ⟨65, _⟩ => ⟨S32x128x256, .i1⟩
  | .hbm, ⟨66, _⟩ => ⟨S1x32x1x1x128x256, .i1⟩
  | .hbm, ⟨67, _⟩ => ⟨S_, .f32⟩
  | .hbm, ⟨68, _⟩ => ⟨S_, .f32⟩
  | .hbm, ⟨69, _⟩ => ⟨S4x32x4x8x128x256, .i1⟩
  | .hbm, ⟨70, _⟩ => ⟨S4x32x4x8x128x256, .f32⟩
  | .hbm, ⟨71, _⟩ => ⟨S4x32x4x8x128x256, .f32⟩
  | .hbm, ⟨72, _⟩ => ⟨S4x8, .f32⟩
  | .hbm, ⟨73, _⟩ => ⟨S1x1x4x8x1x1, .f32⟩
  | .hbm, ⟨74, _⟩ => ⟨S_, .f32⟩
  | .hbm, ⟨75, _⟩ => ⟨S4x32x4x8x128, .f32⟩
  | .hbm, ⟨76, _⟩ => ⟨S4x32x4x8x128x1, .f32⟩
  | .hbm, ⟨77, _⟩ => ⟨S4x32x4x8x128x1, .f32⟩
  | .hbm, ⟨78, _⟩ => ⟨S4x32x4x8x128x1, .f32⟩
  | .hbm, ⟨79, _⟩ => ⟨S4x32x4x8x128x256, .f32⟩
  | .hbm, ⟨80, _⟩ => ⟨S4x32x4x8x128x256, .f32⟩
  | .hbm, ⟨81, _⟩ => ⟨S4x32x4x8x128x256, .f32⟩
  | .hbm, ⟨82, _⟩ => ⟨S_, .f32⟩
  | .hbm, ⟨83, _⟩ => ⟨S4x32x4x8x128, .f32⟩
  | .hbm, ⟨84, _⟩ => ⟨S4x32x4x8x128x1, .f32⟩
  | .hbm, ⟨85, _⟩ => ⟨S4x32x4x8x128x1, .f32⟩
  | .hbm, ⟨86, _⟩ => ⟨S4x32x4x8x128x1, .f32⟩
  | .hbm, ⟨87, _⟩ => ⟨S4x32x4x8x128x1, .f32⟩
  | .hbm, ⟨88, _⟩ => ⟨S4x32x4x8x128x1, .f32⟩
  | .hbm, ⟨89, _⟩ => ⟨S4x32x4x8x128x256, .f32⟩
  | .hbm, ⟨90, _⟩ => ⟨S4x32x4x8x128x256, .f32⟩
  | .hbm, ⟨91, _⟩ => ⟨S4x32x4x64x8x128, .f32⟩
  | .hbm, ⟨92, _⟩ => ⟨S4x32x128x4x8x64, .f32⟩
  | .hbm, ⟨93, _⟩ => ⟨S4x4096x2048, .f32⟩
  | .hbm, ⟨94, _⟩ => ⟨S16384x2048, .f32⟩
  | .hbm, ⟨95, _⟩ => ⟨S16384x2048, .bf16⟩
  | .hbm, ⟨96, _⟩ => ⟨S8192x2048, .bf16⟩
  | .hbm, ⟨97, _⟩ => ⟨S8192x2048, .bf16⟩
  | .hbm, ⟨98, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Proof.Finite.lean ====
/- What the precondition says of an array: every element is a real number. -/
module

public import proofs.«01_k».proof.Pre_finite
public import Idealize.ShloMosaic.Lib.Pointwise
public import Idealize.ShloMosaic.PureOps.Ideal

@[expose] public section

noncomputable section

namespace Cert.Attn

open Idealize.ShloMosaic

theorem finiteFacts : Cert.Pre_finite.Facts where
  bcast_S_S4x4096x32x64 := by decide
  bcast_S_S4x4096x4x64 := by decide
  bcast_S_S32 := by decide

theorem inf_bits : Ideal.ofBits .f32 0x7F800000#32 = (⊤ : EReal) := by
  simp [Ideal.ofBits, Ideal.ieee]

theorem real_of_lt {s : Shape} (x w : FVec Ideal s .f32) (hw : ∀ i, w i = (⊤ : EReal)) (h : cmpf .olt (Host.absf x) w = fun _ => 1#1) (i : s.Idx) : ∃ r : ℝ, x i = (r : EReal) := by
  have h1 := congrFun h i
  have h2 : (FloatOps.cmpf .olt (max (x i : EReal) (-(x i : EReal)) : Ideal .f32) (w i)) = 1#1 := h1
  rw [hw] at h2
  generalize x i = u at h2
  change EReal at u
  induction u using EReal.rec with
  | bot => exfalso; simp [FloatOps.cmpf, Ideal.cmp] at h2
  | coe r => exact ⟨r, rfl⟩
  | top => exfalso; simp [FloatOps.cmpf, Ideal.cmp] at h2

end Cert.Attn
-- ==== Proof.AttnBlock.lean ====
/- One store of the attention half of the kernel, read at an index. Every store holds the outputs of two query heads
   for one block of 128 queries; all of them are the same function (`pairPay`) of the loaded vectors. -/
module

public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

/-- Piece `e` of eight pieces of 64 rows laid side by side along the columns. -/
theorem cat8_at_64 (x : Fin 8 → FVec Ideal S64x128 .bf16) (h : Shape.Concatenates [S64x128, S64x128, S64x128, S64x128, S64x128, S64x128, S64x128, S64x128] S64x1024 1)
    (d : Fin 64) (e : Fin 8) (l : Fin 128) (w : Fin 1024) (hw : (w : ℕ) = 128 * (e : ℕ) + l) :
    concatenate S64x1024 1 [⟨S64x128, x 0⟩, ⟨S64x128, x 1⟩, ⟨S64x128, x 2⟩, ⟨S64x128, x 3⟩, ⟨S64x128, x 4⟩, ⟨S64x128, x 5⟩, ⟨S64x128, x 6⟩, ⟨S64x128, x 7⟩] h
      (ix2 d w : S64x1024.Idx) = x e (ix2 d l : S64x128.Idx) := by
  have hl := l.isLt
  fin_cases e <;> simp only [] at hw <;> pointwise [hw] <;>
    repeat' first | rw [dif_neg (by omega)] | rw [dif_pos (by omega)]
  all_goals (refine congrArg _ ((ix2_inj ..).2 ⟨rfl, Fin.ext ?_⟩); simp only []; omega)

/-- Piece `e` of eight pieces of 256 rows laid side by side along the columns. -/
theorem cat8_at_256 (x : Fin 8 → FVec Ideal S256x128 .bf16) (h : Shape.Concatenates [S256x128, S256x128, S256x128, S256x128, S256x128, S256x128, S256x128, S256x128] S256x1024 1)
    (d : Fin 256) (e : Fin 8) (l : Fin 128) (w : Fin 1024) (hw : (w : ℕ) = 128 * (e : ℕ) + l) :
    concatenate S256x1024 1 [⟨S256x128, x 0⟩, ⟨S256x128, x 1⟩, ⟨S256x128, x 2⟩, ⟨S256x128, x 3⟩, ⟨S256x128, x 4⟩, ⟨S256x128, x 5⟩, ⟨S256x128, x 6⟩, ⟨S256x128, x 7⟩] h
      (ix2 d w : S256x1024.Idx) = x e (ix2 d l : S256x128.Idx) := by
  have hl := l.isLt
  fin_cases e <;> simp only [] at hw <;> pointwise [hw] <;>
    repeat' first | rw [dif_neg (by omega)] | rw [dif_pos (by omega)]
  all_goals (refine congrArg _ ((ix2_inj ..).2 ⟨rfl, Fin.ext ?_⟩); simp only []; omega)

/-- The constant the kernel scales a sink with: `1 / log 2`. -/
def kLog : Ideal .f32 := Named.named κ "log2e" 0x3FB8AA3B#32

/-- The constant the kernel gives a masked score: `-∞`. -/
def kMask : Ideal .f32 := Named.named κ "mask" 0xF149F2CA#32

theorem kLog_eq : kLog = (((Real.log 2)⁻¹ : ℝ) : EReal) := IdealRules.named_const.ideal_named_scalar κ _ _ _ rfl
/-- The bit pattern the running maximum starts from. -/
theorem neg_inf_bits : Ideal.ofBits .f32 0xFF800000#32 = (⊥ : EReal) := by
  simp [Ideal.ofBits, Ideal.ieee]

theorem kMask_eq : kMask = (⊥ : EReal) := IdealRules.named_const.ideal_named_scalar κ _ _ _ rfl

theorem cut_le (e : Fin 8) : S256x1024.Slices ![0, 128 * (e : ℕ)] S256x128 := by
  fin_cases e
  exacts [slices_S256x1024_o0_0_S256x128, slices_S256x1024_o0_128_S256x128, slices_S256x1024_o0_256_S256x128, slices_S256x1024_o0_384_S256x128,
    slices_S256x1024_o0_512_S256x128, slices_S256x1024_o0_640_S256x128, slices_S256x1024_o0_768_S256x128, slices_S256x1024_o0_896_S256x128]

theorem cutO_le (e : Fin 8) : S64x1024.Slices ![0, 128 * (e : ℕ)] S64x128 := by
  fin_cases e
  exacts [slices_S64x1024_o0_0_S64x128, slices_S64x1024_o0_128_S64x128, slices_S64x1024_o0_256_S64x128, slices_S64x1024_o0_384_S64x128,
    slices_S64x1024_o0_512_S64x128, slices_S64x1024_o0_640_S64x128, slices_S64x1024_o0_768_S64x128, slices_S64x1024_o0_896_S64x128]

theorem cutV_le (g : Fin 4) : S256x128.Slices ![64 * (g : ℕ), 0] S64x128 := by
  fin_cases g
  exacts [slices_S256x128_o0_0_S64x128, slices_S256x128_o64_0_S64x128, slices_S256x128_o128_0_S64x128, slices_S256x128_o192_0_S64x128]

/-- Two query heads read as columns: the first one's 64 features. -/
def qFst (q : FVec Ideal S128x128 .bf16) : FVec Ideal S64x128 .bf16 :=
  extractStridedSlice S64x128 ![0, 0] (transpose S128x128 [1, 0] (shapeCast S128x128 q shapeCasts_S128x128_S128x128) transposes_S128x128_p1_0_S128x128) slices_S128x128_o0_0_S64x128

/-- Two query heads read as columns: the second one's 64 features. -/
def qSnd (q : FVec Ideal S128x128 .bf16) : FVec Ideal S64x128 .bf16 :=
  extractStridedSlice S64x128 ![64, 0] (transpose S128x128 [1, 0] (shapeCast S128x128 q shapeCasts_S128x128_S128x128) transposes_S128x128_p1_0_S128x128) slices_S128x128_o64_0_S64x128

/-- The scores of eight query heads against the 256 keys of the band (the block before and the block itself). -/
def scores (kp kc : FVec Ideal S128x64 .bf16) (q : Fin 4 → FVec Ideal S128x128 .bf16) : FVec Ideal S256x1024 .f32 :=
  matmul dot_S256x64_S64x1024_S256x1024_1_0_0_1_n_n none
    (concatenate S256x64 0 [⟨S128x64, shapeCast S128x64 kp shapeCasts_S128x64_S128x64⟩, ⟨S128x64, shapeCast S128x64 kc shapeCasts_S128x64_S128x64⟩] concatenates_S128x64_S128x64_S256x64_d0)
    (concatenate S64x1024 1 [⟨S64x128, qFst (q 0)⟩, ⟨S64x128, qSnd (q 0)⟩, ⟨S64x128, qFst (q 1)⟩, ⟨S64x128, qSnd (q 1)⟩, ⟨S64x128, qFst (q 2)⟩, ⟨S64x128, qSnd (q 2)⟩, ⟨S64x128, qFst (q 3)⟩, ⟨S64x128, qSnd (q 3)⟩]
      concatenates_S64x128_S64x128_S64x128_S64x128_S64x128_S64x128_S64x128_S64x128_S64x1024_d1)
    (constant S256x1024 .f32 0x00000000#32)

/-- Head `e`'s scores, masked. -/
def masked (M : IVec S256x128 1) (s : FVec Ideal S256x1024 .f32) (e : Fin 8) : FVec Ideal S256x128 .f32 :=
  select M (extractStridedSlice S256x128 ![0, 128 * (e : ℕ)] s (cut_le e)) (broadcast S256x128 kMask)

/-- The largest of head `e`'s scores and its sink, in base 2. -/
def topOf (M : IVec S256x128 1) (s : FVec Ideal S256x1024 .f32) (k : Fin 8 → Ideal .f32) (e : Fin 8) : FVec Ideal S1x128 .f32 :=
  maximumf (shapeCast S1x128 (multiReduction .maximumf [0] S128 (masked M s e) 0xFF800000#32 reduces_S256x128_S128 (.inl rfl) rfl) shapeCasts_S128_S1x128)
    (broadcast S1x128 (Scalar.mulf (k e) kLog))

/-- Head `e`'s weights before the division. -/
def weight (M : IVec S256x128 1) (s : FVec Ideal S256x1024 .f32) (k : Fin 8 → Ideal .f32) (e : Fin 8) : FVec Ideal S256x128 .f32 :=
  exp2 (subf (masked M s e) (broadcastTo S256x128 (topOf M s k e) broadcasts_S1x128_S256x128))

/-- One over head `e`'s sum of weights, the sink's among them. -/
def recip (M : IVec S256x128 1) (s : FVec Ideal S256x1024 .f32) (k : Fin 8 → Ideal .f32) (e : Fin 8) : FVec Ideal S1x128 .f32 :=
  divf (broadcast S1x128 (Scalar.ofBits .f32 0x3F800000#32))
    (addf (shapeCast S1x128 (multiReduction .add [0] S128 (weight M s k e) 0x00000000#32 reduces_S256x128_S128 (.inl rfl) rfl) shapeCasts_S128_S1x128)
      (exp2 (subf (broadcast S1x128 (Scalar.mulf (k e) kLog)) (topOf M s k e))))

/-- The values of group `g`, features by keys. -/
def valsT (g : Fin 4) (vp vc : FVec Ideal S128x256 .bf16) : FVec Ideal S64x256 .bf16 :=
  concatenate S64x256 1
    [⟨S64x128, extractStridedSlice S64x128 ![64 * (g : ℕ), 0] (transpose S256x128 [1, 0] (shapeCast S128x256 vp shapeCasts_S128x256_S128x256) transposes_S128x256_p1_0_S256x128) (cutV_le g)⟩,
     ⟨S64x128, extractStridedSlice S64x128 ![64 * (g : ℕ), 0] (transpose S256x128 [1, 0] (shapeCast S128x256 vc shapeCasts_S128x256_S128x256) transposes_S128x256_p1_0_S256x128) (cutV_le g)⟩]
    concatenates_S64x128_S64x128_S64x256_d1

/-- The weighted sums of the values, for eight heads side by side. -/
def mixed (M : IVec S256x128 1) (s : FVec Ideal S256x1024 .f32) (k : Fin 8 → Ideal .f32) (v : FVec Ideal S64x256 .bf16) : FVec Ideal S64x1024 .f32 :=
  matmul dot_S64x256_S256x1024_S64x1024_1_0_0_1_n_n none v
    (concatenate S256x1024 1 [⟨S256x128, truncf .bf16 (weight M s k 0) bitsLt_bf16_f32⟩, ⟨S256x128, truncf .bf16 (weight M s k 1) bitsLt_bf16_f32⟩,
      ⟨S256x128, truncf .bf16 (weight M s k 2) bitsLt_bf16_f32⟩, ⟨S256x128, truncf .bf16 (weight M s k 3) bitsLt_bf16_f32⟩,
      ⟨S256x128, truncf .bf16 (weight M s k 4) bitsLt_bf16_f32⟩, ⟨S256x128, truncf .bf16 (weight M s k 5) bitsLt_bf16_f32⟩,
      ⟨S256x128, truncf .bf16 (weight M s k 6) bitsLt_bf16_f32⟩, ⟨S256x128, truncf .bf16 (weight M s k 7) bitsLt_bf16_f32⟩]
      concatenates_S256x128_S256x128_S256x128_S256x128_S256x128_S256x128_S256x128_S256x128_S256x1024_d1)
    (constant S64x1024 .f32 0x00000000#32)

/-- Head `e`'s output, features by queries. -/
def headOut (M : IVec S256x128 1) (s : FVec Ideal S256x1024 .f32) (k : Fin 8 → Ideal .f32) (v : FVec Ideal S64x256 .bf16) (e : Fin 8) : FVec Ideal S64x128 .f32 :=
  mulf (extractStridedSlice S64x128 ![0, 128 * (e : ℕ)] (mixed M s k v) (cutO_le e)) (broadcastTo S64x128 (recip M s k e) broadcasts_S1x128_S64x128)

/-- What one store writes: heads `e` and `e'` of group `g` for 128 queries. -/
def pairPay (g : Fin 4) (e e' : Fin 8) (M : IVec S256x128 1) (kp kc : FVec Ideal S128x64 .bf16) (vp vc : FVec Ideal S128x256 .bf16)
    (q : Fin 4 → FVec Ideal S128x128 .bf16) (k : Fin 8 → Ideal .f32) : FVec Ideal S128x128 .bf16 :=
  transpose S128x128 [1, 0]
    (truncf .bf16 (concatenate S128x128 0 [⟨S64x128, headOut M (scores kp kc q) k (valsT g vp vc) e⟩, ⟨S64x128, headOut M (scores kp kc q) k (valsT g vp vc) e'⟩]
      concatenates_S64x128_S64x128_S128x128_d0) bitsLt_bf16_f32) transposes_S128x128_p1_0_S128x128

/-- The attention of one query as the kernel computes it: a softmax in base 2 with a sink `k`, over the 256 keys of the band.
    `z` are the masked scores, `v` the values of one feature. -/
def attn2 (z v : Fin 256 → EReal) (k : EReal) : EReal :=
  let t : EReal := max (Finset.univ.fold max ⊥ z) (k * (((Real.log 2)⁻¹ : ℝ) : EReal))
  (∑ j, v j * Ideal.exp2 (z j - t)) * Ideal.div 1 ((∑ j, Ideal.exp2 (z j - t)) + Ideal.exp2 (k * (((Real.log 2)⁻¹ : ℝ) : EReal) - t))

/-- The score of key `j` for head `e` and query `l`. -/
theorem scores_at (kp kc : FVec Ideal S128x64 .bf16) (q : Fin 4 → FVec Ideal S128x128 .bf16) (j : Fin 256) (e : Fin 8) (l : Fin 128) (w : Fin 1024) (hw : (w : ℕ) = 128 * (e : ℕ) + l) :
    scores kp kc q (ix2 j w : S256x1024.Idx)
      = ∑ d : Fin 64, (if h : (j : ℕ) < 128 then kp (ix2 ⟨j, h⟩ d : S128x64.Idx) else kc (ix2 ⟨(j : ℕ) - 128, by omega⟩ d : S128x64.Idx))
          * q ⟨(e : ℕ) / 2, by omega⟩ (ix2 l ⟨64 * ((e : ℕ) % 2) + d, by omega⟩ : S128x128.Idx) := by
  have key : ∀ d : Fin 64, concatenate S64x1024 1 [⟨S64x128, qFst (q 0)⟩, ⟨S64x128, qSnd (q 0)⟩, ⟨S64x128, qFst (q 1)⟩, ⟨S64x128, qSnd (q 1)⟩, ⟨S64x128, qFst (q 2)⟩, ⟨S64x128, qSnd (q 2)⟩, ⟨S64x128, qFst (q 3)⟩, ⟨S64x128, qSnd (q 3)⟩]
      concatenates_S64x128_S64x128_S64x128_S64x128_S64x128_S64x128_S64x128_S64x128_S64x1024_d1 (ix2 d w : S64x1024.Idx)
      = q ⟨(e : ℕ) / 2, by omega⟩ (ix2 l ⟨64 * ((e : ℕ) % 2) + d, by omega⟩ : S128x128.Idx) := by
    intro d
    refine (cat8_at_64 ![qFst (q 0), qSnd (q 0), qFst (q 1), qSnd (q 1), qFst (q 2), qSnd (q 2), qFst (q 3), qSnd (q 3)] _ d e l w hw).trans ?_
    fin_cases e
    · show qFst (q 0) (ix2 d l) = _; pointwise [qFst]
    · show qSnd (q 0) (ix2 d l) = _; pointwise [qSnd]
    · show qFst (q 1) (ix2 d l) = _; pointwise [qFst]
    · show qSnd (q 1) (ix2 d l) = _; pointwise [qSnd]
    · show qFst (q 2) (ix2 d l) = _; pointwise [qFst]
    · show qSnd (q 2) (ix2 d l) = _; pointwise [qSnd]
    · show qFst (q 3) (ix2 d l) = _; pointwise [qFst]
    · show qSnd (q 3) (ix2 d l) = _; pointwise [qSnd]
  generalize hC : concatenate S64x1024 1 [⟨S64x128, qFst (q 0)⟩, ⟨S64x128, qSnd (q 0)⟩, ⟨S64x128, qFst (q 1)⟩, ⟨S64x128, qSnd (q 1)⟩, ⟨S64x128, qFst (q 2)⟩, ⟨S64x128, qSnd (q 2)⟩, ⟨S64x128, qFst (q 3)⟩, ⟨S64x128, qSnd (q 3)⟩]
      concatenates_S64x128_S64x128_S64x128_S64x128_S64x128_S64x128_S64x128_S64x128_S64x1024_d1 = C at key
  unfold scores
  rw [hC]
  pointwise
  exact Finset.sum_congr rfl fun d _ => by rw [key d]

/-- The value of feature `d` of group `g` at key `j`. -/
theorem valsT_at (g : Fin 4) (vp vc : FVec Ideal S128x256 .bf16) (d : Fin 64) (j : Fin 256) :
    valsT g vp vc (ix2 d j : S64x256.Idx)
      = if h : (j : ℕ) < 128 then vp (ix2 ⟨j, h⟩ ⟨64 * (g : ℕ) + d, by omega⟩ : S128x256.Idx) else vc (ix2 ⟨(j : ℕ) - 128, by omega⟩ ⟨64 * (g : ℕ) + d, by omega⟩ : S128x256.Idx) := by
  pointwise [valsT]

theorem masked_at (M : IVec S256x128 1) (s : FVec Ideal S256x1024 .f32) (e : Fin 8) (j : Fin 256) (l : Fin 128) :
    masked M s e (ix2 j l : S256x128.Idx) = Scalar.select (M (ix2 j l : S256x128.Idx)) (s (ix2 j ⟨128 * (e : ℕ) + l, by omega⟩ : S256x1024.Idx)) ⊥ := by
  pointwise [masked, kMask_eq]

theorem topOf_at (M : IVec S256x128 1) (s : FVec Ideal S256x1024 .f32) (k : Fin 8 → Ideal .f32) (e : Fin 8) (l : Fin 128) :
    topOf M s k e (ix2 0 l : S1x128.Idx) = max (Finset.univ.fold max ⊥ fun j : Fin 256 => masked M s e (ix2 j l : S256x128.Idx)) (k e * (((Real.log 2)⁻¹ : ℝ) : EReal)) := by
  pointwise [topOf, kLog_eq, neg_inf_bits]

theorem weight_at (M : IVec S256x128 1) (s : FVec Ideal S256x1024 .f32) (k : Fin 8 → Ideal .f32) (e : Fin 8) (j : Fin 256) (l : Fin 128) :
    weight M s k e (ix2 j l : S256x128.Idx) = Ideal.exp2 (masked M s e (ix2 j l : S256x128.Idx) - topOf M s k e (ix2 0 l : S1x128.Idx)) := by
  pointwise [weight]
  rfl

theorem recip_at (M : IVec S256x128 1) (s : FVec Ideal S256x1024 .f32) (k : Fin 8 → Ideal .f32) (e : Fin 8) (l : Fin 128) :
    recip M s k e (ix2 0 l : S1x128.Idx) = Ideal.div 1 ((∑ j : Fin 256, weight M s k e (ix2 j l : S256x128.Idx))
      + Ideal.exp2 (k e * (((Real.log 2)⁻¹ : ℝ) : EReal) - topOf M s k e (ix2 0 l : S1x128.Idx))) := by
  pointwise [recip, kLog_eq]
  rfl

theorem mixed_at (M : IVec S256x128 1) (s : FVec Ideal S256x1024 .f32) (k : Fin 8 → Ideal .f32) (v : FVec Ideal S64x256 .bf16) (d : Fin 64) (e : Fin 8) (l : Fin 128) :
    mixed M s k v (ix2 d ⟨128 * (e : ℕ) + l, by omega⟩ : S64x1024.Idx)
      = ∑ j : Fin 256, v (ix2 d j : S64x256.Idx) * weight M s k e (ix2 j l : S256x128.Idx) := by
  have key : ∀ j : Fin 256, _ = truncf (F := Ideal) .bf16 (weight M s k e) bitsLt_bf16_f32 (ix2 j l : S256x128.Idx) := fun j =>
    cat8_at_256 (fun e => truncf .bf16 (weight M s k e) bitsLt_bf16_f32) concatenates_S256x128_S256x128_S256x128_S256x128_S256x128_S256x128_S256x128_S256x128_S256x1024_d1
      j e l ⟨128 * (e : ℕ) + l, by omega⟩ rfl
  unfold mixed
  have key' : ∀ j : Fin 256, _ = weight M s k e (ix2 j l : S256x128.Idx) := fun j => (key j).trans rfl
  clear key
  set C := concatenate S256x1024 1 [⟨S256x128, truncf (F := Ideal) .bf16 (weight M s k 0) bitsLt_bf16_f32⟩, ⟨S256x128, truncf .bf16 (weight M s k 1) bitsLt_bf16_f32⟩,
      ⟨S256x128, truncf .bf16 (weight M s k 2) bitsLt_bf16_f32⟩, ⟨S256x128, truncf .bf16 (weight M s k 3) bitsLt_bf16_f32⟩,
      ⟨S256x128, truncf .bf16 (weight M s k 4) bitsLt_bf16_f32⟩, ⟨S256x128, truncf .bf16 (weight M s k 5) bitsLt_bf16_f32⟩,
      ⟨S256x128, truncf .bf16 (weight M s k 6) bitsLt_bf16_f32⟩, ⟨S256x128, truncf .bf16 (weight M s k 7) bitsLt_bf16_f32⟩]
      concatenates_S256x128_S256x128_S256x128_S256x128_S256x128_S256x128_S256x128_S256x128_S256x1024_d1 with hC
  clear_value C
  pointwise
  exact Finset.sum_congr rfl fun j _ => by rw [← key' j]

/-- Head `e`'s output is the attention of the query. -/
theorem headOut_at (M : IVec S256x128 1) (s : FVec Ideal S256x1024 .f32) (k : Fin 8 → Ideal .f32) (v : FVec Ideal S64x256 .bf16) (e : Fin 8) (d : Fin 64) (l : Fin 128) :
    headOut M s k v e (ix2 d l : S64x128.Idx)
      = attn2 (fun j => Scalar.select (M (ix2 j l : S256x128.Idx)) (s (ix2 j ⟨128 * (e : ℕ) + l, by omega⟩ : S256x1024.Idx)) ⊥) (fun j => v (ix2 d j : S64x256.Idx)) (k e) := by
  have h : headOut M s k v e (ix2 d l : S64x128.Idx) = mixed M s k v (ix2 d ⟨128 * (e : ℕ) + l, by omega⟩ : S64x1024.Idx) * recip M s k e (ix2 0 l : S1x128.Idx) := by
    pointwise [headOut]
  rw [h, mixed_at, recip_at]
  simp only [weight_at, topOf_at, masked_at]
  rfl

/-- What one store writes, at query `l` and feature `w` of the two heads. -/
theorem pairPay_at (g : Fin 4) (e e' : Fin 8) (M : IVec S256x128 1) (kp kc : FVec Ideal S128x64 .bf16) (vp vc : FVec Ideal S128x256 .bf16)
    (q : Fin 4 → FVec Ideal S128x128 .bf16) (k : Fin 8 → Ideal .f32) (l w : Fin 128) :
    pairPay g e e' M kp kc vp vc q k (ix2 l w : S128x128.Idx)
      = if h : (w : ℕ) < 64 then headOut M (scores kp kc q) k (valsT g vp vc) e (ix2 ⟨w, h⟩ l : S64x128.Idx)
        else headOut M (scores kp kc q) k (valsT g vp vc) e' (ix2 ⟨(w : ℕ) - 64, by omega⟩ l : S64x128.Idx) := by
  pointwise [pairPay]

/-- A column of the packed keys and values at row `r` of the 384 rows a grid step sees: the block before, then its own two. -/
def band (kvp : S128x512.Idx → EReal) (kvc : S256x512.Idx → EReal) (r : Fin 384) (w : Fin 512) : EReal :=
  if h : (r : ℕ) < 128 then kvp (ix2 ⟨r, h⟩ w) else kvc (ix2 ⟨(r : ℕ) - 128, by omega⟩ w)

/-- What the kernel's step `t` computes for its query `a` (of 256) and output column `b` (of 2048) from the vectors it loads. -/
def blockAt (t : ℕ) (sk : S32.Idx → EReal) (Q : S256x2048.Idx → EReal) (kvp : S128x512.Idx → EReal) (kvc : S256x512.Idx → EReal) (a : Fin 256) (b : Fin 2048) : EReal :=
  attn2
    (fun j => if (j : ℕ) ≤ 128 + (a : ℕ) % 128 ∧ (a : ℕ) % 128 < j ∧ (128 ≤ (j : ℕ) ∨ 128 ≤ (a : ℕ) ∨ (64 + 2 * t) % 32 ≠ 0) then
      ∑ d : Fin 64, band kvp kvc ⟨128 * ((a : ℕ) / 128) + j, by omega⟩ ⟨64 * ((b : ℕ) / 512) + d, by omega⟩ * Q (ix2 a ⟨64 * ((b : ℕ) / 64) + d, by omega⟩) else ⊥)
    (fun j => band kvp kvc ⟨128 * ((a : ℕ) / 128) + j, by omega⟩ ⟨256 + 64 * ((b : ℕ) / 512) + (b : ℕ) % 64, by omega⟩)
    (sk (ix1 ⟨(b : ℕ) / 64, by omega⟩))

/-- One store writes `blockAt`, given what its loads hold. -/
theorem pairPay_eq (t : ℕ) (sk : S32.Idx → EReal) (Q : S256x2048.Idx → EReal) (kvp : S128x512.Idx → EReal) (kvc : S256x512.Idx → EReal)
    (c : Fin 2) (g pr : Fin 4) (M : IVec S256x128 1) (kp kc : FVec Ideal S128x64 .bf16) (vp vc : FVec Ideal S128x256 .bf16)
    (q : Fin 4 → FVec Ideal S128x128 .bf16) (k : Fin 8 → Ideal .f32)
    (hM : ∀ (j : Fin 256) (l : Fin 128), M (ix2 j l : S256x128.Idx) = 1#1 ↔ (j : ℕ) ≤ 128 + (l : ℕ) ∧ (l : ℕ) < j ∧ (128 ≤ (j : ℕ) ∨ (c : ℕ) = 1 ∨ (64 + 2 * t) % 32 ≠ 0))
    (hkp : ∀ (r : Fin 128) (d : Fin 64), kp (ix2 r d : S128x64.Idx) = band kvp kvc ⟨128 * (c : ℕ) + r, by omega⟩ ⟨64 * (g : ℕ) + d, by omega⟩)
    (hkc : ∀ (r : Fin 128) (d : Fin 64), kc (ix2 r d : S128x64.Idx) = band kvp kvc ⟨128 * (c : ℕ) + 128 + r, by omega⟩ ⟨64 * (g : ℕ) + d, by omega⟩)
    (hvp : ∀ (r : Fin 128) (d : Fin 256), vp (ix2 r d : S128x256.Idx) = band kvp kvc ⟨128 * (c : ℕ) + r, by omega⟩ ⟨256 + d, by omega⟩)
    (hvc : ∀ (r : Fin 128) (d : Fin 256), vc (ix2 r d : S128x256.Idx) = band kvp kvc ⟨128 * (c : ℕ) + 128 + r, by omega⟩ ⟨256 + d, by omega⟩)
    (hq : ∀ (i : Fin 4) (l w : Fin 128), q i (ix2 l w : S128x128.Idx) = Q (ix2 ⟨128 * (c : ℕ) + l, by omega⟩ ⟨512 * (g : ℕ) + 128 * (i : ℕ) + w, by omega⟩))
    (hk : ∀ e : Fin 8, k e = sk (ix1 ⟨8 * (g : ℕ) + e, by omega⟩))
    (x : S128x128.Idx) (y : S256x2048.Idx) (h0 : (y 0 : ℕ) = 128 * (c : ℕ) + (x 0 : ℕ)) (h1 : (y 1 : ℕ) = 512 * (g : ℕ) + 128 * (pr : ℕ) + (x 1 : ℕ)) :
    pairPay g ⟨2 * (pr : ℕ), by omega⟩ ⟨2 * (pr : ℕ) + 1, by omega⟩ M kp kc vp vc q k x = blockAt t sk Q kvp kvc (y 0) (y 1) := by
  obtain ⟨l, w, rfl⟩ : ∃ l w : Fin 128, x = ix2 l w := ⟨x 0, x 1, (ix2_eta x).symm⟩
  obtain ⟨a, b, rfl⟩ : ∃ (a : Fin 256) (b : Fin 2048), y = ix2 a b := ⟨y 0, y 1, (ix2_eta y).symm⟩
  replace h0 : (a : ℕ) = 128 * (c : ℕ) + (l : ℕ) := h0
  replace h1 : (b : ℕ) = 512 * (g : ℕ) + 128 * (pr : ℕ) + (w : ℕ) := h1
  show _ = blockAt t sk Q kvp kvc a b
  -- both heads at once
  have head : ∀ (e : Fin 8) (d : Fin 64), (e : ℕ) = 2 * (pr : ℕ) + (w : ℕ) / 64 → (d : ℕ) = (w : ℕ) % 64 →
      headOut M (scores kp kc q) k (valsT g vp vc) e (ix2 d l : S64x128.Idx) = blockAt t sk Q kvp kvc a b := by
    intro e d he hd
    rw [headOut_at]
    unfold blockAt
    have hsk : k e = sk (ix1 ⟨(b : ℕ) / 64, by omega⟩) := by
      rw [hk]; congr 2; exact Fin.ext (by simp only []; omega)
    rw [hsk]
    congr 1
    · funext j
      unfold Scalar.select
      refine if_congr ((hM j l).trans ?_) ?_ rfl
      · constructor <;> rintro ⟨u, v, w⟩ <;> refine ⟨by omega, by omega, ?_⟩ <;> omega
      · rw [scores_at kp kc q j e l _ rfl]
        refine Finset.sum_congr rfl fun d' _ => ?_
        rw [hq]
        congr 1
        · split
          · rw [hkp]; congr 1 <;> exact Fin.ext (by simp only []; omega)
          · rw [hkc]; congr 1 <;> exact Fin.ext (by simp only []; omega)
        · congr 2 <;> exact Fin.ext (by simp only []; omega)
    · funext j
      rw [valsT_at]
      split
      · rw [hvp]; congr 1 <;> exact Fin.ext (by simp only []; omega)
      · rw [hvc]; congr 1 <;> exact Fin.ext (by simp only []; omega)
  rw [pairPay_at]
  split
  · exact head _ _ (by simp only []; omega) (by simp only []; omega)
  · exact head _ _ (by simp only []; omega) (by simp only []; omega)

end Cert.Attn
-- ==== Proof.KernelBlock.lean ====
/- What one step of the kernel writes into its attention block, at an index. -/
module

public import proofs.«01_k».proof.Proof.AttnBlock
public import proofs.«01_k».proof.Proof.Gen.KernelIdeal.Value
public import Idealize.ShloMosaic.Lib.Pipeline.ValueKit
public import Idealize.ShloMosaic.Lib.Claim
public import Idealize.ShloMosaic.Lib.WordCmp
public import Idealize.ShloMosaic.Lib.WholeRead

@[expose] public section

set_option maxRecDepth 2048

noncomputable section

namespace Cert.Attn

open Idealize.ShloMosaic Idealize.ShloMosaic.TcCoe Idealize.SL.Sem
open Cert.KernelIdeal Cert.KernelIdeal.Gen WordCmp

theorem window_bits (j : Fin 256) (l : Fin 128) :
    IntOp.andi (IntOp.cmpi .sle (BitVec.ofNat 32 (j : ℕ)) (IntOp.addi 128#32 (BitVec.ofNat 32 (l : ℕ)))) (IntOp.cmpi .sgt (BitVec.ofNat 32 (j : ℕ)) (BitVec.ofNat 32 (l : ℕ))) = 1#1
      ↔ (j : ℕ) ≤ 128 + (l : ℕ) ∧ (l : ℕ) < j := by
  have e : IntOp.addi 128#32 (BitVec.ofNat 32 (l : ℕ)) = BitVec.ofNat 32 (128 + (l : ℕ)) := addi_ofNat 128 _
  rw [e, IntOp.andi_eq_one, cmpi_sle_ofNat_eq_one_iff (by omega) (by omega), cmpi_sgt_ofNat_eq_one_iff (by omega) (by omega)]

/-- The mask of a step's second block: a window of 128 keys ending at the query. -/
theorem mask1_at (t : ℕ) (j : Fin 256) (l : Fin 128) :
    k0_pay261 (iota Kind.tc S256x128 32 [0] iota_S256x128_d0_w32) (iota Kind.tc S256x128 32 [1] iota_S256x128_d1_w32) (ix2 j l : S256x128.Idx) = 1#1
      ↔ (j : ℕ) ≤ 128 + (l : ℕ) ∧ (l : ℕ) < j ∧ (128 ≤ (j : ℕ) ∨ ((1 : Fin 2) : ℕ) = 1 ∨ (64 + 2 * t) % 32 ≠ 0) := by
  pointwise [k0_pay261]
  rw [window_bits]
  exact ⟨fun h => ⟨h.1, h.2, .inr (.inl trivial)⟩, fun h => ⟨h.1, h.2.1⟩⟩

/-- The mask of a step's first block: the same window, cut at the start of a sequence. -/
theorem mask0_at (t : Fin grid0.N) (j : Fin 256) (l : Fin 128) :
    k0_pay4 (grid0.coords t) (ix2 j l : S256x128.Idx) = 1#1
      ↔ (j : ℕ) ≤ 128 + (l : ℕ) ∧ (l : ℕ) < j ∧ (128 ≤ (j : ℕ) ∨ ((0 : Fin 2) : ℕ) = 1 ∨ (64 + 2 * (t : ℕ)) % 32 ≠ 0) := by
  pointwise [k0_pay4]
  rw [IntOp.andi_eq_one, window_bits, IntOp.ori_eq_one, show (128#32) = BitVec.ofNat 32 128 from rfl, cmpi_sge_ofNat_eq_one_iff (by omega) (by omega), and_assoc]
  refine and_congr_right' (and_congr_right' (or_congr_right ?_))
  revert t
  clear j l
  decide +kernel

/-- A sink, as the kernel loads it. -/
def sinkL (X : Vec Ideal S32 .f32) (h : Fin 32) : Ideal .f32 :=
  View.ld X (Rect.unit ![(h : ℕ)] ![1] (by intro a; fin_cases a; exact h.isLt)) (Shape.Idx.first (numel1_S1.symm ▸ Nat.one_pos : 0 < S1.numel))

theorem sinkL_at (X : Vec Ideal S32 .f32) (h : Fin 32) : sinkL X h = X (ix1 h) :=
  View.ld_unit_apply_of _ _ _ _ _ _ fun a => match a with | ⟨0, _⟩ => rfl

/-- A load of a rectangle at an index. -/
theorem ld2_at {n0 n1 k0 k1 a b : ℕ} {e : EltTy} (X : (⟨2, ![n0, n1]⟩ : Shape).Idx → Elt Ideal e) (h) (r : Fin k0) (d : Fin k1) (i : Fin n0) (j : Fin n1)
    (hi : (i : ℕ) = a + r) (hj : (j : ℕ) = b + d) :
    View.ld X (Rect.unit ![a, b] ![k0, k1] h) (ix2 r d) = X (ix2 i j) :=
  View.ld_unit_apply_of _ _ _ _ _ _ fun a => match a with | ⟨0, _⟩ => hi | ⟨1, _⟩ => hj

/-- A load of a rectangle inside a rectangle at an index. -/
theorem readAt2_at {sg : RefSig} {n0 n1 m0 m1 k0 k1 a b a' b' : ℕ} {κ : Kind} {sp : Space} {e : EltTy} {M : Memref sg κ sp (⟨2, ![n0, n1]⟩ : Shape) e} (w : M.IsWhole)
    (X : (⟨2, ![n0, n1]⟩ : Shape).Idx → Elt Ideal e) (h h' h'') (r : Fin k0) (d : Fin k1) (i : Fin n0) (j : Fin n1)
    (hi : (i : ℕ) = a + (a' + r)) (hj : (j : ℕ) = b + (b' + d)) :
    View.readAt (Elt Ideal) M.view ((Rect.unit (s := ⟨2, ![n0, n1]⟩) ![a, b] ![m0, m1] h).withinL (Rect.unit (s := ⟨2, ![m0, m1]⟩) ![a', b'] ![k0, k1] h').toLoadRect h'')
      (w.unread X) (ix2 r d) = X (ix2 i j) := by
  refine (Memref.IsWhole.readAt_unread w X _ _).trans ?_
  refine congrArg X (funext fun c => Fin.ext ?_)
  match c with
  | ⟨0, _⟩ => exact (show _ = a + (a' + (r : ℕ)) by show a + a' + 1 * (r : ℕ) = _; omega).trans hi.symm
  | ⟨1, _⟩ => exact (show _ = b + (b' + (d : ℕ)) by show b + b' + 1 * (d : ℕ) = _; omega).trans hj.symm

/-- A load from a step's own two blocks of keys and values is a load from the band. -/
theorem readBand {sg : RefSig} {m0 m1 k0 k1 a b a' b' : ℕ} {κ : Kind} {sp : Space} {M : Memref sg κ sp S256x512 .bf16} (w : M.IsWhole)
    (kvp : Vec Ideal S128x512 .bf16) (kvc : Vec Ideal S256x512 .bf16) (h h' h'') (r : Fin k0) (d : Fin k1) (R : Fin 384) (W : Fin 512)
    (hR : (R : ℕ) = 128 + (a + (a' + r))) (hW : (W : ℕ) = b + (b' + d)) :
    View.readAt (Elt Ideal) M.view ((Rect.unit (s := S256x512) ![a, b] ![m0, m1] h).withinL (Rect.unit (s := ⟨2, ![m0, m1]⟩) ![a', b'] ![k0, k1] h').toLoadRect h'')
      (w.unread kvc) (ix2 r d) = band kvp kvc R W := by
  refine (readAt2_at w kvc h h' h'' r d ⟨(R : ℕ) - 128, by omega⟩ W (by simp only []; omega) hW).trans ?_
  rw [band, dif_neg (by omega)]

/-- A load from the block before is a load from the band. -/
theorem ldBand {k0 k1 a b : ℕ} (kvp : Vec Ideal S128x512 .bf16) (kvc : Vec Ideal S256x512 .bf16) (h) (r : Fin k0) (d : Fin k1) (R : Fin 384) (W : Fin 512)
    (hR' : (R : ℕ) < 128) (hR : (R : ℕ) = a + r) (hW : (W : ℕ) = b + d) :
    View.ld kvp (Rect.unit ![a, b] ![k0, k1] h) (ix2 r d) = band kvp kvc R W := by
  refine (ld2_at kvp h r d ⟨(R : ℕ), hR'⟩ W hR hW).trans ?_
  rw [band, dif_pos hR']

section Loads

variable {sg : RefSig} {κ : Kind} {sp : Space} {M5 : Memref sg κ sp S256x512 .bf16} {M3 : Memref sg κ sp S256x2048 .bf16}

/-- The keys of group `g` of a step's own block `c`, as the kernel loads them. -/
def keyL (w : M5.IsWhole) (kvc : Vec Ideal S256x512 .bf16) (c : Fin 2) (g : Fin 4) : FVec Ideal S128x64 .bf16 :=
  View.readAt (Elt Ideal) M5.view ((Rect.unit (s := S256x512) ![128 * (c : ℕ), 0] ![128, 512] (by fin_cases c; exacts [inb_S256x512_S128x512_0_0, inb_S256x512_S128x512_128_0])).withinL
    (Rect.unit (s := S128x512) ![0, 64 * (g : ℕ)] ![128, 64] (by fin_cases g; exacts [inb_S128x512_S128x64_0_0, inb_S128x512_S128x64_0_64, inb_S128x512_S128x64_0_128, inb_S128x512_S128x64_0_192])).toLoadRect
    (fun _ => rfl)) (w.unread kvc)

/-- The values of a step's own block `c`, as the kernel loads them. -/
def valL (w : M5.IsWhole) (kvc : Vec Ideal S256x512 .bf16) (c : Fin 2) : FVec Ideal S128x256 .bf16 :=
  View.readAt (Elt Ideal) M5.view ((Rect.unit (s := S256x512) ![128 * (c : ℕ), 0] ![128, 512] (by fin_cases c; exacts [inb_S256x512_S128x512_0_0, inb_S256x512_S128x512_128_0])).withinL
    (Rect.unit (s := S128x512) ![0, 256] ![128, 256] inb_S128x512_S128x256_0_256).toLoadRect (fun _ => rfl)) (w.unread kvc)

/-- The keys of group `g` of the block before, as the kernel loads them. -/
def keyP (kvp : Vec Ideal S128x512 .bf16) (g : Fin 4) : FVec Ideal S128x64 .bf16 :=
  View.ld kvp (Rect.unit (s := S128x512) ![0, 64 * (g : ℕ)] ![128, 64] (by fin_cases g; exacts [inb_S128x512_S128x64_0_0, inb_S128x512_S128x64_0_64, inb_S128x512_S128x64_0_128, inb_S128x512_S128x64_0_192]))

/-- The values of the block before, as the kernel loads them. -/
def valP (kvp : Vec Ideal S128x512 .bf16) : FVec Ideal S128x256 .bf16 :=
  View.ld kvp (Rect.unit (s := S128x512) ![0, 256] ![128, 256] inb_S128x512_S128x256_0_256)

/-- Two query heads of block `c`, the `i`th two of group `g`, as the kernel loads them. -/
def qryL (w : M3.IsWhole) (Q : Vec Ideal S256x2048 .bf16) (c : Fin 2) (g i : Fin 4) : FVec Ideal S128x128 .bf16 :=
  View.readAt (Elt Ideal) M3.view ((Rect.unit (s := S256x2048) ![128 * (c : ℕ), 0] ![128, 2048] (by fin_cases c; exacts [inb_S256x2048_S128x2048_0_0, inb_S256x2048_S128x2048_128_0])).withinL
    (Rect.unit (s := S128x2048) ![0, 512 * (g : ℕ) + 128 * (i : ℕ)] ![128, 128] (by
      intro a
      match a with
      | ⟨0, _⟩ => exact Nat.le_refl 128
      | ⟨1, _⟩ => show 512 * (g : ℕ) + 128 * (i : ℕ) + 128 ≤ 2048; omega)).toLoadRect
    (fun _ => rfl)) (w.unread Q)

theorem keyL_at (w : M5.IsWhole) (kvp : Vec Ideal S128x512 .bf16) (kvc : Vec Ideal S256x512 .bf16) (c : Fin 2) (g : Fin 4) (r : Fin 128) (d : Fin 64) :
    keyL w kvc c g (ix2 r d : S128x64.Idx) = band kvp kvc ⟨128 * (c : ℕ) + 128 + r, by omega⟩ ⟨64 * (g : ℕ) + d, by omega⟩ :=
  readBand w kvp kvc _ _ _ r d _ _ (by simp only []; omega) (by simp only []; omega)

theorem valL_at (w : M5.IsWhole) (kvp : Vec Ideal S128x512 .bf16) (kvc : Vec Ideal S256x512 .bf16) (c : Fin 2) (r : Fin 128) (d : Fin 256) :
    valL w kvc c (ix2 r d : S128x256.Idx) = band kvp kvc ⟨128 * (c : ℕ) + 128 + r, by omega⟩ ⟨256 + d, by omega⟩ :=
  readBand w kvp kvc _ _ _ r d _ _ (by simp only []; omega) (by simp only []; omega)

theorem qryL_at (w : M3.IsWhole) (Q : Vec Ideal S256x2048 .bf16) (c : Fin 2) (g i : Fin 4) (l v : Fin 128) :
    qryL w Q c g i (ix2 l v : S128x128.Idx) = Q (ix2 ⟨128 * (c : ℕ) + l, by omega⟩ ⟨512 * (g : ℕ) + 128 * (i : ℕ) + v, by omega⟩) :=
  readAt2_at w Q _ _ _ l v _ _ (by simp only []; omega) (by simp only []; omega)

/-- A store of a step's first block. -/
theorem store0 (w : M5.IsWhole) (w' : M3.IsWhole) (t : ℕ) (sk : Vec Ideal S32 .f32) (Q : Vec Ideal S256x2048 .bf16) (kvp : Vec Ideal S128x512 .bf16) (kvc : Vec Ideal S256x512 .bf16)
    (M : IVec S256x128 1) (hM : ∀ (j : Fin 256) (l : Fin 128), M (ix2 j l : S256x128.Idx) = 1#1 ↔ (j : ℕ) ≤ 128 + (l : ℕ) ∧ (l : ℕ) < j ∧ (128 ≤ (j : ℕ) ∨ ((0 : Fin 2) : ℕ) = 1 ∨ (64 + 2 * t) % 32 ≠ 0))
    (g pr : Fin 4) (x : S128x128.Idx) (y : S256x2048.Idx) (h0 : (y 0 : ℕ) = (x 0 : ℕ)) (h1 : (y 1 : ℕ) = 512 * (g : ℕ) + 128 * (pr : ℕ) + (x 1 : ℕ)) :
    pairPay g ⟨2 * (pr : ℕ), by omega⟩ ⟨2 * (pr : ℕ) + 1, by omega⟩ M (keyP kvp g) (keyL w kvc 0 g) (valP kvp) (valL w kvc 0)
      (qryL w' Q 0 g) (fun e => sinkL sk ⟨8 * (g : ℕ) + e, by omega⟩) x = blockAt t sk Q kvp kvc (y 0) (y 1) :=
  pairPay_eq t sk Q kvp kvc 0 g pr _ _ _ _ _ _ _ hM
    (fun r d => ldBand kvp kvc _ r d _ _ (by simp) (by simp) (by simp)) (fun r d => keyL_at w kvp kvc 0 g r d)
    (fun r d => ldBand kvp kvc _ r d _ _ (by simp) (by simp) (by simp)) (fun r d => valL_at w kvp kvc 0 r d)
    (fun i l v => qryL_at w' Q 0 g i l v) (fun e => sinkL_at sk _) x y (h0.trans (Nat.zero_add _).symm) h1

/-- A store of a step's second block. -/
theorem store1 (w : M5.IsWhole) (w' : M3.IsWhole) (t : ℕ) (sk : Vec Ideal S32 .f32) (Q : Vec Ideal S256x2048 .bf16) (kvp : Vec Ideal S128x512 .bf16) (kvc : Vec Ideal S256x512 .bf16)
    (M : IVec S256x128 1) (hM : ∀ (j : Fin 256) (l : Fin 128), M (ix2 j l : S256x128.Idx) = 1#1 ↔ (j : ℕ) ≤ 128 + (l : ℕ) ∧ (l : ℕ) < j ∧ (128 ≤ (j : ℕ) ∨ ((1 : Fin 2) : ℕ) = 1 ∨ (64 + 2 * t) % 32 ≠ 0))
    (g pr : Fin 4) (x : S128x128.Idx) (y : S256x2048.Idx) (h0 : (y 0 : ℕ) = 128 * ((1 : Fin 2) : ℕ) + (x 0 : ℕ)) (h1 : (y 1 : ℕ) = 512 * (g : ℕ) + 128 * (pr : ℕ) + (x 1 : ℕ)) :
    pairPay g ⟨2 * (pr : ℕ), by omega⟩ ⟨2 * (pr : ℕ) + 1, by omega⟩
      M (keyL w kvc 0 g) (keyL w kvc 1 g) (valL w kvc 0) (valL w kvc 1)
      (qryL w' Q 1 g) (fun e => sinkL sk ⟨8 * (g : ℕ) + e, by omega⟩) x = blockAt t sk Q kvp kvc (y 0) (y 1) :=
  pairPay_eq t sk Q kvp kvc 1 g pr _ _ _ _ _ _ _ hM
    (fun r d => (keyL_at w kvp kvc 0 g r d).trans (by congr 2)) (fun r d => keyL_at w kvp kvc 1 g r d)
    (fun r d => (valL_at w kvp kvc 0 r d).trans (by congr 2)) (fun r d => valL_at w kvp kvc 1 r d)
    (fun i l v => qryL_at w' Q 1 g i l v) (fun e => sinkL_at sk _) x y h0 h1

end Loads

variable (m : (ℓ : Loc nD τ sig) → Buf (Elt Ideal) ℓ)

attribute [local irreducible] View.readAt

set_option maxHeartbeats 4000000 in
/-- A step's attention block, from the blocks of its windows. -/
theorem after7 (c : Dev nD) (t : Fin cfg0.N) (y : S256x2048.Idx) :
    (dats m 0 c).after 7 t y = blockAt t (iblk m c 0 t) (X0_3 m c t) (iblk m c 4 t) (iblk m c 5 t) (y 0) (y 1) := by
  rw [after0_7]; unfold outsAt0; frame_out
  have S0 := store0 (hs0_5 t) (hs0_3 t) t (iblk m c 0 t) (X0_3 m c t) (iblk m c 4 t) (iblk m c 5 t) _ (mask0_at t)
  have S1 := store1 (hs0_5 t) (hs0_3 t) t (iblk m c 0 t) (X0_3 m c t) (iblk m c 4 t) (iblk m c 5 t) _ (mask1_at t)
  canon_tiles x h
  exacts [S1 3 3 x y h0 h1, S1 3 2 x y h0 h1, S1 3 1 x y h0 h1, S1 3 0 x y h0 h1,
    S1 2 3 x y h0 h1, S1 2 2 x y h0 h1, S1 2 1 x y h0 h1, S1 2 0 x y h0 h1,
    S1 1 3 x y h0 h1, S1 1 2 x y h0 h1, S1 1 1 x y h0 h1, S1 1 0 x y h0 h1,
    S1 0 3 x y h0 h1, S1 0 2 x y h0 h1, S1 0 1 x y h0 h1, S1 0 0 x y h0 (h1.trans (Nat.zero_add _).symm),
    S0 3 3 x y h0 h1, S0 3 2 x y h0 h1, S0 3 1 x y h0 h1, S0 3 0 x y h0 h1,
    S0 2 3 x y h0 h1, S0 2 2 x y h0 h1, S0 2 1 x y h0 h1, S0 2 0 x y h0 h1,
    S0 1 3 x y h0 h1, S0 1 2 x y h0 h1, S0 1 1 x y h0 h1, S0 1 0 x y h0 h1,
    S0 0 3 x y h0 h1, S0 0 2 x y h0 h1, S0 0 1 x y h0 h1, S0 0 0 x y h0 (h1.trans (Nat.zero_add _).symm)]

end Cert.Attn
-- ==== Proof.GatesBlock.lean ====
/- What one step of the kernel writes into its block of gates, at an index. -/
module

public import proofs.«01_k».proof.Proof.KernelBlock

@[expose] public section

set_option maxRecDepth 2048

noncomputable section

namespace Cert.Attn

open Idealize.ShloMosaic Idealize.ShloMosaic.TcCoe Idealize.SL.Sem
open Cert.KernelIdeal Cert.KernelIdeal.Gen

/-- One store's 256 columns of gates. -/
def gatePay (X : FVec Ideal S1024x2048 .bf16) (W : FVec Ideal S2048x256 .bf16) : FVec Ideal S1024x256 .bf16 :=
  truncf .bf16 (logistic (matmul dot_S1024x2048_S2048x256_S1024x256_1_0_0_1_n_n none (shapeCast S1024x2048 X shapeCasts_S1024x2048_S1024x2048)
    (shapeCast S2048x256 W shapeCasts_S2048x256_S2048x256) (constant S1024x256 .f32 0x00000000#32))) bitsLt_bf16_f32

/-- A gate: the logistic function of a row of `X` against a column of `W`. -/
def gateAt (X : S1024x2048.Idx → EReal) (W : S2048x2048.Idx → EReal) (a : Fin 1024) (b : Fin 2048) : EReal :=
  Ideal.logistic (∑ d : Fin 2048, X (ix2 a d) * W (ix2 d b))

theorem gatePay_at (X : FVec Ideal S1024x2048 .bf16) (W : FVec Ideal S2048x256 .bf16) (a : Fin 1024) (b : Fin 256) :
    gatePay X W (ix2 a b : S1024x256.Idx) = Ideal.logistic (∑ d : Fin 2048, X (ix2 a d : S1024x2048.Idx) * W (ix2 d b : S2048x256.Idx)) := by
  pointwise [gatePay]

/-- A store of gates, at columns from `o`. -/
theorem gateStore (X : FVec Ideal S1024x2048 .bf16) (W : Vec Ideal S2048x2048 .bf16) (o : ℕ) (h) (x : S1024x256.Idx) (y : S1024x2048.Idx)
    (h0 : (y 0 : ℕ) = (x 0 : ℕ)) (h1 : (y 1 : ℕ) = o + (x 1 : ℕ)) :
    gatePay X (View.ld W (Rect.unit (s := S2048x2048) ![0, o] ![2048, 256] h)) x = gateAt X W (y 0) (y 1) := by
  obtain ⟨a, b, rfl⟩ : ∃ (a : Fin 1024) (b : Fin 256), x = ix2 a b := ⟨x 0, x 1, (ix2_eta x).symm⟩
  obtain ⟨a', b', rfl⟩ : ∃ (a : Fin 1024) (b : Fin 2048), y = ix2 a b := ⟨y 0, y 1, (ix2_eta y).symm⟩
  replace h0 : (a' : ℕ) = (a : ℕ) := h0
  replace h1 : (b' : ℕ) = o + (b : ℕ) := h1
  obtain rfl : a' = a := Fin.ext h0
  rw [gatePay_at]
  refine congrArg Ideal.logistic (Finset.sum_congr rfl fun d _ => congrArg _ ?_)
  exact ld2_at W h d b d b' (Nat.zero_add _).symm h1

variable (m : (ℓ : Loc nD τ sig) → Buf (Elt Ideal) ℓ)

attribute [local irreducible] View.readAt

set_option maxHeartbeats 4000000 in
/-- A step's block of gates, from the blocks of its windows. -/
theorem after6 (c : Dev nD) (t : Fin cfg0.N) (y : S1024x2048.Idx) :
    (dats m 0 c).after 6 t y = gateAt (iblk m c 1 t) (iblk m c 2 t) (y 0) (y 1) := by
  rw [after0_6]; unfold outsAt0; frame_out
  have S := gateStore (iblk m c 1 t) (iblk m c 2 t)
  canon_tiles x h
  exacts [S 1792 _ x y h0 h1, S 1536 _ x y h0 h1, S 1280 _ x y h0 h1, S 1024 _ x y h0 h1, S 768 _ x y h0 h1, S 512 _ x y h0 h1, S 256 _ x y h0 h1, S 0 _ x y h0 (h1.trans (Nat.zero_add _).symm)]

end Cert.Attn
-- ==== Proof.KernelArray.lean ====
/- The arrays that the kernel's windows read, and each window's block of them, at an index. -/
module

public import proofs.«01_k».proof.Proof.KernelBlock

@[expose] public section

set_option maxRecDepth 4096

noncomputable section

namespace Cert.Attn

open Idealize.ShloMosaic Idealize.ShloMosaic.TcCoe Idealize.SL.Sem
open Cert.KernelIdeal Cert.KernelIdeal.Gen

/-- The factor that the packed queries carry: `1/8` over `log 2`. -/
def qScale : EReal := Ideal.div (Ideal.ofBits .f32 0x3E000000#32) (Ideal.log (Ideal.ofBits .f32 0x40000000#32))

/-- Queries, keys and values side by side, one row for each token, the queries scaled. -/
def packed (q : FVec Ideal S4x4096x32x64 .f32) (k v : FVec Ideal S4x4096x4x64 .f32) : FVec Ideal S16384x2560 .bf16 :=
  truncf .bf16 (concatenate S16384x2560 1
    [⟨S16384x2048, shapeCast S16384x2048 (mulf q (broadcastInDim S4x4096x32x64 ![] bcast_S_S4x4096x32x64
        (Host.divf (constant S_ .f32 0x3E000000#32) (Host.log (constant S_ .f32 0x40000000#32))))) shapeCasts_S4x4096x32x64_S16384x2048⟩,
     ⟨S16384x256, shapeCast S16384x256 k shapeCasts_S4x4096x4x64_S16384x256⟩,
     ⟨S16384x256, shapeCast S16384x256 v shapeCasts_S4x4096x4x64_S16384x256⟩] concatenates_S16384x2048_S16384x256_S16384x256_S16384x2560_d1) bitsLt_bf16_f32

variable (m : (ℓ : Loc nD τ sig) → Buf (Elt Ideal) ℓ)

theorem V_packed (c : Dev nD) : V m c main_v11 = packed (m ((c.tc : Thread nD τ).loc main_arg2)) (m ((c.tc : Thread nD τ).loc main_arg3)) (m ((c.tc : Thread nD τ).loc main_arg4)) := by
  show StableHlo.after hostOps0 _ (Proc.devRef .tc main_v11) = _
  unfold hostOps0
  open StableHlo in after_results
  rfl

theorem V_x (c : Dev nD) : V m c main_v1 = truncf (F := Ideal) .bf16 (shapeCast S16384x2048 (m ((c.tc : Thread nD τ).loc main_arg0)) shapeCasts_S4x4096x2048_S16384x2048) bitsLt_bf16_f32 := by
  entry_read
  rfl

theorem V_w (c : Dev nD) : V m c main_v2 = truncf (F := Ideal) .bf16 (m ((c.tc : Thread nD τ).loc main_arg1) : FVec Ideal S2048x12800 .f32) bitsLt_bf16_f32 := by
  entry_read
  rfl

theorem V_old (c : Dev nD) : V m c main_v12_1 = m ((c.tc : Thread nD τ).loc main_arg6) := by
  entry_read
  rfl

theorem packed_q (q : FVec Ideal S4x4096x32x64 .f32) (k v : FVec Ideal S4x4096x4x64 .f32) (b : Fin 4) (p : Fin 4096) (h : Fin 32) (d : Fin 64) (R : Fin 16384) (C : Fin 2560)
    (hR : (R : ℕ) = 4096 * (b : ℕ) + p) (hC : (C : ℕ) = 64 * (h : ℕ) + d) :
    packed q k v (ix2 R C : S16384x2560.Idx) = q (ix4 b p h d) * qScale := by
  have hp := p.isLt
  have hd := d.isLt
  have hh := h.isLt
  pointwise [packed]
  rw [dif_pos (by omega)]
  refine congrArg (· * qScale) (congrArg q ((ix4_inj ..).2 ⟨Fin.ext ?_, Fin.ext ?_, Fin.ext ?_, Fin.ext ?_⟩)) <;> simp only [] <;> omega

theorem packed_k (q : FVec Ideal S4x4096x32x64 .f32) (k v : FVec Ideal S4x4096x4x64 .f32) (b : Fin 4) (p : Fin 4096) (h : Fin 4) (d : Fin 64) (R : Fin 16384) (C : Fin 2560)
    (hR : (R : ℕ) = 4096 * (b : ℕ) + p) (hC : (C : ℕ) = 2048 + 64 * (h : ℕ) + d) :
    packed q k v (ix2 R C : S16384x2560.Idx) = k (ix4 b p h d) := by
  have hp := p.isLt
  have hd := d.isLt
  have hh := h.isLt
  pointwise [packed]
  rw [dif_neg (by omega), dif_pos (by omega)]
  refine congrArg k ((ix4_inj ..).2 ⟨Fin.ext ?_, Fin.ext ?_, Fin.ext ?_, Fin.ext ?_⟩) <;> simp only [] <;> omega

theorem packed_v (q : FVec Ideal S4x4096x32x64 .f32) (k v : FVec Ideal S4x4096x4x64 .f32) (b : Fin 4) (p : Fin 4096) (h : Fin 4) (d : Fin 64) (R : Fin 16384) (C : Fin 2560)
    (hR : (R : ℕ) = 4096 * (b : ℕ) + p) (hC : (C : ℕ) = 2304 + 64 * (h : ℕ) + d) :
    packed q k v (ix2 R C : S16384x2560.Idx) = v (ix4 b p h d) := by
  have hp := p.isLt
  have hd := d.isLt
  have hh := h.isLt
  pointwise [packed]
  rw [dif_neg (by omega), dif_neg (by omega)]
  refine congrArg v ((ix4_inj ..).2 ⟨Fin.ext ?_, Fin.ext ?_, Fin.ext ?_, Fin.ext ?_⟩) <;> simp only [] <;> omega

theorem idx0_1 : ∀ t : Fin cfg0.N, win0_1.index t = ![t.val / 2, 0] := (by decide +kernel : ∀ t : Fin grid0.N, win0_1.index t = ![t.val / 2, 0])
theorem idx0_2 : ∀ t : Fin cfg0.N, win0_2.index t = ![0, 8704 + 2048 * (t.val % 2)] := (by decide +kernel : ∀ t : Fin grid0.N, win0_2.index t = ![0, 8704 + 2048 * (t.val % 2)])
theorem idx0_3 : ∀ t : Fin cfg0.N, win0_3.index t = ![32 + t.val, 0] := (by decide +kernel : ∀ t : Fin grid0.N, win0_3.index t = ![32 + t.val, 0])
theorem idx0_4 : ∀ t : Fin cfg0.N, win0_4.index t = ![63 + 2 * t.val, 4] := (by decide +kernel : ∀ t : Fin grid0.N, win0_4.index t = ![63 + 2 * t.val, 4])
theorem idx0_5 : ∀ t : Fin cfg0.N, win0_5.index t = ![32 + t.val, 4] := (by decide +kernel : ∀ t : Fin grid0.N, win0_5.index t = ![32 + t.val, 4])
theorem idx0_6 : ∀ t : Fin cfg0.N, win0_6.index t = ![t.val / 2, t.val % 2] := (by decide +kernel : ∀ t : Fin grid0.N, win0_6.index t = ![t.val / 2, t.val % 2])
theorem idx0_7 : ∀ t : Fin cfg0.N, win0_7.index t = ![32 + t.val, 0] := (by decide +kernel : ∀ t : Fin grid0.N, win0_7.index t = ![32 + t.val, 0])

theorem blk1 (c : Dev nD) (t : Fin cfg0.N) (r : Fin 1024) (d : Fin 2048) :
    iblk m c 1 t (ix2 r d : S1024x2048.Idx) = V m c main_v1 (ix2 ⟨1024 * (t.val / 2) + r, by have : t.val < 32 := t.isLt; omega⟩ d : S16384x2048.Idx) := by
  blk_simp [iblk]
  blk_ext [idx0_1 t]

theorem blk2 (c : Dev nD) (t : Fin cfg0.N) (d : Fin 2048) (w : Fin 2048) :
    iblk m c 2 t (ix2 d w : S2048x2048.Idx) = V m c main_v2 (ix2 d ⟨8704 + 2048 * (t.val % 2) + w, by omega⟩ : S2048x12800.Idx) := by
  have e : ∀ (y : S2048x2048.Idx) (a : Fin 2), (((win0_2.blk t).view.emb y a : Fin _) : ℕ) = win0_2.index t a + (y a : ℕ) := fun y a =>
    ValueKit.view_emb_slice_whole_unit_val main_v2 _ _ _ y a
  blk_simp [iblk]
  refine congrArg (V m c main_v2) ?_
  funext a
  apply Fin.ext
  refine (e _ a).trans ?_
  rw [idx0_2 t]
  match a with
  | ⟨0, _⟩ => exact Nat.zero_add _
  | ⟨1, _⟩ => rfl

theorem blk4 (c : Dev nD) (t : Fin cfg0.N) (r : Fin 128) (w : Fin 512) :
    iblk m c 4 t (ix2 r w : S128x512.Idx) = V m c main_v11 (ix2 ⟨8064 + 256 * t.val + r, by have : t.val < 32 := t.isLt; omega⟩ ⟨2048 + w, by omega⟩ : S16384x2560.Idx) := by
  blk_simp [iblk]
  blk_ext [idx0_4 t]

theorem blk5 (c : Dev nD) (t : Fin cfg0.N) (r : Fin 256) (w : Fin 512) :
    iblk m c 5 t (ix2 r w : S256x512.Idx) = V m c main_v11 (ix2 ⟨8192 + 256 * t.val + r, by have : t.val < 32 := t.isLt; omega⟩ ⟨2048 + w, by omega⟩ : S16384x2560.Idx) := by
  blk_simp [iblk]
  blk_ext [idx0_5 t]

theorem blk3 (c : Dev nD) (t : Fin cfg0.N) (r : Fin 256) (w : Fin 2048) :
    X0_3 m c t (ix2 r w : S256x2048.Idx) = V m c main_v11 (ix2 ⟨8192 + 256 * t.val + r, by have : t.val < 32 := t.isLt; omega⟩ ⟨w, by omega⟩ : S16384x2560.Idx) := by
  unfold X0_3 Pipeline.Window.fill
  rw [dif_pos (moved0_3 t _)]
  have e : ∀ (y : (win0_3.xblock (grid0.coords t)).Idx) (a : Fin 2), (((win0_3.blk t).view.emb y a : Fin _) : ℕ) = win0_3.index t a * (S256x2048.size a) + (y a : ℕ) := fun y a =>
    ValueKit.view_emb_slice_whole_unit_val main_v11 _ _ _ y a
  unfold iblk
  refine congrArg (V m c main_v11) ?_
  funext a
  apply Fin.ext
  refine (e _ a).trans ?_
  rw [idx0_3 t]
  have h0 : (32 + t.val) * 256 + r.val = 8192 + 256 * t.val + r.val := by omega
  match a with
  | ⟨0, _⟩ => exact h0
  | ⟨1, _⟩ => exact (congrArg (· + w.val) (Nat.zero_mul 2048)).trans (Nat.zero_add _)

theorem blk0 (c : Dev nD) (t : Fin cfg0.N) (h : Fin 32) : iblk m c 0 t (ix1 h : S32.Idx) = V m c main_arg5 (ix1 h : S32.Idx) := by
  have e : ∀ t : Fin cfg0.N, win0_0.index t = ![0] := (by decide +kernel : ∀ t : Fin grid0.N, win0_0.index t = ![0])
  blk_simp [iblk]
  blk_ext [e t]

end Cert.Attn
-- ==== Proof.SinkSoftmax.lean ====
/- A softmax with a sink: in base 2 with one reciprocal at the end, as the kernel has it, and in base `e` with each weight
   divided, as the reference has it. -/
module

public import proofs.«01_k».proof.Proof.AttnBlock

@[expose] public section

noncomputable section

namespace Cert.Attn

open Idealize.ShloMosaic

/-- The attention of one query as the reference computes it: scores `z` (masked ones at `-∞`), one feature `v` of the values, the sink `k`. -/
def attnE (z v : Fin 256 → EReal) (k : EReal) : EReal :=
  let t : EReal := max (Finset.univ.fold max ⊥ z) k
  ∑ j, v j * Ideal.div (Ideal.exp (z j - t)) ((∑ j, Ideal.exp (z j - t)) + Ideal.exp (k - t))

/-- The largest of finitely many numbers below `+∞` is one of them, or `-∞`; a positive factor moves through it. -/
theorem fold_max_scale (c : ℝ) (hc : 0 < c) {ι : Type} [DecidableEq ι] (s : Finset ι) (z : ι → EReal) (hz : ∀ j, z j = ⊥ ∨ ∃ r : ℝ, z j = (r : EReal)) :
    (s.fold max ⊥ z = ⊥ ∨ ∃ r : ℝ, s.fold max ⊥ z = (r : EReal)) ∧ s.fold max ⊥ (fun j => z j * (c : EReal)) = s.fold max ⊥ z * (c : EReal) := by
  have hb : (⊥ : EReal) * (c : EReal) = ⊥ := EReal.bot_mul_coe_of_pos hc
  have hm : ∀ x y : EReal, max (x * (c : EReal)) (y * (c : EReal)) = max x y * (c : EReal) := by
    intro x y
    have hmono : Monotone fun u : EReal => u * (c : EReal) := fun a b h => mul_le_mul_of_nonneg_right h (by exact_mod_cast hc.le)
    exact (hmono.map_max (a := x) (b := y)).symm
  induction s using Finset.induction_on with
  | empty => exact ⟨.inl rfl, by simp [hb]⟩
  | insert a s ha ih =>
    obtain ⟨h1, h2⟩ := ih
    rw [Finset.fold_insert ha, Finset.fold_insert ha, h2, hm]
    refine ⟨?_, rfl⟩
    rcases max_choice (z a) (s.fold max ⊥ z) with h | h <;> rw [h]
    · exact hz a
    · exact h1

/-- A nonnegative real factor moves into a sum of extended reals. -/
theorem sum_mul_real {ι : Type} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- A sum of reals is the real sum. -/
theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- The two ways agree: scores and sink finite (or masked), the kernel's scores being the reference's over `log 2`; the
    values need only agree where the score is not masked, and may be infinite. -/
theorem attn2_eq_attnE (z z2 v v2 : Fin 256 → EReal) (k : ℝ) (hz : ∀ j, z j = ⊥ ∨ ∃ r : ℝ, z j = (r : EReal))
    (hz2 : ∀ j, z2 j = z j * (((Real.log 2)⁻¹ : ℝ) : EReal)) (hv : ∀ j, z j ≠ ⊥ → v2 j = v j) : attn2 z2 v2 (k : EReal) = attnE z v (k : EReal) := by
  have hl : 0 < Real.log 2 := Real.log_pos (by norm_num)
  have hc : 0 < (Real.log 2)⁻¹ := inv_pos.2 hl
  obtain ⟨hf, hs⟩ := fold_max_scale (Real.log 2)⁻¹ hc Finset.univ z hz
  have hz2' : z2 = fun j => z j * (((Real.log 2)⁻¹ : ℝ) : EReal) := funext hz2
  -- the largest is a real number
  obtain ⟨τ, hτ⟩ : ∃ τ : ℝ, max (Finset.univ.fold max ⊥ z) (k : EReal) = (τ : EReal) := by
    rcases hf with h | ⟨r, h⟩ <;> rw [h]
    · exact ⟨k, by simp⟩
    · exact ⟨max r k, (EReal.coe_strictMono.monotone.map_max (a := r) (b := k)).symm⟩
  have hτ2 : max (Finset.univ.fold max ⊥ z2) ((k : EReal) * (((Real.log 2)⁻¹ : ℝ) : EReal)) = ((τ * (Real.log 2)⁻¹ : ℝ) : EReal) := by
    have hmono : Monotone fun u : EReal => u * (((Real.log 2)⁻¹ : ℝ) : EReal) := fun a b h => mul_le_mul_of_nonneg_right h (by exact_mod_cast hc.le)
    rw [hz2', hs, EReal.coe_mul, ← hτ]
    exact (hmono.map_max (a := Finset.univ.fold max ⊥ z) (b := (k : EReal))).symm
  have hr : ∀ r : ℝ, Ideal.exp2 ((r : EReal) * (((Real.log 2)⁻¹ : ℝ) : EReal) - ((τ * (Real.log 2)⁻¹ : ℝ) : EReal)) = ((Real.exp (r - τ) : ℝ) : EReal) := by
    intro r
    rw [← EReal.coe_mul, ← EReal.coe_sub, Ideal.exp2_coe]
    congr 1
    refine (Real.rpow_def_of_pos (by norm_num : (0 : ℝ) < 2) _).trans ?_
    congr 1
    field_simp
  have hre : ∀ r : ℝ, Ideal.exp ((r : EReal) - (τ : EReal)) = ((Real.exp (r - τ) : ℝ) : EReal) := by
    intro r
    rw [← EReal.coe_sub, Ideal.exp_coe]
  -- each weight, once for both
  obtain ⟨p, hp0, hpE, hp2, hpz⟩ : ∃ p : Fin 256 → ℝ, (∀ j, 0 ≤ p j) ∧ (∀ j, Ideal.exp (z j - (τ : EReal)) = (p j : EReal))
      ∧ (∀ j, Ideal.exp2 (z2 j - ((τ * (Real.log 2)⁻¹ : ℝ) : EReal)) = (p j : EReal)) ∧ ∀ j, z j = ⊥ → p j = 0 := by
    have : ∀ j, ∃ x : ℝ, 0 ≤ x ∧ Ideal.exp (z j - (τ : EReal)) = (x : EReal) ∧ Ideal.exp2 (z2 j - ((τ * (Real.log 2)⁻¹ : ℝ) : EReal)) = (x : EReal) ∧ (z j = ⊥ → x = 0) := by
      intro j
      rcases hz j with h | ⟨r, h⟩
      · refine ⟨0, le_rfl, ?_, ?_, fun _ => rfl⟩
        · rw [h, EReal.bot_sub]; rfl
        · rw [hz2, h, EReal.bot_mul_coe_of_pos hc, EReal.bot_sub]; rfl
      · refine ⟨Real.exp (r - τ), (Real.exp_pos _).le, by rw [h, hre], by rw [hz2, h, hr], fun h' => ?_⟩
        rw [h] at h'; exact absurd h' (EReal.coe_ne_bot r)
    choose p h1 h2 h3 h4 using this
    exact ⟨p, h1, h2, h3, h4⟩
  have hD : 0 < (∑ j, p j) + Real.exp (k - τ) := add_pos_of_nonneg_of_pos (Finset.sum_nonneg fun j _ => hp0 j) (Real.exp_pos _)
  have hdiv : ∀ x : EReal, Ideal.div x (((∑ j, p j) + Real.exp (k - τ) : ℝ) : EReal) = x * ((((∑ j, p j) + Real.exp (k - τ))⁻¹ : ℝ) : EReal) := by
    intro x
    have h0 : (((∑ j, p j) + Real.exp (k - τ) : ℝ) : EReal) ≠ 0 := by exact_mod_cast hD.ne'
    unfold Ideal.div
    rw [if_neg h0, EReal.coe_inv]
  unfold attn2 attnE
  simp only [hτ, hτ2, hpE, hp2, hr, hre, sum_coe, ← EReal.coe_add, hdiv, one_mul]
  rw [sum_mul_real _ _ _ (inv_pos.2 hD).le]
  refine Finset.sum_congr rfl fun j _ => ?_
  by_cases h : z j = ⊥
  · rw [hpz j h]; simp
  · rw [hv j h, mul_assoc]

end Cert.Attn
-- ==== Proof.RefBlock.lean ====
/- The reference's attention, cut into its steps and read at an index. -/
module

public import proofs.«01_k».proof.Proof.Gen.ReferenceIdeal.Run
public import proofs.«01_k».proof.Proof.Gen.ReferenceIdeal
public import Idealize.ShloMosaic.Lib.Pointwise
public import Idealize.ShloMosaic.Lib.WordCmp

@[expose] public section

set_option maxRecDepth 8192

noncomputable section

namespace Cert.Attn.Ref

open Idealize.ShloMosaic Idealize.ShloMosaic.TcCoe Idealize.SL.Sem
open Cert.ReferenceIdeal Cert.ReferenceIdeal.Gen Cert.ReferenceIdeal.Value WordCmp

/-- Keys or values by blocks of 128, each with the block before it in front (zeros before the first). -/
def bandR (k : FVec Ideal S4x4096x4x64 .f32) : FVec Ideal S4x32x256x4x64 .f32 :=
  concatenate S4x32x256x4x64 2
    [⟨S4x32x128x4x64, extractStridedSlice S4x32x128x4x64 ![0, 0, 0, 0, 0]
        (pad S4x33x128x4x64 ![0, 1, 0, 0, 0] ![0, 0, 0, 0, 0] ![0, 0, 0, 0, 0] (shapeCast S4x32x128x4x64 k shapeCasts_S4x4096x4x64_S4x32x128x4x64) (sitofp .f32 (constantI S_ 32 0#32))
          pads_S4x32x128x4x64_S4x33x128x4x64_000_100_000_000_000 h_S_) slices_S4x33x128x4x64_S4x32x128x4x64_0_0_0_0_0⟩,
     ⟨S4x32x128x4x64, shapeCast S4x32x128x4x64 k shapeCasts_S4x4096x4x64_S4x32x128x4x64⟩] concatenates_S4x32x128x4x64_S4x32x128x4x64_S4x32x256x4x64_d2

/-- Which keys of a block's band a query sees. -/
def maskR : IVec S32x128x256 1 :=
  andi (broadcastInDim S32x128x256 ![0, 1, 2] bcast_S1x128x256_S32x128x256_0_1_2 (broadcastInDim S1x128x256 ![1, 2] bcast_S128x256_S1x128x256_1_2
      (andi (cmpi .sle (broadcastInDim S128x256 ![0, 1] bcast_S1x256_S128x256_0_1 (broadcastInDim S1x256 ![1] bcast_S256_S1x256_1 (iotaInDim S256 32 0)))
          (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))))
        (cmpi .sgt (broadcastInDim S128x256 ![0, 1] bcast_S1x256_S128x256_0_1 (broadcastInDim S1x256 ![1] bcast_S256_S1x256_1 (iotaInDim S256 32 0)))
          (broadcastInDim S128x256 ![0, 1] bcast_S128x1_S128x256_0_1 (subi (addi (broadcastInDim S128x1 ![] bcast_S_S128x1 (constantI S_ 32 128#32)) (broadcastInDim S128x1 ![0] bcast_S128_S128x1_0 (iotaInDim S128 32 0)))
            (broadcastInDim S128x1 ![] bcast_S_S128x1 (constantI S_ 32 128#32))))))))
    (broadcastInDim S32x128x256 ![0, 1, 2] bcast_S32x1x256_S32x128x256_0_1_2 (broadcastInDim S32x1x256 ![0, 2] bcast_S32x256_S32x1x256_0_2
      (cmpi .sge (subi (addi (broadcastInDim S32x256 ![0, 1] bcast_S32x1_S32x256_0_1 (muli (broadcastInDim S32x1 ![0] bcast_S32_S32x1_0 (iotaInDim S32 32 0)) (broadcastInDim S32x1 ![] bcast_S_S32x1 (constantI S_ 32 128#32))))
            (broadcastInDim S32x256 ![0, 1] bcast_S1x256_S32x256_0_1 (broadcastInDim S1x256 ![1] bcast_S256_S1x256_1 (iotaInDim S256 32 0))))
          (broadcastInDim S32x256 ![] bcast_S_S32x256 (constantI S_ 32 128#32))) (broadcastInDim S32x256 ![] bcast_S_S32x256 (constantI S_ 32 0#32)))))

/-- The masked scores, scaled by 1/8. -/
def scoreR (q : FVec Ideal S4x4096x32x64 .f32) (k : FVec Ideal S4x4096x4x64 .f32) : FVec Ideal S4x32x4x8x128x256 .f32 :=
  select (broadcastInDim S4x32x4x8x128x256 ![0, 1, 2, 3, 4, 5] bcast_S1x32x1x1x128x256_S4x32x4x8x128x256_0_1_2_3_4_5 (broadcastInDim S1x32x1x1x128x256 ![1, 4, 5] bcast_S32x128x256_S1x32x1x1x128x256_1_4_5 maskR))
    (mulf (transpose S4x32x4x8x128x256 [0, 1, 2, 5, 4, 3] (Host.dotGeneral dot_S4x32x256x4x64_S4x32x128x4x8x64_S4x32x4x256x128x8_4_5_2_24_013_013 none (bandR k)
        (shapeCast S4x32x128x4x8x64 q shapeCasts_S4x4096x32x64_S4x32x128x4x8x64)) transposes_S4x32x4x256x128x8_S4x32x4x8x128x256_0_1_2_5_4_3)
      (broadcastInDim S4x32x4x8x128x256 ![] bcast_S_S4x32x4x8x128x256 (constant S_ .f32 0x3E000000#32)))
    (broadcastInDim S4x32x4x8x128x256 ![] bcast_S_S4x32x4x8x128x256 (id (constant S_ .f32 0xFF800000#32)))

/-- The sinks, one for each head. -/
def sinkR (s : FVec Ideal S32 .f32) : FVec Ideal S4x32x4x8x128x1 .f32 :=
  broadcastInDim S4x32x4x8x128x1 ![0, 1, 2, 3, 4, 5] bcast_S1x1x4x8x1x1_S4x32x4x8x128x1_0_1_2_3_4_5 (broadcastInDim S1x1x4x8x1x1 ![2, 3] bcast_S4x8_S1x1x4x8x1x1_2_3 (shapeCast S4x8 s shapeCasts_S32_S4x8))

/-- The largest of a query's scores and its sink. -/
def topR (z : FVec Ideal S4x32x4x8x128x256 .f32) (s : FVec Ideal S32 .f32) : FVec Ideal S4x32x4x8x128x1 .f32 :=
  maximumf (broadcastInDim S4x32x4x8x128x1 ![0, 1, 2, 3, 4] bcast_S4x32x4x8x128_S4x32x4x8x128x1_0_1_2_3_4
    (Host.reduce FloatOps.maximumf z (constant S_ .f32 0xFF800000#32) reducesTo_S4x32x4x8x128x256_S4x32x4x8x128_d5 h_S_)) (sinkR s)

/-- The weights before the division. -/
def weightR (z : FVec Ideal S4x32x4x8x128x256 .f32) (s : FVec Ideal S32 .f32) : FVec Ideal S4x32x4x8x128x256 .f32 :=
  Host.exp (subf z (broadcastInDim S4x32x4x8x128x256 ![0, 1, 2, 3, 4, 5] bcast_S4x32x4x8x128x1_S4x32x4x8x128x256_0_1_2_3_4_5 (topR z s)))

/-- The sum of a query's weights, the sink's among them. -/
def denomR (z : FVec Ideal S4x32x4x8x128x256 .f32) (s : FVec Ideal S32 .f32) : FVec Ideal S4x32x4x8x128x1 .f32 :=
  addf (broadcastInDim S4x32x4x8x128x1 ![0, 1, 2, 3, 4] bcast_S4x32x4x8x128_S4x32x4x8x128x1_0_1_2_3_4
      (Host.reduceAdd (weightR z s) (constant S_ .f32 0x00000000#32) reducesTo_S4x32x4x8x128x256_S4x32x4x8x128_d5 h_S_)) (Host.exp (subf (sinkR s) (topR z s)))

/-- The attention by blocks: features before heads before queries. -/
def mixR (z : FVec Ideal S4x32x4x8x128x256 .f32) (v : FVec Ideal S4x4096x4x64 .f32) (s : FVec Ideal S32 .f32) : FVec Ideal S4x32x4x64x8x128 .f32 :=
  Host.dotGeneral dot_S4x32x256x4x64_S4x32x4x8x128x256_S4x32x4x64x8x128_2_5_4_34_013_012 none (bandR v)
    (Host.divf (weightR z s) (broadcastInDim S4x32x4x8x128x256 ![0, 1, 2, 3, 4, 5] bcast_S4x32x4x8x128x1_S4x32x4x8x128x256_0_1_2_3_4_5 (denomR z s)))

/-- The attention, one row for each query. -/
def attR (q : FVec Ideal S4x4096x32x64 .f32) (k v : FVec Ideal S4x4096x4x64 .f32) (s : FVec Ideal S32 .f32) : FVec Ideal S16384x2048 .bf16 :=
  truncf .bf16 (shapeCast S16384x2048 (shapeCast S4x4096x2048 (transpose S4x32x128x4x8x64 [0, 1, 5, 2, 4, 3] (mixR (scoreR q k) v s) transposes_S4x32x4x64x8x128_S4x32x128x4x8x64_0_1_5_2_4_3)
    shapeCasts_S4x32x128x4x8x64_S4x4096x2048) shapeCasts_S4x4096x2048_S16384x2048) bitsLt_bf16_f32

theorem res_eq (m : (ℓ : Loc nD τ sig) → Buf (Elt Ideal) ℓ) (c : Dev nD) :
    res_main_v84 (F := Ideal) m c = concatenate S16384x2048 0
      [⟨S8192x2048, extractStridedSlice S8192x2048 ![0, 0] (m ((c.tc : Thread nD τ).loc main_arg6)) slices_S16384x2048_S8192x2048_0_0⟩,
       ⟨S8192x2048, extractStridedSlice S8192x2048 ![8192, 0]
          (attR (m ((c.tc : Thread nD τ).loc main_arg2)) (m ((c.tc : Thread nD τ).loc main_arg3)) (m ((c.tc : Thread nD τ).loc main_arg4)) (m ((c.tc : Thread nD τ).loc main_arg5)))
          slices_S16384x2048_S8192x2048_8192_0⟩] concatenates_S8192x2048_S8192x2048_S16384x2048_d0 := rfl

/-- The bit pattern of `-∞`. -/
theorem neg_inf_bits : Ideal.ofBits .f32 0xFF800000#32 = (⊥ : EReal) := by
  simp [Ideal.ofBits, Ideal.ieee]

/-- The indices that a reduction over the keys gathers at one query of one head. -/
theorem fiber6 (b : Fin 4) (n : Fin 32) (g : Fin 4) (e : Fin 8) (l : Fin 128) (i : S4x32x4x8x128x256.Idx) :
    reducesTo_S4x32x4x8x128x256_S4x32x4x8x128_d5.drop i = (ix5 b n g e l : S4x32x4x8x128.Idx) ↔ ∃ k : Fin 256, (ix6 b n g e l k : S4x32x4x8x128x256.Idx) = i := by
  constructor
  · intro h
    refine ⟨i 5, ?_⟩
    funext a
    apply Fin.ext
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => exact (congrArg Fin.val (congrFun h 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem bandR_at (k : FVec Ideal S4x4096x4x64 .f32) (b : Fin 4) (n : Fin 32) (j : Fin 256) (g : Fin 4) (d : Fin 64) :
    bandR k (ix5 b n j g d : S4x32x256x4x64.Idx)
      = if h : 128 ≤ 128 * (n : ℕ) + (j : ℕ) then k (ix4 b ⟨128 * (n : ℕ) + (j : ℕ) - 128, by omega⟩ g d) else 0 := by
  have h0 : (FloatOps.sitofp .f32 0#32 : Ideal .f32) = 0 := by
    simp [FloatOps.sitofp]
  pointwise [bandR]
  rw [h0]
  have hn := n.isLt
  have hj := j.isLt
  by_cases h1 : (j : ℕ) < 128
  · by_cases h2 : 1 ≤ (n : ℕ)
    · rw [dif_pos h1, dif_pos ⟨⟨h2, by omega⟩, h1⟩, dif_pos (by omega)]
      exact congrArg k ((ix4_inj ..).2 ⟨rfl, Fin.ext (by simp only []; omega), rfl, rfl⟩)
    · rw [dif_pos h1, dif_neg (by omega), dif_neg (by omega)]
  · rw [dif_neg h1, dif_pos (by omega)]
    exact congrArg k ((ix4_inj ..).2 ⟨rfl, Fin.ext (by simp only []; omega), rfl, rfl⟩)

theorem maskR_at (n : Fin 32) (l : Fin 128) (j : Fin 256) :
    maskR (ix3 n l j : S32x128x256.Idx) = 1#1 ↔ (j : ℕ) ≤ 128 + (l : ℕ) ∧ (l : ℕ) < j ∧ 128 ≤ 128 * (n : ℕ) + (j : ℕ) := by
  have hs : ∀ l : Fin 128, IntOp.subi (IntOp.addi 128#32 (BitVec.ofNat 32 l)) 128#32 = BitVec.ofNat 32 l := by decide +kernel
  have ha : ∀ l : Fin 128, IntOp.addi 128#32 (BitVec.ofNat 32 l) = BitVec.ofNat 32 (128 + l) := by decide +kernel
  have hn : ∀ n : Fin 32, ∀ j : Fin 256, IntOp.cmpi .sge (IntOp.subi (IntOp.addi (IntOp.muli (BitVec.ofNat 32 n) 128#32) (BitVec.ofNat 32 j)) 128#32) 0#32 = 1#1
      ↔ 128 ≤ 128 * (n : ℕ) + (j : ℕ) := by decide +kernel
  pointwise [maskR]
  rw [IntOp.andi_eq_one, IntOp.andi_eq_one, hn, hs, ha, cmpi_sle_ofNat_eq_one_iff (by omega) (by omega), cmpi_sgt_ofNat_eq_one_iff (by omega) (by omega), and_assoc]

theorem scoreR_at (q : FVec Ideal S4x4096x32x64 .f32) (k : FVec Ideal S4x4096x4x64 .f32) (b : Fin 4) (n : Fin 32) (g : Fin 4) (e : Fin 8) (l : Fin 128) (j : Fin 256) :
    scoreR q k (ix6 b n g e l j : S4x32x4x8x128x256.Idx)
      = Scalar.select (maskR (ix3 n l j : S32x128x256.Idx))
          ((∑ d : Fin 64, bandR k (ix5 b n j g d : S4x32x256x4x64.Idx) * q (ix4 b ⟨128 * (n : ℕ) + l, by omega⟩ ⟨8 * (g : ℕ) + e, by omega⟩ d)) * Ideal.ofBits .f32 0x3E000000#32) ⊥ := by
  have hb : (id (constant (F := Ideal) S_ .f32 0xFF800000#32)) ix0 = (⊥ : EReal) := neg_inf_bits
  pointwise [scoreR]
  rw [hb]
  congr 2
  refine Finset.sum_congr rfl fun d _ => congrArg _ (congrArg q ((ix4_inj ..).2 ⟨rfl, Fin.ext ?_, Fin.ext ?_, rfl⟩)) <;> simp only [] <;> omega

theorem sinkR_at (s : FVec Ideal S32 .f32) (b : Fin 4) (n : Fin 32) (g : Fin 4) (e : Fin 8) (l : Fin 128) :
    sinkR s (ix6 b n g e l 0 : S4x32x4x8x128x1.Idx) = s (ix1 ⟨8 * (g : ℕ) + e, by omega⟩) := by
  pointwise [sinkR]
  refine congrArg s ((ix1_inj ..).2 (Fin.ext ?_))
  simp only []; omega

theorem max_at {s : Shape} (x y : FVec Ideal s .f32) (i : s.Idx) : maximumf x y i = max (x i : EReal) (y i) := rfl

theorem fold_max (w : EReal) (f : Fin 256 → EReal) :
    (Finset.univ : Finset (Fin 256)).fold (FloatOps.maximumf (F := Ideal) (φ := .f32)) w f = (Finset.univ : Finset (Fin 256)).fold max w f := rfl

/-- The largest of a query's scores, from a given start. -/
theorem reduceMax_at (z : FVec Ideal S4x32x4x8x128x256 .f32) (w : FVec Ideal S_ .f32) (b : Fin 4) (n : Fin 32) (g : Fin 4) (e : Fin 8) (l : Fin 128) :
    Host.reduce FloatOps.maximumf z w reducesTo_S4x32x4x8x128x256_S4x32x4x8x128_d5 h_S_ (ix5 b n g e l : S4x32x4x8x128.Idx)
      = (Finset.univ : Finset (Fin 256)).fold FloatOps.maximumf (w (Shape.Idx.first h_S_)) fun j : Fin 256 => z (ix6 b n g e l j : S4x32x4x8x128x256.Idx) :=
  (Host.reduce_eq_fold FloatOps.maximumf z w reducesTo_S4x32x4x8x128x256_S4x32x4x8x128_d5 h_S_ (ix5 b n g e l)).trans
    (Finset.fold_filter_eq_fold_of_fiber FloatOps.maximumf _ (fun k : Fin 256 => (ix6 b n g e l k : S4x32x4x8x128x256.Idx)) (fun _ _ h => congrFun h 5) (fun i => fiber6 b n g e l i) _ z)

theorem topR_at (z : FVec Ideal S4x32x4x8x128x256 .f32) (s : FVec Ideal S32 .f32) (b : Fin 4) (n : Fin 32) (g : Fin 4) (e : Fin 8) (l : Fin 128) :
    topR z s (ix6 b n g e l 0 : S4x32x4x8x128x1.Idx) = max (Finset.univ.fold max ⊥ fun j : Fin 256 => z (ix6 b n g e l j : S4x32x4x8x128x256.Idx)) (sinkR s (ix6 b n g e l 0 : S4x32x4x8x128x1.Idx)) := by
  have hx : ∀ x : FVec Ideal S4x32x4x8x128 .f32, broadcastInDim S4x32x4x8x128x1 ![0, 1, 2, 3, 4] bcast_S4x32x4x8x128_S4x32x4x8x128x1_0_1_2_3_4 x
      (ix6 b n g e l 0 : S4x32x4x8x128x1.Idx) = x (ix5 b n g e l) := by
    intro x
    pointwise
  have hw : constant (F := Ideal) S_ .f32 0xFF800000#32 (Shape.Idx.first h_S_) = (⊥ : EReal) := neg_inf_bits
  unfold topR
  rw [max_at, hx, reduceMax_at, hw, fold_max]

theorem weightR_at (z : FVec Ideal S4x32x4x8x128x256 .f32) (s : FVec Ideal S32 .f32) (b : Fin 4) (n : Fin 32) (g : Fin 4) (e : Fin 8) (l : Fin 128) (j : Fin 256) :
    weightR z s (ix6 b n g e l j : S4x32x4x8x128x256.Idx) = Ideal.exp (z (ix6 b n g e l j : S4x32x4x8x128x256.Idx) - topR z s (ix6 b n g e l 0 : S4x32x4x8x128x1.Idx)) := by
  pointwise [weightR]

theorem denomR_at (z : FVec Ideal S4x32x4x8x128x256 .f32) (s : FVec Ideal S32 .f32) (b : Fin 4) (n : Fin 32) (g : Fin 4) (e : Fin 8) (l : Fin 128) :
    denomR z s (ix6 b n g e l 0 : S4x32x4x8x128x1.Idx) = (∑ j : Fin 256, weightR z s (ix6 b n g e l j : S4x32x4x8x128x256.Idx))
      + Ideal.exp (sinkR s (ix6 b n g e l 0 : S4x32x4x8x128x1.Idx) - topR z s (ix6 b n g e l 0 : S4x32x4x8x128x1.Idx)) := by
  pointwise [denomR]
  refine congrArg (· + _) ?_
  rw [Ideal.hostReduceAdd]
  refine (zero_add _).trans ?_
  exact Finset.sum_filter_eq_sum_of_fiber _ (fun k : Fin 256 => (ix6 b n g e l k : S4x32x4x8x128x256.Idx)) (fun _ _ h => congrFun h 5) (fun i => fiber6 b n g e l i) _

theorem mixR_at (z : FVec Ideal S4x32x4x8x128x256 .f32) (v : FVec Ideal S4x4096x4x64 .f32) (s : FVec Ideal S32 .f32) (b : Fin 4) (n : Fin 32) (g : Fin 4) (d : Fin 64) (e : Fin 8) (l : Fin 128) :
    mixR z v s (ix6 b n g d e l : S4x32x4x64x8x128.Idx) = ∑ j : Fin 256, bandR v (ix5 b n j g d : S4x32x256x4x64.Idx)
      * Ideal.div (weightR z s (ix6 b n g e l j : S4x32x4x8x128x256.Idx)) (denomR z s (ix6 b n g e l 0 : S4x32x4x8x128x1.Idx)) := by
  pointwise [mixR]

theorem attR_at (q : FVec Ideal S4x4096x32x64 .f32) (k v : FVec Ideal S4x4096x4x64 .f32) (s : FVec Ideal S32 .f32) (b : Fin 4) (n : Fin 32) (g : Fin 4) (d : Fin 64) (e : Fin 8) (l : Fin 128)
    (R : Fin 16384) (C : Fin 2048) (hR : (R : ℕ) = 4096 * (b : ℕ) + 128 * (n : ℕ) + l) (hC : (C : ℕ) = 512 * (g : ℕ) + 64 * (e : ℕ) + d) :
    attR q k v s (ix2 R C : S16384x2048.Idx) = mixR (scoreR q k) v s (ix6 b n g d e l : S4x32x4x64x8x128.Idx) := by
  pointwise [attR]
  refine congrArg _ ((ix6_inj ..).2 ⟨Fin.ext ?_, Fin.ext ?_, Fin.ext ?_, Fin.ext ?_, Fin.ext ?_, Fin.ext ?_⟩) <;> simp only [] <;> omega

end Cert.Attn.Ref
-- ==== Proof.Agree.lean ====
/- The kernel's attention block against the reference's attention, on the same queries, keys, values and sinks. -/
module

public import proofs.«01_k».proof.Proof.KernelArray
public import proofs.«01_k».proof.Proof.SinkSoftmax
public import proofs.«01_k».proof.Proof.RefBlock

@[expose] public section

set_option maxRecDepth 4096

noncomputable section

namespace Cert.Attn

open Idealize.ShloMosaic

theorem eighth_bits : Ideal.ofBits .f32 0x3E000000#32 = ((1 / 8 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

/-- The packed queries' factor as a real number. -/
theorem qScale_eq : qScale = ((1 / 8 * (Real.log 2)⁻¹ : ℝ) : EReal) := by
  have hl : 0 < Real.log 2 := Real.log_pos (by norm_num)
  unfold qScale
  rw [eighth_bits, two_bits, Ideal.log_coe, if_neg (by norm_num), Ideal.div_coe hl.ne', ← EReal.coe_mul, one_div (Real.log 2)]

/-- A score with the factor on the queries, from the score with `1/8` behind it. -/
theorem score_scale (x y : Fin 64 → ℝ) :
    (∑ d, (x d : EReal) * ((y d : EReal) * qScale)) = ((∑ d, (x d : EReal) * (y d : EReal)) * Ideal.ofBits .f32 0x3E000000#32) * (((Real.log 2)⁻¹ : ℝ) : EReal) := by
  rw [qScale_eq, eighth_bits]
  simp only [← EReal.coe_mul, sum_coe]
  congr 1
  rw [Finset.sum_mul, Finset.sum_mul]
  exact Finset.sum_congr rfl fun d _ => by ring

theorem select_one {c : BitVec 1} (h : c = 1#1) (x y : EReal) : Scalar.select c x y = x := if_pos h

theorem select_zero {c : BitVec 1} (h : ¬ c = 1#1) (x y : EReal) : Scalar.select c x y = y := if_neg h

theorem mixR_eq (z : FVec Ideal Cert.ReferenceIdeal.S4x32x4x8x128x256 .f32) (v : FVec Ideal Cert.ReferenceIdeal.S4x4096x4x64 .f32) (s : FVec Ideal Cert.ReferenceIdeal.S32 .f32)
    (b : Fin 4) (n : Fin 32) (g : Fin 4) (d : Fin 64) (e : Fin 8) (l : Fin 128) :
    Ref.mixR z v s (ix6 b n g d e l : Cert.ReferenceIdeal.S4x32x4x64x8x128.Idx)
      = attnE (fun j => z (ix6 b n g e l j : Cert.ReferenceIdeal.S4x32x4x8x128x256.Idx)) (fun j => Ref.bandR v (ix5 b n j g d : Cert.ReferenceIdeal.S4x32x256x4x64.Idx))
          (s (ix1 ⟨8 * (g : ℕ) + e, by omega⟩)) := by
  rw [Ref.mixR_at]
  simp only [Ref.weightR_at, Ref.denomR_at, Ref.topR_at, Ref.sinkR_at]
  rfl

/-- The band that a step loads is a stretch of the packed array's rows, from 128 rows before the step's own. Only where a block
    before the first is asked for, it's another one. -/
theorem band_packed (P : (⟨2, ![16384, 2560]⟩ : Shape).Idx → EReal) (o t : ℕ) (ht : o + 256 * t + 256 ≤ 16384) (h128 : (o + 256 * t) % 128 = 0) (kvp : Cert.KernelIdeal.S128x512.Idx → EReal) (kvc : Cert.KernelIdeal.S256x512.Idx → EReal)
    (hp : ∀ (h : 128 ≤ o + 256 * t) (r : Fin 128) (w : Fin 512), kvp (ix2 r w) = P (ix2 ⟨o + 256 * t - 128 + r, by omega⟩ ⟨2048 + w, by omega⟩))
    (hc : ∀ (r : Fin 256) (w : Fin 512), kvc (ix2 r w) = P (ix2 ⟨o + 256 * t + r, by omega⟩ ⟨2048 + w, by omega⟩)) (r : Fin 384) (w : Fin 512) (hr : 128 ≤ o + 256 * t + r) :
    band kvp kvc r w = P (ix2 ⟨o + 256 * t + r - 128, by omega⟩ ⟨2048 + w, by omega⟩) := by
  unfold band
  by_cases h : (r : ℕ) < 128
  · rw [dif_pos h, hp (by omega)]
    exact congrArg P ((ix2_inj ..).2 ⟨Fin.ext (by simp only []; omega), rfl⟩)
  · rw [dif_neg h, hc]
    exact congrArg P ((ix2_inj ..).2 ⟨Fin.ext (by simp only []; omega), rfl⟩)

/-- A step's attention is the reference's; `o` is the row that the call's first step begins with. -/
theorem blockAt_eq (q : FVec Ideal Cert.KernelIdeal.S4x4096x32x64 .f32) (k v : FVec Ideal Cert.KernelIdeal.S4x4096x4x64 .f32) (s : FVec Ideal Cert.KernelIdeal.S32 .f32)
    (hq : ∀ i, ∃ r : ℝ, q i = (r : EReal)) (hk : ∀ i, ∃ r : ℝ, k i = (r : EReal)) (hs : ∀ i, ∃ r : ℝ, s i = (r : EReal))
    (o t : ℕ) (ho : o % 4096 = 0) (ht : o + 256 * t + 256 ≤ 16384) (sk : Cert.KernelIdeal.S32.Idx → EReal) (Q : Cert.KernelIdeal.S256x2048.Idx → EReal) (kvp : Cert.KernelIdeal.S128x512.Idx → EReal) (kvc : Cert.KernelIdeal.S256x512.Idx → EReal)
    (hsk : ∀ h : Fin 32, sk (ix1 h) = s (ix1 h))
    (hQ : ∀ (r : Fin 256) (w : Fin 2048), Q (ix2 r w) = packed q k v (ix2 ⟨o + 256 * t + r, by omega⟩ ⟨w, by omega⟩))
    (hp : ∀ (h : 128 ≤ o + 256 * t) (r : Fin 128) (w : Fin 512), kvp (ix2 r w) = packed q k v (ix2 ⟨o + 256 * t - 128 + r, by omega⟩ ⟨2048 + w, by omega⟩))
    (hc : ∀ (r : Fin 256) (w : Fin 512), kvc (ix2 r w) = packed q k v (ix2 ⟨o + 256 * t + r, by omega⟩ ⟨2048 + w, by omega⟩))
    (a : Fin 256) (C : Fin 2048) (R : Fin 16384) (hR : (R : ℕ) = o + 256 * t + a) :
    blockAt t sk Q kvp kvc a C = Ref.attR q k v s (ix2 R C) := by
  have hC := C.isLt
  have ha := a.isLt
  obtain ⟨b, hb⟩ : ∃ b : Fin 4, (b : ℕ) = R / 4096 := ⟨⟨(R : ℕ) / 4096, by omega⟩, rfl⟩
  obtain ⟨n, hn⟩ : ∃ n : Fin 32, (n : ℕ) = R / 128 % 32 := ⟨⟨(R : ℕ) / 128 % 32, by omega⟩, rfl⟩
  obtain ⟨l, hl⟩ : ∃ l : Fin 128, (l : ℕ) = a % 128 := ⟨⟨(a : ℕ) % 128, by omega⟩, rfl⟩
  obtain ⟨g, hg⟩ : ∃ g : Fin 4, (g : ℕ) = C / 512 := ⟨⟨(C : ℕ) / 512, by omega⟩, rfl⟩
  obtain ⟨e, he⟩ : ∃ e : Fin 8, (e : ℕ) = C / 64 % 8 := ⟨⟨(C : ℕ) / 64 % 8, by omega⟩, rfl⟩
  obtain ⟨d, hd⟩ : ∃ d : Fin 64, (d : ℕ) = C % 64 := ⟨⟨(C : ℕ) % 64, by omega⟩, rfl⟩
  have hn' : (n : ℕ) = (64 + 2 * t + a / 128) % 32 := by omega
  have hR' : (R : ℕ) = 4096 * (b : ℕ) + 128 * (n : ℕ) + l := by omega
  have hC' : (C : ℕ) = 512 * (g : ℕ) + 64 * (e : ℕ) + d := by omega
  rw [Ref.attR_at q k v s b n g d e l R C hR' hC', mixR_eq]
  have hband := band_packed (packed q k v) o t ht (by omega) kvp kvc hp hc
  -- keys and values of the band where the mask keeps them
  have hkey : ∀ (j : Fin 256) (d : Fin 64), 128 ≤ 128 * (n : ℕ) + j →
      band kvp kvc ⟨128 * ((a : ℕ) / 128) + j, by omega⟩ ⟨64 * ((C : ℕ) / 512) + d, by omega⟩ = Ref.bandR k (ix5 b n j g d) := by
    intro j d hj
    rw [hband _ _ (by simp only []; omega), Ref.bandR_at, dif_pos hj]
    exact packed_k q k v b ⟨128 * (n : ℕ) + j - 128, by omega⟩ g d _ _ (by simp only []; omega) (by simp only []; omega)
  have hval : ∀ j : Fin 256, 128 ≤ 128 * (n : ℕ) + j →
      band kvp kvc ⟨128 * ((a : ℕ) / 128) + j, by omega⟩ ⟨256 + 64 * ((C : ℕ) / 512) + (C : ℕ) % 64, by omega⟩ = Ref.bandR v (ix5 b n j g d) := by
    intro j hj
    rw [hband _ _ (by simp only []; omega), Ref.bandR_at, dif_pos hj]
    exact packed_v q k v b ⟨128 * (n : ℕ) + j - 128, by omega⟩ g d _ _ (by simp only []; omega) (by simp only []; omega)
  have hqry : ∀ d : Fin 64, Q (ix2 a ⟨64 * ((C : ℕ) / 64) + d, by omega⟩) = q (ix4 b ⟨128 * (n : ℕ) + l, by omega⟩ ⟨8 * (g : ℕ) + e, by omega⟩ d) * qScale := by
    intro d
    rw [hQ]
    exact packed_q q k v b ⟨128 * (n : ℕ) + l, by omega⟩ ⟨8 * (g : ℕ) + e, by omega⟩ d _ _ (by simp only []; omega) (by simp only []; omega)
  have hmask : ∀ j : Fin 256, ((j : ℕ) ≤ 128 + (a : ℕ) % 128 ∧ (a : ℕ) % 128 < j ∧ (128 ≤ (j : ℕ) ∨ 128 ≤ (a : ℕ) ∨ (64 + 2 * t) % 32 ≠ 0)) ↔ Ref.maskR (ix3 n l j) = 1#1 := by
    intro j
    rw [Ref.maskR_at]
    omega
  have hvalid : ∀ j : Fin 256, Ref.maskR (ix3 n l j) = 1#1 → 128 ≤ 128 * (n : ℕ) + j := fun j h => ((Ref.maskR_at n l j).1 h).2.2
  -- every key of the band is a real number
  have hkr : ∀ (j : Fin 256) (d : Fin 64), ∃ r : ℝ, Ref.bandR k (ix5 b n j g d) = (r : EReal) := by
    intro j d
    rw [Ref.bandR_at]
    split
    · exact hk _
    · exact ⟨0, EReal.coe_zero.symm⟩
  choose kr hkr using hkr
  choose qr hqr using hq
  obtain ⟨σ, hσ⟩ := hs (ix1 ⟨8 * (g : ℕ) + e, by omega⟩)
  have hsink : sk (ix1 ⟨(C : ℕ) / 64, by omega⟩) = (σ : EReal) := by
    rw [hsk, ← hσ]
    exact congrArg s ((ix1_inj ..).2 (Fin.ext (by simp only []; omega)))
  unfold blockAt
  rw [hsink]
  refine Eq.trans ?_ (congrArg (attnE _ _) hσ.symm)
  refine attn2_eq_attnE _ _ _ _ σ (fun j => ?_) (fun j => ?_) (fun j hj => ?_)
  · rw [Ref.scoreR_at]
    unfold Scalar.select
    split
    · refine .inr ⟨(∑ d : Fin 64, kr j d * qr (ix4 b ⟨128 * (n : ℕ) + l, by omega⟩ ⟨8 * (g : ℕ) + e, by omega⟩ d)) * (1 / 8), ?_⟩
      rw [eighth_bits, EReal.coe_mul, ← sum_coe]
      simp only [hkr, hqr, EReal.coe_mul]
    · exact .inl rfl
  · rw [Ref.scoreR_at]
    by_cases hm : Ref.maskR (ix3 n l j) = 1#1
    · rw [if_pos ((hmask j).2 hm), select_one hm]
      have hv := hvalid j hm
      simp only [hkey j _ hv, hqry, hkr, hqr]
      exact score_scale _ _
    · rw [if_neg (fun h => hm ((hmask j).1 h)), select_zero hm, EReal.bot_mul_coe_of_pos (inv_pos.2 (Real.log_pos (by norm_num)))]
  · refine hval j (hvalid j (by_contra fun hm => hj ?_))
    rw [Ref.scoreR_at]
    exact select_zero hm _ _

end Cert.Attn
-- ==== Proof.Result.lean ====
/- The kernel's two output arrays, and the reference's two. -/
module

public import proofs.«01_k».proof.Proof.GatesBlock
public import proofs.«01_k».proof.Proof.Agree
public import proofs.«01_k».proof.Proof.Gen.KernelIdeal.Value
public import Idealize.ShloMosaic.Lib.Pipeline.ValueKit.Partial

@[expose] public section

set_option maxRecDepth 4096

noncomputable section

namespace Cert.Attn.Ref

open Idealize.ShloMosaic Idealize.ShloMosaic.TcCoe Idealize.SL.Sem
open Cert.ReferenceIdeal Cert.ReferenceIdeal.Gen Cert.ReferenceIdeal.Value

/-- The reference's gates. -/
def gatesR (x : FVec Ideal S4x4096x2048 .f32) (w : FVec Ideal S2048x12800 .f32) : FVec Ideal S16384x4096 .bf16 :=
  truncf .bf16 (shapeCast S16384x4096 (Host.divf (broadcastInDim S4x4096x4096 ![] bcast_S_S4x4096x4096 (constant S_ .f32 0x3F800000#32))
    (addf (broadcastInDim S4x4096x4096 ![] bcast_S_S4x4096x4096 (constant S_ .f32 0x3F800000#32)) (Host.exp (Host.negf (Host.dotGeneral dot_S4x4096x2048_S2048x4096_S4x4096x4096_2_0_01_1_n_n none x
      (extractStridedSlice S2048x4096 ![0, 8704] w slices_S2048x12800_S2048x4096_0_8704)))))) shapeCasts_S4x4096x4096_S16384x4096) bitsLt_bf16_f32

theorem gatesR_at (x : FVec Ideal S4x4096x2048 .f32) (w : FVec Ideal S2048x12800 .f32) (b : Fin 4) (p : Fin 4096) (R : Fin 16384) (C : Fin 4096) (hR : (R : ℕ) = 4096 * (b : ℕ) + p) :
    gatesR x w (ix2 R C : S16384x4096.Idx) = Ideal.logistic (∑ d : Fin 2048, x (ix3 b p d : S4x4096x2048.Idx) * w (ix2 d ⟨8704 + C, by omega⟩ : S2048x12800.Idx)) := by
  have hp := p.isLt
  pointwise [gatesR]
  unfold Ideal.logistic
  refine congrArg (fun u => Ideal.div 1 (1 + Ideal.exp (-u))) (Finset.sum_congr rfl fun d _ => ?_)
  refine congrArg₂ (· * ·) (congrArg x ((ix3_inj ..).2 ⟨Fin.ext ?_, Fin.ext ?_, rfl⟩)) (congrArg w ((ix2_inj ..).2 ⟨rfl, Fin.ext ?_⟩)) <;> simp only [] <;> omega

/-- The reference's second result: `old` in the rows below 8192, the attention in the others. -/
def keepR (old att : FVec Ideal S16384x2048 .bf16) : FVec Ideal S16384x2048 .bf16 :=
  concatenate S16384x2048 0
      [⟨S8192x2048, extractStridedSlice S8192x2048 ![0, 0] old slices_S16384x2048_S8192x2048_0_0⟩,
       ⟨S8192x2048, extractStridedSlice S8192x2048 ![8192, 0] att slices_S16384x2048_S8192x2048_8192_0⟩] concatenates_S8192x2048_S8192x2048_S16384x2048_d0

theorem keepR_at (old att : FVec Ideal S16384x2048 .bf16) (R : Fin 16384) (C : Fin 2048) :
    keepR old att (ix2 R C : S16384x2048.Idx) = if 8192 ≤ (R : ℕ) then att (ix2 R C) else old (ix2 R C) := by
  pointwise [keepR]
  by_cases h : (R : ℕ) < 8192
  · refine (dif_pos h).trans (Eq.trans (congrArg old ((ix2_inj ..).2 ⟨Fin.ext ?_, Fin.ext ?_⟩)) (if_neg (by omega)).symm) <;> simp only [] <;> omega
  · refine (dif_neg h).trans (Eq.trans (congrArg att ((ix2_inj ..).2 ⟨Fin.ext ?_, Fin.ext ?_⟩)) (if_pos (by omega)).symm) <;> simp only [] <;> omega

end Cert.Attn.Ref

namespace Cert.Attn

open Idealize.ShloMosaic Idealize.ShloMosaic.TcCoe Idealize.SL.Sem
open Cert.KernelIdeal Cert.KernelIdeal.Gen

/-- The activations, one row for each token. -/
theorem rows_at (x : FVec Ideal S4x4096x2048 .f32) (b : Fin 4) (p : Fin 4096) (R : Fin 16384) (d : Fin 2048) (hR : (R : ℕ) = 4096 * (b : ℕ) + p) :
    truncf (F := Ideal) .bf16 (shapeCast S16384x2048 x shapeCasts_S4x4096x2048_S16384x2048) bitsLt_bf16_f32 (ix2 R d : S16384x2048.Idx) = x (ix3 b p d : S4x4096x2048.Idx) := by
  have hp := p.isLt
  pointwise
  refine congrArg x ((ix3_inj ..).2 ⟨Fin.ext ?_, Fin.ext ?_, Fin.ext ?_⟩) <;> simp only [] <;> omega

variable (m : (ℓ : Loc nD τ sig) → Buf (Elt Ideal) ℓ)

/-- The kernel's gates are the reference's. -/
theorem arr6 (c : Dev nD) : (dats m 0 c).arrAt 6 cfg0.N = (Ref.gatesR (m ((c.tc : Thread nD τ).loc main_arg0)) (m ((c.tc : Thread nD τ).loc main_arg1)) : S16384x4096.Idx → EReal) := by
  refine (dats m 0 c).arrAt_eq_of_covers 6 _ (by decide +kernel) fun t hf y => ?_
  have ht : t.val < 32 := t.isLt
  obtain ⟨a, b, rfl⟩ : ∃ (a : Fin 1024) (b : Fin 2048), y = (ix2 a b : S1024x2048.Idx) := ⟨y 0, y 1, (ix2_eta (y : S1024x2048.Idx)).symm⟩
  have e : ((cfg0.win 6).blk t).view.emb (ix2 a b : S1024x2048.Idx) = (ix2 ⟨1024 * (t.val / 2) + a, by omega⟩ ⟨2048 * (t.val % 2) + b, by omega⟩ : S16384x4096.Idx) := by
    blk_ext [idx0_6 t]
  rw [e]
  blk_simp
  refine (after6 m c t (ix2 a b)).trans ?_
  rw [Ref.gatesR_at _ _ ⟨(1024 * (t.val / 2) + a) / 4096, by omega⟩ ⟨(1024 * (t.val / 2) + a) % 4096, by omega⟩ _ _ (by simp only []; omega)]
  unfold gateAt
  refine congrArg Ideal.logistic (Finset.sum_congr rfl fun d _ => ?_)
  refine (congrArg₂ (fun u v : EReal => u * v) (blk1 m c t a d) (blk2 m c t d b)).trans ?_
  refine congrArg₂ (fun u v : EReal => u * v) ((congrFun (V_x m c) _).trans (rows_at _ _ _ _ _ (by simp only []; omega))) ((congrFun (V_w m c) _).trans (congrArg (m ((c.tc : Thread nD τ).loc main_arg1)) ((ix2_inj ..).2 ⟨rfl, Fin.ext ?_⟩)))
  simp only []; omega

/-- The kernel's second output is the reference's, where queries, keys and sinks are finite. -/
theorem arr7 (c : Dev nD) (hq : ∀ i, ∃ r : ℝ, (m ((c.tc : Thread nD τ).loc main_arg2) : FVec Ideal S4x4096x32x64 .f32) i = (r : EReal))
    (hk : ∀ i, ∃ r : ℝ, (m ((c.tc : Thread nD τ).loc main_arg3) : FVec Ideal S4x4096x4x64 .f32) i = (r : EReal))
    (hs : ∀ i, ∃ r : ℝ, (m ((c.tc : Thread nD τ).loc main_arg5) : FVec Ideal S32 .f32) i = (r : EReal)) :
    (dats m 0 c).arrAt 7 cfg0.N = (Ref.keepR (m ((c.tc : Thread nD τ).loc main_arg6))
      (Ref.attR (m ((c.tc : Thread nD τ).loc main_arg2)) (m ((c.tc : Thread nD τ).loc main_arg3)) (m ((c.tc : Thread nD τ).loc main_arg4)) (m ((c.tc : Thread nD τ).loc main_arg5))) : S16384x2048.Idx → EReal) := by
  have h : (dats m 0 c).arrAt 7 cfg0.N = fun i : S16384x2048.Idx => if 8192 ≤ (i 0 : ℕ) then
      (Ref.attR (m ((c.tc : Thread nD τ).loc main_arg2)) (m ((c.tc : Thread nD τ).loc main_arg3)) (m ((c.tc : Thread nD τ).loc main_arg4)) (m ((c.tc : Thread nD τ).loc main_arg5)) : S16384x2048.Idx → EReal) i
      else V m c main_v12_1 i := by
    refine (dats m 0 c).arrAt_eq_of_coversWhere 7 _ (fun β => 32 ≤ β 0) (by decide +kernel) (fun t hf y => ?_) (fun j => by blk_simp [Pipeline.Window.cell_apply]; omega)
    have ht : t.val < 32 := t.isLt
    obtain ⟨a, b, rfl⟩ : ∃ (a : Fin 256) (b : Fin 2048), y = (ix2 a b : S256x2048.Idx) := ⟨y 0, y 1, (ix2_eta (y : S256x2048.Idx)).symm⟩
    have e : ((cfg0.win 7).blk t).view.emb (ix2 a b : S256x2048.Idx) = (ix2 ⟨8192 + 256 * t.val + a, by omega⟩ b : S16384x2048.Idx) := by
      blk_ext [idx0_7 t]
    rw [e]
    blk_simp
    refine (after7 m c t (ix2 a b)).trans ?_
    exact blockAt_eq _ _ _ _ hq hk hs 8192 t.val (by norm_num) (by omega) _ _ _ _ (fun h => (blk0 m c t h).trans (congrFun (V_main_arg5 m c) _))
      (fun r w => (blk3 m c t r w).trans (congrFun (V_packed m c) _)) (fun _ r w => (blk4 m c t r w).trans ((congrFun (V_packed m c) _).trans (congrArg _ ((ix2_inj ..).2 ⟨Fin.ext (by simp only []; omega), rfl⟩))))
      (fun r w => (blk5 m c t r w).trans (congrFun (V_packed m c) _)) a b _ rfl
  rw [h]
  funext i
  obtain ⟨R, C, rfl⟩ : ∃ (R : Fin 16384) (C : Fin 2048), i = (ix2 R C : S16384x2048.Idx) := ⟨i 0, i 1, (ix2_eta i).symm⟩
  rw [Ref.keepR_at, V_old]
  rfl

end Cert.Attn
-- ==== Proof.FfnBlock.lean ====
/- What one step of the feed-forward part's first kernel writes into its block of activations, at an index. -/
module

public import proofs.«01_k».proof.Proof.KernelBlock
public import proofs.«01_k».proof.Proof.Gen.FfnUpIdeal.Value

@[expose] public section

set_option maxRecDepth 2048

noncomputable section

namespace Cert.Ffn

open Idealize.ShloMosaic Idealize.ShloMosaic.TcCoe Idealize.SL.Sem
open Cert.FfnUpIdeal Cert.FfnUpIdeal.Gen

/-- Whether a step is the first of its sequence, as the kernel computes it. -/
def first (i : grid0.Coords) : BitVec 1 :=
  let v1 : BitVec 32 := Scalar.select (Scalar.cmpi .eq 4#32 0#32) 1#32 4#32
  let v2 : BitVec 32 := Scalar.remsi (BitVec.ofNat 32 (i 1).val) v1
  let v7 : BitVec 1 := Scalar.andi (Scalar.xori (Scalar.cmpi .slt v2 0#32) (Scalar.cmpi .slt v1 0#32)) (Scalar.cmpi .ne v2 0#32)
  Scalar.cmpi .eq (Scalar.select v7 (Scalar.addi v2 v1) v2) 0#32

theorem first_eq : ∀ t : Fin grid0.N, first (grid0.coords t) = if t.val % 4 = 0 then 1 else 0 := by decide +kernel

/-- The rows a step reads: 16 that come before its block, zeroed in the first step of a sequence, then the block's own. -/
def ext (f : BitVec 1) (P : FVec Ideal S16x2048 .bf16) (X : FVec Ideal S1024x2048 .bf16) : FVec Ideal S1040x2048 .bf16 :=
  concatenate S1040x2048 0
    [⟨S16x2048, (Scalar.select f (broadcast S16x2048 (Scalar.ofBits .bf16 0x0000#16 : Ideal .bf16)) (shapeCast S16x2048 P shapeCasts_S16x2048_S16x2048) : FVec Ideal S16x2048 .bf16)⟩,
     ⟨S1024x2048, shapeCast S1024x2048 X shapeCasts_S1024x2048_S1024x2048⟩] concatenates_S16x2048_S1024x2048_S1040x2048_d0

theorem pay1_eq (i : grid0.Coords) (P : FVec Ideal S16x2048 .bf16) (X : FVec Ideal S1024x2048 .bf16) : k0_pay1 i P X = ext (first i) P X := rfl

/-- The same rows at an index. -/
def extAt (z : Prop) [Decidable z] (P : S16x2048.Idx → EReal) (X : S1024x2048.Idx → EReal) (r : ℕ) (d : Fin 2048) : EReal :=
  if h : r < 16 then (if z then 0 else P (ix2 ⟨r, h⟩ d)) else if h : r - 16 < 1024 then X (ix2 ⟨r - 16, h⟩ d) else 0

theorem extAt_low (z : Prop) [Decidable z] (P : S16x2048.Idx → EReal) (X : S1024x2048.Idx → EReal) (r : ℕ) (h : r < 16) (d : Fin 2048) :
    extAt z P X r d = if z then 0 else P (ix2 ⟨r, h⟩ d) := dif_pos h

theorem extAt_high (z : Prop) [Decidable z] (P : S16x2048.Idx → EReal) (X : S1024x2048.Idx → EReal) (r : ℕ) (h : ¬ r < 16) (h' : r - 16 < 1024) (d : Fin 2048) :
    extAt z P X r d = X (ix2 ⟨r - 16, h'⟩ d) := (dif_neg h).trans (dif_pos h')

theorem ext_at (z : Prop) [Decidable z] (f : BitVec 1) (hf : f = if z then 1 else 0) (P : FVec Ideal S16x2048 .bf16) (X : FVec Ideal S1024x2048 .bf16) (r : Fin 1040) (d : Fin 2048) :
    ext f P X (ix2 r d : S1040x2048.Idx) = extAt z P X r d := by
  subst hf
  have hr := r.isLt
  by_cases h : (r : ℕ) < 16
  · rw [extAt_low z P X r h d]
    pointwise [ext]
    refine (dif_pos h).trans ?_
    by_cases hz : z
    · exact (if_pos (if_pos hz)).trans (if_pos hz).symm
    · exact (if_neg (by rw [if_neg hz]; decide)).trans (if_neg hz).symm
  · rw [extAt_high z P X r h (by omega) d]
    pointwise [ext]
    exact dif_neg h

/-- The products of a step's rows with 256 columns. -/
def prod (X : FVec Ideal S1040x2048 .bf16) (W : FVec Ideal S2048x256 .bf16) : FVec Ideal S1040x256 .f32 :=
  matmul dot_S1040x2048_S2048x256_S1040x256_1_0_0_1_n_n none X (shapeCast S2048x256 W shapeCasts_S2048x256_S2048x256) (constant S1040x256 .f32 0x00000000#32)

theorem prod_at (X : FVec Ideal S1040x2048 .bf16) (W : FVec Ideal S2048x256 .bf16) (r : Fin 1040) (b : Fin 256) :
    prod X W (ix2 r b : S1040x256.Idx) = ∑ d : Fin 2048, X (ix2 r d : S1040x2048.Idx) * W (ix2 d b : S2048x256.Idx) := by
  pointwise [prod]

/-- The convolution along the rows: three taps, the last at the row itself. -/
def conv (u : FVec Ideal S1040x256 .f32) (b c2 c1 c0 : FVec Ideal S1x1x256 .f32) : FVec Ideal S1024x256 .f32 :=
  addf (addf (addf (broadcastTo S1024x256 (shapeCast S1x256 b shapeCasts_S1x1x256_S1x256) broadcasts_S1x256_S1024x256)
    (mulf (broadcastTo S1024x256 (shapeCast S1x256 c2 shapeCasts_S1x1x256_S1x256) broadcasts_S1x256_S1024x256) (extractStridedSlice S1024x256 ![16, 0] u slices_S1040x256_o16_0_S1024x256)))
    (mulf (broadcastTo S1024x256 (shapeCast S1x256 c1 shapeCasts_S1x1x256_S1x256) broadcasts_S1x256_S1024x256) (extractStridedSlice S1024x256 ![16, 0] (dynamicRotate 0 1#32 none u rotates_S1040x256_d0) slices_S1040x256_o16_0_S1024x256)))
    (mulf (broadcastTo S1024x256 (shapeCast S1x256 c0 shapeCasts_S1x1x256_S1x256) broadcasts_S1x256_S1024x256) (extractStridedSlice S1024x256 ![16, 0] (dynamicRotate 0 2#32 none u rotates_S1040x256_d0) slices_S1040x256_o16_0_S1024x256))

theorem conv_at (u : FVec Ideal S1040x256 .f32) (b c2 c1 c0 : FVec Ideal S1x1x256 .f32) (r : Fin 1024) (w : Fin 256) :
    conv u b c2 c1 c0 (ix2 r w : S1024x256.Idx) =
      b (ix3 0 0 w : S1x1x256.Idx) + c2 (ix3 0 0 w : S1x1x256.Idx) * u (ix2 ⟨16 + r, by omega⟩ w : S1040x256.Idx)
        + c1 (ix3 0 0 w : S1x1x256.Idx) * u (ix2 ⟨15 + r, by omega⟩ w : S1040x256.Idx)
        + c0 (ix3 0 0 w : S1x1x256.Idx) * u (ix2 ⟨14 + r, by omega⟩ w : S1040x256.Idx) := by
  have hr := r.isLt
  pointwise [conv]
  have e1 : (⟨(16 + (r : ℕ) + 1040 - 1) % 1040, Nat.mod_lt _ (by decide)⟩ : Fin 1040) = ⟨15 + r, by omega⟩ := Fin.ext (by simp only []; omega)
  have e2 : (⟨(16 + (r : ℕ) + 1040 - 2) % 1040, Nat.mod_lt _ (by decide)⟩ : Fin 1040) = ⟨14 + r, by omega⟩ := Fin.ext (by simp only []; omega)
  rw [e1, e2]

/-- One store's 256 columns of activations. -/
def pay (E : FVec Ideal S1040x2048 .bf16) (Wg Wv : FVec Ideal S2048x256 .bf16) (bg g2 g1 g0 bv v2 v1 v0 : FVec Ideal S1x1x256 .f32) : FVec Ideal S1024x256 .bf16 :=
  truncf .bf16 (mulf (mulf (conv (prod E Wg) bg g2 g1 g0) (logistic (conv (prod E Wg) bg g2 g1 g0))) (conv (prod E Wv) bv v2 v1 v0)) bitsLt_bf16_f32

/-- The convolution of a column's products, from the rows `e`. -/
def tapsAt (e : ℕ → Fin 2048 → EReal) (W : S2048x2816.Idx → EReal) (C : S1x3x2816.Idx → EReal) (B : S1x1x2816.Idx → EReal) (a : ℕ) (w : Fin 2816) : EReal :=
  B (ix3 0 0 w) + C (ix3 0 2 w) * (∑ d : Fin 2048, e (16 + a) d * W (ix2 d w)) + C (ix3 0 1 w) * (∑ d : Fin 2048, e (15 + a) d * W (ix2 d w))
    + C (ix3 0 0 w) * (∑ d : Fin 2048, e (14 + a) d * W (ix2 d w))

/-- An activation. -/
def actAt (e : ℕ → Fin 2048 → EReal) (Wg Wv : S2048x2816.Idx → EReal) (Cg Cv : S1x3x2816.Idx → EReal) (Bg Bv : S1x1x2816.Idx → EReal) (a : ℕ) (w : Fin 2816) : EReal :=
  tapsAt e Wg Cg Bg a w * Ideal.logistic (tapsAt e Wg Cg Bg a w) * tapsAt e Wv Cv Bv a w

/-- A load of a rectangle of a rank 3 array at an index. -/
theorem ld3_at {n0 n1 n2 k0 k1 k2 a b g : ℕ} {e : EltTy} (X : (⟨3, ![n0, n1, n2]⟩ : Shape).Idx → Elt Ideal e) (h) (r : Fin k0) (d : Fin k1) (f : Fin k2) (i : Fin n0) (j : Fin n1) (l : Fin n2)
    (hi : (i : ℕ) = a + r) (hj : (j : ℕ) = b + d) (hl : (l : ℕ) = g + f) :
    View.ld X (Rect.unit ![a, b, g] ![k0, k1, k2] h) (ix3 r d f) = X (ix3 i j l) :=
  View.ld_unit_apply_of _ _ _ _ _ _ fun a => match a with | ⟨0, _⟩ => hi | ⟨1, _⟩ => hj | ⟨2, _⟩ => hl

theorem conv_taps (E : FVec Ideal S1040x2048 .bf16) (e : ℕ → Fin 2048 → EReal) (he : ∀ (r : Fin 1040) (d : Fin 2048), E (ix2 r d : S1040x2048.Idx) = e r d)
    (W : Vec Ideal S2048x2816 .bf16) (C : Vec Ideal S1x3x2816 .f32) (B : Vec Ideal S1x1x2816 .f32) (o : ℕ) (hW hB h2 h1 h0) (a : Fin 1024) (b : Fin 256) (w : Fin 2816) (hw : (w : ℕ) = o + b) :
    conv (prod E (View.ld W (Rect.unit (s := S2048x2816) ![0, o] ![2048, 256] hW))) (View.ld B (Rect.unit (s := S1x1x2816) ![0, 0, o] ![1, 1, 256] hB))
      (View.ld C (Rect.unit (s := S1x3x2816) ![0, 2, o] ![1, 1, 256] h2)) (View.ld C (Rect.unit (s := S1x3x2816) ![0, 1, o] ![1, 1, 256] h1)) (View.ld C (Rect.unit (s := S1x3x2816) ![0, 0, o] ![1, 1, 256] h0))
      (ix2 a b : S1024x256.Idx) = tapsAt e W C B a w := by
  rw [conv_at, prod_at, prod_at, prod_at]
  unfold tapsAt
  have hs : ∀ r : Fin 1040, (∑ d : Fin 2048, E (ix2 r d : S1040x2048.Idx) * View.ld W (Rect.unit (s := S2048x2816) ![0, o] ![2048, 256] hW) (ix2 d b : S2048x256.Idx)) = ∑ d : Fin 2048, e r d * W (ix2 d w) := fun r =>
    Finset.sum_congr rfl fun d _ => congrArg₂ (fun u v : EReal => u * v) (he r d) (Attn.ld2_at W hW d b d w (Nat.zero_add _).symm hw)
  exact congrArg₂ (fun u v : EReal => u + v) (congrArg₂ (fun u v : EReal => u + v) (congrArg₂ (fun u v : EReal => u + v) (ld3_at B hB 0 0 b 0 0 w rfl rfl hw)
    (congrArg₂ (fun u v : EReal => u * v) (ld3_at C h2 0 0 b 0 2 w rfl rfl hw) (hs _)))
    (congrArg₂ (fun u v : EReal => u * v) (ld3_at C h1 0 0 b 0 1 w rfl rfl hw) (hs _)))
    (congrArg₂ (fun u v : EReal => u * v) (ld3_at C h0 0 0 b 0 0 w rfl rfl hw) (hs _))

theorem pay_at (E : FVec Ideal S1040x2048 .bf16) (Wg Wv : FVec Ideal S2048x256 .bf16) (bg g2 g1 g0 bv v2 v1 v0 : FVec Ideal S1x1x256 .f32) (x : S1024x256.Idx) :
    pay E Wg Wv bg g2 g1 g0 bv v2 v1 v0 x = conv (prod E Wg) bg g2 g1 g0 x * Ideal.logistic (conv (prod E Wg) bg g2 g1 g0 x) * conv (prod E Wv) bv v2 v1 v0 x := rfl

/-- A store of activations, at columns from `o`. -/
theorem store_at (E : FVec Ideal S1040x2048 .bf16) (e : ℕ → Fin 2048 → EReal) (he : ∀ (r : Fin 1040) (d : Fin 2048), E (ix2 r d : S1040x2048.Idx) = e r d)
    (Wg Wv : Vec Ideal S2048x2816 .bf16) (Cg Cv : Vec Ideal S1x3x2816 .f32) (Bg Bv : Vec Ideal S1x1x2816 .f32) (o : ℕ) (hW hB h2 h1 h0) (x : S1024x256.Idx) (y : S1024x2816.Idx)
    (hx : (y 0 : ℕ) = (x 0 : ℕ)) (hy : (y 1 : ℕ) = o + (x 1 : ℕ)) :
    pay E (View.ld Wg (Rect.unit (s := S2048x2816) ![0, o] ![2048, 256] hW)) (View.ld Wv (Rect.unit (s := S2048x2816) ![0, o] ![2048, 256] hW))
      (View.ld Bg (Rect.unit (s := S1x1x2816) ![0, 0, o] ![1, 1, 256] hB)) (View.ld Cg (Rect.unit (s := S1x3x2816) ![0, 2, o] ![1, 1, 256] h2))
      (View.ld Cg (Rect.unit (s := S1x3x2816) ![0, 1, o] ![1, 1, 256] h1)) (View.ld Cg (Rect.unit (s := S1x3x2816) ![0, 0, o] ![1, 1, 256] h0))
      (View.ld Bv (Rect.unit (s := S1x1x2816) ![0, 0, o] ![1, 1, 256] hB)) (View.ld Cv (Rect.unit (s := S1x3x2816) ![0, 2, o] ![1, 1, 256] h2))
      (View.ld Cv (Rect.unit (s := S1x3x2816) ![0, 1, o] ![1, 1, 256] h1)) (View.ld Cv (Rect.unit (s := S1x3x2816) ![0, 0, o] ![1, 1, 256] h0)) x
      = actAt e Wg Wv Cg Cv Bg Bv (y 0 : ℕ) (y 1) := by
  obtain ⟨a, b, rfl⟩ : ∃ (a : Fin 1024) (b : Fin 256), x = ix2 a b := ⟨x 0, x 1, (ix2_eta x).symm⟩
  obtain ⟨a', w, rfl⟩ : ∃ (a : Fin 1024) (b : Fin 2816), y = ix2 a b := ⟨y 0, y 1, (ix2_eta y).symm⟩
  replace hx : (a' : ℕ) = (a : ℕ) := hx
  replace hy : (w : ℕ) = o + (b : ℕ) := hy
  obtain rfl : a' = a := Fin.ext hx
  rw [pay_at, conv_taps E e he Wg Cg Bg o hW hB h2 h1 h0 a' b w hy, conv_taps E e he Wv Cv Bv o hW hB h2 h1 h0 a' b w hy]
  rfl

variable (m : (ℓ : Loc nD τ sig) → Buf (Elt Ideal) ℓ)

attribute [local irreducible] View.readAt

set_option maxHeartbeats 8000000 in
/-- A step's block of activations, from the blocks of its windows. -/
theorem after8 (c : Dev nD) (t : Fin cfg0.N) (y : S1024x2816.Idx) :
    (dats m 0 c).after 8 t y = actAt (extAt (t.val % 4 = 0) (iblk m c 0 t) (iblk m c 3 t)) (iblk m c 1 t) (iblk m c 2 t) (iblk m c 4 t) (iblk m c 5 t) (iblk m c 6 t) (iblk m c 7 t) (y 0 : ℕ) (y 1) := by
  rw [after0_8]; unfold_out out0_8; frame_out
  have S := store_at (ext (first (grid0.coords t)) (iblk m c 0 t) (iblk m c 3 t)) (extAt (t.val % 4 = 0) (iblk m c 0 t) (iblk m c 3 t))
    (ext_at _ _ (first_eq t) _ _) (iblk m c 1 t) (iblk m c 2 t) (iblk m c 4 t) (iblk m c 5 t) (iblk m c 6 t) (iblk m c 7 t)
  canon_tiles x h
  exacts [S 2560 _ _ _ _ _ x y h0 h1, S 2304 _ _ _ _ _ x y h0 h1, S 2048 _ _ _ _ _ x y h0 h1, S 1792 _ _ _ _ _ x y h0 h1, S 1536 _ _ _ _ _ x y h0 h1, S 1280 _ _ _ _ _ x y h0 h1, S 1024 _ _ _ _ _ x y h0 h1, S 768 _ _ _ _ _ x y h0 h1, S 512 _ _ _ _ _ x y h0 h1, S 256 _ _ _ _ _ x y h0 h1, S 0 _ _ _ _ _ x y h0 (h1.trans (Nat.zero_add _).symm)]

end Cert.Ffn
-- ==== Proof.FfnRef.lean ====
/- The feed-forward part's reference, up to its activations, at an index. -/
module

public import proofs.«01_k».proof.Proof.Gen.RefFfnUpIdeal.Run
public import Idealize.ShloMosaic.Lib.Pipeline.ValueKit
public import Idealize.ShloMosaic.Lib.Claim

@[expose] public section

set_option maxRecDepth 4096

noncomputable section

namespace Cert.Ffn.Ref

open Idealize.ShloMosaic Idealize.ShloMosaic.TcCoe Idealize.SL.Sem
open Cert.RefFfnUpIdeal Cert.RefFfnUpIdeal.Gen Cert.RefFfnUpIdeal.Value

/-- The input times the first weight, two rows of zeros before each sequence. -/
def padded (x : FVec Ideal S4x4096x2048 .f32) (w : FVec Ideal S2048x11264 .f32) : FVec Ideal S4x4098x11264 .f32 :=
  pad S4x4098x11264 ![0, 2, 0] ![0, 0, 0] ![0, 0, 0] (Host.dotGeneral dot_S4x4096x2048_S2048x11264_S4x4096x11264_2_0_01_1_n_n none x w)
    (sitofp .f32 (constantI S_ 32 0#32)) pads_S4x4096x11264_S4x4098x11264_000_200_000 h_S_

theorem padded_at (x : FVec Ideal S4x4096x2048 .f32) (w : FVec Ideal S2048x11264 .f32) (b : Fin 4) (p : Fin 4098) (n : Fin 11264) :
    padded x w (ix3 b p n : S4x4098x11264.Idx) = if h : (p : ℕ) < 2 then 0 else ∑ d : Fin 2048, x (ix3 b ⟨(p : ℕ) - 2, by omega⟩ d : S4x4096x2048.Idx) * w (ix2 d n : S2048x11264.Idx) := by
  have hp := p.isLt
  pointwise [padded]
  by_cases h : (p : ℕ) < 2
  · refine (dif_neg (by omega)).trans (Eq.trans ?_ (dif_pos h).symm)
    simp [FloatOps.sitofp]
  · rw [dif_neg h]
    exact dif_pos (by omega)

/-- The convolution of the columns. -/
def taps (u : FVec Ideal S4x4098x11264 .f32) (c : FVec Ideal S3x11264 .f32) (b : FVec Ideal S11264 .f32) : FVec Ideal S4x4096x11264 .f32 :=
  addf (broadcastInDim S4x4096x11264 ![0, 1, 2] bcast_S1x1x11264_S4x4096x11264_0_1_2 (broadcastInDim S1x1x11264 ![2] bcast_S11264_S1x1x11264_2 b))
    (addf (addf (addf (broadcastInDim S4x4096x11264 ![] bcast_S_S4x4096x11264 (constant S_ .f32 0x00000000#32))
      (mulf (broadcastInDim S4x4096x11264 ![0, 1, 2] bcast_S1x1x11264_S4x4096x11264_0_1_2 (broadcastInDim S1x1x11264 ![2] bcast_S11264_S1x1x11264_2 (shapeCast S11264 (extractStridedSlice S1x11264 ![0, 0] c slices_S3x11264_S1x11264_0_0) shapeCasts_S1x11264_S11264)))
        (extractStridedSlice S4x4096x11264 ![0, 0, 0] u slices_S4x4098x11264_S4x4096x11264_0_0_0)))
      (mulf (broadcastInDim S4x4096x11264 ![0, 1, 2] bcast_S1x1x11264_S4x4096x11264_0_1_2 (broadcastInDim S1x1x11264 ![2] bcast_S11264_S1x1x11264_2 (shapeCast S11264 (extractStridedSlice S1x11264 ![1, 0] c slices_S3x11264_S1x11264_1_0) shapeCasts_S1x11264_S11264)))
        (extractStridedSlice S4x4096x11264 ![0, 1, 0] u slices_S4x4098x11264_S4x4096x11264_0_1_0)))
      (mulf (broadcastInDim S4x4096x11264 ![0, 1, 2] bcast_S1x1x11264_S4x4096x11264_0_1_2 (broadcastInDim S1x1x11264 ![2] bcast_S11264_S1x1x11264_2 (shapeCast S11264 (extractStridedSlice S1x11264 ![2, 0] c slices_S3x11264_S1x11264_2_0) shapeCasts_S1x11264_S11264)))
        (extractStridedSlice S4x4096x11264 ![0, 2, 0] u slices_S4x4098x11264_S4x4096x11264_0_2_0)))

theorem taps_at (u : FVec Ideal S4x4098x11264 .f32) (c : FVec Ideal S3x11264 .f32) (b : FVec Ideal S11264 .f32) (s : Fin 4) (p : Fin 4096) (n : Fin 11264) :
    taps u c b (ix3 s p n : S4x4096x11264.Idx) = b (ix1 n : S11264.Idx) + (c (ix2 0 n : S3x11264.Idx) * u (ix3 s ⟨p, by omega⟩ n : S4x4098x11264.Idx)
      + c (ix2 1 n : S3x11264.Idx) * u (ix3 s ⟨1 + p, by omega⟩ n : S4x4098x11264.Idx) + c (ix2 2 n : S3x11264.Idx) * u (ix3 s ⟨2 + p, by omega⟩ n : S4x4098x11264.Idx)) := by
  have hp := p.isLt
  pointwise [taps]

/-- The activations: the logistic unit of the first half of the columns, times the second half. -/
def actR (u : FVec Ideal S4x4096x11264 .f32) : FVec Ideal S16384x5632 .bf16 :=
  truncf .bf16 (shapeCast S16384x5632 (mulf (mulf (extractStridedSlice S4x4096x5632 ![0, 0, 0] u slices_S4x4096x11264_S4x4096x5632_0_0_0)
    (Host.divf (broadcastInDim S4x4096x5632 ![] bcast_S_S4x4096x5632 (constant S_ .f32 0x3F800000#32)) (addf (broadcastInDim S4x4096x5632 ![] bcast_S_S4x4096x5632 (constant S_ .f32 0x3F800000#32))
      (Host.exp (Host.negf (extractStridedSlice S4x4096x5632 ![0, 0, 0] u slices_S4x4096x11264_S4x4096x5632_0_0_0))))))
    (extractStridedSlice S4x4096x5632 ![0, 0, 5632] u slices_S4x4096x11264_S4x4096x5632_0_0_5632)) shapeCasts_S4x4096x5632_S16384x5632) bitsLt_bf16_f32

theorem actR_at (u : FVec Ideal S4x4096x11264 .f32) (s : Fin 4) (p : Fin 4096) (R : Fin 16384) (hR : (R : ℕ) = 4096 * (s : ℕ) + p) (n : Fin 5632) :
    actR u (ix2 R n : S16384x5632.Idx) = u (ix3 s p ⟨n, by omega⟩ : S4x4096x11264.Idx) * Ideal.logistic (u (ix3 s p ⟨n, by omega⟩ : S4x4096x11264.Idx)) * u (ix3 s p ⟨5632 + n, by omega⟩ : S4x4096x11264.Idx) := by
  have hp := p.isLt
  pointwise [actR]
  have e : ∀ (n n' : Fin 11264) (_ : n = n') (h : (R : ℕ) / 4096 < 4) (h' : (R : ℕ) % 4096 < 4096), u (ix3 ⟨(R : ℕ) / 4096, h⟩ ⟨(R : ℕ) % 4096, h'⟩ n : S4x4096x11264.Idx) = u (ix3 s p n') := fun n n' hn _ _ =>
    congrArg u ((ix3_inj ..).2 ⟨Fin.ext (by simp only []; omega), Fin.ext (by simp only []; omega), hn⟩)
  unfold Ideal.logistic
  rw [e _ _ rfl, e _ _ rfl]

theorem res_eq (m : (ℓ : Loc nD τ sig) → Buf (Elt Ideal) ℓ) (c : Dev nD) :
    res_main_v32 m c = actR (taps (padded (m ((c.tc : Thread nD τ).loc main_arg0)) (m ((c.tc : Thread nD τ).loc main_arg1))) (m ((c.tc : Thread nD τ).loc main_arg2)) (m ((c.tc : Thread nD τ).loc main_arg3))) := rfl

end Cert.Ffn.Ref
-- ==== Proof.FfnResult.lean ====
/- The activations that the feed-forward part's first kernel leaves are the reference's. -/
module

public import proofs.«01_k».proof.Proof.FfnBlock
public import proofs.«01_k».proof.Proof.FfnRef

@[expose] public section

set_option maxRecDepth 4096

noncomputable section

namespace Cert.Ffn

open Idealize.ShloMosaic Idealize.ShloMosaic.TcCoe Idealize.SL.Sem
open Cert.FfnUpIdeal Cert.FfnUpIdeal.Gen

variable (m : (ℓ : Loc nD τ sig) → Buf (Elt Ideal) ℓ)

theorem V_x (c : Dev nD) : V m c main_v1 = truncf (F := Ideal) .bf16 (shapeCast S16384x2048 (m ((c.tc : Thread nD τ).loc main_arg0)) shapeCasts_S4x4096x2048_S16384x2048) bitsLt_bf16_f32 := by
  entry_read
  rfl

theorem V_w (c : Dev nD) : V m c main_v2 = (m ((c.tc : Thread nD τ).loc main_arg1) : S2048x11264.Idx → EReal) := by
  entry_read
  rfl

theorem V_c (c : Dev nD) : V m c main_v3 = (shapeCast S1x3x11264 (m ((c.tc : Thread nD τ).loc main_arg2)) shapeCasts_S3x11264_S1x3x11264 : FVec Ideal S1x3x11264 .f32) := by
  entry_read
  rfl

theorem V_b (c : Dev nD) : V m c main_v4 = (shapeCast S1x1x11264 (m ((c.tc : Thread nD τ).loc main_arg3)) shapeCasts_S11264_S1x1x11264 : FVec Ideal S1x1x11264 .f32) := by
  entry_read
  rfl

/-- The input, one row for each token. -/
theorem rows_at (x : FVec Ideal S4x4096x2048 .f32) (b : Fin 4) (p : Fin 4096) (R : Fin 16384) (d : Fin 2048) (hR : (R : ℕ) = 4096 * (b : ℕ) + p) :
    truncf (F := Ideal) .bf16 (shapeCast S16384x2048 x shapeCasts_S4x4096x2048_S16384x2048) bitsLt_bf16_f32 (ix2 R d : S16384x2048.Idx) = x (ix3 b p d : S4x4096x2048.Idx) := by
  have hp := p.isLt
  pointwise
  refine congrArg x ((ix3_inj ..).2 ⟨Fin.ext ?_, Fin.ext ?_, Fin.ext ?_⟩) <;> simp only [] <;> omega

theorem tap_at (k : FVec Ideal S3x11264 .f32) (i : Fin 3) (n : Fin 11264) : (shapeCast S1x3x11264 k shapeCasts_S3x11264_S1x3x11264 : FVec Ideal S1x3x11264 .f32) (ix3 0 i n : S1x3x11264.Idx) = k (ix2 i n : S3x11264.Idx) := by
  pointwise

theorem bias_at (k : FVec Ideal S11264 .f32) (n : Fin 11264) : (shapeCast S1x1x11264 k shapeCasts_S11264_S1x1x11264 : FVec Ideal S1x1x11264 .f32) (ix3 0 0 n : S1x1x11264.Idx) = k (ix1 n : S11264.Idx) := by
  pointwise

theorem idx0_0 : ∀ t : Fin cfg0.N, win0_0.index t = ![64 * (t.val % 16) - 1, 0] := (by decide +kernel : ∀ t : Fin grid0.N, win0_0.index t = ![64 * (t.val % 16) - 1, 0])
theorem idx0_1 : ∀ t : Fin cfg0.N, win0_1.index t = ![0, t.val / 16] := (by decide +kernel : ∀ t : Fin grid0.N, win0_1.index t = ![0, t.val / 16])
theorem idx0_2 : ∀ t : Fin cfg0.N, win0_2.index t = ![0, 2 + t.val / 16] := (by decide +kernel : ∀ t : Fin grid0.N, win0_2.index t = ![0, 2 + t.val / 16])
theorem idx0_3 : ∀ t : Fin cfg0.N, win0_3.index t = ![t.val % 16, 0] := (by decide +kernel : ∀ t : Fin grid0.N, win0_3.index t = ![t.val % 16, 0])
theorem idx0_4 : ∀ t : Fin cfg0.N, win0_4.index t = ![0, 0, t.val / 16] := (by decide +kernel : ∀ t : Fin grid0.N, win0_4.index t = ![0, 0, t.val / 16])
theorem idx0_5 : ∀ t : Fin cfg0.N, win0_5.index t = ![0, 0, 2 + t.val / 16] := (by decide +kernel : ∀ t : Fin grid0.N, win0_5.index t = ![0, 0, 2 + t.val / 16])
theorem idx0_6 : ∀ t : Fin cfg0.N, win0_6.index t = ![0, 0, t.val / 16] := (by decide +kernel : ∀ t : Fin grid0.N, win0_6.index t = ![0, 0, t.val / 16])
theorem idx0_7 : ∀ t : Fin cfg0.N, win0_7.index t = ![0, 0, 2 + t.val / 16] := (by decide +kernel : ∀ t : Fin grid0.N, win0_7.index t = ![0, 0, 2 + t.val / 16])
theorem idx0_8 : ∀ t : Fin cfg0.N, win0_8.index t = ![t.val % 16, t.val / 16] := (by decide +kernel : ∀ t : Fin grid0.N, win0_8.index t = ![t.val % 16, t.val / 16])

theorem blk0 (c : Dev nD) (t : Fin cfg0.N) (r : Fin 16) (d : Fin 2048) :
    iblk m c 0 t (ix2 r d : S16x2048.Idx) = V m c main_v1 (ix2 ⟨16 * (64 * (t.val % 16) - 1) + r, by omega⟩ d : S16384x2048.Idx) := by
  blk_simp [iblk]
  blk_ext [idx0_0 t]

theorem blk1 (c : Dev nD) (t : Fin cfg0.N) (d : Fin 2048) (w : Fin 2816) :
    iblk m c 1 t (ix2 d w : S2048x2816.Idx) = V m c main_v2 (ix2 d ⟨2816 * (t.val / 16) + w, by have : t.val < 32 := t.isLt; omega⟩ : S2048x11264.Idx) := by
  blk_simp [iblk]
  blk_ext [idx0_1 t]

theorem blk2 (c : Dev nD) (t : Fin cfg0.N) (d : Fin 2048) (w : Fin 2816) :
    iblk m c 2 t (ix2 d w : S2048x2816.Idx) = V m c main_v2 (ix2 d ⟨5632 + (2816 * (t.val / 16) + w), by have : t.val < 32 := t.isLt; omega⟩ : S2048x11264.Idx) := by
  blk_simp [iblk]
  blk_ext [idx0_2 t]

theorem blk3 (c : Dev nD) (t : Fin cfg0.N) (r : Fin 1024) (d : Fin 2048) :
    iblk m c 3 t (ix2 r d : S1024x2048.Idx) = V m c main_v1 (ix2 ⟨1024 * (t.val % 16) + r, by omega⟩ d : S16384x2048.Idx) := by
  blk_simp [iblk]
  blk_ext [idx0_3 t]

theorem blk4 (c : Dev nD) (t : Fin cfg0.N) (i : Fin 3) (w : Fin 2816) :
    iblk m c 4 t (ix3 0 i w : S1x3x2816.Idx) = V m c main_v3 (ix3 0 i ⟨2816 * (t.val / 16) + w, by have : t.val < 32 := t.isLt; omega⟩ : S1x3x11264.Idx) := by
  blk_simp [iblk]
  blk_ext [idx0_4 t]

theorem blk5 (c : Dev nD) (t : Fin cfg0.N) (i : Fin 3) (w : Fin 2816) :
    iblk m c 5 t (ix3 0 i w : S1x3x2816.Idx) = V m c main_v3 (ix3 0 i ⟨5632 + (2816 * (t.val / 16) + w), by have : t.val < 32 := t.isLt; omega⟩ : S1x3x11264.Idx) := by
  blk_simp [iblk]
  blk_ext [idx0_5 t]

theorem blk6 (c : Dev nD) (t : Fin cfg0.N) (w : Fin 2816) :
    iblk m c 6 t (ix3 0 0 w : S1x1x2816.Idx) = V m c main_v4 (ix3 0 0 ⟨2816 * (t.val / 16) + w, by have : t.val < 32 := t.isLt; omega⟩ : S1x1x11264.Idx) := by
  blk_simp [iblk]
  blk_ext [idx0_6 t]

theorem blk7 (c : Dev nD) (t : Fin cfg0.N) (w : Fin 2816) :
    iblk m c 7 t (ix3 0 0 w : S1x1x2816.Idx) = V m c main_v4 (ix3 0 0 ⟨5632 + (2816 * (t.val / 16) + w), by have : t.val < 32 := t.isLt; omega⟩ : S1x1x11264.Idx) := by
  blk_simp [iblk]
  blk_ext [idx0_7 t]

/-- The input `k` rows before row `p` of a sequence, zero before the sequence. -/
def lag (x : FVec Ideal S4x4096x2048 .f32) (s : Fin 4) (p : ℕ) (hp : p < 4096) (k : ℕ) (d : Fin 2048) : EReal :=
  if h : p < k then 0 else x (ix3 s ⟨p - k, by omega⟩ d : S4x4096x2048.Idx)

theorem lag_before (x : FVec Ideal S4x4096x2048 .f32) (s : Fin 4) (p : ℕ) (hp : p < 4096) (k : ℕ) (d : Fin 2048) (h : p < k) : lag x s p hp k d = 0 := dif_pos h

theorem lag_in (x : FVec Ideal S4x4096x2048 .f32) (s : Fin 4) (p : ℕ) (hp : p < 4096) (k : ℕ) (d : Fin 2048) (h : ¬ p < k) :
    lag x s p hp k d = x (ix3 s ⟨p - k, by omega⟩ d : S4x4096x2048.Idx) := dif_neg h

/-- A row of a step, `k` before row `a` of its block: zero if it comes before the sequence. -/
theorem row_at (c : Dev nD) (t : Fin cfg0.N) (s : Fin 4) (p : ℕ) (hp : p < 4096) (a : Fin 1024) (h : 1024 * (t.val % 16) + (a : ℕ) = 4096 * (s : ℕ) + p) (r k : ℕ) (hk : k ≤ 2) (hr : r + k = 16 + a) (d : Fin 2048) :
    extAt (t.val % 4 = 0) (iblk m c 0 t) (iblk m c 3 t) r d
      = lag (m ((c.tc : Thread nD τ).loc main_arg0)) s p hp k d := by
  have ha := a.isLt
  by_cases hr16 : r < 16
  · rw [extAt_low _ _ _ _ hr16]
    by_cases hz : t.val % 4 = 0
    · exact (if_pos hz).trans (lag_before _ _ _ _ _ _ (by omega)).symm
    · refine (if_neg hz).trans (Eq.trans ?_ (lag_in _ _ _ _ _ _ (by omega)).symm)
      refine (blk0 m c t ⟨r, hr16⟩ d).trans ((congrFun (V_x m c) _).trans (rows_at _ _ _ _ _ ?_))
      simp only []; omega
  · rw [extAt_high _ _ _ _ hr16 (by omega)]
    refine Eq.trans ?_ (lag_in _ _ _ _ _ _ (by omega)).symm
    refine (blk3 m c t ⟨r - 16, by omega⟩ d).trans ((congrFun (V_x m c) _).trans (rows_at _ _ _ _ _ ?_))
    simp only []; omega

/-- The sum of three taps, in the reference's order. -/
theorem taps_order (b x y z : EReal) : b + x + y + z = b + (z + y + x) := by
  abel

/-- A column's convolution is the reference's. -/
theorem taps_eq (x : FVec Ideal S4x4096x2048 .f32) (w : FVec Ideal S2048x11264 .f32) (k : FVec Ideal S3x11264 .f32) (b : FVec Ideal S11264 .f32)
    (e : ℕ → Fin 2048 → EReal) (W : S2048x2816.Idx → EReal) (C : S1x3x2816.Idx → EReal) (B : S1x1x2816.Idx → EReal) (a : ℕ) (v : Fin 2816) (n : Fin 11264) (s : Fin 4) (p : Fin 4096)
    (he : ∀ r j, j ≤ 2 → r + j = 16 + a → ∀ d, e r d = lag x s p p.isLt j d)
    (hW : ∀ d, W (ix2 d v) = w (ix2 d n)) (hC : ∀ i, C (ix3 0 i v) = k (ix2 i n)) (hB : B (ix3 0 0 v) = b (ix1 n)) :
    tapsAt e W C B a v = Ref.taps (Ref.padded x w) k b (ix3 s p n : Cert.RefFfnUpIdeal.S4x4096x11264.Idx) := by
  have hp := p.isLt
  have key : ∀ (j r : ℕ) (q : Fin 4098), j ≤ 2 → r + j = 16 + a → (q : ℕ) + j = 2 + p → (∑ d : Fin 2048, e r d * W (ix2 d v)) = Ref.padded x w (ix3 s q n : Cert.RefFfnUpIdeal.S4x4098x11264.Idx) := fun j r q hj hr hq => by
    rw [Ref.padded_at]
    by_cases h : (q : ℕ) < 2
    · rw [dif_pos h]
      refine Finset.sum_eq_zero fun d _ => ?_
      rw [he r j hj hr d, lag_before _ _ _ _ _ _ (by omega), zero_mul]
    · rw [dif_neg h]
      refine Finset.sum_congr rfl fun d _ => ?_
      rw [he r j hj hr d, lag_in _ _ _ _ _ _ (by omega), hW d]
      refine congrArg (fun u : EReal => u * w (ix2 d n)) (congrArg x ((ix3_inj ..).2 ⟨rfl, Fin.ext ?_, rfl⟩))
      simp only []; omega
  rw [Ref.taps_at]
  unfold tapsAt
  rw [taps_order, hB, hC, hC, hC, key 0 (16 + a) ⟨2 + p, by omega⟩ (by omega) (by omega) (by simp only []; omega), key 1 (15 + a) ⟨1 + p, by omega⟩ (by omega) (by omega) (by simp only []; omega),
    key 2 (14 + a) ⟨p, by omega⟩ (by omega) (by omega) (by simp only []; omega)]

/-- The kernel's activations are the reference's. -/
theorem arr8 (c : Dev nD) : (dats m 0 c).arrAt 8 cfg0.N = (Ref.actR (Ref.taps (Ref.padded (m ((c.tc : Thread nD τ).loc main_arg0)) (m ((c.tc : Thread nD τ).loc main_arg1)))
    (m ((c.tc : Thread nD τ).loc main_arg2)) (m ((c.tc : Thread nD τ).loc main_arg3))) : S16384x5632.Idx → EReal) := by
  refine (dats m 0 c).arrAt_eq_of_covers 8 _ (by decide +kernel) fun t hf y => ?_
  have ht : t.val < 32 := t.isLt
  obtain ⟨a, v, rfl⟩ : ∃ (a : Fin 1024) (b : Fin 2816), y = (ix2 a b : S1024x2816.Idx) := ⟨y 0, y 1, (ix2_eta (y : S1024x2816.Idx)).symm⟩
  have e : ((cfg0.win 8).blk t).view.emb (ix2 a v : S1024x2816.Idx) = (ix2 ⟨1024 * (t.val % 16) + a, by omega⟩ ⟨2816 * (t.val / 16) + v, by omega⟩ : S16384x5632.Idx) := by
    blk_ext [idx0_8 t]
  rw [e]
  blk_simp
  refine (after8 m c t (ix2 a v)).trans ?_
  have hs : (1024 * (t.val % 16) + (a : ℕ)) = 4096 * ((1024 * (t.val % 16) + (a : ℕ)) / 4096) + (1024 * (t.val % 16) + (a : ℕ)) % 4096 := by omega
  rw [Ref.actR_at _ ⟨(1024 * (t.val % 16) + a) / 4096, by omega⟩ ⟨(1024 * (t.val % 16) + a) % 4096, by omega⟩ _ hs]
  have hrow := row_at m c t ⟨(1024 * (t.val % 16) + a) / 4096, by omega⟩ ((1024 * (t.val % 16) + a) % 4096) (by omega) a hs
  have hg := taps_eq (m ((c.tc : Thread nD τ).loc main_arg0)) (m ((c.tc : Thread nD τ).loc main_arg1)) (m ((c.tc : Thread nD τ).loc main_arg2)) (m ((c.tc : Thread nD τ).loc main_arg3))
    (extAt (t.val % 4 = 0) (iblk m c 0 t) (iblk m c 3 t)) (iblk m c 1 t) (iblk m c 4 t) (iblk m c 6 t) a v ⟨2816 * (t.val / 16) + v, by omega⟩ ⟨(1024 * (t.val % 16) + a) / 4096, by omega⟩ ⟨(1024 * (t.val % 16) + a) % 4096, by omega⟩ hrow
    (fun d => (blk1 m c t d v).trans (congrFun (V_w m c) _)) (fun i => (blk4 m c t i v).trans ((congrFun (V_c m c) _).trans (tap_at _ i _))) ((blk6 m c t v).trans ((congrFun (V_b m c) _).trans (bias_at _ _)))
  have hv := taps_eq (m ((c.tc : Thread nD τ).loc main_arg0)) (m ((c.tc : Thread nD τ).loc main_arg1)) (m ((c.tc : Thread nD τ).loc main_arg2)) (m ((c.tc : Thread nD τ).loc main_arg3))
    (extAt (t.val % 4 = 0) (iblk m c 0 t) (iblk m c 3 t)) (iblk m c 2 t) (iblk m c 5 t) (iblk m c 7 t) a v ⟨5632 + (2816 * (t.val / 16) + v), by omega⟩ ⟨(1024 * (t.val % 16) + a) / 4096, by omega⟩ ⟨(1024 * (t.val % 16) + a) % 4096, by omega⟩ hrow
    (fun d => (blk2 m c t d v).trans (congrFun (V_w m c) _)) (fun i => (blk5 m c t i v).trans ((congrFun (V_c m c) _).trans (tap_at _ i _))) ((blk7 m c t v).trans ((congrFun (V_b m c) _).trans (bias_at _ _)))
  exact congrArg₂ (fun g u : EReal => g * Ideal.logistic g * u) hg hv

end Cert.Ffn
-- ==== Proof.DownRef.lean ====
/- The reference of the feed-forward part's second half, at an index. -/
module

public import proofs.«01_k».proof.Proof.Gen.RefDownLnIdeal.Run
public import Idealize.ShloMosaic.Lib.Pipeline.ValueKit
public import Idealize.ShloMosaic.Lib.Claim

@[expose] public section

set_option maxRecDepth 4096

noncomputable section

namespace Cert.Down

open Idealize.ShloMosaic

/-- The layer norm of a row `z` at `n`, with the scale and the shift there. -/
def lnAt (z : Fin 2048 → EReal) (g b : EReal) (n : Fin 2048) : EReal :=
  (z n - Ideal.div (∑ i, z i) (Ideal.ofBits .f32 0x45000000#32)) * Ideal.rsqrt (Ideal.div (∑ j, (z j - Ideal.div (∑ i, z i) (Ideal.ofBits .f32 0x45000000#32))
    * (z j - Ideal.div (∑ i, z i) (Ideal.ofBits .f32 0x45000000#32))) (Ideal.ofBits .f32 0x45000000#32) + Ideal.ofBits .f32 0x3727C5AC#32) * g + b

end Cert.Down

namespace Cert.Down.Ref

open Idealize.ShloMosaic Idealize.ShloMosaic.TcCoe Idealize.SL.Sem
open Cert.RefDownLnIdeal Cert.RefDownLnIdeal.Gen Cert.RefDownLnIdeal.Value

/-- The residual sum. -/
def sumR (a : FVec Ideal S4x4096x5632 .f32) (w : FVec Ideal S5632x2048 .f32) (x : FVec Ideal S4x4096x2048 .f32) : FVec Ideal S4x4096x2048 .f32 :=
  addf (mulf (broadcastInDim S4x4096x2048 ![] bcast_S_S4x4096x2048 (constant S_ .f32 0x3FB504F3#32)) x) (Host.dotGeneral dot_S4x4096x5632_S5632x2048_S4x4096x2048_2_0_01_1_n_n none a w)

theorem sumR_at (a : FVec Ideal S4x4096x5632 .f32) (w : FVec Ideal S5632x2048 .f32) (x : FVec Ideal S4x4096x2048 .f32) (s : Fin 4) (p : Fin 4096) (n : Fin 2048) :
    sumR a w x (ix3 s p n : S4x4096x2048.Idx) = Ideal.ofBits .f32 0x3FB504F3#32 * x (ix3 s p n : S4x4096x2048.Idx) + ∑ d : Fin 5632, a (ix3 s p d : S4x4096x5632.Idx) * w (ix2 d n : S5632x2048.Idx) := by
  pointwise [sumR]

/-- The mean of each row. -/
def meanR (z : FVec Ideal S4x4096x2048 .f32) : FVec Ideal S4x4096x1 .f32 :=
  Host.divf (broadcastInDim S4x4096x1 ![0, 1] bcast_S4x4096_S4x4096x1_0_1 (Host.reduceAdd z (constant S_ .f32 0x00000000#32) reducesTo_S4x4096x2048_S4x4096_d2 h_S_))
    (broadcastInDim S4x4096x1 ![] bcast_S_S4x4096x1 (constant S_ .f32 0x45000000#32))

/-- Each row less its mean. -/
def centredR (z : FVec Ideal S4x4096x2048 .f32) : FVec Ideal S4x4096x2048 .f32 :=
  subf z (broadcastInDim S4x4096x2048 ![0, 1, 2] bcast_S4x4096x1_S4x4096x2048_0_1_2 (meanR z))

/-- The layer norm. -/
def normR (z : FVec Ideal S4x4096x2048 .f32) (g b : FVec Ideal S2048 .f32) : FVec Ideal S16384x2048 .f32 :=
  shapeCast S16384x2048 (addf (mulf (mulf (centredR z) (broadcastInDim S4x4096x2048 ![0, 1, 2] bcast_S4x4096x1_S4x4096x2048_0_1_2
      (Host.rsqrt (addf (meanR (mulf (centredR z) (centredR z))) (broadcastInDim S4x4096x1 ![] bcast_S_S4x4096x1 (constant S_ .f32 0x3727C5AC#32))))))
      (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 b))) shapeCasts_S4x4096x2048_S16384x2048

theorem meanR_at (z : FVec Ideal S4x4096x2048 .f32) (s : Fin 4) (p : Fin 4096) : meanR z (ix3 s p 0 : S4x4096x1.Idx) = Ideal.div (∑ i : Fin 2048, z (ix3 s p i : S4x4096x2048.Idx)) (Ideal.ofBits .f32 0x45000000#32) := by
  pointwise [meanR]

theorem centredR_at (z : FVec Ideal S4x4096x2048 .f32) (s : Fin 4) (p : Fin 4096) (n : Fin 2048) :
    centredR z (ix3 s p n : S4x4096x2048.Idx) = z (ix3 s p n : S4x4096x2048.Idx) - meanR z (ix3 s p 0 : S4x4096x1.Idx) := by
  pointwise [centredR]

theorem normR_at (z : FVec Ideal S4x4096x2048 .f32) (g b : FVec Ideal S2048 .f32) (s : Fin 4) (p : Fin 4096) (R : Fin 16384) (hR : (R : ℕ) = 4096 * (s : ℕ) + p) (n : Fin 2048) :
    normR z g b (ix2 R n : S16384x2048.Idx) = lnAt (fun i => z (ix3 s p i : S4x4096x2048.Idx)) (g (ix1 n : S2048.Idx)) (b (ix1 n : S2048.Idx)) n := by
  have hp := p.isLt
  have e : ∀ (h : (R : ℕ) / 4096 < 4) (h' : (R : ℕ) % 4096 < 4096), (⟨(R : ℕ) / 4096, h⟩ : Fin 4) = s ∧ (⟨(R : ℕ) % 4096, h'⟩ : Fin 4096) = p := fun _ _ =>
    ⟨Fin.ext (by simp only []; omega), Fin.ext (by simp only []; omega)⟩
  pointwise [normR]
  rw [(e (by omega) (by omega)).1, (e (by omega) (by omega)).2]
  rw [meanR_at]
  have hc : ∀ i : Fin 2048, mulf (centredR z) (centredR z) (ix3 s p i : S4x4096x2048.Idx) = centredR z (ix3 s p i : S4x4096x2048.Idx) * centredR z (ix3 s p i : S4x4096x2048.Idx) := fun _ => rfl
  simp only [hc, centredR_at, meanR_at]
  rfl

end Cert.Down.Ref
-- ==== Proof.DownBlock.lean ====
/- What one step of the feed-forward part's second kernel writes into its block, at an index. -/
module

public import proofs.«01_k».proof.Proof.DownRef
public import proofs.«01_k».proof.Proof.Gen.DownLnIdeal.Value
public import Idealize.ShloMosaic.Lib.Pipeline.ValueKit
public import Idealize.ShloMosaic.Lib.Claim
public import Idealize.ShloMosaic.Lib.WholeRead

@[expose] public section

set_option maxRecDepth 4096

noncomputable section

namespace Cert.Down

open Idealize.ShloMosaic Idealize.ShloMosaic.TcCoe Idealize.SL.Sem
open Cert.DownLnIdeal Cert.DownLnIdeal.Gen

theorem pay_at (x : FVec Ideal S256x2048 .f32) (a : FVec Ideal S256x5632 .bf16) (w : FVec Ideal S5632x2048 .bf16) (g b : FVec Ideal S1x2048 .f32) (r : Fin 256) (n : Fin 2048) :
    k0_pay1 (F := Ideal) x a w g b (ix2 r n : S256x2048.Idx)
      = lnAt (fun i => Ideal.ofBits .f32 0x3FB504F3#32 * x (ix2 r i : S256x2048.Idx) + ∑ d : Fin 5632, a (ix2 r d : S256x5632.Idx) * w (ix2 d i : S5632x2048.Idx)) (g (ix2 0 n : S1x2048.Idx)) (b (ix2 0 n : S1x2048.Idx)) n := by
  pointwise [k0_pay1]
  rfl

variable (m : (ℓ : Loc nD τ sig) → Buf (Elt Ideal) ℓ)

theorem after5 (c : Dev nD) (t : Fin cfg0.N) : (dats m 0 c).after 5 t = k0_pay1 (iblk m c 2 t) (iblk m c 0 t) (iblk m c 1 t) (iblk m c 3 t) (iblk m c 4 t) := by
  rw [after0_5]; unfold out0_5; frame_out

theorem V_a (c : Dev nD) : V m c main_v1 = truncf (F := Ideal) .bf16 (shapeCast S16384x5632 (m ((c.tc : Thread nD τ).loc main_arg0)) shapeCasts_S4x4096x5632_S16384x5632) bitsLt_bf16_f32 := by
  entry_read
  rfl

theorem V_w (c : Dev nD) : V m c main_v2 = (m ((c.tc : Thread nD τ).loc main_arg1) : S5632x2048.Idx → EReal) := by
  entry_read
  rfl

theorem V_x (c : Dev nD) : V m c main_v3 = (shapeCast S16384x2048 (m ((c.tc : Thread nD τ).loc main_arg2)) shapeCasts_S4x4096x2048_S16384x2048 : FVec Ideal S16384x2048 .f32) := by
  entry_read
  rfl

theorem V_g (c : Dev nD) : V m c main_v4 = (shapeCast S1x2048 (m ((c.tc : Thread nD τ).loc main_arg3)) shapeCasts_S2048_S1x2048 : FVec Ideal S1x2048 .f32) := by
  entry_read
  rfl

theorem V_b (c : Dev nD) : V m c main_v5 = (shapeCast S1x2048 (m ((c.tc : Thread nD τ).loc main_arg4)) shapeCasts_S2048_S1x2048 : FVec Ideal S1x2048 .f32) := by
  entry_read
  rfl

/-- The activations, one row for each token. -/
theorem acts_at (a : FVec Ideal S4x4096x5632 .f32) (s : Fin 4) (p : Fin 4096) (R : Fin 16384) (d : Fin 5632) (hR : (R : ℕ) = 4096 * (s : ℕ) + p) :
    truncf (F := Ideal) .bf16 (shapeCast S16384x5632 a shapeCasts_S4x4096x5632_S16384x5632) bitsLt_bf16_f32 (ix2 R d : S16384x5632.Idx) = a (ix3 s p d : S4x4096x5632.Idx) := by
  have hp := p.isLt
  pointwise
  refine congrArg a ((ix3_inj ..).2 ⟨Fin.ext ?_, Fin.ext ?_, Fin.ext ?_⟩) <;> simp only [] <;> omega

/-- The residual input, one row for each token. -/
theorem rows_at (x : FVec Ideal S4x4096x2048 .f32) (s : Fin 4) (p : Fin 4096) (R : Fin 16384) (d : Fin 2048) (hR : (R : ℕ) = 4096 * (s : ℕ) + p) :
    (shapeCast S16384x2048 x shapeCasts_S4x4096x2048_S16384x2048 : FVec Ideal S16384x2048 .f32) (ix2 R d : S16384x2048.Idx) = x (ix3 s p d : S4x4096x2048.Idx) := by
  have hp := p.isLt
  pointwise
  refine congrArg x ((ix3_inj ..).2 ⟨Fin.ext ?_, Fin.ext ?_, Fin.ext ?_⟩) <;> simp only [] <;> omega

theorem vec_at (g : FVec Ideal S2048 .f32) (n : Fin 2048) : (shapeCast S1x2048 g shapeCasts_S2048_S1x2048 : FVec Ideal S1x2048 .f32) (ix2 0 n : S1x2048.Idx) = g (ix1 n : S2048.Idx) := by
  pointwise

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0] := (by decide +kernel : ∀ t : Fin grid0.N, win0_1.index t = ![0, 0])
theorem idx0_2 : ∀ t : Fin cfg0.N, win0_2.index t = ![t.val, 0] := (by decide +kernel : ∀ t : Fin grid0.N, win0_2.index t = ![t.val, 0])
theorem idx0_3 : ∀ t : Fin cfg0.N, win0_3.index t = ![0, 0] := (by decide +kernel : ∀ t : Fin grid0.N, win0_3.index t = ![0, 0])
theorem idx0_4 : ∀ t : Fin cfg0.N, win0_4.index t = ![0, 0] := (by decide +kernel : ∀ t : Fin grid0.N, win0_4.index t = ![0, 0])
theorem idx0_5 : ∀ t : Fin cfg0.N, win0_5.index t = ![t.val, 0] := (by decide +kernel : ∀ t : Fin grid0.N, win0_5.index t = ![t.val, 0])

theorem blk0 (c : Dev nD) (t : Fin cfg0.N) (r : Fin 256) (d : Fin 5632) :
    iblk m c 0 t (ix2 r d : S256x5632.Idx) = V m c main_v1 (ix2 ⟨256 * t.val + r, by have : t.val < 64 := t.isLt; omega⟩ d : S16384x5632.Idx) := by
  blk_simp [iblk]
  blk_ext [idx0_0 t]

theorem blk1 (c : Dev nD) (t : Fin cfg0.N) (d : Fin 5632) (n : Fin 2048) : iblk m c 1 t (ix2 d n : S5632x2048.Idx) = V m c main_v2 (ix2 d n : S5632x2048.Idx) := by
  blk_simp [iblk]
  blk_ext [idx0_1 t]

theorem blk2 (c : Dev nD) (t : Fin cfg0.N) (r : Fin 256) (d : Fin 2048) :
    iblk m c 2 t (ix2 r d : S256x2048.Idx) = V m c main_v3 (ix2 ⟨256 * t.val + r, by have : t.val < 64 := t.isLt; omega⟩ d : S16384x2048.Idx) := by
  blk_simp [iblk]
  blk_ext [idx0_2 t]

theorem blk3 (c : Dev nD) (t : Fin cfg0.N) (n : Fin 2048) : iblk m c 3 t (ix2 0 n : S1x2048.Idx) = V m c main_v4 (ix2 0 n : S1x2048.Idx) := by
  blk_simp [iblk]
  blk_ext [idx0_3 t]

theorem blk4 (c : Dev nD) (t : Fin cfg0.N) (n : Fin 2048) : iblk m c 4 t (ix2 0 n : S1x2048.Idx) = V m c main_v5 (ix2 0 n : S1x2048.Idx) := by
  blk_simp [iblk]
  blk_ext [idx0_4 t]

/-- A step's block is the reference's rows, where the step's inputs are. -/
theorem step_eq (X : FVec Ideal S256x2048 .f32) (A : FVec Ideal S256x5632 .bf16) (W : FVec Ideal S5632x2048 .bf16) (G B : FVec Ideal S1x2048 .f32)
    (a : FVec Ideal S4x4096x5632 .f32) (w : FVec Ideal S5632x2048 .f32) (x : FVec Ideal S4x4096x2048 .f32) (g b : FVec Ideal S2048 .f32) (r : Fin 256) (n : Fin 2048)
    (s : Fin 4) (p : Fin 4096) (R : Fin 16384) (hR : (R : ℕ) = 4096 * (s : ℕ) + p)
    (hX : ∀ i : Fin 2048, X (ix2 r i : S256x2048.Idx) = x (ix3 s p i : S4x4096x2048.Idx)) (hA : ∀ d : Fin 5632, A (ix2 r d : S256x5632.Idx) = a (ix3 s p d : S4x4096x5632.Idx))
    (hW : ∀ (d : Fin 5632) (i : Fin 2048), W (ix2 d i : S5632x2048.Idx) = w (ix2 d i : S5632x2048.Idx)) (hG : G (ix2 0 n : S1x2048.Idx) = g (ix1 n : S2048.Idx)) (hB : B (ix2 0 n : S1x2048.Idx) = b (ix1 n : S2048.Idx)) :
    k0_pay1 (F := Ideal) X A W G B (ix2 r n : S256x2048.Idx) = Ref.normR (Ref.sumR a w x) g b (ix2 R n : S16384x2048.Idx) := by
  rw [pay_at, Ref.normR_at _ _ _ s p R hR n]
  simp only [Ref.sumR_at, hX, hA, hW, hG, hB]

/-- The kernel's result is the reference's. -/
theorem arr5 (c : Dev nD) : (dats m 0 c).arrAt 5 cfg0.N = (Ref.normR (Ref.sumR (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) : S16384x2048.Idx → EReal) := by
  refine (dats m 0 c).arrAt_eq_of_covers 5 _ (by decide +kernel) fun t hf y => ?_
  have ht : t.val < 64 := t.isLt
  obtain ⟨a, n, rfl⟩ : ∃ (a : Fin 256) (b : Fin 2048), y = (ix2 a b : S256x2048.Idx) := ⟨y 0, y 1, (ix2_eta (y : S256x2048.Idx)).symm⟩
  have e : ((cfg0.win 5).blk t).view.emb (ix2 a n : S256x2048.Idx) = (ix2 ⟨256 * t.val + a, by omega⟩ n : S16384x2048.Idx) := by
    blk_ext [idx0_5 t]
  rw [e]
  blk_simp
  refine (congrFun (after5 m c t) (ix2 a n)).trans ?_
  have hs : ((⟨256 * t.val + a, by omega⟩ : Fin 16384) : ℕ) = 4096 * ((⟨(256 * t.val + a) / 4096, by omega⟩ : Fin 4) : ℕ) + ((⟨(256 * t.val + a) % 4096, by omega⟩ : Fin 4096) : ℕ) := by
    simp only []; omega
  exact step_eq _ _ _ _ _ _ _ _ _ _ a n _ _ _ hs (fun i => (blk2 m c t a i).trans ((congrFun (V_x m c) _).trans (rows_at _ _ _ _ _ hs)))
    (fun d => (blk0 m c t a d).trans ((congrFun (V_a m c) _).trans (acts_at _ _ _ _ _ hs))) (fun d i => (blk1 m c t d i).trans (congrFun (V_w m c) _))
    ((blk3 m c t n).trans ((congrFun (V_g m c) _).trans (vec_at _ _))) ((blk4 m c t n).trans ((congrFun (V_b m c) _).trans (vec_at _ _)))

end Cert.Down
-- ==== Proof.MergeBlock.lean ====
/- The gated merge: what one step writes into its block, and the array, against the reference. -/
module

public import proofs.«01_k».proof.Proof.Gen.RefMergeIdeal.Run
public import proofs.«01_k».proof.Proof.Gen.MergeIdeal.Value
public import Idealize.ShloMosaic.Lib.Pipeline.ValueKit
public import Idealize.ShloMosaic.Lib.Claim
public import Idealize.ShloMosaic.Lib.WholeRead

@[expose] public section

set_option maxRecDepth 4096

noncomputable section

namespace Cert.Merge.Ref

open Idealize.ShloMosaic Idealize.ShloMosaic.TcCoe Idealize.SL.Sem
open Cert.RefMergeIdeal Cert.RefMergeIdeal.Gen Cert.RefMergeIdeal.Value

/-- The reference's merged branches, one row for each token. -/
def mergedR (oa ob : FVec Ideal S4x4096x2048 .f32) (wa wb : FVec Ideal S2048x2048 .f32) (g : FVec Ideal S4x4096x4096 .f32) : FVec Ideal S16384x2048 .bf16 :=
  truncf .bf16 (shapeCast _ (addf (mulf (extractStridedSlice S4x4096x2048 ![0, 0, 0] g slices_S4x4096x4096_S4x4096x2048_0_0_0) (Host.dotGeneral dot_S4x4096x2048_S2048x2048_S4x4096x2048_2_0_01_1_n_n none oa wa))
    (mulf (extractStridedSlice S4x4096x2048 ![0, 0, 2048] g slices_S4x4096x4096_S4x4096x2048_0_0_2048) (Host.dotGeneral dot_S4x4096x2048_S2048x2048_S4x4096x2048_2_0_01_1_n_n none ob wb)))
    shapeCasts_S4x4096x2048_S16384x2048) bitsLt_bf16_f32

theorem mergedR_at (oa ob : FVec Ideal S4x4096x2048 .f32) (wa wb : FVec Ideal S2048x2048 .f32) (g : FVec Ideal S4x4096x4096 .f32) (s : Fin 4) (p : Fin 4096) (R : Fin 16384) (hR : (R : ℕ) = 4096 * (s : ℕ) + p) (n : Fin 2048) :
    mergedR oa ob wa wb g (ix2 R n : S16384x2048.Idx)
      = g (ix3 s p ⟨n, by omega⟩ : S4x4096x4096.Idx) * (∑ d : Fin 2048, oa (ix3 s p d : S4x4096x2048.Idx) * wa (ix2 d n : S2048x2048.Idx))
        + g (ix3 s p ⟨2048 + n, by omega⟩ : S4x4096x4096.Idx) * (∑ d : Fin 2048, ob (ix3 s p d : S4x4096x2048.Idx) * wb (ix2 d n : S2048x2048.Idx)) := by
  have hp := p.isLt
  have e : ∀ (h : (R : ℕ) / 4096 < 4) (h' : (R : ℕ) % 4096 < 4096), (⟨(R : ℕ) / 4096, h⟩ : Fin 4) = s ∧ (⟨(R : ℕ) % 4096, h'⟩ : Fin 4096) = p := fun _ _ =>
    ⟨Fin.ext (by simp only []; omega), Fin.ext (by simp only []; omega)⟩
  pointwise [mergedR]
  rw [(e (by omega) (by omega)).1, (e (by omega) (by omega)).2]

end Cert.Merge.Ref

namespace Cert.Merge

open Idealize.ShloMosaic Idealize.ShloMosaic.TcCoe Idealize.SL.Sem
open Cert.MergeIdeal Cert.MergeIdeal.Gen

theorem pay_at (a : FVec Ideal S1024x2048 .bf16) (wa : FVec Ideal S2048x1024 .bf16) (b : FVec Ideal S1024x2048 .bf16) (wb : FVec Ideal S2048x1024 .bf16) (ga gb : FVec Ideal S1024x1024 .bf16) (r n : Fin 1024) :
    k0_pay1 (F := Ideal) a wa b wb ga gb (ix2 r n : S1024x1024.Idx)
      = ga (ix2 r n : S1024x1024.Idx) * (∑ d : Fin 2048, a (ix2 r d : S1024x2048.Idx) * wa (ix2 d n : S2048x1024.Idx))
        + gb (ix2 r n : S1024x1024.Idx) * (∑ d : Fin 2048, b (ix2 r d : S1024x2048.Idx) * wb (ix2 d n : S2048x1024.Idx)) := by
  pointwise [k0_pay1]

variable (m : (ℓ : Loc nD τ sig) → Buf (Elt Ideal) ℓ)

theorem after6 (c : Dev nD) (t : Fin cfg0.N) : (dats m 0 c).after 6 t = k0_pay1 (iblk m c 0 t) (iblk m c 2 t) (iblk m c 1 t) (iblk m c 3 t) (iblk m c 4 t) (iblk m c 5 t) := by
  rw [after0_6]; unfold out0_6; frame_out

/-- An array of 2048 features, one row for each token, in the matrix unit's format. -/
def flat (x : FVec Ideal S4x4096x2048 .f32) : FVec Ideal S16384x2048 .bf16 := truncf (F := Ideal) .bf16 (shapeCast S16384x2048 x shapeCasts_S4x4096x2048_S16384x2048) bitsLt_bf16_f32

/-- The gates, one row for each token, in the matrix unit's format. -/
def flatG (x : FVec Ideal S4x4096x4096 .f32) : FVec Ideal S16384x4096 .bf16 := truncf (F := Ideal) .bf16 (shapeCast S16384x4096 x shapeCasts_S4x4096x4096_S16384x4096) bitsLt_bf16_f32

theorem V_a (c : Dev nD) : V m c main_v1 = flat (m ((c.tc : Thread nD τ).loc main_arg0)) := by
  entry_read
  rfl

theorem V_b (c : Dev nD) : V m c main_v3 = flat (m ((c.tc : Thread nD τ).loc main_arg1)) := by
  entry_read
  rfl

theorem V_wa (c : Dev nD) : V m c main_v4 = (m ((c.tc : Thread nD τ).loc main_arg2) : S2048x2048.Idx → EReal) := by
  entry_read
  rfl

theorem V_wb (c : Dev nD) : V m c main_v5 = (m ((c.tc : Thread nD τ).loc main_arg3) : S2048x2048.Idx → EReal) := by
  entry_read
  rfl

theorem V_g (c : Dev nD) : V m c main_v7 = flatG (m ((c.tc : Thread nD τ).loc main_arg4)) := by
  entry_read
  rfl

theorem flat_at (a : FVec Ideal S4x4096x2048 .f32) (s : Fin 4) (p : Fin 4096) (R : Fin 16384) (d : Fin 2048) (hR : (R : ℕ) = 4096 * (s : ℕ) + p) :
    flat a (ix2 R d : S16384x2048.Idx) = a (ix3 s p d : S4x4096x2048.Idx) := by
  have hp := p.isLt
  pointwise [flat]
  refine congrArg a ((ix3_inj ..).2 ⟨Fin.ext ?_, Fin.ext ?_, Fin.ext ?_⟩) <;> simp only [] <;> omega

theorem flatG_at (a : FVec Ideal S4x4096x4096 .f32) (s : Fin 4) (p : Fin 4096) (R : Fin 16384) (d : Fin 4096) (hR : (R : ℕ) = 4096 * (s : ℕ) + p) :
    flatG a (ix2 R d : S16384x4096.Idx) = a (ix3 s p d : S4x4096x4096.Idx) := by
  have hp := p.isLt
  pointwise [flatG]
  refine congrArg a ((ix3_inj ..).2 ⟨Fin.ext ?_, Fin.ext ?_, Fin.ext ?_⟩) <;> simp only [] <;> omega

theorem idx0_0 : ∀ t : Fin cfg0.N, win0_0.index t = ![t.val / 2, 0] := (by decide +kernel : ∀ t : Fin grid0.N, win0_0.index t = ![t.val / 2, 0])
theorem idx0_1 : ∀ t : Fin cfg0.N, win0_1.index t = ![t.val / 2, 0] := (by decide +kernel : ∀ t : Fin grid0.N, win0_1.index t = ![t.val / 2, 0])
theorem idx0_2 : ∀ t : Fin cfg0.N, win0_2.index t = ![0, t.val % 2] := (by decide +kernel : ∀ t : Fin grid0.N, win0_2.index t = ![0, t.val % 2])
theorem idx0_3 : ∀ t : Fin cfg0.N, win0_3.index t = ![0, t.val % 2] := (by decide +kernel : ∀ t : Fin grid0.N, win0_3.index t = ![0, t.val % 2])
theorem idx0_4 : ∀ t : Fin cfg0.N, win0_4.index t = ![t.val / 2, t.val % 2] := (by decide +kernel : ∀ t : Fin grid0.N, win0_4.index t = ![t.val / 2, t.val % 2])
theorem idx0_5 : ∀ t : Fin cfg0.N, win0_5.index t = ![t.val / 2, 2 + t.val % 2] := (by decide +kernel : ∀ t : Fin grid0.N, win0_5.index t = ![t.val / 2, 2 + t.val % 2])
theorem idx0_6 : ∀ t : Fin cfg0.N, win0_6.index t = ![t.val / 2, t.val % 2] := (by decide +kernel : ∀ t : Fin grid0.N, win0_6.index t = ![t.val / 2, t.val % 2])

theorem blk0 (c : Dev nD) (t : Fin cfg0.N) (r : Fin 1024) (d : Fin 2048) :
    iblk m c 0 t (ix2 r d : S1024x2048.Idx) = V m c main_v1 (ix2 ⟨1024 * (t.val / 2) + r, by have : t.val < 32 := t.isLt; omega⟩ d : S16384x2048.Idx) := by
  blk_simp [iblk]
  blk_ext [idx0_0 t]

theorem blk1 (c : Dev nD) (t : Fin cfg0.N) (r : Fin 1024) (d : Fin 2048) :
    iblk m c 1 t (ix2 r d : S1024x2048.Idx) = V m c main_v3 (ix2 ⟨1024 * (t.val / 2) + r, by have : t.val < 32 := t.isLt; omega⟩ d : S16384x2048.Idx) := by
  blk_simp [iblk]
  blk_ext [idx0_1 t]

theorem blk2 (c : Dev nD) (t : Fin cfg0.N) (d : Fin 2048) (n : Fin 1024) :
    iblk m c 2 t (ix2 d n : S2048x1024.Idx) = V m c main_v4 (ix2 d ⟨1024 * (t.val % 2) + n, by omega⟩ : S2048x2048.Idx) := by
  blk_simp [iblk]
  blk_ext [idx0_2 t]

theorem blk3 (c : Dev nD) (t : Fin cfg0.N) (d : Fin 2048) (n : Fin 1024) :
    iblk m c 3 t (ix2 d n : S2048x1024.Idx) = V m c main_v5 (ix2 d ⟨1024 * (t.val % 2) + n, by omega⟩ : S2048x2048.Idx) := by
  blk_simp [iblk]
  blk_ext [idx0_3 t]

theorem blk4 (c : Dev nD) (t : Fin cfg0.N) (r n : Fin 1024) :
    iblk m c 4 t (ix2 r n : S1024x1024.Idx) = V m c main_v7 (ix2 ⟨1024 * (t.val / 2) + r, by have : t.val < 32 := t.isLt; omega⟩ ⟨1024 * (t.val % 2) + n, by omega⟩ : S16384x4096.Idx) := by
  blk_simp [iblk]
  blk_ext [idx0_4 t]

theorem blk5 (c : Dev nD) (t : Fin cfg0.N) (r n : Fin 1024) :
    iblk m c 5 t (ix2 r n : S1024x1024.Idx) = V m c main_v7 (ix2 ⟨1024 * (t.val / 2) + r, by have : t.val < 32 := t.isLt; omega⟩ ⟨2048 + (1024 * (t.val % 2) + n), by omega⟩ : S16384x4096.Idx) := by
  blk_simp [iblk]
  blk_ext [idx0_5 t]

/-- A step's block is the reference's, where the step's inputs are. -/
theorem step_eq (A B : FVec Ideal S1024x2048 .bf16) (WA WB : FVec Ideal S2048x1024 .bf16) (GA GB : FVec Ideal S1024x1024 .bf16)
    (oa ob : FVec Ideal S4x4096x2048 .f32) (wa wb : FVec Ideal S2048x2048 .f32) (g : FVec Ideal S4x4096x4096 .f32) (r n : Fin 1024) (N : Fin 2048)
    (s : Fin 4) (p : Fin 4096) (R : Fin 16384) (hR : (R : ℕ) = 4096 * (s : ℕ) + p)
    (hA : ∀ d : Fin 2048, A (ix2 r d : S1024x2048.Idx) = oa (ix3 s p d : S4x4096x2048.Idx)) (hB : ∀ d : Fin 2048, B (ix2 r d : S1024x2048.Idx) = ob (ix3 s p d : S4x4096x2048.Idx))
    (hWA : ∀ d : Fin 2048, WA (ix2 d n : S2048x1024.Idx) = wa (ix2 d N : S2048x2048.Idx)) (hWB : ∀ d : Fin 2048, WB (ix2 d n : S2048x1024.Idx) = wb (ix2 d N : S2048x2048.Idx))
    (hGA : GA (ix2 r n : S1024x1024.Idx) = g (ix3 s p ⟨N, by omega⟩ : S4x4096x4096.Idx)) (hGB : GB (ix2 r n : S1024x1024.Idx) = g (ix3 s p ⟨2048 + N, by omega⟩ : S4x4096x4096.Idx)) :
    k0_pay1 (F := Ideal) A WA B WB GA GB (ix2 r n : S1024x1024.Idx) = Ref.mergedR oa ob wa wb g (ix2 R N : S16384x2048.Idx) := by
  rw [pay_at, Ref.mergedR_at _ _ _ _ _ s p R hR N]
  simp only [hA, hB, hWA, hWB, hGA, hGB]

/-- The kernel's result is the reference's. -/
theorem arr6 (c : Dev nD) : (dats m 0 c).arrAt 6 cfg0.N = (Ref.mergedR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) : S16384x2048.Idx → EReal) := by
  refine (dats m 0 c).arrAt_eq_of_covers 6 _ (by decide +kernel) fun t hf y => ?_
  have ht : t.val < 32 := t.isLt
  obtain ⟨a, n, rfl⟩ : ∃ (a : Fin 1024) (b : Fin 1024), y = (ix2 a b : S1024x1024.Idx) := ⟨y 0, y 1, (ix2_eta (y : S1024x1024.Idx)).symm⟩
  have e : ((cfg0.win 6).blk t).view.emb (ix2 a n : S1024x1024.Idx) = (ix2 ⟨1024 * (t.val / 2) + a, by omega⟩ ⟨1024 * (t.val % 2) + n, by omega⟩ : S16384x2048.Idx) := by
    blk_ext [idx0_6 t]
  rw [e]
  blk_simp
  refine (congrFun (after6 m c t) (ix2 a n)).trans ?_
  have hs : ((⟨1024 * (t.val / 2) + a, by omega⟩ : Fin 16384) : ℕ) = 4096 * ((⟨(1024 * (t.val / 2) + a) / 4096, by omega⟩ : Fin 4) : ℕ) + ((⟨(1024 * (t.val / 2) + a) % 4096, by omega⟩ : Fin 4096) : ℕ) := by
    simp only []; omega
  exact step_eq _ _ _ _ _ _ _ _ _ _ _ a n _ _ _ _ hs (fun d => (blk0 m c t a d).trans ((congrFun (V_a m c) _).trans (flat_at _ _ _ _ _ hs)))
    (fun d => (blk1 m c t a d).trans ((congrFun (V_b m c) _).trans (flat_at _ _ _ _ _ hs)))
    (fun d => (blk2 m c t d n).trans (congrFun (V_wa m c) _)) (fun d => (blk3 m c t d n).trans (congrFun (V_wb m c) _))
    ((blk4 m c t a n).trans ((congrFun (V_g m c) _).trans (flatG_at _ _ _ _ _ hs))) ((blk5 m c t a n).trans ((congrFun (V_g m c) _).trans (flatG_at _ _ _ _ _ hs)))

end Cert.Merge
-- ==== Proof.OutBlock.lean ====
/- The output projection with the first residual and layer norm: what one step writes into its two blocks, and the arrays, against the reference. -/
module

public import proofs.«01_k».proof.Proof.DownRef
public import proofs.«01_k».proof.Proof.KernelBlock
public import proofs.«01_k».proof.Proof.Gen.RefOutLnIdeal.Run
public import proofs.«01_k».proof.Proof.Gen.OutLnIdeal.Value

@[expose] public section

set_option maxRecDepth 4096

noncomputable section

namespace Cert.Out.Ref

open Idealize.ShloMosaic Idealize.ShloMosaic.TcCoe Idealize.SL.Sem
open Cert.RefOutLnIdeal Cert.RefOutLnIdeal.Gen Cert.RefOutLnIdeal.Value

/-- The residual sum. -/
def sumR (a : FVec Ideal S4x4096x2048 .f32) (w : FVec Ideal S2048x2048 .f32) (x : FVec Ideal S4x4096x2048 .f32) : FVec Ideal S4x4096x2048 .f32 :=
  addf (mulf (broadcastInDim S4x4096x2048 ![] bcast_S_S4x4096x2048 (constant S_ .f32 0x3FB504F3#32)) x) (Host.dotGeneral dot_S4x4096x2048_S2048x2048_S4x4096x2048_2_0_01_1_n_n none a w)

theorem sumR_at (a : FVec Ideal S4x4096x2048 .f32) (w : FVec Ideal S2048x2048 .f32) (x : FVec Ideal S4x4096x2048 .f32) (s : Fin 4) (p : Fin 4096) (n : Fin 2048) :
    sumR a w x (ix3 s p n : S4x4096x2048.Idx) = Ideal.ofBits .f32 0x3FB504F3#32 * x (ix3 s p n : S4x4096x2048.Idx) + ∑ d : Fin 2048, a (ix3 s p d : S4x4096x2048.Idx) * w (ix2 d n : S2048x2048.Idx) := by
  pointwise [sumR]

end Cert.Out.Ref

namespace Cert.Out

open Idealize.ShloMosaic Idealize.ShloMosaic.TcCoe Idealize.SL.Sem
open Cert.OutLnIdeal Cert.OutLnIdeal.Gen
open Cert.Down (lnAt)

/-- A row of the residual sum at a step: the row of the residual input and of the merged branches. -/
def zAt (X : S512x2048.Idx → EReal) (A : S512x2048.Idx → EReal) (W : S2048x2048.Idx → EReal) (r : Fin 512) (i : Fin 2048) : EReal :=
  Ideal.ofBits .f32 0x3FB504F3#32 * X (ix2 r i) + ∑ d : Fin 2048, A (ix2 r d) * W (ix2 d i)

/-- One store's 256 rows. -/
def pay (g b : FVec Ideal S1x2048 .f32) (x : FVec Ideal S256x2048 .f32) (a : FVec Ideal S256x2048 .bf16) (w : FVec Ideal S2048x2048 .bf16) : FVec Ideal S256x2048 .f32 :=
  k0_pay1 (F := Ideal) (k0_pay3 g) (k0_pay4 b) x a w

theorem pay_at (g b : FVec Ideal S1x2048 .f32) (x : FVec Ideal S256x2048 .f32) (a : FVec Ideal S256x2048 .bf16) (w : FVec Ideal S2048x2048 .bf16) (r : Fin 256) (n : Fin 2048) :
    pay g b x a w (ix2 r n : S256x2048.Idx)
      = lnAt (fun i => Ideal.ofBits .f32 0x3FB504F3#32 * x (ix2 r i : S256x2048.Idx) + ∑ d : Fin 2048, a (ix2 r d : S256x2048.Idx) * w (ix2 d i : S2048x2048.Idx)) (g (ix2 0 n : S1x2048.Idx)) (b (ix2 0 n : S1x2048.Idx)) n := by
  pointwise [pay, k0_pay1, k0_pay3, k0_pay4]
  rfl

/-- A store, at rows from `o`. -/
theorem store_at (g b : FVec Ideal S1x2048 .f32) (X : Vec Ideal S512x2048 .f32) (A : Vec Ideal S512x2048 .bf16) (w : FVec Ideal S2048x2048 .bf16) (o : ℕ) (h) (x : S256x2048.Idx) (y : S512x2048.Idx)
    (h0 : (y 0 : ℕ) = o + (x 0 : ℕ)) (h1 : (y 1 : ℕ) = (x 1 : ℕ)) :
    pay g b (View.ld X (Rect.unit (s := S512x2048) ![o, 0] ![256, 2048] h)) (View.ld A (Rect.unit (s := S512x2048) ![o, 0] ![256, 2048] h)) w x
      = lnAt (zAt X A w (y 0)) (g (ix2 0 (y 1) : S1x2048.Idx)) (b (ix2 0 (y 1) : S1x2048.Idx)) (y 1) := by
  obtain ⟨r, n, rfl⟩ : ∃ (a : Fin 256) (b : Fin 2048), x = ix2 a b := ⟨x 0, x 1, (ix2_eta x).symm⟩
  obtain ⟨r', n', rfl⟩ : ∃ (a : Fin 512) (b : Fin 2048), y = ix2 a b := ⟨y 0, y 1, (ix2_eta y).symm⟩
  replace h0 : (r' : ℕ) = o + (r : ℕ) := h0
  replace h1 : (n' : ℕ) = (n : ℕ) := h1
  obtain rfl : n' = n := Fin.ext h1
  rw [pay_at]
  refine congrArg (fun z => lnAt z (g (ix2 0 n' : S1x2048.Idx)) (b (ix2 0 n' : S1x2048.Idx)) n') (funext fun i => ?_)
  unfold zAt
  exact congrArg₂ (fun u v : EReal => u + v) (congrArg _ (Attn.ld2_at X h r i r' i h0 (Nat.zero_add _).symm))
    (Finset.sum_congr rfl fun d _ => congrArg (· * _) (Attn.ld2_at A h r d r' d h0 (Nat.zero_add _).symm))

variable (m : (ℓ : Loc nD τ sig) → Buf (Elt Ideal) ℓ)

attribute [local irreducible] View.readAt

/-- A step's block of the result, from the blocks of its windows. -/
theorem after5 (c : Dev nD) (t : Fin cfg0.N) (y : S512x2048.Idx) :
    (dats m 0 c).after 5 t y = lnAt (zAt (iblk m c 2 t) (iblk m c 0 t) (iblk m c 1 t) (y 0)) (iblk m c 3 t (ix2 0 (y 1) : S1x2048.Idx)) (iblk m c 4 t (ix2 0 (y 1) : S1x2048.Idx)) (y 1) := by
  rw [after0_5]; unfold_out out0_5; frame_out
  have S := store_at (iblk m c 3 t) (iblk m c 4 t) (iblk m c 2 t) (iblk m c 0 t) (iblk m c 1 t)
  canon_tiles x h
  exacts [S 256 _ x y h0 h1, S 0 _ x y (h0.trans (Nat.zero_add _).symm) h1]

/-- The same in the other format. -/
theorem after6 (c : Dev nD) (t : Fin cfg0.N) (y : S512x2048.Idx) :
    (dats m 0 c).after 6 t y = lnAt (zAt (iblk m c 2 t) (iblk m c 0 t) (iblk m c 1 t) (y 0)) (iblk m c 3 t (ix2 0 (y 1) : S1x2048.Idx)) (iblk m c 4 t (ix2 0 (y 1) : S1x2048.Idx)) (y 1) := by
  rw [after0_6]; unfold_out out0_6; frame_out
  have S := store_at (iblk m c 3 t) (iblk m c 4 t) (iblk m c 2 t) (iblk m c 0 t) (iblk m c 1 t)
  canon_tiles x h
  exacts [S 256 _ x y h0 h1, S 0 _ x y (h0.trans (Nat.zero_add _).symm) h1]

/-- One row for each token. -/
def rows (x : FVec Ideal S4x4096x2048 .f32) : FVec Ideal S16384x2048 .f32 := shapeCast S16384x2048 x shapeCasts_S4x4096x2048_S16384x2048

/-- A vector as a matrix of one row. -/
def vec (g : FVec Ideal S2048 .f32) : FVec Ideal S1x2048 .f32 := shapeCast S1x2048 g shapeCasts_S2048_S1x2048

theorem V_a (c : Dev nD) : V m c main_v1 = truncf (F := Ideal) .bf16 (rows (m ((c.tc : Thread nD τ).loc main_arg0))) bitsLt_bf16_f32 := by
  entry_read
  rfl

theorem V_w (c : Dev nD) : V m c main_v2 = (m ((c.tc : Thread nD τ).loc main_arg1) : S2048x2048.Idx → EReal) := by
  entry_read
  rfl

theorem V_x (c : Dev nD) : V m c main_v3 = rows (m ((c.tc : Thread nD τ).loc main_arg2)) := by
  entry_read
  rfl

theorem V_g (c : Dev nD) : V m c main_v4 = vec (m ((c.tc : Thread nD τ).loc main_arg3)) := by
  entry_read
  rfl

theorem V_b (c : Dev nD) : V m c main_v5 = vec (m ((c.tc : Thread nD τ).loc main_arg4)) := by
  entry_read
  rfl

theorem rows_at (x : FVec Ideal S4x4096x2048 .f32) (s : Fin 4) (p : Fin 4096) (R : Fin 16384) (d : Fin 2048) (hR : (R : ℕ) = 4096 * (s : ℕ) + p) :
    rows x (ix2 R d : S16384x2048.Idx) = x (ix3 s p d : S4x4096x2048.Idx) := by
  have hp := p.isLt
  pointwise [rows]
  refine congrArg x ((ix3_inj ..).2 ⟨Fin.ext ?_, Fin.ext ?_, Fin.ext ?_⟩) <;> simp only [] <;> omega

theorem acts_at (x : FVec Ideal S4x4096x2048 .f32) (s : Fin 4) (p : Fin 4096) (R : Fin 16384) (d : Fin 2048) (hR : (R : ℕ) = 4096 * (s : ℕ) + p) :
    truncf (F := Ideal) .bf16 (rows x) bitsLt_bf16_f32 (ix2 R d : S16384x2048.Idx) = x (ix3 s p d : S4x4096x2048.Idx) := rows_at x s p R d hR

theorem vec_at (g : FVec Ideal S2048 .f32) (n : Fin 2048) : vec g (ix2 0 n : S1x2048.Idx) = g (ix1 n : S2048.Idx) := by
  pointwise [vec]

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0] := (by decide +kernel : ∀ t : Fin grid0.N, win0_1.index t = ![0, 0])
theorem idx0_2 : ∀ t : Fin cfg0.N, win0_2.index t = ![t.val, 0] := (by decide +kernel : ∀ t : Fin grid0.N, win0_2.index t = ![t.val, 0])
theorem idx0_3 : ∀ t : Fin cfg0.N, win0_3.index t = ![0, 0] := (by decide +kernel : ∀ t : Fin grid0.N, win0_3.index t = ![0, 0])
theorem idx0_4 : ∀ t : Fin cfg0.N, win0_4.index t = ![0, 0] := (by decide +kernel : ∀ t : Fin grid0.N, win0_4.index t = ![0, 0])
theorem idx0_5 : ∀ t : Fin cfg0.N, win0_5.index t = ![t.val, 0] := (by decide +kernel : ∀ t : Fin grid0.N, win0_5.index t = ![t.val, 0])
theorem idx0_6 : ∀ t : Fin cfg0.N, win0_6.index t = ![t.val, 0] := (by decide +kernel : ∀ t : Fin grid0.N, win0_6.index t = ![t.val, 0])

theorem blk0 (c : Dev nD) (t : Fin cfg0.N) (r : Fin 512) (d : Fin 2048) :
    iblk m c 0 t (ix2 r d : S512x2048.Idx) = V m c main_v1 (ix2 ⟨512 * t.val + r, by have : t.val < 32 := t.isLt; omega⟩ d : S16384x2048.Idx) := by
  blk_simp [iblk]
  blk_ext [idx0_0 t]

theorem blk1 (c : Dev nD) (t : Fin cfg0.N) (d n : Fin 2048) : iblk m c 1 t (ix2 d n : S2048x2048.Idx) = V m c main_v2 (ix2 d n : S2048x2048.Idx) := by
  blk_simp [iblk]
  blk_ext [idx0_1 t]

theorem blk2 (c : Dev nD) (t : Fin cfg0.N) (r : Fin 512) (d : Fin 2048) :
    iblk m c 2 t (ix2 r d : S512x2048.Idx) = V m c main_v3 (ix2 ⟨512 * t.val + r, by have : t.val < 32 := t.isLt; omega⟩ d : S16384x2048.Idx) := by
  blk_simp [iblk]
  blk_ext [idx0_2 t]

theorem blk3 (c : Dev nD) (t : Fin cfg0.N) (n : Fin 2048) : iblk m c 3 t (ix2 0 n : S1x2048.Idx) = V m c main_v4 (ix2 0 n : S1x2048.Idx) := by
  blk_simp [iblk]
  blk_ext [idx0_3 t]

theorem blk4 (c : Dev nD) (t : Fin cfg0.N) (n : Fin 2048) : iblk m c 4 t (ix2 0 n : S1x2048.Idx) = V m c main_v5 (ix2 0 n : S1x2048.Idx) := by
  blk_simp [iblk]
  blk_ext [idx0_4 t]

/-- A step's block is the reference's rows, where the step's inputs are. -/
theorem step_eq (X : S512x2048.Idx → EReal) (A : S512x2048.Idx → EReal) (W : S2048x2048.Idx → EReal) (G B : S1x2048.Idx → EReal)
    (a : FVec Ideal S4x4096x2048 .f32) (w : FVec Ideal S2048x2048 .f32) (x : FVec Ideal S4x4096x2048 .f32) (g b : FVec Ideal S2048 .f32) (r : Fin 512) (n : Fin 2048)
    (s : Fin 4) (p : Fin 4096) (R : Fin 16384) (hR : (R : ℕ) = 4096 * (s : ℕ) + p)
    (hX : ∀ i : Fin 2048, X (ix2 r i : S512x2048.Idx) = x (ix3 s p i : S4x4096x2048.Idx)) (hA : ∀ d : Fin 2048, A (ix2 r d : S512x2048.Idx) = a (ix3 s p d : S4x4096x2048.Idx))
    (hW : ∀ d i : Fin 2048, W (ix2 d i : S2048x2048.Idx) = w (ix2 d i : S2048x2048.Idx)) (hG : G (ix2 0 n : S1x2048.Idx) = g (ix1 n : S2048.Idx)) (hB : B (ix2 0 n : S1x2048.Idx) = b (ix1 n : S2048.Idx)) :
    lnAt (zAt X A W r) (G (ix2 0 n : S1x2048.Idx)) (B (ix2 0 n : S1x2048.Idx)) n = Down.Ref.normR (Ref.sumR a w x) g b (ix2 R n : S16384x2048.Idx) := by
  rw [Down.Ref.normR_at _ _ _ s p R hR n, hG, hB]
  refine congrArg (fun z => lnAt z _ _ n) (funext fun i => ?_)
  refine Eq.trans ?_ (Ref.sumR_at a w x s p i).symm
  unfold zAt
  simp only [hX, hA, hW]

/-- The reference's result, from the kernel's arguments. -/
def result (c : Dev nD) : S16384x2048.Idx → EReal :=
  Down.Ref.normR (Ref.sumR (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4))

/-- A step's rows are the reference's. -/
theorem rows_eq (c : Dev nD) (t : Fin cfg0.N) (r : Fin 512) (n : Fin 2048) (hb : 512 * t.val + r < 16384) :
    lnAt (zAt (iblk m c 2 t) (iblk m c 0 t) (iblk m c 1 t) r) (iblk m c 3 t (ix2 0 n : S1x2048.Idx)) (iblk m c 4 t (ix2 0 n : S1x2048.Idx)) n = result m c (ix2 ⟨512 * t.val + r, hb⟩ n : S16384x2048.Idx) := by
  have ht : t.val < 32 := t.isLt
  have hs : ((⟨512 * t.val + r, by omega⟩ : Fin 16384) : ℕ) = 4096 * ((⟨(512 * t.val + r) / 4096, by omega⟩ : Fin 4) : ℕ) + ((⟨(512 * t.val + r) % 4096, by omega⟩ : Fin 4096) : ℕ) := by
    simp only []; omega
  exact step_eq _ _ _ _ _ _ _ _ _ _ r n _ _ _ hs (fun i => (blk2 m c t r i).trans ((congrFun (V_x m c) _).trans (rows_at _ _ _ _ _ hs)))
    (fun d => (blk0 m c t r d).trans ((congrFun (V_a m c) _).trans (acts_at _ _ _ _ _ hs))) (fun d i => (blk1 m c t d i).trans (congrFun (V_w m c) _))
    ((blk3 m c t n).trans ((congrFun (V_g m c) _).trans (vec_at _ _))) ((blk4 m c t n).trans ((congrFun (V_b m c) _).trans (vec_at _ _)))

/-- The kernel's first result is the reference's. -/
theorem arr5 (c : Dev nD) : (dats m 0 c).arrAt 5 cfg0.N = result m c := by
  refine (dats m 0 c).arrAt_eq_of_covers 5 _ (by decide +kernel) fun t hf y => ?_
  have ht : t.val < 32 := t.isLt
  obtain ⟨a, n, rfl⟩ : ∃ (a : Fin 512) (b : Fin 2048), y = (ix2 a b : S512x2048.Idx) := ⟨y 0, y 1, (ix2_eta (y : S512x2048.Idx)).symm⟩
  have e : ((cfg0.win 5).blk t).view.emb (ix2 a n : S512x2048.Idx) = (ix2 ⟨512 * t.val + a, by omega⟩ n : S16384x2048.Idx) := by
    blk_ext [idx0_5 t]
  rw [e]
  blk_simp
  exact (after5 m c t (ix2 a n)).trans (rows_eq m c t a n _)

/-- The kernel's second result is the reference's. -/
theorem arr6 (c : Dev nD) : (dats m 0 c).arrAt 6 cfg0.N = result m c := by
  refine (dats m 0 c).arrAt_eq_of_covers 6 _ (by decide +kernel) fun t hf y => ?_
  have ht : t.val < 32 := t.isLt
  obtain ⟨a, n, rfl⟩ : ∃ (a : Fin 512) (b : Fin 2048), y = (ix2 a b : S512x2048.Idx) := ⟨y 0, y 1, (ix2_eta (y : S512x2048.Idx)).symm⟩
  have e : ((cfg0.win 6).blk t).view.emb (ix2 a n : S512x2048.Idx) = (ix2 ⟨512 * t.val + a, by omega⟩ n : S16384x2048.Idx) := by
    blk_ext [idx0_6 t]
  rw [e]
  blk_simp
  exact (after6 m c t (ix2 a n)).trans (rows_eq m c t a n _)

end Cert.Out
-- ==== Proof.QkRef.lean ====
/- The reference's queries and keys of attention B with rotary positions, at an index. -/
module

public import proofs.«01_k».proof.Proof.Gen.RefProjQkIdeal.Run
public import Idealize.ShloMosaic.Lib.Pipeline.ValueKit
public import Idealize.ShloMosaic.Lib.Claim
public import Idealize.ShloMosaic.Lib.WholeRead

@[expose] public section

set_option maxRecDepth 8192

noncomputable section

namespace Cert.Qk

open Idealize.ShloMosaic

/-- A feature of a head with rotary positions, from the head's features `p` and the tables of cosines and sines at the token: each
    feature goes with the one 64 away, the first half with the sine's sign changed. -/
def ropeAt (p : Fin 128 → EReal) (c s : Fin 64 → EReal) (i : Fin 128) : EReal :=
  if h : (i : ℕ) < 64 then p i * c ⟨i, h⟩ - p ⟨64 + i, by omega⟩ * s ⟨i, h⟩
  else p i * c ⟨i - 64, by omega⟩ + p ⟨i - 64, by omega⟩ * s ⟨i - 64, by omega⟩

theorem ropeAt_low (p : Fin 128 → EReal) (c s : Fin 64 → EReal) (i : Fin 128) (h : (i : ℕ) < 64) :
    ropeAt p c s i = p i * c ⟨i, h⟩ - p ⟨64 + i, by omega⟩ * s ⟨i, h⟩ := dif_pos h

theorem ropeAt_high (p : Fin 128 → EReal) (c s : Fin 64 → EReal) (i : Fin 128) (h : ¬ (i : ℕ) < 64) :
    ropeAt p c s i = p i * c ⟨i - 64, by omega⟩ + p ⟨i - 64, by omega⟩ * s ⟨i - 64, by omega⟩ := dif_neg h

end Cert.Qk

namespace Cert.Qk.Ref

open Idealize.ShloMosaic Idealize.ShloMosaic.TcCoe Idealize.SL.Sem
open Cert.RefProjQkIdeal Cert.RefProjQkIdeal.Gen Cert.RefProjQkIdeal.Value

/-- The angles: the position times the frequency of the pair of features. -/
def ang : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32)) (Host.powf (broadcastInDim S64 ![] bcast_S_S64 (constant S_ .f32 0x461C4000#32))
        (Host.divf (addf (broadcastInDim S64 ![] bcast_S_S64 (constant S_ .f32 0x00000000#32)) (mulf (broadcastInDim S64 ![] bcast_S_S64 (constant S_ .f32 0x40000000#32)) (sitofp .f32 (iotaInDim S64 32 0))))
          (broadcastInDim S64 ![] bcast_S_S64 (constant S_ .f32 0x43000000#32)))))))

/-- A table of cosines or sines for every head. -/
def spread (T : FVec Ideal S4096x64 .f32) : FVec Ideal S4x4096x8x2x64 .f32 :=
  broadcastInDim S4x4096x8x2x64 ![0, 1, 2, 3, 4] bcast_S1x4096x1x1x64_S4x4096x8x2x64_0_1_2_3_4 (broadcastInDim S1x4096x1x1x64 ![1, 2, 3, 4] bcast_S4096x1x1x64_S1x4096x1x1x64_1_2_3_4 (broadcastInDim S4096x1x1x64 ![0, 3] bcast_S4096x64_S4096x1x1x64_0_3 T))

/-- The two halves of each head's features, and the rotation. -/
def rope (u : FVec Ideal S4x4096x8x2x128 .f32) (c s : FVec Ideal S4096x64 .f32) : FVec Ideal S4x4096x8x2x128 .f32 :=
  concatenate S4x4096x8x2x128 4
    [⟨S4x4096x8x2x64, (subf (mulf (extractStridedSlice S4x4096x8x2x64 ![0, 0, 0, 0, 0] u slices_S4x4096x8x2x128_S4x4096x8x2x64_0_0_0_0_0) (spread c))
        (mulf (extractStridedSlice S4x4096x8x2x64 ![0, 0, 0, 0, 64] u slices_S4x4096x8x2x128_S4x4096x8x2x64_0_0_0_0_64) (spread s)) : FVec Ideal S4x4096x8x2x64 .f32)⟩,
     ⟨S4x4096x8x2x64, (addf (mulf (extractStridedSlice S4x4096x8x2x64 ![0, 0, 0, 0, 64] u slices_S4x4096x8x2x128_S4x4096x8x2x64_0_0_0_0_64) (spread c))
        (mulf (extractStridedSlice S4x4096x8x2x64 ![0, 0, 0, 0, 0] u slices_S4x4096x8x2x128_S4x4096x8x2x64_0_0_0_0_0) (spread s)) : FVec Ideal S4x4096x8x2x64 .f32)⟩]
    concatenates_S4x4096x8x2x64_S4x4096x8x2x64_S4x4096x8x2x128_d4

theorem spread_at (T : FVec Ideal S4096x64 .f32) (b : Fin 4) (p : Fin 4096) (h : Fin 8) (g : Fin 2) (i : Fin 64) :
    spread T (ix5 b p h g i : S4x4096x8x2x64.Idx) = T (ix2 p i : S4096x64.Idx) := by
  pointwise [spread]

theorem rope_at (u : FVec Ideal S4x4096x8x2x128 .f32) (c s : FVec Ideal S4096x64 .f32) (b : Fin 4) (p : Fin 4096) (h : Fin 8) (g : Fin 2) (i : Fin 128) :
    rope u c s (ix5 b p h g i : S4x4096x8x2x128.Idx) = ropeAt (fun j => u (ix5 b p h g j : S4x4096x8x2x128.Idx)) (fun j => c (ix2 p j : S4096x64.Idx)) (fun j => s (ix2 p j : S4096x64.Idx)) i := by
  have hi := i.isLt
  by_cases hl : (i : ℕ) < 64
  · rw [ropeAt_low _ _ _ _ hl]
    pointwise [rope]
    refine (dif_pos hl).trans ?_
    rw [spread_at, spread_at]
  · rw [ropeAt_high _ _ _ _ hl]
    pointwise [rope]
    refine (dif_neg hl).trans ?_
    rw [spread_at, spread_at, (Fin.ext (by simp only []; omega) : (⟨64 + ((i : ℕ) - 64), by omega⟩ : Fin 128) = i)]

/-- The projection's 2048 columns from 2560 on, as heads. -/
def headsQ (x : FVec Ideal S4x4096x2048 .f32) (w : FVec Ideal S2048x12800 .f32) : FVec Ideal S4x4096x8x2x128 .f32 :=
  shapeCast _ (extractStridedSlice S4x4096x2048 ![0, 0, 2560] (Host.dotGeneral dot_S4x4096x2048_S2048x12800_S4x4096x12800_2_0_01_1_n_n none x w) slices_S4x4096x12800_S4x4096x2048_0_0_2560) shapeCasts_S4x4096x2048_S4x4096x8x2x128

/-- The projection's 2048 columns from 4608 on, as heads. -/
def headsK (x : FVec Ideal S4x4096x2048 .f32) (w : FVec Ideal S2048x12800 .f32) : FVec Ideal S4x4096x8x2x128 .f32 :=
  shapeCast _ (extractStridedSlice S4x4096x2048 ![0, 0, 4608] (Host.dotGeneral dot_S4x4096x2048_S2048x12800_S4x4096x12800_2_0_01_1_n_n none x w) slices_S4x4096x12800_S4x4096x2048_0_0_4608) shapeCasts_S4x4096x2048_S4x4096x8x2x128

theorem headsQ_at (x : FVec Ideal S4x4096x2048 .f32) (w : FVec Ideal S2048x12800 .f32) (b : Fin 4) (p : Fin 4096) (h : Fin 8) (g : Fin 2) (i : Fin 128) (n : Fin 12800) (hn : (n : ℕ) = 2560 + (256 * (h : ℕ) + 128 * (g : ℕ) + i)) :
    headsQ x w (ix5 b p h g i : S4x4096x8x2x128.Idx) = ∑ d : Fin 2048, x (ix3 b p d : S4x4096x2048.Idx) * w (ix2 d n : S2048x12800.Idx) := by
  have hb := b.isLt; have hp := p.isLt; have hh := h.isLt; have hg := g.isLt; have hi := i.isLt
  pointwise [headsQ]
  refine Finset.sum_congr rfl fun d _ => congrArg₂ (fun u v : EReal => u * v) (congrArg x ((ix3_inj ..).2 ⟨Fin.ext ?_, Fin.ext ?_, Fin.ext ?_⟩)) (congrArg w ((ix2_inj ..).2 ⟨Fin.ext ?_, Fin.ext ?_⟩)) <;> simp only [] <;> omega

theorem headsK_at (x : FVec Ideal S4x4096x2048 .f32) (w : FVec Ideal S2048x12800 .f32) (b : Fin 4) (p : Fin 4096) (h : Fin 8) (g : Fin 2) (i : Fin 128) (n : Fin 12800) (hn : (n : ℕ) = 4608 + (256 * (h : ℕ) + 128 * (g : ℕ) + i)) :
    headsK x w (ix5 b p h g i : S4x4096x8x2x128.Idx) = ∑ d : Fin 2048, x (ix3 b p d : S4x4096x2048.Idx) * w (ix2 d n : S2048x12800.Idx) := by
  have hb := b.isLt; have hp := p.isLt; have hh := h.isLt; have hg := g.isLt; have hi := i.isLt
  pointwise [headsK]
  refine Finset.sum_congr rfl fun d _ => congrArg₂ (fun u v : EReal => u * v) (congrArg x ((ix3_inj ..).2 ⟨Fin.ext ?_, Fin.ext ?_, Fin.ext ?_⟩)) (congrArg w ((ix2_inj ..).2 ⟨Fin.ext ?_, Fin.ext ?_⟩)) <;> simp only [] <;> omega

/-- The softmax scale in base 2, which the queries carry. -/
def scale : EReal := Ideal.ofBits .f32 0x3E0293EE#32

/-- The reference's queries. -/
def qR (x : FVec Ideal S4x4096x2048 .f32) (w : FVec Ideal S2048x12800 .f32) : FVec Ideal S4x8x2x128x4096 .bf16 :=
  truncf .bf16 (transpose S4x8x2x128x4096 [0, 2, 3, 4, 1] (mulf (rope (headsQ x w) (Host.cos ang) (Host.sin ang)) (broadcastInDim S4x4096x8x2x128 ![] bcast_S_S4x4096x8x2x128 (constant S_ .f32 0x3E0293EE#32)))
    transposes_S4x4096x8x2x128_S4x8x2x128x4096_0_2_3_4_1) bitsLt_bf16_f32

/-- The reference's keys, one row for each token. -/
def kR (x : FVec Ideal S4x4096x2048 .f32) (w : FVec Ideal S2048x12800 .f32) : FVec Ideal S16384x2048 .bf16 :=
  truncf .bf16 (shapeCast _ (rope (headsK x w) (Host.cos ang) (Host.sin ang)) shapeCasts_S4x4096x8x2x128_S16384x2048) bitsLt_bf16_f32

theorem res0_eq (m : (ℓ : Loc nD τ sig) → Buf (Elt Ideal) ℓ) (c : Dev nD) :
    res_main_v65 m c = qR (m ((c.tc : Thread nD τ).loc main_arg0)) (m ((c.tc : Thread nD τ).loc main_arg1)) := rfl

theorem res1_eq (m : (ℓ : Loc nD τ sig) → Buf (Elt Ideal) ℓ) (c : Dev nD) :
    res_main_v67 m c = kR (m ((c.tc : Thread nD τ).loc main_arg0)) (m ((c.tc : Thread nD τ).loc main_arg1)) := rfl

theorem qR_at (x : FVec Ideal S4x4096x2048 .f32) (w : FVec Ideal S2048x12800 .f32) (b : Fin 4) (h : Fin 8) (g : Fin 2) (i : Fin 128) (p : Fin 4096) :
    qR x w (ix5 b h g i p : S4x8x2x128x4096.Idx) = ropeAt (fun j => ∑ d : Fin 2048, x (ix3 b p d : S4x4096x2048.Idx) * w (ix2 d ⟨2560 + (256 * (h : ℕ) + 128 * (g : ℕ) + j), by omega⟩ : S2048x12800.Idx))
      (fun j => Host.cos ang (ix2 p j : S4096x64.Idx)) (fun j => Host.sin ang (ix2 p j : S4096x64.Idx)) i * scale := by
  pointwise [qR]
  rw [rope_at]
  exact congrArg₂ (fun u v : EReal => u * v) (congrArg (fun f => ropeAt f _ _ i) (funext fun j => headsQ_at x w b p h g j _ rfl)) rfl

theorem kR_at (x : FVec Ideal S4x4096x2048 .f32) (w : FVec Ideal S2048x12800 .f32) (b : Fin 4) (p : Fin 4096) (R : Fin 16384) (hR : (R : ℕ) = 4096 * (b : ℕ) + p) (n : Fin 2048) (o : ℕ) (ho : o + 128 ≤ 2048) (h128 : o % 128 = 0) (i : Fin 128) (hn : (n : ℕ) = o + i) :
    kR x w (ix2 R n : S16384x2048.Idx) = ropeAt (fun j => ∑ d : Fin 2048, x (ix3 b p d : S4x4096x2048.Idx) * w (ix2 d ⟨4608 + (o + j), by omega⟩ : S2048x12800.Idx))
      (fun j => Host.cos ang (ix2 p j : S4096x64.Idx)) (fun j => Host.sin ang (ix2 p j : S4096x64.Idx)) i := by
  have hp := p.isLt; have hi := i.isLt; have hb := b.isLt
  have e : kR x w (ix2 R n : S16384x2048.Idx) = rope (headsK x w) (Host.cos ang) (Host.sin ang) (ix5 b p ⟨o / 256, by omega⟩ ⟨o / 128 % 2, by omega⟩ i : S4x4096x8x2x128.Idx) := by
    pointwise [kR]
    refine congrArg _ ((ix5_inj ..).2 ⟨Fin.ext ?_, Fin.ext ?_, Fin.ext ?_, Fin.ext ?_, Fin.ext ?_⟩) <;> simp only [] <;> omega
  rw [e, rope_at]
  exact congrArg (fun f => ropeAt f _ _ i) (funext fun j => headsK_at x w b p _ _ j _ (by simp only []; omega))

end Cert.Qk.Ref
-- ==== Proof.QkBlock.lean ====
/- The queries and keys of attention B: what one store writes. -/
module

public import proofs.«01_k».proof.Proof.QkRef
public import proofs.«01_k».proof.Proof.FfnBlock
public import proofs.«01_k».proof.Proof.Gen.ProjQkIdeal.Value

@[expose] public section

set_option maxRecDepth 8192

noncomputable section

namespace Cert.Qk

open Idealize.ShloMosaic Idealize.ShloMosaic.TcCoe Idealize.SL.Sem
open Cert.ProjQkIdeal Cert.ProjQkIdeal.Gen

/-- The products of a step's rows with 256 columns. -/
def prod (X : FVec Ideal S1024x2048 .bf16) (W : FVec Ideal S2048x256 .bf16) : FVec Ideal S1024x256 .f32 :=
  matmul dot_S1024x2048_S2048x256_S1024x256_1_0_0_1_n_n none (shapeCast S1024x2048 X shapeCasts_S1024x2048_S1024x2048) (shapeCast S2048x256 W shapeCasts_S2048x256_S2048x256) (constant S1024x256 .f32 0x00000000#32)

theorem prod_at (X : FVec Ideal S1024x2048 .bf16) (W : FVec Ideal S2048x256 .bf16) (r : Fin 1024) (b : Fin 256) :
    prod X W (ix2 r b : S1024x256.Idx) = ∑ d : Fin 2048, X (ix2 r d : S1024x2048.Idx) * W (ix2 d b : S2048x256.Idx) := by
  pointwise [prod]

/-- The rotation of 128 features, with the two tables. -/
def rot (u : FVec Ideal S1024x128 .f32) (c s : FVec Ideal S1x1024x128 .f32) : FVec Ideal S1024x128 .f32 :=
  addf (mulf u (shapeCast S1024x128 c shapeCasts_S1x1024x128_S1024x128)) (mulf (dynamicRotate 1 64#32 none u rotates_S1024x128_d1) (shapeCast S1024x128 s shapeCasts_S1x1024x128_S1024x128))

theorem rot_at (u : FVec Ideal S1024x128 .f32) (c s : FVec Ideal S1x1024x128 .f32) (r : Fin 1024) (i : Fin 128) :
    rot u c s (ix2 r i : S1024x128.Idx) = u (ix2 r i : S1024x128.Idx) * c (ix3 0 r i : S1x1024x128.Idx) + u (ix2 r ⟨(i + 64) % 128, Nat.mod_lt _ (by decide)⟩ : S1024x128.Idx) * s (ix3 0 r i : S1x1024x128.Idx) := by
  have hi := i.isLt
  pointwise [rot]
  rw [(Fin.ext (by simp only []; omega) : (⟨((i : ℕ) + 128 - 64) % 128, Nat.mod_lt _ (by decide)⟩ : Fin 128) = ⟨((i : ℕ) + 64) % 128, Nat.mod_lt _ (by decide)⟩)]

/-- What a store of queries holds: the features as rows, the tokens as columns. -/
def qpay (u : FVec Ideal S1024x128 .f32) (c s : FVec Ideal S1x1024x128 .f32) : FVec Ideal S1x1x1x128x1024 .bf16 :=
  shapeCast S1x1x1x128x1024 (transpose S128x1024 [1, 0] (truncf .bf16 (mulf (rot u c s) (broadcast S1024x128 (Scalar.ofBits .f32 0x3E0293EE#32 : Ideal .f32))) bitsLt_bf16_f32) transposes_S1024x128_p1_0_S128x1024) shapeCasts_S128x1024_S1x1x1x128x1024

theorem qpay_at (u : FVec Ideal S1024x128 .f32) (c s : FVec Ideal S1x1024x128 .f32) (i : Fin 128) (r : Fin 1024) :
    qpay u c s (ix5 0 0 0 i r : S1x1x1x128x1024.Idx) = rot u c s (ix2 r i : S1024x128.Idx) * Ref.scale := by
  pointwise [qpay]
  rfl

/-- What a store of keys holds. -/
def kpay (u : FVec Ideal S1024x128 .f32) (c s : FVec Ideal S1x1024x128 .f32) : FVec Ideal S1024x128 .bf16 := truncf .bf16 (rot u c s) bitsLt_bf16_f32

/-- A feature after the rotation, from a step's rows, its block of the weights with the head's first column at `o`, and its block of
    the two tables. -/
def stepAt (X : S1024x2048.Idx → EReal) (W : S2048x4096.Idx → EReal) (T : S2x1024x128.Idx → EReal) (o : ℕ) (ho : o + 128 ≤ 4096) (r : Fin 1024) (i : Fin 128) : EReal :=
  (∑ d : Fin 2048, X (ix2 r d) * W (ix2 d ⟨o + i, by omega⟩)) * T (ix3 0 r i)
    + (∑ d : Fin 2048, X (ix2 r d) * W (ix2 d ⟨o + (i + 64) % 128, by omega⟩)) * T (ix3 1 r i)

/-- The rotation of the first or second 128 of 256 columns' products. -/
theorem rot_step (X : Vec Ideal S1024x2048 .bf16) (W : Vec Ideal S2048x4096 .bf16) (T : Vec Ideal S2x1024x128 .f32) (o g : ℕ) (ho : o + g + 128 ≤ 4096) (hX hW h0 h1) (hs : S1024x256.Slices ![0, g] S1024x128) (hg : g + 128 ≤ 256) (r : Fin 1024) (i : Fin 128) :
    rot (extractStridedSlice S1024x128 ![0, g] (prod (View.ld X (Rect.unit (s := S1024x2048) ![0, 0] ![1024, 2048] hX)) (View.ld W (Rect.unit (s := S2048x4096) ![0, o] ![2048, 256] hW))) hs)
      (View.ld T (Rect.unit (s := S2x1024x128) ![0, 0, 0] ![1, 1024, 128] h0)) (View.ld T (Rect.unit (s := S2x1024x128) ![1, 0, 0] ![1, 1024, 128] h1)) (ix2 r i : S1024x128.Idx)
      = stepAt X W T (o + g) ho r i := by
  have hu : ∀ (j : Fin 128) (n : Fin 4096), (n : ℕ) = o + g + j → (extractStridedSlice S1024x128 ![0, g] (prod (View.ld X (Rect.unit (s := S1024x2048) ![0, 0] ![1024, 2048] hX)) (View.ld W (Rect.unit (s := S2048x4096) ![0, o] ![2048, 256] hW))) hs) (ix2 r j : S1024x128.Idx)
      = ∑ d : Fin 2048, X (ix2 r d) * W (ix2 d n) := fun j n hn => by
    have e : (extractStridedSlice S1024x128 ![0, g] (prod (View.ld X (Rect.unit (s := S1024x2048) ![0, 0] ![1024, 2048] hX)) (View.ld W (Rect.unit (s := S2048x4096) ![0, o] ![2048, 256] hW))) hs) (ix2 r j : S1024x128.Idx)
        = prod (View.ld X (Rect.unit (s := S1024x2048) ![0, 0] ![1024, 2048] hX)) (View.ld W (Rect.unit (s := S2048x4096) ![0, o] ![2048, 256] hW)) (ix2 r ⟨g + j, by omega⟩ : S1024x256.Idx) := by
      pointwise []
    rw [e, prod_at]
    exact Finset.sum_congr rfl fun d _ => congrArg₂ (fun u v : EReal => u * v) (Attn.ld2_at X hX r d r d (Nat.zero_add _).symm (Nat.zero_add _).symm)
      (Attn.ld2_at W hW d _ d n (Nat.zero_add _).symm (by simp only []; omega))
  rw [rot_at, hu i ⟨o + g + i, by omega⟩ rfl, hu ⟨((i : ℕ) + 64) % 128, Nat.mod_lt _ (by decide)⟩ ⟨o + g + (i + 64) % 128, by omega⟩ rfl]
  exact congrArg₂ (fun u v : EReal => u + v) (congrArg₂ (fun u v : EReal => u * v) rfl (Ffn.ld3_at T h0 0 r i 0 r i rfl (Nat.zero_add _).symm (Nat.zero_add _).symm))
    (congrArg₂ (fun u v : EReal => u * v) rfl (Ffn.ld3_at T h1 0 r i 1 r i rfl (Nat.zero_add _).symm (Nat.zero_add _).symm))

/-- A store of queries, of head `h` and half `g`. -/
theorem q_at (X : Vec Ideal S1024x2048 .bf16) (W : Vec Ideal S2048x4096 .bf16) (T : Vec Ideal S2x1024x128 .f32) (o e h g : ℕ) (hX hW h0 h1) (hs : S1024x256.Slices ![0, e] S1024x128) (he : e + 128 ≤ 256)
    (ho : o = 256 * h ∧ e = 128 * g) (x : S1x1x1x128x1024.Idx) (y : S1x8x2x128x1024.Idx) (y1 : (y 1 : ℕ) = h + (x 1 : ℕ)) (y2 : (y 2 : ℕ) = g + (x 2 : ℕ)) (y3 : (y 3 : ℕ) = (x 3 : ℕ)) (y4 : (y 4 : ℕ) = (x 4 : ℕ)) :
    qpay (extractStridedSlice S1024x128 ![0, e] (prod (View.ld X (Rect.unit (s := S1024x2048) ![0, 0] ![1024, 2048] hX)) (View.ld W (Rect.unit (s := S2048x4096) ![0, o] ![2048, 256] hW))) hs)
      (View.ld T (Rect.unit (s := S2x1024x128) ![0, 0, 0] ![1, 1024, 128] h0)) (View.ld T (Rect.unit (s := S2x1024x128) ![1, 0, 0] ![1, 1024, 128] h1)) x
      = stepAt X W T (256 * (y 1 : ℕ) + 128 * (y 2 : ℕ)) (by have : (y 1 : ℕ) < 8 := (y 1).isLt; have : (y 2 : ℕ) < 2 := (y 2).isLt; omega) (y 4) (y 3) * Ref.scale := by
  obtain ⟨b0, b1, b2, i, r, rfl⟩ : ∃ (a : Fin 1) (b : Fin 1) (c : Fin 1) (d : Fin 128) (e : Fin 1024), x = ix5 a b c d e := ⟨x 0, x 1, x 2, x 3, x 4, eq_ix5 x⟩
  obtain ⟨c0, h', g', i', r', rfl⟩ : ∃ (a : Fin 1) (b : Fin 8) (c : Fin 2) (d : Fin 128) (e : Fin 1024), y = ix5 a b c d e := ⟨y 0, y 1, y 2, y 3, y 4, eq_ix5 y⟩
  obtain rfl : b0 = 0 := Subsingleton.elim _ _
  obtain rfl : b1 = 0 := Subsingleton.elim _ _
  obtain rfl : b2 = 0 := Subsingleton.elim _ _
  obtain rfl : (h' : ℕ) = h := y1
  obtain rfl : (g' : ℕ) = g := y2
  obtain rfl : i' = i := Fin.ext y3
  obtain rfl : r' = r := Fin.ext y4
  obtain ⟨rfl, rfl⟩ := ho
  have hh := h'.isLt
  have hg := g'.isLt
  rw [qpay_at, rot_step X W T (256 * (h' : ℕ)) (128 * (g' : ℕ)) (by omega) hX hW h0 h1 hs he r' i']
  rfl

/-- A store of keys, at columns from `n`. -/
theorem k_at (X : Vec Ideal S1024x2048 .bf16) (W : Vec Ideal S2048x4096 .bf16) (T : Vec Ideal S2x1024x128 .f32) (o e n : ℕ) (hX hW h0 h1) (hs : S1024x256.Slices ![0, e] S1024x128) (he : e + 128 ≤ 256 ∧ n % 128 = 0)
    (ho : o + e = 2048 + n) (x : S1024x128.Idx) (y : S1024x2048.Idx) (y0 : (y 0 : ℕ) = (x 0 : ℕ)) (y1 : (y 1 : ℕ) = n + (x 1 : ℕ)) :
    kpay (extractStridedSlice S1024x128 ![0, e] (prod (View.ld X (Rect.unit (s := S1024x2048) ![0, 0] ![1024, 2048] hX)) (View.ld W (Rect.unit (s := S2048x4096) ![0, o] ![2048, 256] hW))) hs)
      (View.ld T (Rect.unit (s := S2x1024x128) ![0, 0, 0] ![1, 1024, 128] h0)) (View.ld T (Rect.unit (s := S2x1024x128) ![1, 0, 0] ![1, 1024, 128] h1)) x
      = stepAt X W T (2048 + 128 * ((y 1 : ℕ) / 128)) (by have : (y 1 : ℕ) < 2048 := (y 1).isLt; omega) (y 0) ⟨(y 1 : ℕ) % 128, Nat.mod_lt _ (by decide)⟩ := by
  obtain ⟨r, i, rfl⟩ : ∃ (a : Fin 1024) (b : Fin 128), x = ix2 a b := ⟨x 0, x 1, (ix2_eta x).symm⟩
  obtain ⟨r', N, rfl⟩ : ∃ (a : Fin 1024) (b : Fin 2048), y = ix2 a b := ⟨y 0, y 1, (ix2_eta y).symm⟩
  replace y1 : (N : ℕ) = n + i := y1
  obtain rfl : r' = r := Fin.ext y0
  have hi := i.isLt
  have hN := N.isLt
  refine (rot_step X W T o e (by omega) hX hW h0 h1 hs he.1 r' i).trans ?_
  have e1 : o + e = 2048 + 128 * ((N : ℕ) / 128) := by omega
  have e2 : i = (⟨(N : ℕ) % 128, Nat.mod_lt _ (by decide)⟩ : Fin 128) := Fin.ext (by simp only []; omega)
  show stepAt X W T (o + e) _ r' i = stepAt X W T (2048 + 128 * ((N : ℕ) / 128)) _ r' ⟨(N : ℕ) % 128, Nat.mod_lt _ (by decide)⟩
  rw [← e2]
  simp only [e1]

end Cert.Qk
-- ==== Proof.QkAfter.lean ====
/- The queries and keys of attention B: the two blocks that one step writes. -/
module

public import proofs.«01_k».proof.Proof.QkBlock

@[expose] public section

set_option maxRecDepth 8192

noncomputable section

namespace Cert.Qk

open Idealize.ShloMosaic Idealize.ShloMosaic.TcCoe Idealize.SL.Sem
open Cert.ProjQkIdeal Cert.ProjQkIdeal.Gen

/-- The first 128 of 256 columns' products. -/
abbrev lo (X : FVec Ideal S1024x2048 .bf16) (W : FVec Ideal S2048x256 .bf16) : FVec Ideal S1024x128 .f32 := extractStridedSlice S1024x128 ![0, 0] (prod X W) slices_S1024x256_o0_0_S1024x128

/-- The last 128 of 256 columns' products. -/
abbrev hi (X : FVec Ideal S1024x2048 .bf16) (W : FVec Ideal S2048x256 .bf16) : FVec Ideal S1024x128 .f32 := extractStridedSlice S1024x128 ![0, 128] (prod X W) slices_S1024x256_o0_128_S1024x128

variable (m : (ℓ : Loc nD τ sig) → Buf (Elt Ideal) ℓ)

attribute [local irreducible] View.readAt

set_option maxHeartbeats 400000 in
/-- The stores of queries. -/
theorem out3_at (X : Vec Ideal S1024x2048 .bf16) (W : Vec Ideal S2048x4096 .bf16) (T : Vec Ideal S2x1024x128 .f32) (y : S1x8x2x128x1024.Idx) :
    out0_3 (F := Ideal) X W T y = stepAt X W T (256 * (y 1 : ℕ) + 128 * (y 2 : ℕ)) (by have : (y 1 : ℕ) < 8 := (y 1).isLt; have : (y 2 : ℕ) < 2 := (y 2).isLt; omega) (y 4) (y 3) * Ref.scale := by
  unfold_out out0_3
  canon_tiles x h
  · exact (congrFun (rfl : _ = qpay (hi (View.ld X r0_0) (View.ld W r0_24)) (View.ld T r0_2) (View.ld T r0_3)) x).trans (q_at X W T 1792 128 7 1 _ _ _ _ _ (by decide) (by decide) x y h1 h2 h3 h4)
  · exact (congrFun (rfl : _ = qpay (lo (View.ld X r0_0) (View.ld W r0_24)) (View.ld T r0_2) (View.ld T r0_3)) x).trans (q_at X W T 1792 0 7 0 _ _ _ _ _ (by decide) (by decide) x y h1 (h2.trans (Nat.zero_add _).symm) h3 h4)
  · exact (congrFun (rfl : _ = qpay (hi (View.ld X r0_0) (View.ld W r0_21)) (View.ld T r0_2) (View.ld T r0_3)) x).trans (q_at X W T 1536 128 6 1 _ _ _ _ _ (by decide) (by decide) x y h1 h2 h3 h4)
  · exact (congrFun (rfl : _ = qpay (lo (View.ld X r0_0) (View.ld W r0_21)) (View.ld T r0_2) (View.ld T r0_3)) x).trans (q_at X W T 1536 0 6 0 _ _ _ _ _ (by decide) (by decide) x y h1 (h2.trans (Nat.zero_add _).symm) h3 h4)
  · exact (congrFun (rfl : _ = qpay (hi (View.ld X r0_0) (View.ld W r0_18)) (View.ld T r0_2) (View.ld T r0_3)) x).trans (q_at X W T 1280 128 5 1 _ _ _ _ _ (by decide) (by decide) x y h1 h2 h3 h4)
  · exact (congrFun (rfl : _ = qpay (lo (View.ld X r0_0) (View.ld W r0_18)) (View.ld T r0_2) (View.ld T r0_3)) x).trans (q_at X W T 1280 0 5 0 _ _ _ _ _ (by decide) (by decide) x y h1 (h2.trans (Nat.zero_add _).symm) h3 h4)
  · exact (congrFun (rfl : _ = qpay (hi (View.ld X r0_0) (View.ld W r0_15)) (View.ld T r0_2) (View.ld T r0_3)) x).trans (q_at X W T 1024 128 4 1 _ _ _ _ _ (by decide) (by decide) x y h1 h2 h3 h4)
  · exact (congrFun (rfl : _ = qpay (lo (View.ld X r0_0) (View.ld W r0_15)) (View.ld T r0_2) (View.ld T r0_3)) x).trans (q_at X W T 1024 0 4 0 _ _ _ _ _ (by decide) (by decide) x y h1 (h2.trans (Nat.zero_add _).symm) h3 h4)
  · exact (congrFun (rfl : _ = qpay (hi (View.ld X r0_0) (View.ld W r0_12)) (View.ld T r0_2) (View.ld T r0_3)) x).trans (q_at X W T 768 128 3 1 _ _ _ _ _ (by decide) (by decide) x y h1 h2 h3 h4)
  · exact (congrFun (rfl : _ = qpay (lo (View.ld X r0_0) (View.ld W r0_12)) (View.ld T r0_2) (View.ld T r0_3)) x).trans (q_at X W T 768 0 3 0 _ _ _ _ _ (by decide) (by decide) x y h1 (h2.trans (Nat.zero_add _).symm) h3 h4)
  · exact (congrFun (rfl : _ = qpay (hi (View.ld X r0_0) (View.ld W r0_9)) (View.ld T r0_2) (View.ld T r0_3)) x).trans (q_at X W T 512 128 2 1 _ _ _ _ _ (by decide) (by decide) x y h1 h2 h3 h4)
  · exact (congrFun (rfl : _ = qpay (lo (View.ld X r0_0) (View.ld W r0_9)) (View.ld T r0_2) (View.ld T r0_3)) x).trans (q_at X W T 512 0 2 0 _ _ _ _ _ (by decide) (by decide) x y h1 (h2.trans (Nat.zero_add _).symm) h3 h4)
  · exact (congrFun (rfl : _ = qpay (hi (View.ld X r0_0) (View.ld W r0_6)) (View.ld T r0_2) (View.ld T r0_3)) x).trans (q_at X W T 256 128 1 1 _ _ _ _ _ (by decide) (by decide) x y h1 h2 h3 h4)
  · exact (congrFun (rfl : _ = qpay (lo (View.ld X r0_0) (View.ld W r0_6)) (View.ld T r0_2) (View.ld T r0_3)) x).trans (q_at X W T 256 0 1 0 _ _ _ _ _ (by decide) (by decide) x y h1 (h2.trans (Nat.zero_add _).symm) h3 h4)
  · exact (congrFun (rfl : _ = qpay (hi (View.ld X r0_0) (View.ld W r0_1)) (View.ld T r0_2) (View.ld T r0_3)) x).trans (q_at X W T 0 128 0 1 _ _ _ _ _ (by decide) (by decide) x y (h1.trans (Nat.zero_add _).symm) h2 h3 h4)
  · exact (congrFun (rfl : _ = qpay (lo (View.ld X r0_0) (View.ld W r0_1)) (View.ld T r0_2) (View.ld T r0_3)) x).trans (q_at X W T 0 0 0 0 _ _ _ _ _ (by decide) (by decide) x y (h1.trans (Nat.zero_add _).symm) (h2.trans (Nat.zero_add _).symm) h3 h4)

/-- A step's block of queries. -/
theorem after3 (c : Dev nD) (t : Fin cfg0.N) (y : S1x8x2x128x1024.Idx) :
    (dats m 0 c).after 3 t y = stepAt (iblk m c 0 t) (iblk m c 1 t) (iblk m c 2 t) (256 * (y 1 : ℕ) + 128 * (y 2 : ℕ)) (by have : (y 1 : ℕ) < 8 := (y 1).isLt; have : (y 2 : ℕ) < 2 := (y 2).isLt; omega) (y 4) (y 3) * Ref.scale := by
  rw [after0_3]
  exact out3_at _ _ _ y

set_option maxHeartbeats 400000 in
/-- The stores of keys. -/
theorem out4_at (X : Vec Ideal S1024x2048 .bf16) (W : Vec Ideal S2048x4096 .bf16) (T : Vec Ideal S2x1024x128 .f32) (y : S1024x2048.Idx) :
    out0_4 (F := Ideal) X W T y = stepAt X W T (2048 + 128 * ((y 1 : ℕ) / 128)) (by have : (y 1 : ℕ) < 2048 := (y 1).isLt; omega) (y 0) ⟨(y 1 : ℕ) % 128, Nat.mod_lt _ (by decide)⟩ := by
  unfold_out out0_4
  canon_tiles x h
  · exact (congrFun (rfl : _ = kpay (hi (View.ld X r0_0) (View.ld W r0_48)) (View.ld T r0_2) (View.ld T r0_3)) x).trans (k_at X W T 3840 128 1920 _ _ _ _ _ (by decide) (by decide) x y h0 h1)
  · exact (congrFun (rfl : _ = kpay (lo (View.ld X r0_0) (View.ld W r0_48)) (View.ld T r0_2) (View.ld T r0_3)) x).trans (k_at X W T 3840 0 1792 _ _ _ _ _ (by decide) (by decide) x y h0 h1)
  · exact (congrFun (rfl : _ = kpay (hi (View.ld X r0_0) (View.ld W r0_45)) (View.ld T r0_2) (View.ld T r0_3)) x).trans (k_at X W T 3584 128 1664 _ _ _ _ _ (by decide) (by decide) x y h0 h1)
  · exact (congrFun (rfl : _ = kpay (lo (View.ld X r0_0) (View.ld W r0_45)) (View.ld T r0_2) (View.ld T r0_3)) x).trans (k_at X W T 3584 0 1536 _ _ _ _ _ (by decide) (by decide) x y h0 h1)
  · exact (congrFun (rfl : _ = kpay (hi (View.ld X r0_0) (View.ld W r0_42)) (View.ld T r0_2) (View.ld T r0_3)) x).trans (k_at X W T 3328 128 1408 _ _ _ _ _ (by decide) (by decide) x y h0 h1)
  · exact (congrFun (rfl : _ = kpay (lo (View.ld X r0_0) (View.ld W r0_42)) (View.ld T r0_2) (View.ld T r0_3)) x).trans (k_at X W T 3328 0 1280 _ _ _ _ _ (by decide) (by decide) x y h0 h1)
  · exact (congrFun (rfl : _ = kpay (hi (View.ld X r0_0) (View.ld W r0_39)) (View.ld T r0_2) (View.ld T r0_3)) x).trans (k_at X W T 3072 128 1152 _ _ _ _ _ (by decide) (by decide) x y h0 h1)
  · exact (congrFun (rfl : _ = kpay (lo (View.ld X r0_0) (View.ld W r0_39)) (View.ld T r0_2) (View.ld T r0_3)) x).trans (k_at X W T 3072 0 1024 _ _ _ _ _ (by decide) (by decide) x y h0 h1)
  · exact (congrFun (rfl : _ = kpay (hi (View.ld X r0_0) (View.ld W r0_36)) (View.ld T r0_2) (View.ld T r0_3)) x).trans (k_at X W T 2816 128 896 _ _ _ _ _ (by decide) (by decide) x y h0 h1)
  · exact (congrFun (rfl : _ = kpay (lo (View.ld X r0_0) (View.ld W r0_36)) (View.ld T r0_2) (View.ld T r0_3)) x).trans (k_at X W T 2816 0 768 _ _ _ _ _ (by decide) (by decide) x y h0 h1)
  · exact (congrFun (rfl : _ = kpay (hi (View.ld X r0_0) (View.ld W r0_33)) (View.ld T r0_2) (View.ld T r0_3)) x).trans (k_at X W T 2560 128 640 _ _ _ _ _ (by decide) (by decide) x y h0 h1)
  · exact (congrFun (rfl : _ = kpay (lo (View.ld X r0_0) (View.ld W r0_33)) (View.ld T r0_2) (View.ld T r0_3)) x).trans (k_at X W T 2560 0 512 _ _ _ _ _ (by decide) (by decide) x y h0 h1)
  · exact (congrFun (rfl : _ = kpay (hi (View.ld X r0_0) (View.ld W r0_30)) (View.ld T r0_2) (View.ld T r0_3)) x).trans (k_at X W T 2304 128 384 _ _ _ _ _ (by decide) (by decide) x y h0 h1)
  · exact (congrFun (rfl : _ = kpay (lo (View.ld X r0_0) (View.ld W r0_30)) (View.ld T r0_2) (View.ld T r0_3)) x).trans (k_at X W T 2304 0 256 _ _ _ _ _ (by decide) (by decide) x y h0 h1)
  · exact (congrFun (rfl : _ = kpay (hi (View.ld X r0_0) (View.ld W r0_27)) (View.ld T r0_2) (View.ld T r0_3)) x).trans (k_at X W T 2048 128 128 _ _ _ _ _ (by decide) (by decide) x y h0 h1)
  · exact (congrFun (rfl : _ = kpay (lo (View.ld X r0_0) (View.ld W r0_27)) (View.ld T r0_2) (View.ld T r0_3)) x).trans (k_at X W T 2048 0 0 _ _ _ _ _ (by decide) (by decide) x y h0 (h1.trans (Nat.zero_add _).symm))

/-- A step's block of keys. -/
theorem after4 (c : Dev nD) (t : Fin cfg0.N) (y : S1024x2048.Idx) :
    (dats m 0 c).after 4 t y = stepAt (iblk m c 0 t) (iblk m c 1 t) (iblk m c 2 t) (2048 + 128 * ((y 1 : ℕ) / 128)) (by have : (y 1 : ℕ) < 2048 := (y 1).isLt; omega) (y 0) ⟨(y 1 : ℕ) % 128, Nat.mod_lt _ (by decide)⟩ := by
  rw [after0_4]
  exact out4_at _ _ _ y

end Cert.Qk
-- ==== Proof.QkResult.lean ====
/- The queries and keys of attention B: the call's two arrays, against the reference. -/
module

public import proofs.«01_k».proof.Proof.QkAfter

@[expose] public section

set_option maxRecDepth 8192

noncomputable section

namespace Cert.Qk

open Idealize.ShloMosaic Idealize.ShloMosaic.TcCoe Idealize.SL.Sem
open Cert.ProjQkIdeal Cert.ProjQkIdeal.Gen

variable (m : (ℓ : Loc nD τ sig) → Buf (Elt Ideal) ℓ)

/-- The layer's input, one row for each token, in the matrix unit's format. -/
def flat (x : FVec Ideal S4x4096x2048 .f32) : FVec Ideal S16384x2048 .bf16 := truncf (F := Ideal) .bf16 (shapeCast S16384x2048 x shapeCasts_S4x4096x2048_S16384x2048) bitsLt_bf16_f32

/-- The two tables from one of cosines and one of sines: the cosines twice, and the sines twice, first with the sign changed. -/
def tables (C S : FVec Ideal S4096x64 .f32) : FVec Ideal S2x4096x128 .f32 :=
  concatenate S2x4096x128 0
    [⟨S1x4096x128, (broadcastInDim S1x4096x128 ![1, 2] bcast_S4096x128_S1x4096x128_1_2 (concatenate S4096x128 1 [⟨S4096x64, C⟩, ⟨S4096x64, C⟩] concatenates_S4096x64_S4096x64_S4096x128_d1) : FVec Ideal S1x4096x128 .f32)⟩,
     ⟨S1x4096x128, (broadcastInDim S1x4096x128 ![1, 2] bcast_S4096x128_S1x4096x128_1_2 (concatenate S4096x128 1 [⟨S4096x64, Host.negf S⟩, ⟨S4096x64, S⟩] concatenates_S4096x64_S4096x64_S4096x128_d1) : FVec Ideal S1x4096x128 .f32)⟩]
    concatenates_S1x4096x128_S1x4096x128_S2x4096x128_d0

theorem V_x (c : Dev nD) : V m c main_v1 = flat (m ((c.tc : Thread nD τ).loc main_arg0)) := by
  entry_read
  rfl

theorem V_w (c : Dev nD) : V m c main_v63 = (m ((c.tc : Thread nD τ).loc main_arg1) : S2048x12800.Idx → EReal) := by
  entry_read
  rfl

theorem V_t (c : Dev nD) : V m c main_v62 = tables (Host.cos Ref.ang) (Host.sin Ref.ang) := by
  entry_read
  rfl

theorem flat_at (a : FVec Ideal S4x4096x2048 .f32) (s : Fin 4) (p : Fin 4096) (R : Fin 16384) (d : Fin 2048) (hR : (R : ℕ) = 4096 * (s : ℕ) + p) :
    flat a (ix2 R d : S16384x2048.Idx) = a (ix3 s p d : S4x4096x2048.Idx) := by
  have hp := p.isLt
  pointwise [flat]
  refine congrArg a ((ix3_inj ..).2 ⟨Fin.ext ?_, Fin.ext ?_, Fin.ext ?_⟩) <;> simp only [] <;> omega

theorem tables0_at (C S : FVec Ideal S4096x64 .f32) (p : Fin 4096) (i : Fin 128) :
    tables C S (ix3 0 p i : S2x4096x128.Idx) = if h : (i : ℕ) < 64 then C (ix2 p ⟨i, h⟩ : S4096x64.Idx) else C (ix2 p ⟨i - 64, by omega⟩ : S4096x64.Idx) := by
  pointwise [tables]

theorem tables1_at (C S : FVec Ideal S4096x64 .f32) (p : Fin 4096) (i : Fin 128) :
    tables C S (ix3 1 p i : S2x4096x128.Idx) = if h : (i : ℕ) < 64 then - S (ix2 p ⟨i, h⟩ : S4096x64.Idx) else S (ix2 p ⟨i - 64, by omega⟩ : S4096x64.Idx) := by
  pointwise [tables]

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 2560] := (by decide +kernel : ∀ t : Fin grid0.N, win0_1.index t = ![0, 2560])
theorem idx0_2 : ∀ t : Fin cfg0.N, win0_2.index t = ![0, t.val % 4, 0] := (by decide +kernel : ∀ t : Fin grid0.N, win0_2.index t = ![0, t.val % 4, 0])
theorem idx0_3 : ∀ t : Fin cfg0.N, win0_3.index t = ![t.val / 4, 0, 0, 0, t.val % 4] := (by decide +kernel : ∀ t : Fin grid0.N, win0_3.index t = ![t.val / 4, 0, 0, 0, t.val % 4])
theorem idx0_4 : ∀ t : Fin cfg0.N, win0_4.index t = ![t.val, 0] := (by decide +kernel : ∀ t : Fin grid0.N, win0_4.index t = ![t.val, 0])

theorem blk0 (c : Dev nD) (t : Fin cfg0.N) (r : Fin 1024) (d : Fin 2048) :
    iblk m c 0 t (ix2 r d : S1024x2048.Idx) = V m c main_v1 (ix2 ⟨1024 * t.val + r, by have : t.val < 16 := t.isLt; omega⟩ d : S16384x2048.Idx) := by
  blk_simp [iblk]
  blk_ext [idx0_0 t]

theorem blk1 (c : Dev nD) (t : Fin cfg0.N) (d : Fin 2048) (w : Fin 4096) :
    iblk m c 1 t (ix2 d w : S2048x4096.Idx) = V m c main_v63 (ix2 d ⟨2560 + w, by omega⟩ : S2048x12800.Idx) := by
  have e : ∀ (y : S2048x4096.Idx) (a : Fin 2), (((win0_1.blk t).view.emb y a : Fin _) : ℕ) = win0_1.index t a + (y a : ℕ) := fun y a =>
    ValueKit.view_emb_slice_whole_unit_val main_v63 _ _ _ y a
  blk_simp [iblk]
  refine congrArg (V m c main_v63) ?_
  funext a
  refine Fin.ext ((e _ a).trans ?_)
  rw [idx0_1 t]
  match a with
  | ⟨0, _⟩ => exact Nat.zero_add _
  | ⟨1, _⟩ => rfl

theorem blk2 (c : Dev nD) (t : Fin cfg0.N) (k : Fin 2) (r : Fin 1024) (i : Fin 128) :
    iblk m c 2 t (ix3 k r i : S2x1024x128.Idx) = V m c main_v62 (ix3 k ⟨1024 * (t.val % 4) + r, by omega⟩ i : S2x4096x128.Idx) := by
  blk_simp [iblk]
  blk_ext [idx0_2 t]

/-- A step's feature is the reference's, where the step's inputs are. -/
theorem step_eq (X : FVec Ideal S1024x2048 .bf16) (W : FVec Ideal S2048x4096 .bf16) (T : FVec Ideal S2x1024x128 .f32)
    (x : FVec Ideal S4x4096x2048 .f32) (w : FVec Ideal S2048x12800 .f32) (C S : FVec Ideal S4096x64 .f32) (r : Fin 1024) (s : Fin 4) (p : Fin 4096) (o : ℕ) (ho : o + 128 ≤ 4096) (i : Fin 128)
    (hX : ∀ d : Fin 2048, X (ix2 r d : S1024x2048.Idx) = x (ix3 s p d : S4x4096x2048.Idx)) (hW : ∀ (d : Fin 2048) (n : Fin 4096), W (ix2 d n : S2048x4096.Idx) = w (ix2 d ⟨2560 + n, by omega⟩ : S2048x12800.Idx))
    (hT : ∀ (k : Fin 2) (j : Fin 128), T (ix3 k r j : S2x1024x128.Idx) = tables C S (ix3 k p j : S2x4096x128.Idx)) :
    stepAt X W T o ho r i = ropeAt (fun j => ∑ d : Fin 2048, x (ix3 s p d : S4x4096x2048.Idx) * w (ix2 d ⟨2560 + (o + j), by omega⟩ : S2048x12800.Idx)) (fun j => C (ix2 p j : S4096x64.Idx)) (fun j => S (ix2 p j : S4096x64.Idx)) i := by
  have hi := i.isLt
  unfold stepAt
  simp only [hX, hW, hT, tables0_at, tables1_at]
  by_cases h : (i : ℕ) < 64
  · rw [ropeAt_low _ _ _ _ h, dif_pos h, dif_pos h, mul_neg, sub_eq_add_neg]
    simp only [(by omega : ((i : ℕ) + 64) % 128 = 64 + i)]
  · rw [ropeAt_high _ _ _ _ h, dif_neg h, dif_neg h]
    simp only [(by omega : ((i : ℕ) + 64) % 128 = i - 64)]

theorem row (t : Fin cfg0.N) (a : Fin 1024) :
    ((⟨1024 * t.val + a, by have : t.val < 16 := t.isLt; omega⟩ : Fin 16384) : ℕ) = 4096 * ((⟨t.val / 4, by have : t.val < 16 := t.isLt; omega⟩ : Fin 4) : ℕ) + ((⟨1024 * (t.val % 4) + a, by omega⟩ : Fin 4096) : ℕ) := by
  simp only []; omega

/-- One entry of the input projection. -/
def dotAt (x : FVec Ideal S4x4096x2048 .f32) (w : FVec Ideal S2048x12800 .f32) (s : Fin 4) (p : Fin 4096) (n : Fin 12800) : EReal := ∑ d : Fin 2048, x (ix3 s p d : S4x4096x2048.Idx) * w (ix2 d n : S2048x12800.Idx)

/-- A feature of a step's heads, from the call's arguments. -/
theorem step_arg (c : Dev nD) (t : Fin cfg0.N) (o : ℕ) (ho : o + 128 ≤ 4096) (a : Fin 1024) (i : Fin 128) :
    stepAt (iblk m c 0 t) (iblk m c 1 t) (iblk m c 2 t) o ho a i
      = ropeAt (fun j => dotAt (m ((c.tc : Thread nD τ).loc main_arg0)) (m ((c.tc : Thread nD τ).loc main_arg1)) ⟨t.val / 4, by have : t.val < 16 := t.isLt; omega⟩ ⟨1024 * (t.val % 4) + a, by omega⟩ ⟨2560 + (o + j), by omega⟩)
        (fun j => Host.cos Ref.ang (ix2 ⟨1024 * (t.val % 4) + a, by omega⟩ j : S4096x64.Idx)) (fun j => Host.sin Ref.ang (ix2 ⟨1024 * (t.val % 4) + a, by omega⟩ j : S4096x64.Idx)) i :=
  step_eq _ _ _ _ _ _ _ a _ _ o ho i (fun d => (blk0 m c t a d).trans ((congrFun (V_x m c) _).trans (flat_at _ _ _ _ _ (row t a))))
    (fun d n => (blk1 m c t d n).trans (congrFun (V_w m c) _)) (fun k j => (blk2 m c t k a j).trans (congrFun (V_t m c) _))

/-- The kernel's queries are the reference's. -/
theorem arr3 (c : Dev nD) : (dats m 0 c).arrAt 3 cfg0.N = (Ref.qR (m ((c.tc : Thread nD τ).loc main_arg0)) (m ((c.tc : Thread nD τ).loc main_arg1)) : S4x8x2x128x4096.Idx → EReal) := by
  refine (dats m 0 c).arrAt_eq_of_covers 3 _ (by decide +kernel) fun t hf y => ?_
  have ht : t.val < 16 := t.isLt
  obtain ⟨b, h, g, i, a, rfl⟩ : ∃ (b : Fin 1) (h : Fin 8) (g : Fin 2) (i : Fin 128) (a : Fin 1024), y = (ix5 b h g i a : S1x8x2x128x1024.Idx) := ⟨y 0, y 1, y 2, y 3, y 4, eq_ix5 (y : S1x8x2x128x1024.Idx)⟩
  have hb : b = 0 := Subsingleton.elim _ _
  have e : ((cfg0.win 3).blk t).view.emb (ix5 b h g i a : S1x8x2x128x1024.Idx) = (ix5 ⟨t.val / 4, by omega⟩ h g i ⟨1024 * (t.val % 4) + a, by omega⟩ : S4x8x2x128x4096.Idx) := by
    subst hb
    blk_ext [idx0_3 t]
  rw [e]
  blk_simp
  refine (after3 m c t (ix5 b h g i a)).trans ?_
  refine Eq.trans ?_ (Ref.qR_at _ _ _ h g i _).symm
  exact congrArg (fun u : EReal => u * Ref.scale) (step_arg m c t _ _ a i)

/-- The kernel's keys are the reference's. -/
theorem arr4 (c : Dev nD) : (dats m 0 c).arrAt 4 cfg0.N = (Ref.kR (m ((c.tc : Thread nD τ).loc main_arg0)) (m ((c.tc : Thread nD τ).loc main_arg1)) : S16384x2048.Idx → EReal) := by
  refine (dats m 0 c).arrAt_eq_of_covers 4 _ (by decide +kernel) fun t hf y => ?_
  have ht : t.val < 16 := t.isLt
  obtain ⟨a, n, rfl⟩ : ∃ (a : Fin 1024) (b : Fin 2048), y = (ix2 a b : S1024x2048.Idx) := ⟨y 0, y 1, (ix2_eta (y : S1024x2048.Idx)).symm⟩
  have hn := n.isLt
  have e : ((cfg0.win 4).blk t).view.emb (ix2 a n : S1024x2048.Idx) = (ix2 ⟨1024 * t.val + a, by omega⟩ n : S16384x2048.Idx) := by
    blk_ext [idx0_4 t]
  rw [e]
  blk_simp
  refine (after4 m c t (ix2 a n)).trans ?_
  refine Eq.trans ?_ (Ref.kR_at _ _ _ _ _ (row t a) n (128 * ((n : ℕ) / 128)) (by omega) (by omega) ⟨(n : ℕ) % 128, Nat.mod_lt _ (by decide)⟩ (by simp only []; omega)).symm
  refine (step_arg m c t _ _ a ⟨(n : ℕ) % 128, Nat.mod_lt _ (by decide)⟩).trans ?_
  refine congrArg (fun f => ropeAt f _ _ _) (funext fun j => congrArg (dotAt (m ((c.tc : Thread nD τ).loc main_arg0)) (m ((c.tc : Thread nD τ).loc main_arg1)) _ _) (Fin.ext ?_))
  show 2560 + (2048 + 128 * ((n : ℕ) / 128) + (j : ℕ)) = 4608 + (128 * ((n : ℕ) / 128) + (j : ℕ))
  omega

end Cert.Qk
-- ==== Proof.PaRef.lean ====
/- The reference's queries, keys and values of attention A, with rotary positions, at an index. -/
module

public import proofs.«01_k».proof.Proof.Gen.RefProjAIdeal.Run
public import Idealize.ShloMosaic.Lib.Pipeline.ValueKit
public import Idealize.ShloMosaic.Lib.Claim
public import Idealize.ShloMosaic.Lib.WholeRead

@[expose] public section

set_option maxRecDepth 8192

noncomputable section

namespace Cert.Pa

open Idealize.ShloMosaic

/-- A feature of a head with rotary positions, from the head's features `p` and the tables of cosines and sines at the token: each
    feature goes with the one 32 away, the first half with the sine's sign changed. -/
def ropeAt (p : Fin 64 → EReal) (c s : Fin 32 → EReal) (i : Fin 64) : EReal :=
  if h : (i : ℕ) < 32 then p i * c ⟨i, h⟩ - p ⟨32 + i, by omega⟩ * s ⟨i, h⟩
  else p i * c ⟨i - 32, by omega⟩ + p ⟨i - 32, by omega⟩ * s ⟨i - 32, by omega⟩

theorem ropeAt_low (p : Fin 64 → EReal) (c s : Fin 32 → EReal) (i : Fin 64) (h : (i : ℕ) < 32) :
    ropeAt p c s i = p i * c ⟨i, h⟩ - p ⟨32 + i, by omega⟩ * s ⟨i, h⟩ := dif_pos h

theorem ropeAt_high (p : Fin 64 → EReal) (c s : Fin 32 → EReal) (i : Fin 64) (h : ¬ (i : ℕ) < 32) :
    ropeAt p c s i = p i * c ⟨i - 32, by omega⟩ + p ⟨i - 32, by omega⟩ * s ⟨i - 32, by omega⟩ := dif_neg h

/-- The softmax scale in base 2, which the queries carry. -/
def scale : EReal := Ideal.ofBits .f32 0x3E38AA3B#32

/-- One entry of a token's row, from the 2560 products `P` of the token with the columns of attention A: the rotated and scaled
    queries, then the rotated keys, then the values. -/
def rowAt (P : Fin 2560 → EReal) (c s : Fin 32 → EReal) (n : Fin 2560) : EReal :=
  if (n : ℕ) < 2048 then ropeAt (fun j => P ⟨64 * ((n : ℕ) / 64) + j, by omega⟩) c s ⟨(n : ℕ) % 64, Nat.mod_lt _ (by decide)⟩ * scale
  else if (n : ℕ) < 2304 then ropeAt (fun j => P ⟨64 * ((n : ℕ) / 64) + j, by omega⟩) c s ⟨(n : ℕ) % 64, Nat.mod_lt _ (by decide)⟩
  else P n

end Cert.Pa

namespace Cert.Pa.Ref

open Idealize.ShloMosaic Idealize.ShloMosaic.TcCoe Idealize.SL.Sem
open Cert.RefProjAIdeal Cert.RefProjAIdeal.Gen Cert.RefProjAIdeal.Value

/-- One entry of the input projection. -/
def dotAt (x : FVec Ideal S4x4096x2048 .f32) (w : FVec Ideal S2048x12800 .f32) (s : Fin 4) (p : Fin 4096) (n : Fin 12800) : EReal := ∑ d : Fin 2048, x (ix3 s p d : S4x4096x2048.Idx) * w (ix2 d n : S2048x12800.Idx)

/-- The angles: the position times the frequency of the pair of features. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32)) (sitofp .f32 (iotaInDim S32 32 0))))
          (broadcastInDim S32 ![] bcast_S_S32 (constant S_ .f32 0x42800000#32)))))))

/-- A table of cosines or sines for every one of 32 heads. -/
def spreadQ (T : FVec Ideal S4096x32 .f32) : FVec Ideal S4x4096x32x32 .f32 :=
  broadcastInDim S4x4096x32x32 ![0, 1, 2, 3] bcast_S1x4096x1x32_S4x4096x32x32_0_1_2_3 (broadcastInDim S1x4096x1x32 ![1, 2, 3] bcast_S4096x1x32_S1x4096x1x32_1_2_3 (broadcastInDim S4096x1x32 ![0, 2] bcast_S4096x32_S4096x1x32_0_2 T))

/-- The two halves of each of 32 heads' features, and the rotation. -/
def ropeQ (u : FVec Ideal S4x4096x32x64 .f32) (c s : FVec Ideal S4096x32 .f32) : FVec Ideal S4x4096x32x64 .f32 :=
  concatenate S4x4096x32x64 3
    [⟨S4x4096x32x32, (subf (mulf (extractStridedSlice S4x4096x32x32 ![0, 0, 0, 0] u slices_S4x4096x32x64_S4x4096x32x32_0_0_0_0) (spreadQ c))
        (mulf (extractStridedSlice S4x4096x32x32 ![0, 0, 0, 32] u slices_S4x4096x32x64_S4x4096x32x32_0_0_0_32) (spreadQ s)) : FVec Ideal S4x4096x32x32 .f32)⟩,
     ⟨S4x4096x32x32, (addf (mulf (extractStridedSlice S4x4096x32x32 ![0, 0, 0, 32] u slices_S4x4096x32x64_S4x4096x32x32_0_0_0_32) (spreadQ c))
        (mulf (extractStridedSlice S4x4096x32x32 ![0, 0, 0, 0] u slices_S4x4096x32x64_S4x4096x32x32_0_0_0_0) (spreadQ s)) : FVec Ideal S4x4096x32x32 .f32)⟩]
    concatenates_S4x4096x32x32_S4x4096x32x32_S4x4096x32x64_d3

theorem spreadQ_at (T : FVec Ideal S4096x32 .f32) (b : Fin 4) (p : Fin 4096) (h : Fin 32) (i : Fin 32) :
    spreadQ T (ix4 b p h i : S4x4096x32x32.Idx) = T (ix2 p i : S4096x32.Idx) := by
  pointwise [spreadQ]

theorem ropeQ_at (u : FVec Ideal S4x4096x32x64 .f32) (c s : FVec Ideal S4096x32 .f32) (b : Fin 4) (p : Fin 4096) (h : Fin 32) (i : Fin 64) :
    ropeQ u c s (ix4 b p h i : S4x4096x32x64.Idx) = ropeAt (fun j => u (ix4 b p h j : S4x4096x32x64.Idx)) (fun j => c (ix2 p j : S4096x32.Idx)) (fun j => s (ix2 p j : S4096x32.Idx)) i := by
  have hi := i.isLt
  by_cases hl : (i : ℕ) < 32
  · rw [ropeAt_low _ _ _ _ hl]
    pointwise [ropeQ]
    refine (dif_pos hl).trans ?_
    rw [spreadQ_at, spreadQ_at]
  · rw [ropeAt_high _ _ _ _ hl]
    pointwise [ropeQ]
    refine (dif_neg hl).trans ?_
    rw [spreadQ_at, spreadQ_at, (Fin.ext (by simp only []; omega) : (⟨32 + ((i : ℕ) - 32), by omega⟩ : Fin 64) = i)]

/-- The projection's 2048 columns from 0 on, as heads. -/
def headsQ (x : FVec Ideal S4x4096x2048 .f32) (w : FVec Ideal S2048x12800 .f32) : FVec Ideal S4x4096x32x64 .f32 :=
  shapeCast _ (extractStridedSlice S4x4096x2048 ![0, 0, 0] (Host.dotGeneral dot_S4x4096x2048_S2048x12800_S4x4096x12800_2_0_01_1_n_n none x w) slices_S4x4096x12800_S4x4096x2048_0_0_0) shapeCasts_S4x4096x2048_S4x4096x32x64

theorem headsQ_at (x : FVec Ideal S4x4096x2048 .f32) (w : FVec Ideal S2048x12800 .f32) (b : Fin 4) (p : Fin 4096) (h : Fin 32) (i : Fin 64) (n : Fin 12800) (hn : (n : ℕ) = 0 + (64 * (h : ℕ) + i)) :
    headsQ x w (ix4 b p h i : S4x4096x32x64.Idx) = dotAt x w b p n := by
  have hb := b.isLt; have hp := p.isLt; have hh := h.isLt; have hi := i.isLt
  pointwise [headsQ]
  refine Finset.sum_congr rfl fun d _ => congrArg₂ (fun u v : EReal => u * v) (congrArg x ((ix3_inj ..).2 ⟨Fin.ext ?_, Fin.ext ?_, Fin.ext ?_⟩)) (congrArg w ((ix2_inj ..).2 ⟨Fin.ext ?_, Fin.ext ?_⟩)) <;> simp only [] <;> omega

/-- A table of cosines or sines for every one of 4 heads. -/
def spreadK (T : FVec Ideal S4096x32 .f32) : FVec Ideal S4x4096x4x32 .f32 :=
  broadcastInDim S4x4096x4x32 ![0, 1, 2, 3] bcast_S1x4096x1x32_S4x4096x4x32_0_1_2_3 (broadcastInDim S1x4096x1x32 ![1, 2, 3] bcast_S4096x1x32_S1x4096x1x32_1_2_3 (broadcastInDim S4096x1x32 ![0, 2] bcast_S4096x32_S4096x1x32_0_2 T))

/-- The two halves of each of 4 heads' features, and the rotation. -/
def ropeK (u : FVec Ideal S4x4096x4x64 .f32) (c s : FVec Ideal S4096x32 .f32) : FVec Ideal S4x4096x4x64 .f32 :=
  concatenate S4x4096x4x64 3
    [⟨S4x4096x4x32, (subf (mulf (extractStridedSlice S4x4096x4x32 ![0, 0, 0, 0] u slices_S4x4096x4x64_S4x4096x4x32_0_0_0_0) (spreadK c))
        (mulf (extractStridedSlice S4x4096x4x32 ![0, 0, 0, 32] u slices_S4x4096x4x64_S4x4096x4x32_0_0_0_32) (spreadK s)) : FVec Ideal S4x4096x4x32 .f32)⟩,
     ⟨S4x4096x4x32, (addf (mulf (extractStridedSlice S4x4096x4x32 ![0, 0, 0, 32] u slices_S4x4096x4x64_S4x4096x4x32_0_0_0_32) (spreadK c))
        (mulf (extractStridedSlice S4x4096x4x32 ![0, 0, 0, 0] u slices_S4x4096x4x64_S4x4096x4x32_0_0_0_0) (spreadK s)) : FVec Ideal S4x4096x4x32 .f32)⟩]
    concatenates_S4x4096x4x32_S4x4096x4x32_S4x4096x4x64_d3

theorem spreadK_at (T : FVec Ideal S4096x32 .f32) (b : Fin 4) (p : Fin 4096) (h : Fin 4) (i : Fin 32) :
    spreadK T (ix4 b p h i : S4x4096x4x32.Idx) = T (ix2 p i : S4096x32.Idx) := by
  pointwise [spreadK]

theorem ropeK_at (u : FVec Ideal S4x4096x4x64 .f32) (c s : FVec Ideal S4096x32 .f32) (b : Fin 4) (p : Fin 4096) (h : Fin 4) (i : Fin 64) :
    ropeK u c s (ix4 b p h i : S4x4096x4x64.Idx) = ropeAt (fun j => u (ix4 b p h j : S4x4096x4x64.Idx)) (fun j => c (ix2 p j : S4096x32.Idx)) (fun j => s (ix2 p j : S4096x32.Idx)) i := by
  have hi := i.isLt
  by_cases hl : (i : ℕ) < 32
  · rw [ropeAt_low _ _ _ _ hl]
    pointwise [ropeK]
    refine (dif_pos hl).trans ?_
    rw [spreadK_at, spreadK_at]
  · rw [ropeAt_high _ _ _ _ hl]
    pointwise [ropeK]
    refine (dif_neg hl).trans ?_
    rw [spreadK_at, spreadK_at, (Fin.ext (by simp only []; omega) : (⟨32 + ((i : ℕ) - 32), by omega⟩ : Fin 64) = i)]

/-- The projection's 256 columns from 2048 on, as heads. -/
def headsK (x : FVec Ideal S4x4096x2048 .f32) (w : FVec Ideal S2048x12800 .f32) : FVec Ideal S4x4096x4x64 .f32 :=
  shapeCast _ (extractStridedSlice S4x4096x256 ![0, 0, 2048] (Host.dotGeneral dot_S4x4096x2048_S2048x12800_S4x4096x12800_2_0_01_1_n_n none x w) slices_S4x4096x12800_S4x4096x256_0_0_2048) shapeCasts_S4x4096x256_S4x4096x4x64

theorem headsK_at (x : FVec Ideal S4x4096x2048 .f32) (w : FVec Ideal S2048x12800 .f32) (b : Fin 4) (p : Fin 4096) (h : Fin 4) (i : Fin 64) (n : Fin 12800) (hn : (n : ℕ) = 2048 + (64 * (h : ℕ) + i)) :
    headsK x w (ix4 b p h i : S4x4096x4x64.Idx) = dotAt x w b p n := by
  have hb := b.isLt; have hp := p.isLt; have hh := h.isLt; have hi := i.isLt
  pointwise [headsK]
  refine Finset.sum_congr rfl fun d _ => congrArg₂ (fun u v : EReal => u * v) (congrArg x ((ix3_inj ..).2 ⟨Fin.ext ?_, Fin.ext ?_, Fin.ext ?_⟩)) (congrArg w ((ix2_inj ..).2 ⟨Fin.ext ?_, Fin.ext ?_⟩)) <;> simp only [] <;> omega

/-- The queries, keys and values as the columns of one array, one row for each token. -/
def rows (q : FVec Ideal S4x4096x32x64 .f32) (k : FVec Ideal S4x4096x4x64 .f32) (v : FVec Ideal S4x4096x256 .f32) : FVec Ideal S16384x2560 .bf16 :=
  truncf .bf16 ((concatenate S16384x2560 1 [⟨S16384x2048, ((shapeCast _ (mulf q (broadcastInDim S4x4096x32x64 ![] bcast_S_S4x4096x32x64 (constant S_ .f32 0x3E38AA3B#32))) shapeCasts_S4x4096x32x64_S16384x2048) : FVec Ideal S16384x2048 .f32)⟩,
    ⟨S16384x256, ((shapeCast _ k shapeCasts_S4x4096x4x64_S16384x256) : FVec Ideal S16384x256 .f32)⟩,
    ⟨S16384x256, ((shapeCast _ v shapeCasts_S4x4096x256_S16384x256) : FVec Ideal S16384x256 .f32)⟩] concatenates_S16384x2048_S16384x256_S16384x256_S16384x2560_d1 : FVec Ideal S16384x2560 .f32)) bitsLt_bf16_f32

/-- The projection's 256 columns from 2304 on. -/
def vals (x : FVec Ideal S4x4096x2048 .f32) (w : FVec Ideal S2048x12800 .f32) : FVec Ideal S4x4096x256 .f32 :=
  extractStridedSlice S4x4096x256 ![0, 0, 2304] (Host.dotGeneral dot_S4x4096x2048_S2048x12800_S4x4096x12800_2_0_01_1_n_n none x w) slices_S4x4096x12800_S4x4096x256_0_0_2304

theorem vals_at (x : FVec Ideal S4x4096x2048 .f32) (w : FVec Ideal S2048x12800 .f32) (b : Fin 4) (p : Fin 4096) (i : Fin 256) (n : Fin 12800) (hn : (n : ℕ) = 2304 + i) :
    vals x w (ix3 b p i : S4x4096x256.Idx) = dotAt x w b p n := by
  pointwise [vals]
  refine Finset.sum_congr rfl fun d _ => congrArg₂ (fun u v : EReal => u * v) rfl (congrArg w ((ix2_inj ..).2 ⟨Fin.ext ?_, Fin.ext ?_⟩)) <;> simp only [] <;> omega

/-- The reference's result. -/
def res (x : FVec Ideal S4x4096x2048 .f32) (w : FVec Ideal S2048x12800 .f32) : FVec Ideal S16384x2560 .bf16 :=
  rows (ropeQ (headsQ x w) (Host.cos ang) (Host.sin ang)) (ropeK (headsK x w) (Host.cos ang) (Host.sin ang)) (vals x w)

theorem res_eq (m : (ℓ : Loc nD τ sig) → Buf (Elt Ideal) ℓ) (c : Dev nD) :
    res_main_v69 m c = res (m ((c.tc : Thread nD τ).loc main_arg0)) (m ((c.tc : Thread nD τ).loc main_arg1)) := rfl

theorem rows_q (q : FVec Ideal S4x4096x32x64 .f32) (k : FVec Ideal S4x4096x4x64 .f32) (v : FVec Ideal S4x4096x256 .f32) (b : Fin 4) (p : Fin 4096) (R : Fin 16384) (hR : (R : ℕ) = 4096 * (b : ℕ) + p) (n : Fin 2560) (h : (n : ℕ) < 2048) :
    rows q k v (ix2 R n : S16384x2560.Idx) = q (ix4 b p ⟨(n : ℕ) / 64, by omega⟩ ⟨(n : ℕ) % 64, Nat.mod_lt _ (by decide)⟩ : S4x4096x32x64.Idx) * scale := by
  have hp := p.isLt; have hb := b.isLt
  pointwise [rows]
  refine (dif_pos h).trans ?_
  refine congrArg₂ (fun u v : EReal => u * v) (congrArg q ((ix4_inj ..).2 ⟨Fin.ext ?_, Fin.ext ?_, Fin.ext ?_, Fin.ext ?_⟩)) rfl <;> simp only [] <;> omega

theorem rows_k (q : FVec Ideal S4x4096x32x64 .f32) (k : FVec Ideal S4x4096x4x64 .f32) (v : FVec Ideal S4x4096x256 .f32) (b : Fin 4) (p : Fin 4096) (R : Fin 16384) (hR : (R : ℕ) = 4096 * (b : ℕ) + p) (n : Fin 2560) (h : ¬ (n : ℕ) < 2048) (h' : (n : ℕ) < 2304) :
    rows q k v (ix2 R n : S16384x2560.Idx) = k (ix4 b p ⟨(n : ℕ) / 64 - 32, by omega⟩ ⟨(n : ℕ) % 64, Nat.mod_lt _ (by decide)⟩ : S4x4096x4x64.Idx) := by
  have hp := p.isLt; have hb := b.isLt
  pointwise [rows]
  refine (dif_neg h).trans ?_
  refine (dif_pos (by omega)).trans ?_
  refine congrArg k ((ix4_inj ..).2 ⟨Fin.ext ?_, Fin.ext ?_, Fin.ext ?_, Fin.ext ?_⟩) <;> simp only [] <;> omega

theorem rows_v (q : FVec Ideal S4x4096x32x64 .f32) (k : FVec Ideal S4x4096x4x64 .f32) (v : FVec Ideal S4x4096x256 .f32) (b : Fin 4) (p : Fin 4096) (R : Fin 16384) (hR : (R : ℕ) = 4096 * (b : ℕ) + p) (n : Fin 2560) (h : ¬ (n : ℕ) < 2048) (h' : ¬ (n : ℕ) < 2304) :
    rows q k v (ix2 R n : S16384x2560.Idx) = v (ix3 b p ⟨(n : ℕ) - 2304, by omega⟩ : S4x4096x256.Idx) := by
  have hp := p.isLt; have hb := b.isLt
  pointwise [rows]
  refine (dif_neg h).trans ?_
  refine (dif_neg (by omega)).trans ?_
  refine congrArg v ((ix3_inj ..).2 ⟨Fin.ext ?_, Fin.ext ?_, Fin.ext ?_⟩) <;> simp only [] <;> omega

theorem res_at (x : FVec Ideal S4x4096x2048 .f32) (w : FVec Ideal S2048x12800 .f32) (b : Fin 4) (p : Fin 4096) (R : Fin 16384) (hR : (R : ℕ) = 4096 * (b : ℕ) + p) (n : Fin 2560) :
    res x w (ix2 R n : S16384x2560.Idx) = rowAt (fun j => dotAt x w b p ⟨j, by omega⟩) (fun j => Host.cos ang (ix2 p j : S4096x32.Idx)) (fun j => Host.sin ang (ix2 p j : S4096x32.Idx)) n := by
  have hn := n.isLt
  unfold rowAt res
  by_cases h : (n : ℕ) < 2048
  · rw [if_pos h, rows_q _ _ _ b p R hR n h, ropeQ_at]
    exact congrArg (fun u : EReal => u * scale) (congrArg (fun f => ropeAt f _ _ _) (funext fun j => headsQ_at x w b p _ j _ (by simp only []; omega)))
  · rw [if_neg h]
    by_cases h' : (n : ℕ) < 2304
    · rw [if_pos h', rows_k _ _ _ b p R hR n h h', ropeK_at]
      exact congrArg (fun f => ropeAt f _ _ _) (funext fun j => headsK_at x w b p _ j _ (by simp only []; omega))
    · rw [if_neg h', rows_v _ _ _ b p R hR n h h']
      exact vals_at x w b p _ _ (by simp only []; omega)

end Cert.Pa.Ref
-- ==== Proof.PaBlock.lean ====
/- The queries, keys and values of attention A: what one store writes, and one step's block. -/
module

public import proofs.«01_k».proof.Proof.PaRef
public import proofs.«01_k».proof.Proof.FfnBlock
public import proofs.«01_k».proof.Proof.Gen.ProjAIdeal.Value

@[expose] public section

set_option maxRecDepth 8192

noncomputable section

namespace Cert.Pa

open Idealize.ShloMosaic Idealize.ShloMosaic.TcCoe Idealize.SL.Sem
open Cert.ProjAIdeal Cert.ProjAIdeal.Gen

/-- The products of a step's rows with the 2560 columns. -/
def prod (X : FVec Ideal S512x2048 .bf16) (W : FVec Ideal S2048x2560 .bf16) : FVec Ideal S512x2560 .f32 :=
  matmul dot_S512x2048_S2048x2560_S512x2560_1_0_0_1_n_n none (shapeCast S512x2048 X shapeCasts_S512x2048_S512x2048) (shapeCast S2048x2560 W shapeCasts_S2048x2560_S2048x2560) (constant S512x2560 .f32 0x00000000#32)

theorem prod_at (X : FVec Ideal S512x2048 .bf16) (W : FVec Ideal S2048x2560 .bf16) (r : Fin 512) (b : Fin 2560) :
    prod X W (ix2 r b : S512x2560.Idx) = ∑ d : Fin 2048, X (ix2 r d : S512x2048.Idx) * W (ix2 d b : S2048x2560.Idx) := by
  pointwise [prod]

/-- The rotation of 128 features, two heads, with the three tables. -/
def rot (u : FVec Ideal S512x128 .f32) (c h l : FVec Ideal S1x512x128 .f32) : FVec Ideal S512x128 .f32 :=
  addf (addf (mulf u (shapeCast S512x128 c shapeCasts_S1x512x128_S512x128)) (mulf (dynamicRotate 1 32#32 none u rotates_S512x128_d1) (shapeCast S512x128 h shapeCasts_S1x512x128_S512x128)))
    (mulf (dynamicRotate 1 96#32 none u rotates_S512x128_d1) (shapeCast S512x128 l shapeCasts_S1x512x128_S512x128))

theorem rot_at (u : FVec Ideal S512x128 .f32) (c h l : FVec Ideal S1x512x128 .f32) (r : Fin 512) (i : Fin 128) :
    rot u c h l (ix2 r i : S512x128.Idx) = u (ix2 r i : S512x128.Idx) * c (ix3 0 r i : S1x512x128.Idx)
      + u (ix2 r ⟨(i + 96) % 128, Nat.mod_lt _ (by decide)⟩ : S512x128.Idx) * h (ix3 0 r i : S1x512x128.Idx)
      + u (ix2 r ⟨(i + 32) % 128, Nat.mod_lt _ (by decide)⟩ : S512x128.Idx) * l (ix3 0 r i : S1x512x128.Idx) := by
  have hi := i.isLt
  pointwise [rot]
  rw [(Fin.ext (by simp only []; omega) : (⟨((i : ℕ) + 128 - 32) % 128, Nat.mod_lt _ (by decide)⟩ : Fin 128) = ⟨((i : ℕ) + 96) % 128, Nat.mod_lt _ (by decide)⟩),
    (Fin.ext (by simp only []; omega) : (⟨((i : ℕ) + 128 - 96) % 128, Nat.mod_lt _ (by decide)⟩ : Fin 128) = ⟨((i : ℕ) + 32) % 128, Nat.mod_lt _ (by decide)⟩)]

/-- What a store of queries holds. -/
def qpay (u : FVec Ideal S512x128 .f32) (c h l : FVec Ideal S1x512x128 .f32) : FVec Ideal S512x128 .bf16 :=
  truncf .bf16 (mulf (rot u c h l) (broadcast S512x128 (Scalar.ofBits .f32 0x3E38AA3B#32 : Ideal .f32))) bitsLt_bf16_f32

theorem qpay_at (u : FVec Ideal S512x128 .f32) (c h l : FVec Ideal S1x512x128 .f32) (y : S512x128.Idx) : qpay u c h l y = rot u c h l y * scale := rfl

/-- What a store of keys holds. -/
def kpay (u : FVec Ideal S512x128 .f32) (c h l : FVec Ideal S1x512x128 .f32) : FVec Ideal S512x128 .bf16 := truncf .bf16 (rot u c h l) bitsLt_bf16_f32

theorem kpay_at (u : FVec Ideal S512x128 .f32) (c h l : FVec Ideal S1x512x128 .f32) (y : S512x128.Idx) : kpay u c h l y = rot u c h l y := rfl

/-- What a store of values holds. -/
def vpay (u : FVec Ideal S512x128 .f32) : FVec Ideal S512x128 .bf16 := truncf .bf16 u bitsLt_bf16_f32

/-- One product of a step. -/
def mulAt (X : FVec Ideal S512x2048 .bf16) (W : FVec Ideal S2048x2560 .bf16) (r : Fin 512) (n : Fin 2560) : EReal := ∑ d : Fin 2048, X (ix2 r d : S512x2048.Idx) * W (ix2 d n : S2048x2560.Idx)

/-- A feature after the rotation: column `i` of the 128 from `o` on, from one row's products and its three rows of the tables. -/
def turn (P : Fin 2560 → EReal) (c h l : Fin 128 → EReal) (o : ℕ) (ho : o + 128 ≤ 2560) (i : Fin 128) : EReal :=
  P ⟨o + i, by omega⟩ * c i + P ⟨o + (i + 96) % 128, by omega⟩ * h i + P ⟨o + (i + 32) % 128, by omega⟩ * l i

/-- One entry of a step's row: queries, then keys, then values. -/
def stepAt (P : Fin 2560 → EReal) (c h l : Fin 128 → EReal) (n : Fin 2560) : EReal :=
  if (n : ℕ) < 2048 then turn P c h l (128 * ((n : ℕ) / 128)) (by omega) ⟨(n : ℕ) % 128, Nat.mod_lt _ (by decide)⟩ * scale
  else if (n : ℕ) < 2304 then turn P c h l (128 * ((n : ℕ) / 128)) (by omega) ⟨(n : ℕ) % 128, Nat.mod_lt _ (by decide)⟩
  else P n

/-- The step's entry is the reference's, where the tables hold each head's cosines, and its sines with a zero half. -/
theorem step_eq (P : Fin 2560 → EReal) (c h l : Fin 128 → EReal) (C S : Fin 32 → EReal)
    (hc : ∀ i : Fin 128, c i = C ⟨(i : ℕ) % 32, Nat.mod_lt _ (by decide)⟩)
    (hh : ∀ i : Fin 128, h i = if (i : ℕ) % 64 < 32 then 0 else S ⟨(i : ℕ) % 32, Nat.mod_lt _ (by decide)⟩)
    (hl : ∀ i : Fin 128, l i = if (i : ℕ) % 64 < 32 then - S ⟨(i : ℕ) % 32, Nat.mod_lt _ (by decide)⟩ else 0) (n : Fin 2560) :
    stepAt P c h l n = rowAt P C S n := by
  have hn := n.isLt
  have key : turn P c h l (128 * ((n : ℕ) / 128)) (by omega) ⟨(n : ℕ) % 128, Nat.mod_lt _ (by decide)⟩
      = ropeAt (fun j => P ⟨64 * ((n : ℕ) / 64) + j, by omega⟩) C S ⟨(n : ℕ) % 64, Nat.mod_lt _ (by decide)⟩ := by
    unfold turn
    simp only [hc, hh, hl]
    by_cases hlow : (n : ℕ) % 64 < 32
    · rw [ropeAt_low _ _ _ _ hlow, if_pos (by omega), if_pos (by omega), mul_zero, add_zero, mul_neg, sub_eq_add_neg]
      simp only [(by omega : 128 * ((n : ℕ) / 128) + (n : ℕ) % 128 = 64 * ((n : ℕ) / 64) + (n : ℕ) % 64), (by omega : 128 * ((n : ℕ) / 128) + ((n : ℕ) % 128 + 32) % 128 = 64 * ((n : ℕ) / 64) + (32 + (n : ℕ) % 64)),
        (by omega : (n : ℕ) % 128 % 32 = (n : ℕ) % 64)]
    · rw [ropeAt_high _ _ _ _ hlow, if_neg (by omega), if_neg (by omega), mul_zero, add_zero]
      simp only [(by omega : 128 * ((n : ℕ) / 128) + (n : ℕ) % 128 = 64 * ((n : ℕ) / 64) + (n : ℕ) % 64), (by omega : 128 * ((n : ℕ) / 128) + ((n : ℕ) % 128 + 96) % 128 = 64 * ((n : ℕ) / 64) + ((n : ℕ) % 64 - 32)),
        (by omega : (n : ℕ) % 128 % 32 = (n : ℕ) % 64 - 32)]
  unfold stepAt rowAt
  rw [key]

/-- The rotation of 128 of the columns' products. -/
theorem rot_step (X : Vec Ideal S512x2048 .bf16) (W : Vec Ideal S2048x2560 .bf16) (T : Vec Ideal S3x512x128 .f32) (o : ℕ) (ho : o + 128 ≤ 2560) (hX hW h0 h1 h2) (hs : S512x2560.Slices ![0, o] S512x128) (r : Fin 512) (i : Fin 128) :
    rot (extractStridedSlice S512x128 ![0, o] (prod (View.ld X (Rect.unit (s := S512x2048) ![0, 0] ![512, 2048] hX)) (View.ld W (Rect.unit (s := S2048x2560) ![0, 0] ![2048, 2560] hW))) hs)
      (View.ld T (Rect.unit (s := S3x512x128) ![0, 0, 0] ![1, 512, 128] h0)) (View.ld T (Rect.unit (s := S3x512x128) ![1, 0, 0] ![1, 512, 128] h1)) (View.ld T (Rect.unit (s := S3x512x128) ![2, 0, 0] ![1, 512, 128] h2)) (ix2 r i : S512x128.Idx)
      = turn (mulAt X W r) (fun j => T (ix3 0 r j : S3x512x128.Idx)) (fun j => T (ix3 1 r j : S3x512x128.Idx)) (fun j => T (ix3 2 r j : S3x512x128.Idx)) o ho i := by
  have hu : ∀ (j : Fin 128) (n : Fin 2560), (n : ℕ) = o + j → (extractStridedSlice S512x128 ![0, o] (prod (View.ld X (Rect.unit (s := S512x2048) ![0, 0] ![512, 2048] hX)) (View.ld W (Rect.unit (s := S2048x2560) ![0, 0] ![2048, 2560] hW))) hs) (ix2 r j : S512x128.Idx) = mulAt X W r n := fun j n hn => by
    have e : (extractStridedSlice S512x128 ![0, o] (prod (View.ld X (Rect.unit (s := S512x2048) ![0, 0] ![512, 2048] hX)) (View.ld W (Rect.unit (s := S2048x2560) ![0, 0] ![2048, 2560] hW))) hs) (ix2 r j : S512x128.Idx)
        = prod (View.ld X (Rect.unit (s := S512x2048) ![0, 0] ![512, 2048] hX)) (View.ld W (Rect.unit (s := S2048x2560) ![0, 0] ![2048, 2560] hW)) (ix2 r ⟨o + j, by omega⟩ : S512x2560.Idx) := by
      pointwise []
    rw [e, prod_at]
    exact Finset.sum_congr rfl fun d _ => congrArg₂ (fun u v : EReal => u * v) (Attn.ld2_at X hX r d r d (Nat.zero_add _).symm (Nat.zero_add _).symm)
      (Attn.ld2_at W hW d _ d n (Nat.zero_add _).symm (by simp only []; omega))
  rw [rot_at, hu i ⟨o + i, by omega⟩ rfl, hu ⟨((i : ℕ) + 96) % 128, Nat.mod_lt _ (by decide)⟩ ⟨o + (i + 96) % 128, by omega⟩ rfl, hu ⟨((i : ℕ) + 32) % 128, Nat.mod_lt _ (by decide)⟩ ⟨o + (i + 32) % 128, by omega⟩ rfl]
  exact congrArg₂ (fun u v : EReal => u + v) (congrArg₂ (fun u v : EReal => u + v)
      (congrArg₂ (fun u v : EReal => u * v) rfl (Ffn.ld3_at T h0 0 r i 0 r i rfl (Nat.zero_add _).symm (Nat.zero_add _).symm))
      (congrArg₂ (fun u v : EReal => u * v) rfl (Ffn.ld3_at T h1 0 r i 1 r i rfl (Nat.zero_add _).symm (Nat.zero_add _).symm)))
    (congrArg₂ (fun u v : EReal => u * v) rfl (Ffn.ld3_at T h2 0 r i 2 r i rfl (Nat.zero_add _).symm (Nat.zero_add _).symm))

/-- One entry of a step's block. -/
abbrev rowOf (X : Vec Ideal S512x2048 .bf16) (W : Vec Ideal S2048x2560 .bf16) (T : Vec Ideal S3x512x128 .f32) (y : S512x2560.Idx) : EReal :=
  stepAt (mulAt X W (y 0)) (fun j => T (ix3 0 (y 0) j : S3x512x128.Idx)) (fun j => T (ix3 1 (y 0) j : S3x512x128.Idx)) (fun j => T (ix3 2 (y 0) j : S3x512x128.Idx)) (y 1)

theorem turn_congr (P : Fin 2560 → EReal) (c h l : Fin 128 → EReal) (o o' : ℕ) (e : o = o') (ho ho') (i i' : Fin 128) (ei : i = i') : turn P c h l o ho i = turn P c h l o' ho' i' := by
  subst e ei
  rfl

/-- A store of queries, at columns from `o`. -/
theorem q_at (X : Vec Ideal S512x2048 .bf16) (W : Vec Ideal S2048x2560 .bf16) (T : Vec Ideal S3x512x128 .f32) (o : ℕ) (hX hW h0 h1 h2) (hs : S512x2560.Slices ![0, o] S512x128) (ho : (o < 2048) ∧ o % 128 = 0)
    (x : S512x128.Idx) (y : S512x2560.Idx) (y0 : (y 0 : ℕ) = (x 0 : ℕ)) (y1 : (y 1 : ℕ) = o + (x 1 : ℕ)) :
    qpay (extractStridedSlice S512x128 ![0, o] (prod (View.ld X (Rect.unit (s := S512x2048) ![0, 0] ![512, 2048] hX)) (View.ld W (Rect.unit (s := S2048x2560) ![0, 0] ![2048, 2560] hW))) hs)
      (View.ld T (Rect.unit (s := S3x512x128) ![0, 0, 0] ![1, 512, 128] h0)) (View.ld T (Rect.unit (s := S3x512x128) ![1, 0, 0] ![1, 512, 128] h1)) (View.ld T (Rect.unit (s := S3x512x128) ![2, 0, 0] ![1, 512, 128] h2)) x = rowOf X W T y := by
  obtain ⟨r, i, rfl⟩ : ∃ (a : Fin 512) (b : Fin 128), x = ix2 a b := ⟨x 0, x 1, (ix2_eta x).symm⟩
  obtain ⟨r', N, rfl⟩ : ∃ (a : Fin 512) (b : Fin 2560), y = ix2 a b := ⟨y 0, y 1, (ix2_eta y).symm⟩
  replace y1 : (N : ℕ) = o + i := y1
  obtain rfl : r' = r := Fin.ext y0
  have hi := i.isLt
  have hN := N.isLt
  have e1 : o = 128 * ((N : ℕ) / 128) := by omega
  have e2 : i = (⟨(N : ℕ) % 128, Nat.mod_lt _ (by decide)⟩ : Fin 128) := Fin.ext (by simp only []; omega)
  have hlt : (N : ℕ) < 2048 := by omega
  rw [qpay_at, rot_step X W T o (by omega) hX hW h0 h1 h2 hs r' i]
  refine Eq.trans ?_ (if_pos hlt).symm
  show _ = turn _ _ _ _ _ _ _ * scale
  refine congrArg (fun u : EReal => u * scale) ?_
  exact turn_congr _ _ _ _ _ _ e1 _ _ _ _ e2

/-- A store of keys, at columns from `o`. -/
theorem k_at (X : Vec Ideal S512x2048 .bf16) (W : Vec Ideal S2048x2560 .bf16) (T : Vec Ideal S3x512x128 .f32) (o : ℕ) (hX hW h0 h1 h2) (hs : S512x2560.Slices ![0, o] S512x128) (ho : (o < 2304 ∧ 2048 ≤ o) ∧ o % 128 = 0)
    (x : S512x128.Idx) (y : S512x2560.Idx) (y0 : (y 0 : ℕ) = (x 0 : ℕ)) (y1 : (y 1 : ℕ) = o + (x 1 : ℕ)) :
    kpay (extractStridedSlice S512x128 ![0, o] (prod (View.ld X (Rect.unit (s := S512x2048) ![0, 0] ![512, 2048] hX)) (View.ld W (Rect.unit (s := S2048x2560) ![0, 0] ![2048, 2560] hW))) hs)
      (View.ld T (Rect.unit (s := S3x512x128) ![0, 0, 0] ![1, 512, 128] h0)) (View.ld T (Rect.unit (s := S3x512x128) ![1, 0, 0] ![1, 512, 128] h1)) (View.ld T (Rect.unit (s := S3x512x128) ![2, 0, 0] ![1, 512, 128] h2)) x = rowOf X W T y := by
  obtain ⟨r, i, rfl⟩ : ∃ (a : Fin 512) (b : Fin 128), x = ix2 a b := ⟨x 0, x 1, (ix2_eta x).symm⟩
  obtain ⟨r', N, rfl⟩ : ∃ (a : Fin 512) (b : Fin 2560), y = ix2 a b := ⟨y 0, y 1, (ix2_eta y).symm⟩
  replace y1 : (N : ℕ) = o + i := y1
  obtain rfl : r' = r := Fin.ext y0
  have hi := i.isLt
  have hN := N.isLt
  have e1 : o = 128 * ((N : ℕ) / 128) := by omega
  have e2 : i = (⟨(N : ℕ) % 128, Nat.mod_lt _ (by decide)⟩ : Fin 128) := Fin.ext (by simp only []; omega)
  have hge : ¬ (N : ℕ) < 2048 := by omega
  have hlt : (N : ℕ) < 2304 := by omega
  rw [kpay_at, rot_step X W T o (by omega) hX hW h0 h1 h2 hs r' i]
  refine Eq.trans ?_ ((if_neg hge).trans (if_pos hlt)).symm
  show _ = turn _ _ _ _ _ _ _
  exact turn_congr _ _ _ _ _ _ e1 _ _ _ _ e2

/-- A store of values, at columns from `o`. -/
theorem v_at (X : Vec Ideal S512x2048 .bf16) (W : Vec Ideal S2048x2560 .bf16) (T : Vec Ideal S3x512x128 .f32) (o : ℕ) (hX hW) (hs : S512x2560.Slices ![0, o] S512x128) (ho : 2304 ≤ o ∧ o + 128 ≤ 2560)
    (x : S512x128.Idx) (y : S512x2560.Idx) (y0 : (y 0 : ℕ) = (x 0 : ℕ)) (y1 : (y 1 : ℕ) = o + (x 1 : ℕ)) :
    vpay (extractStridedSlice S512x128 ![0, o] (prod (View.ld X (Rect.unit (s := S512x2048) ![0, 0] ![512, 2048] hX)) (View.ld W (Rect.unit (s := S2048x2560) ![0, 0] ![2048, 2560] hW))) hs) x = rowOf X W T y := by
  obtain ⟨r, i, rfl⟩ : ∃ (a : Fin 512) (b : Fin 128), x = ix2 a b := ⟨x 0, x 1, (ix2_eta x).symm⟩
  obtain ⟨r', N, rfl⟩ : ∃ (a : Fin 512) (b : Fin 2560), y = ix2 a b := ⟨y 0, y 1, (ix2_eta y).symm⟩
  replace y1 : (N : ℕ) = o + i := y1
  obtain rfl : r' = r := Fin.ext y0
  have hi := i.isLt
  have e : vpay (extractStridedSlice S512x128 ![0, o] (prod (View.ld X (Rect.unit (s := S512x2048) ![0, 0] ![512, 2048] hX)) (View.ld W (Rect.unit (s := S2048x2560) ![0, 0] ![2048, 2560] hW))) hs) (ix2 r' i : S512x128.Idx)
      = prod (View.ld X (Rect.unit (s := S512x2048) ![0, 0] ![512, 2048] hX)) (View.ld W (Rect.unit (s := S2048x2560) ![0, 0] ![2048, 2560] hW)) (ix2 r' ⟨o + i, by omega⟩ : S512x2560.Idx) := by
    pointwise [vpay]
  have g1 : ¬ (N : ℕ) < 2048 := by omega
  have g2 : ¬ (N : ℕ) < 2304 := by omega
  rw [e, prod_at]
  refine Eq.trans ?_ ((if_neg g1).trans (if_neg g2)).symm
  exact Finset.sum_congr rfl fun d _ => congrArg₂ (fun u v : EReal => u * v) (Attn.ld2_at X hX r' d r' d (Nat.zero_add _).symm (Nat.zero_add _).symm)
    (Attn.ld2_at W hW d _ d N (Nat.zero_add _).symm (by simp only [ix2]; omega))

/-- The products of 128 columns from `o` on. -/
abbrev cut (X : FVec Ideal S512x2048 .bf16) (W : FVec Ideal S2048x2560 .bf16) (o : ℕ) (hs : S512x2560.Slices ![0, o] S512x128) : FVec Ideal S512x128 .f32 := extractStridedSlice S512x128 ![0, o] (prod X W) hs

attribute [local irreducible] View.readAt

set_option maxHeartbeats 400000 in
/-- A step's twenty stores. -/
theorem out3_at (X : Vec Ideal S512x2048 .bf16) (W : Vec Ideal S2048x2560 .bf16) (T : Vec Ideal S3x512x128 .f32) (y : S512x2560.Idx) : out0_3 (F := Ideal) X W T y = rowOf X W T y := by
  unfold_out out0_3
  canon_tiles x h
  · exact (congrFun (rfl : _ = vpay (cut (View.ld X r0_0) (View.ld W r0_1) 2432 slices_S512x2560_o0_2432_S512x128)) x).trans (v_at X W T 2432 _ _ _ (by decide) x y h0 h1)
  · exact (congrFun (rfl : _ = vpay (cut (View.ld X r0_0) (View.ld W r0_1) 2304 slices_S512x2560_o0_2304_S512x128)) x).trans (v_at X W T 2304 _ _ _ (by decide) x y h0 h1)
  · exact (congrFun (rfl : _ = kpay (cut (View.ld X r0_0) (View.ld W r0_1) 2176 slices_S512x2560_o0_2176_S512x128) (View.ld T r0_2) (View.ld T r0_3) (View.ld T r0_4)) x).trans (k_at X W T 2176 _ _ _ _ _ _ (by decide) x y h0 h1)
  · exact (congrFun (rfl : _ = kpay (cut (View.ld X r0_0) (View.ld W r0_1) 2048 slices_S512x2560_o0_2048_S512x128) (View.ld T r0_2) (View.ld T r0_3) (View.ld T r0_4)) x).trans (k_at X W T 2048 _ _ _ _ _ _ (by decide) x y h0 h1)
  · exact (congrFun (rfl : _ = qpay (cut (View.ld X r0_0) (View.ld W r0_1) 1920 slices_S512x2560_o0_1920_S512x128) (View.ld T r0_2) (View.ld T r0_3) (View.ld T r0_4)) x).trans (q_at X W T 1920 _ _ _ _ _ _ (by decide) x y h0 h1)
  · exact (congrFun (rfl : _ = qpay (cut (View.ld X r0_0) (View.ld W r0_1) 1792 slices_S512x2560_o0_1792_S512x128) (View.ld T r0_2) (View.ld T r0_3) (View.ld T r0_4)) x).trans (q_at X W T 1792 _ _ _ _ _ _ (by decide) x y h0 h1)
  · exact (congrFun (rfl : _ = qpay (cut (View.ld X r0_0) (View.ld W r0_1) 1664 slices_S512x2560_o0_1664_S512x128) (View.ld T r0_2) (View.ld T r0_3) (View.ld T r0_4)) x).trans (q_at X W T 1664 _ _ _ _ _ _ (by decide) x y h0 h1)
  · exact (congrFun (rfl : _ = qpay (cut (View.ld X r0_0) (View.ld W r0_1) 1536 slices_S512x2560_o0_1536_S512x128) (View.ld T r0_2) (View.ld T r0_3) (View.ld T r0_4)) x).trans (q_at X W T 1536 _ _ _ _ _ _ (by decide) x y h0 h1)
  · exact (congrFun (rfl : _ = qpay (cut (View.ld X r0_0) (View.ld W r0_1) 1408 slices_S512x2560_o0_1408_S512x128) (View.ld T r0_2) (View.ld T r0_3) (View.ld T r0_4)) x).trans (q_at X W T 1408 _ _ _ _ _ _ (by decide) x y h0 h1)
  · exact (congrFun (rfl : _ = qpay (cut (View.ld X r0_0) (View.ld W r0_1) 1280 slices_S512x2560_o0_1280_S512x128) (View.ld T r0_2) (View.ld T r0_3) (View.ld T r0_4)) x).trans (q_at X W T 1280 _ _ _ _ _ _ (by decide) x y h0 h1)
  · exact (congrFun (rfl : _ = qpay (cut (View.ld X r0_0) (View.ld W r0_1) 1152 slices_S512x2560_o0_1152_S512x128) (View.ld T r0_2) (View.ld T r0_3) (View.ld T r0_4)) x).trans (q_at X W T 1152 _ _ _ _ _ _ (by decide) x y h0 h1)
  · exact (congrFun (rfl : _ = qpay (cut (View.ld X r0_0) (View.ld W r0_1) 1024 slices_S512x2560_o0_1024_S512x128) (View.ld T r0_2) (View.ld T r0_3) (View.ld T r0_4)) x).trans (q_at X W T 1024 _ _ _ _ _ _ (by decide) x y h0 h1)
  · exact (congrFun (rfl : _ = qpay (cut (View.ld X r0_0) (View.ld W r0_1) 896 slices_S512x2560_o0_896_S512x128) (View.ld T r0_2) (View.ld T r0_3) (View.ld T r0_4)) x).trans (q_at X W T 896 _ _ _ _ _ _ (by decide) x y h0 h1)
  · exact (congrFun (rfl : _ = qpay (cut (View.ld X r0_0) (View.ld W r0_1) 768 slices_S512x2560_o0_768_S512x128) (View.ld T r0_2) (View.ld T r0_3) (View.ld T r0_4)) x).trans (q_at X W T 768 _ _ _ _ _ _ (by decide) x y h0 h1)
  · exact (congrFun (rfl : _ = qpay (cut (View.ld X r0_0) (View.ld W r0_1) 640 slices_S512x2560_o0_640_S512x128) (View.ld T r0_2) (View.ld T r0_3) (View.ld T r0_4)) x).trans (q_at X W T 640 _ _ _ _ _ _ (by decide) x y h0 h1)
  · exact (congrFun (rfl : _ = qpay (cut (View.ld X r0_0) (View.ld W r0_1) 512 slices_S512x2560_o0_512_S512x128) (View.ld T r0_2) (View.ld T r0_3) (View.ld T r0_4)) x).trans (q_at X W T 512 _ _ _ _ _ _ (by decide) x y h0 h1)
  · exact (congrFun (rfl : _ = qpay (cut (View.ld X r0_0) (View.ld W r0_1) 384 slices_S512x2560_o0_384_S512x128) (View.ld T r0_2) (View.ld T r0_3) (View.ld T r0_4)) x).trans (q_at X W T 384 _ _ _ _ _ _ (by decide) x y h0 h1)
  · exact (congrFun (rfl : _ = qpay (cut (View.ld X r0_0) (View.ld W r0_1) 256 slices_S512x2560_o0_256_S512x128) (View.ld T r0_2) (View.ld T r0_3) (View.ld T r0_4)) x).trans (q_at X W T 256 _ _ _ _ _ _ (by decide) x y h0 h1)
  · exact (congrFun (rfl : _ = qpay (cut (View.ld X r0_0) (View.ld W r0_1) 128 slices_S512x2560_o0_128_S512x128) (View.ld T r0_2) (View.ld T r0_3) (View.ld T r0_4)) x).trans (q_at X W T 128 _ _ _ _ _ _ (by decide) x y h0 h1)
  · exact (congrFun (rfl : _ = qpay (cut (View.ld X r0_0) (View.ld W r0_1) 0 slices_S512x2560_o0_0_S512x128) (View.ld T r0_2) (View.ld T r0_3) (View.ld T r0_4)) x).trans (q_at X W T 0 _ _ _ _ _ _ (by decide) x y h0 (h1.trans (Nat.zero_add _).symm))

variable (m : (ℓ : Loc nD τ sig) → Buf (Elt Ideal) ℓ)

/-- A step's block. -/
theorem after3 (c : Dev nD) (t : Fin cfg0.N) (y : S512x2560.Idx) : (dats m 0 c).after 3 t y = rowOf (iblk m c 0 t) (iblk m c 1 t) (iblk m c 2 t) y := by
  rw [after0_3]
  exact out3_at _ _ _ y

end Cert.Pa
-- ==== Proof.PaResult.lean ====
/- The queries, keys and values of attention A: the call's array, against the reference. -/
module

public import proofs.«01_k».proof.Proof.PaBlock

@[expose] public section

set_option maxRecDepth 8192

noncomputable section

namespace Cert.Pa

open Idealize.ShloMosaic Idealize.ShloMosaic.TcCoe Idealize.SL.Sem
open Cert.ProjAIdeal Cert.ProjAIdeal.Gen

variable (m : (ℓ : Loc nD τ sig) → Buf (Elt Ideal) ℓ)

/-- The layer's input, one row for each token, in the matrix unit's format. -/
def flat (x : FVec Ideal S4x4096x2048 .f32) : FVec Ideal S16384x2048 .bf16 := truncf (F := Ideal) .bf16 (shapeCast S16384x2048 x shapeCasts_S4x4096x2048_S16384x2048) bitsLt_bf16_f32

/-- A column of zeros in front of or behind the sines. -/
def zeros : FVec Ideal S4096x32 .f32 := broadcastInDim S4096x32 ![] bcast_S_S4096x32 (constant S_ .f32 0x00000000#32)

/-- The three tables: the cosines four times; twice zeros and the sines; twice the sines with the sign changed and zeros. -/
def tables (C S : FVec Ideal S4096x32 .f32) : FVec Ideal S3x4096x128 .f32 :=
  concatenate S3x4096x128 0
    [⟨S1x4096x128, (broadcastInDim S1x4096x128 ![1, 2] bcast_S4096x128_S1x4096x128_1_2 (shapeCast S4096x128 (broadcastInDim S1x4096x4x32 ![0, 1, 2, 3] bcast_S1x4096x1x32_S1x4096x4x32_0_1_2_3 (shapeCast S1x4096x1x32 C shapeCasts_S4096x32_S1x4096x1x32)) shapeCasts_S1x4096x4x32_S4096x128) : FVec Ideal S1x4096x128 .f32)⟩,
     ⟨S1x4096x128, (broadcastInDim S1x4096x128 ![1, 2] bcast_S4096x128_S1x4096x128_1_2 (shapeCast S4096x128 (broadcastInDim S1x4096x2x64 ![0, 1, 2, 3] bcast_S1x4096x1x64_S1x4096x2x64_0_1_2_3 (shapeCast S1x4096x1x64 (concatenate S4096x64 1 [⟨S4096x32, zeros⟩, ⟨S4096x32, S⟩] concatenates_S4096x32_S4096x32_S4096x64_d1) shapeCasts_S4096x64_S1x4096x1x64)) shapeCasts_S1x4096x2x64_S4096x128) : FVec Ideal S1x4096x128 .f32)⟩,
     ⟨S1x4096x128, (broadcastInDim S1x4096x128 ![1, 2] bcast_S4096x128_S1x4096x128_1_2 (shapeCast S4096x128 (broadcastInDim S1x4096x2x64 ![0, 1, 2, 3] bcast_S1x4096x1x64_S1x4096x2x64_0_1_2_3 (shapeCast S1x4096x1x64 (concatenate S4096x64 1 [⟨S4096x32, Host.negf S⟩, ⟨S4096x32, zeros⟩] concatenates_S4096x32_S4096x32_S4096x64_d1) shapeCasts_S4096x64_S1x4096x1x64)) shapeCasts_S1x4096x2x64_S4096x128) : FVec Ideal S1x4096x128 .f32)⟩]
    concatenates_S1x4096x128_S1x4096x128_S1x4096x128_S3x4096x128_d0

theorem V_x (c : Dev nD) : V m c main_v62 = flat (m ((c.tc : Thread nD τ).loc main_arg0)) := by
  entry_read
  rfl

theorem V_w (c : Dev nD) : V m c main_v63 = (m ((c.tc : Thread nD τ).loc main_arg1) : S2048x12800.Idx → EReal) := by
  entry_read
  rfl

set_option maxRecDepth 32768 in
set_option maxHeartbeats 4000000 in
theorem V_t (c : Dev nD) : V m c main_v54 = tables (Host.cos Ref.ang) (Host.sin Ref.ang) := by
  show StableHlo.after hostOps0 (fun b => m (c, b)) (Proc.devRef .tc main_v54) = _
  unfold hostOps0
  after_results_simp <;> (try dsimp only [Matrix.cons_val]) <;> (try after_results_simp) <;> rfl

theorem flat_at (a : FVec Ideal S4x4096x2048 .f32) (s : Fin 4) (p : Fin 4096) (R : Fin 16384) (d : Fin 2048) (hR : (R : ℕ) = 4096 * (s : ℕ) + p) :
    flat a (ix2 R d : S16384x2048.Idx) = a (ix3 s p d : S4x4096x2048.Idx) := by
  have hp := p.isLt
  pointwise [flat]
  refine congrArg a ((ix3_inj ..).2 ⟨Fin.ext ?_, Fin.ext ?_, Fin.ext ?_⟩) <;> simp only [] <;> omega

theorem zeros_at (y : S4096x32.Idx) : zeros y = 0 := by
  show Ideal.ofBits .f32 0x00000000#32 = 0
  exact Ideal.ofBits_zero_f32

theorem tables0_at (C S : FVec Ideal S4096x32 .f32) (p : Fin 4096) (i : Fin 128) :
    tables C S (ix3 0 p i : S3x4096x128.Idx) = C (ix2 p ⟨(i : ℕ) % 32, Nat.mod_lt _ (by decide)⟩ : S4096x32.Idx) := by
  have hp := p.isLt; have hi := i.isLt
  pointwise [tables]

theorem tables1_at (C S : FVec Ideal S4096x32 .f32) (p : Fin 4096) (i : Fin 128) :
    tables C S (ix3 1 p i : S3x4096x128.Idx) = if (i : ℕ) % 64 < 32 then 0 else S (ix2 p ⟨(i : ℕ) % 32, Nat.mod_lt _ (by decide)⟩ : S4096x32.Idx) := by
  have hp := p.isLt; have hi := i.isLt
  pointwise [tables]
  by_cases h : (i : ℕ) % 64 < 32
  · rw [dif_pos h, if_pos h, zeros_at]
  · rw [dif_neg h, if_neg h]
    exact congrArg S ((ix2_inj ..).2 ⟨rfl, Fin.ext (by simp only []; omega)⟩)

theorem tables2_at (C S : FVec Ideal S4096x32 .f32) (p : Fin 4096) (i : Fin 128) :
    tables C S (ix3 2 p i : S3x4096x128.Idx) = if (i : ℕ) % 64 < 32 then - S (ix2 p ⟨(i : ℕ) % 32, Nat.mod_lt _ (by decide)⟩ : S4096x32.Idx) else 0 := by
  have hp := p.isLt; have hi := i.isLt
  pointwise [tables]
  by_cases h : (i : ℕ) % 64 < 32
  · rw [dif_pos h, if_pos h]
    exact congrArg (fun u : EReal => - u) (congrArg S ((ix2_inj ..).2 ⟨rfl, Fin.ext (by simp only []; omega)⟩))
  · rw [dif_neg h, if_neg h, zeros_at]

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0] := (by decide +kernel : ∀ t : Fin grid0.N, win0_1.index t = ![0, 0])
theorem idx0_2 : ∀ t : Fin cfg0.N, win0_2.index t = ![0, t.val % 8, 0] := (by decide +kernel : ∀ t : Fin grid0.N, win0_2.index t = ![0, t.val % 8, 0])
theorem idx0_3 : ∀ t : Fin cfg0.N, win0_3.index t = ![t.val, 0] := (by decide +kernel : ∀ t : Fin grid0.N, win0_3.index t = ![t.val, 0])

theorem blk0 (c : Dev nD) (t : Fin cfg0.N) (r : Fin 512) (d : Fin 2048) :
    iblk m c 0 t (ix2 r d : S512x2048.Idx) = V m c main_v62 (ix2 ⟨512 * t.val + r, by have : t.val < 32 := t.isLt; omega⟩ d : S16384x2048.Idx) := by
  blk_simp [iblk]
  blk_ext [idx0_0 t]

theorem blk1 (c : Dev nD) (t : Fin cfg0.N) (d : Fin 2048) (w : Fin 2560) :
    iblk m c 1 t (ix2 d w : S2048x2560.Idx) = V m c main_v63 (ix2 d ⟨w, by omega⟩ : S2048x12800.Idx) := by
  blk_simp [iblk]
  blk_ext [idx0_1 t]

theorem blk2 (c : Dev nD) (t : Fin cfg0.N) (k : Fin 3) (r : Fin 512) (i : Fin 128) :
    iblk m c 2 t (ix3 k r i : S3x512x128.Idx) = V m c main_v54 (ix3 k ⟨512 * (t.val % 8) + r, by omega⟩ i : S3x4096x128.Idx) := by
  blk_simp [iblk]
  blk_ext [idx0_2 t]

theorem row (t : Fin cfg0.N) (a : Fin 512) :
    ((⟨512 * t.val + a, by have : t.val < 32 := t.isLt; omega⟩ : Fin 16384) : ℕ) = 4096 * ((⟨t.val / 8, by have : t.val < 32 := t.isLt; omega⟩ : Fin 4) : ℕ) + ((⟨512 * (t.val % 8) + a, by omega⟩ : Fin 4096) : ℕ) := by
  simp only []; omega

/-- A step's products are the input projection's. -/
theorem mul_eq (X : FVec Ideal S512x2048 .bf16) (W : FVec Ideal S2048x2560 .bf16) (x : FVec Ideal S4x4096x2048 .f32) (w : FVec Ideal S2048x12800 .f32) (r : Fin 512) (s : Fin 4) (p : Fin 4096)
    (hX : ∀ d : Fin 2048, X (ix2 r d : S512x2048.Idx) = x (ix3 s p d : S4x4096x2048.Idx)) (hW : ∀ (d : Fin 2048) (n : Fin 2560), W (ix2 d n : S2048x2560.Idx) = w (ix2 d ⟨n, by omega⟩ : S2048x12800.Idx)) :
    mulAt X W r = fun j : Fin 2560 => Ref.dotAt x w s p ⟨j, by omega⟩ :=
  funext fun j => Finset.sum_congr rfl fun d _ => congrArg₂ (fun u v : EReal => u * v) (hX d) (hW d j)

/-- An entry of a step's block, where the step's inputs are the reference's. -/
theorem row_eq (X : FVec Ideal S512x2048 .bf16) (W : FVec Ideal S2048x2560 .bf16) (T : FVec Ideal S3x512x128 .f32) (x : FVec Ideal S4x4096x2048 .f32) (w : FVec Ideal S2048x12800 .f32) (C S : FVec Ideal S4096x32 .f32)
    (r : Fin 512) (s : Fin 4) (p : Fin 4096) (n : Fin 2560) (hX : ∀ d : Fin 2048, X (ix2 r d : S512x2048.Idx) = x (ix3 s p d : S4x4096x2048.Idx)) (hW : ∀ (d : Fin 2048) (n : Fin 2560), W (ix2 d n : S2048x2560.Idx) = w (ix2 d ⟨n, by omega⟩ : S2048x12800.Idx))
    (hT : ∀ (k : Fin 3) (j : Fin 128), T (ix3 k r j : S3x512x128.Idx) = tables C S (ix3 k p j : S3x4096x128.Idx)) :
    rowOf X W T (ix2 r n : S512x2560.Idx) = rowAt (fun j => Ref.dotAt x w s p ⟨j, by omega⟩) (fun j => C (ix2 p j : S4096x32.Idx)) (fun j => S (ix2 p j : S4096x32.Idx)) n := by
  refine (step_eq (mulAt X W r) _ _ _ (fun j => C (ix2 p j : S4096x32.Idx)) (fun j => S (ix2 p j : S4096x32.Idx)) (fun i => (hT 0 i).trans (tables0_at C S p i))
    (fun i => (hT 1 i).trans (tables1_at C S p i)) (fun i => (hT 2 i).trans (tables2_at C S p i)) n).trans ?_
  rw [mul_eq X W x w r s p hX hW]

/-- The kernel's queries, keys and values are the reference's. -/
theorem arr3 (c : Dev nD) : (dats m 0 c).arrAt 3 cfg0.N = (Ref.res (m ((c.tc : Thread nD τ).loc main_arg0)) (m ((c.tc : Thread nD τ).loc main_arg1)) : S16384x2560.Idx → EReal) := by
  refine (dats m 0 c).arrAt_eq_of_covers 3 _ (by decide +kernel) fun t hf y => ?_
  have ht : t.val < 32 := t.isLt
  obtain ⟨a, n, rfl⟩ : ∃ (a : Fin 512) (b : Fin 2560), y = (ix2 a b : S512x2560.Idx) := ⟨y 0, y 1, (ix2_eta (y : S512x2560.Idx)).symm⟩
  have e : ((cfg0.win 3).blk t).view.emb (ix2 a n : S512x2560.Idx) = (ix2 ⟨512 * t.val + a, by omega⟩ n : S16384x2560.Idx) := by
    blk_ext [idx0_3 t]
  rw [e]
  blk_simp
  refine (after3 m c t (ix2 a n)).trans ?_
  refine Eq.trans ?_ (Ref.res_at _ _ _ _ _ (row t a) n).symm
  exact row_eq _ _ _ _ _ _ _ a _ _ n (fun d => (blk0 m c t a d).trans ((congrFun (V_x m c) _).trans (flat_at _ _ _ _ _ (row t a))))
    (fun d n => (blk1 m c t d n).trans (congrFun (V_w m c) _)) (fun k j => (blk2 m c t k a j).trans (congrFun (V_t m c) _))

end Cert.Pa
-- ==== Proof.VtResult.lean ====
/- The values of attention B: what one step writes, and the call's array, against the reference. -/
module

public import proofs.«01_k».proof.Proof.KernelBlock
public import proofs.«01_k».proof.Proof.Gen.VtAttnIdeal.Value
public import proofs.«01_k».proof.Proof.Gen.RefVtAttnIdeal.Run

@[expose] public section

set_option maxRecDepth 8192

noncomputable section

namespace Cert.Vt.Ref

open Idealize.ShloMosaic Idealize.ShloMosaic.TcCoe Idealize.SL.Sem
open Cert.RefVtAttnIdeal Cert.RefVtAttnIdeal.Gen Cert.RefVtAttnIdeal.Value

/-- The reference's values: the projection's last columns, the features of a head as rows, the 512 tokens of a block as columns. -/
def res (x : FVec Ideal S4x4096x2048 .f32) (w : FVec Ideal S2048x12800 .f32) : FVec Ideal S4x8x8x256x512 .bf16 :=
  truncf .bf16 (transpose S4x8x8x256x512 [0, 3, 1, 4, 2] (shapeCast S4x8x512x8x256 (shapeCast S4x4096x8x256 (extractStridedSlice S4x4096x2048 ![0, 0, 6656] (Host.dotGeneral dot_S4x4096x2048_S2048x12800_S4x4096x12800_2_0_01_1_n_n none x w) slices_S4x4096x12800_S4x4096x2048_0_0_6656) shapeCasts_S4x4096x2048_S4x4096x8x256) shapeCasts_S4x4096x8x256_S4x8x512x8x256) transposes_S4x8x512x8x256_S4x8x8x256x512_0_3_1_4_2) bitsLt_bf16_f32

theorem res_at (x : FVec Ideal S4x4096x2048 .f32) (w : FVec Ideal S2048x12800 .f32) (b : Fin 4) (h k : Fin 8) (f : Fin 256) (r : Fin 512) (p : Fin 4096) (n : Fin 12800) (hp : (p : ℕ) = 512 * (k : ℕ) + r) (hn : (n : ℕ) = 6656 + (256 * (h : ℕ) + f)) :
    res x w (ix5 b h k f r : S4x8x8x256x512.Idx) = ∑ d : Fin 2048, x (ix3 b p d : S4x4096x2048.Idx) * w (ix2 d n : S2048x12800.Idx) := by
  have hb := b.isLt; have hh := h.isLt; have hk := k.isLt; have hf := f.isLt; have hr := r.isLt
  pointwise [res]
  refine Finset.sum_congr rfl fun d _ => congrArg₂ (fun u v : EReal => u * v) (congrArg x ((ix3_inj ..).2 ⟨Fin.ext ?_, Fin.ext ?_, Fin.ext ?_⟩)) (congrArg w ((ix2_inj ..).2 ⟨Fin.ext ?_, Fin.ext ?_⟩)) <;> simp only [] <;> omega

end Cert.Vt.Ref

namespace Cert.Vt

open Idealize.ShloMosaic Idealize.ShloMosaic.TcCoe Idealize.SL.Sem
open Cert.VtAttnIdeal Cert.VtAttnIdeal.Gen

/-- The products of a step's rows with a head's 256 columns. -/
def prod (X : FVec Ideal S1024x2048 .bf16) (W : FVec Ideal S2048x256 .bf16) : FVec Ideal S1024x256 .bf16 :=
  truncf .bf16 (matmul dot_S1024x2048_S2048x256_S1024x256_1_0_0_1_n_n none (shapeCast S1024x2048 X shapeCasts_S1024x2048_S1024x2048) (shapeCast S2048x256 W shapeCasts_S2048x256_S2048x256) (constant S1024x256 .f32 0x00000000#32)) bitsLt_bf16_f32

theorem prod_at (X : FVec Ideal S1024x2048 .bf16) (W : FVec Ideal S2048x256 .bf16) (r : Fin 1024) (b : Fin 256) :
    prod X W (ix2 r b : S1024x256.Idx) = ∑ d : Fin 2048, X (ix2 r d : S1024x2048.Idx) * W (ix2 d b : S2048x256.Idx) := by
  pointwise [prod]

/-- What a store holds: 512 of the rows from `e` on, transposed. -/
def pay (u : FVec Ideal S1024x256 .bf16) (e : ℕ) (hs : S1024x256.Slices ![e, 0] S512x256) : FVec Ideal S1x1x1x256x512 .bf16 :=
  shapeCast S1x1x1x256x512 (transpose S256x512 [1, 0] (extractStridedSlice S512x256 ![e, 0] u hs) transposes_S512x256_p1_0_S256x512) shapeCasts_S256x512_S1x1x1x256x512

theorem pay_at (u : FVec Ideal S1024x256 .bf16) (e : ℕ) (hs) (he : e + 512 ≤ 1024) (f : Fin 256) (r : Fin 512) :
    pay u e hs (ix5 0 0 0 f r : S1x1x1x256x512.Idx) = u (ix2 ⟨e + r, by omega⟩ f : S1024x256.Idx) := by
  have hf := f.isLt; have hr := r.isLt
  pointwise [pay]

/-- One entry of a step's block: head `c` of four, block `k` of two, feature `f`, token `r`. -/
def stepAt (X : S1024x2048.Idx → EReal) (W : S2048x1024.Idx → EReal) (c : Fin 4) (k : Fin 2) (f : Fin 256) (r : Fin 512) : EReal :=
  ∑ d : Fin 2048, X (ix2 ⟨512 * (k : ℕ) + r, by omega⟩ d) * W (ix2 d ⟨256 * (c : ℕ) + f, by omega⟩)

/-- A store of head `c` and block `k`. -/
theorem store_at (X : FVec Ideal S1024x2048 .bf16) (W : Vec Ideal S2048x1024 .bf16) (o e c k : ℕ) (hW) (hs : S1024x256.Slices ![e, 0] S512x256) (he : e + 512 ≤ 1024) (ho : o = 256 * c ∧ e = 512 * k)
    (x : S1x1x1x256x512.Idx) (y : S1x4x2x256x512.Idx) (y1 : (y 1 : ℕ) = c + (x 1 : ℕ)) (y2 : (y 2 : ℕ) = k + (x 2 : ℕ)) (y3 : (y 3 : ℕ) = (x 3 : ℕ)) (y4 : (y 4 : ℕ) = (x 4 : ℕ)) :
    pay (prod X (View.ld W (Rect.unit (s := S2048x1024) ![0, o] ![2048, 256] hW))) e hs x = stepAt X W (y 1) (y 2) (y 3) (y 4) := by
  obtain ⟨b0, b1, b2, f, r, rfl⟩ : ∃ (a : Fin 1) (b : Fin 1) (c : Fin 1) (d : Fin 256) (e : Fin 512), x = ix5 a b c d e := ⟨x 0, x 1, x 2, x 3, x 4, eq_ix5 x⟩
  obtain ⟨c0, c', k', f', r', rfl⟩ : ∃ (a : Fin 1) (b : Fin 4) (c : Fin 2) (d : Fin 256) (e : Fin 512), y = ix5 a b c d e := ⟨y 0, y 1, y 2, y 3, y 4, eq_ix5 y⟩
  obtain rfl : b0 = 0 := Subsingleton.elim _ _
  obtain rfl : b1 = 0 := Subsingleton.elim _ _
  obtain rfl : b2 = 0 := Subsingleton.elim _ _
  obtain rfl : (c' : ℕ) = c := y1
  obtain rfl : (k' : ℕ) = k := y2
  obtain rfl : f' = f := Fin.ext y3
  obtain rfl : r' = r := Fin.ext y4
  obtain ⟨rfl, rfl⟩ := ho
  rw [pay_at _ _ _ he, prod_at]
  exact Finset.sum_congr rfl fun d _ => congrArg₂ (fun u v : EReal => u * v) rfl (Attn.ld2_at W hW d f' d ⟨256 * (c' : ℕ) + f', by omega⟩ (Nat.zero_add _).symm rfl)

variable (m : (ℓ : Loc nD τ sig) → Buf (Elt Ideal) ℓ)

attribute [local irreducible] View.readAt

set_option maxHeartbeats 4000000 in
/-- A step's block of values. -/
theorem after6 (c : Dev nD) (t : Fin cfg0.N) (y : S1x4x2x256x512.Idx) :
    (dats m 0 c).after 6 t y = stepAt (iblk m c 1 t) (iblk m c 2 t) (y 1) (y 2) (y 3) (y 4) := by
  rw [after0_6]; unfold outsAt0; frame_out
  have S := store_at (iblk m c 1 t) (iblk m c 2 t)
  canon_tiles x h
  · exact S 768 512 3 1 _ _ (by decide) (by decide) x y h1 h2 h3 h4
  · exact S 768 0 3 0 _ _ (by decide) (by decide) x y h1 (h2.trans (Nat.zero_add _).symm) h3 h4
  · exact S 512 512 2 1 _ _ (by decide) (by decide) x y h1 h2 h3 h4
  · exact S 512 0 2 0 _ _ (by decide) (by decide) x y h1 (h2.trans (Nat.zero_add _).symm) h3 h4
  · exact S 256 512 1 1 _ _ (by decide) (by decide) x y h1 h2 h3 h4
  · exact S 256 0 1 0 _ _ (by decide) (by decide) x y h1 (h2.trans (Nat.zero_add _).symm) h3 h4
  · exact S 0 512 0 1 _ _ (by decide) (by decide) x y (h1.trans (Nat.zero_add _).symm) h2 h3 h4
  · exact S 0 0 0 0 _ _ (by decide) (by decide) x y (h1.trans (Nat.zero_add _).symm) (h2.trans (Nat.zero_add _).symm) h3 h4

/-- The layer's input, one row for each token, in the matrix unit's format. -/
def flat (x : FVec Ideal S4x4096x2048 .f32) : FVec Ideal S16384x2048 .bf16 := truncf (F := Ideal) .bf16 (shapeCast S16384x2048 x shapeCasts_S4x4096x2048_S16384x2048) bitsLt_bf16_f32

theorem V_x (c : Dev nD) : V m c main_v1 = flat (m ((c.tc : Thread nD τ).loc main_arg0)) := by
  entry_read
  rfl

theorem V_w (c : Dev nD) : V m c main_v2 = (m ((c.tc : Thread nD τ).loc main_arg1) : S2048x12800.Idx → EReal) := by
  entry_read
  rfl

theorem flat_at (a : FVec Ideal S4x4096x2048 .f32) (s : Fin 4) (p : Fin 4096) (R : Fin 16384) (d : Fin 2048) (hR : (R : ℕ) = 4096 * (s : ℕ) + p) :
    flat a (ix2 R d : S16384x2048.Idx) = a (ix3 s p d : S4x4096x2048.Idx) := by
  have hp := p.isLt
  pointwise [flat]
  refine congrArg a ((ix3_inj ..).2 ⟨Fin.ext ?_, Fin.ext ?_, Fin.ext ?_⟩) <;> simp only [] <;> omega

theorem idx0_1 : ∀ t : Fin cfg0.N, win0_1.index t = ![t.val / 2, 0] := (by decide +kernel : ∀ t : Fin grid0.N, win0_1.index t = ![t.val / 2, 0])
theorem idx0_2 : ∀ t : Fin cfg0.N, win0_2.index t = ![0, 6656 + 1024 * (t.val % 2)] := (by decide +kernel : ∀ t : Fin grid0.N, win0_2.index t = ![0, 6656 + 1024 * (t.val % 2)])
theorem idx0_6 : ∀ t : Fin cfg0.N, win0_6.index t = ![t.val / 8, t.val % 2, t.val / 2 % 4, 0, 0] := (by decide +kernel : ∀ t : Fin grid0.N, win0_6.index t = ![t.val / 8, t.val % 2, t.val / 2 % 4, 0, 0])

theorem blk1 (c : Dev nD) (t : Fin cfg0.N) (r : Fin 1024) (d : Fin 2048) :
    iblk m c 1 t (ix2 r d : S1024x2048.Idx) = V m c main_v1 (ix2 ⟨1024 * (t.val / 2) + r, by have : t.val < 32 := t.isLt; omega⟩ d : S16384x2048.Idx) := by
  blk_simp [iblk]
  blk_ext [idx0_1 t]

theorem blk2 (c : Dev nD) (t : Fin cfg0.N) (d : Fin 2048) (w : Fin 1024) :
    iblk m c 2 t (ix2 d w : S2048x1024.Idx) = V m c main_v2 (ix2 d ⟨6656 + 1024 * (t.val % 2) + w, by omega⟩ : S2048x12800.Idx) := by
  have e : ∀ (y : S2048x1024.Idx) (a : Fin 2), (((win0_2.blk t).view.emb y a : Fin _) : ℕ) = win0_2.index t a + (y a : ℕ) := fun y a =>
    ValueKit.view_emb_slice_whole_unit_val main_v2 _ _ _ y a
  blk_simp [iblk]
  refine congrArg (V m c main_v2) ?_
  funext a
  refine Fin.ext ((e _ a).trans ?_)
  rw [idx0_2 t]
  match a with
  | ⟨0, _⟩ => exact Nat.zero_add _
  | ⟨1, _⟩ => rfl

/-- A step's entry is the reference's, where the step's inputs are. -/
theorem step_eq (X : FVec Ideal S1024x2048 .bf16) (W : FVec Ideal S2048x1024 .bf16) (x : FVec Ideal S4x4096x2048 .f32) (w : FVec Ideal S2048x12800 .f32) (s : Fin 4) (c : Fin 4) (k : Fin 2) (f : Fin 256) (r : Fin 512) (p : Fin 4096) (n : Fin 12800)
    (hX : ∀ d : Fin 2048, X (ix2 ⟨512 * (k : ℕ) + r, by omega⟩ d : S1024x2048.Idx) = x (ix3 s p d : S4x4096x2048.Idx)) (hW : ∀ d : Fin 2048, W (ix2 d ⟨256 * (c : ℕ) + f, by omega⟩ : S2048x1024.Idx) = w (ix2 d n : S2048x12800.Idx)) :
    stepAt X W c k f r = ∑ d : Fin 2048, x (ix3 s p d : S4x4096x2048.Idx) * w (ix2 d n : S2048x12800.Idx) :=
  Finset.sum_congr rfl fun d _ => congrArg₂ (fun u v : EReal => u * v) (hX d) (hW d)

/-- The kernel's values are the reference's. -/
theorem arr6 (c : Dev nD) : (dats m 0 c).arrAt 6 cfg0.N = (Ref.res (m ((c.tc : Thread nD τ).loc main_arg0)) (m ((c.tc : Thread nD τ).loc main_arg1)) : S4x8x8x256x512.Idx → EReal) := by
  refine (dats m 0 c).arrAt_eq_of_covers 6 _ (by decide +kernel) fun t hf y => ?_
  have ht : t.val < 32 := t.isLt
  obtain ⟨b, h, k, f, r, rfl⟩ : ∃ (b : Fin 1) (h : Fin 4) (k : Fin 2) (f : Fin 256) (r : Fin 512), y = (ix5 b h k f r : S1x4x2x256x512.Idx) := ⟨y 0, y 1, y 2, y 3, y 4, eq_ix5 (y : S1x4x2x256x512.Idx)⟩
  have hb : b = 0 := Subsingleton.elim _ _
  have hh := h.isLt; have hk := k.isLt; have hf' := f.isLt; have hr := r.isLt
  have e : ((cfg0.win 6).blk t).view.emb (ix5 b h k f r : S1x4x2x256x512.Idx) = (ix5 ⟨t.val / 8, by omega⟩ ⟨4 * (t.val % 2) + h, by omega⟩ ⟨2 * (t.val / 2 % 4) + k, by omega⟩ f r : S4x8x8x256x512.Idx) := by
    subst hb
    blk_ext [idx0_6 t]
  rw [e]
  blk_simp
  refine (after6 m c t (ix5 b h k f r)).trans ?_
  have hp : 512 * (2 * (t.val / 2 % 4) + (k : ℕ)) + (r : ℕ) < 4096 := by omega
  refine Eq.trans ?_ (Ref.res_at _ _ _ _ _ f r ⟨512 * (2 * (t.val / 2 % 4) + (k : ℕ)) + r, hp⟩ ⟨6656 + (256 * (4 * (t.val % 2) + (h : ℕ)) + f), by omega⟩ rfl rfl).symm
  refine step_eq _ _ _ _ _ h k f r _ _ (fun d => (blk1 m c t _ d).trans ((congrFun (V_x m c) _).trans (flat_at _ _ _ _ _ ?_))) (fun d => (blk2 m c t d _).trans ((congrFun (V_w m c) _).trans (congrArg (m ((c.tc : Thread nD τ).loc main_arg1) : S2048x12800.Idx → EReal) ((ix2_inj ..).2 ⟨rfl, Fin.ext ?_⟩))))
  · simp only []; omega
  · simp only []; omega

end Cert.Vt
-- ==== Proof.FhStore.lean ====
/- One store of the attention half of `_vt_attn_a`. It is written with that call's own constants, and equals the store of
   `_gates_attn_a` (`pairPay_attn`). -/
module

public import proofs.«01_k».proof.Proof.AttnBlock
public import proofs.«01_k».proof.Proof.Gen.FirstHalfIdeal.Skeleton
public import proofs.«01_k».proof.Proof.Gen.FirstHalfIdeal

@[expose] public section

set_option maxRecDepth 16384

noncomputable section

namespace Cert.Fh

open Idealize.ShloMosaic Idealize.ShloMosaic.TcCoe Idealize.SL.Sem
open Cert.FirstHalfIdeal Cert.FirstHalfIdeal.Gen

/-- The constant the kernel scales a sink with: `1 / log 2`. -/
def kLog : Ideal .f32 := Named.named κ "log2e" 0x3FB8AA3B#32

/-- The constant the kernel gives a masked score: `-∞`. -/
def kMask : Ideal .f32 := Named.named κ "mask" 0xF149F2CA#32

theorem kLog_eq : kLog = (((Real.log 2)⁻¹ : ℝ) : EReal) := IdealRules.named_const.ideal_named_scalar κ _ _ _ rfl
theorem kMask_eq : kMask = (⊥ : EReal) := IdealRules.named_const.ideal_named_scalar κ _ _ _ rfl

theorem cut_le (e : Fin 8) : S256x1024.Slices ![0, 128 * (e : ℕ)] S256x128 := by
  fin_cases e
  exacts [slices_S256x1024_o0_0_S256x128, slices_S256x1024_o0_128_S256x128, slices_S256x1024_o0_256_S256x128, slices_S256x1024_o0_384_S256x128,
    slices_S256x1024_o0_512_S256x128, slices_S256x1024_o0_640_S256x128, slices_S256x1024_o0_768_S256x128, slices_S256x1024_o0_896_S256x128]

theorem cutO_le (e : Fin 8) : S64x1024.Slices ![0, 128 * (e : ℕ)] S64x128 := by
  fin_cases e
  exacts [slices_S64x1024_o0_0_S64x128, slices_S64x1024_o0_128_S64x128, slices_S64x1024_o0_256_S64x128, slices_S64x1024_o0_384_S64x128,
    slices_S64x1024_o0_512_S64x128, slices_S64x1024_o0_640_S64x128, slices_S64x1024_o0_768_S64x128, slices_S64x1024_o0_896_S64x128]

theorem cutV_le (g : Fin 4) : S256x128.Slices ![64 * (g : ℕ), 0] S64x128 := by
  fin_cases g
  exacts [slices_S256x128_o0_0_S64x128, slices_S256x128_o64_0_S64x128, slices_S256x128_o128_0_S64x128, slices_S256x128_o192_0_S64x128]

/-- Two query heads read as columns: the first one's 64 features. -/
def qFst (q : FVec Ideal S128x128 .bf16) : FVec Ideal S64x128 .bf16 :=
  extractStridedSlice S64x128 ![0, 0] (transpose S128x128 [1, 0] (shapeCast S128x128 q shapeCasts_S128x128_S128x128) transposes_S128x128_p1_0_S128x128) slices_S128x128_o0_0_S64x128

/-- Two query heads read as columns: the second one's 64 features. -/
def qSnd (q : FVec Ideal S128x128 .bf16) : FVec Ideal S64x128 .bf16 :=
  extractStridedSlice S64x128 ![64, 0] (transpose S128x128 [1, 0] (shapeCast S128x128 q shapeCasts_S128x128_S128x128) transposes_S128x128_p1_0_S128x128) slices_S128x128_o64_0_S64x128

/-- The scores of eight query heads against the 256 keys of the band (the block before and the block itself). -/
def scores (kp kc : FVec Ideal S128x64 .bf16) (q : Fin 4 → FVec Ideal S128x128 .bf16) : FVec Ideal S256x1024 .f32 :=
  matmul dot_S256x64_S64x1024_S256x1024_1_0_0_1_n_n none
    (concatenate S256x64 0 [⟨S128x64, shapeCast S128x64 kp shapeCasts_S128x64_S128x64⟩, ⟨S128x64, shapeCast S128x64 kc shapeCasts_S128x64_S128x64⟩] concatenates_S128x64_S128x64_S256x64_d0)
    (concatenate S64x1024 1 [⟨S64x128, qFst (q 0)⟩, ⟨S64x128, qSnd (q 0)⟩, ⟨S64x128, qFst (q 1)⟩, ⟨S64x128, qSnd (q 1)⟩, ⟨S64x128, qFst (q 2)⟩, ⟨S64x128, qSnd (q 2)⟩, ⟨S64x128, qFst (q 3)⟩, ⟨S64x128, qSnd (q 3)⟩]
      concatenates_S64x128_S64x128_S64x128_S64x128_S64x128_S64x128_S64x128_S64x128_S64x1024_d1)
    (constant S256x1024 .f32 0x00000000#32)

/-- Head `e`'s scores, masked. -/
def masked (M : IVec S256x128 1) (s : FVec Ideal S256x1024 .f32) (e : Fin 8) : FVec Ideal S256x128 .f32 :=
  select M (extractStridedSlice S256x128 ![0, 128 * (e : ℕ)] s (cut_le e)) (broadcast S256x128 kMask)

/-- The largest of head `e`'s scores and its sink, in base 2. -/
def topOf (M : IVec S256x128 1) (s : FVec Ideal S256x1024 .f32) (k : Fin 8 → Ideal .f32) (e : Fin 8) : FVec Ideal S1x128 .f32 :=
  maximumf (shapeCast S1x128 (multiReduction .maximumf [0] S128 (masked M s e) 0xFF800000#32 reduces_S256x128_S128 (.inl rfl) rfl) shapeCasts_S128_S1x128)
    (broadcast S1x128 (Scalar.mulf (k e) kLog))

/-- Head `e`'s weights before the division. -/
def weight (M : IVec S256x128 1) (s : FVec Ideal S256x1024 .f32) (k : Fin 8 → Ideal .f32) (e : Fin 8) : FVec Ideal S256x128 .f32 :=
  exp2 (subf (masked M s e) (broadcastTo S256x128 (topOf M s k e) broadcasts_S1x128_S256x128))

/-- One over head `e`'s sum of weights, the sink's among them. -/
def recip (M : IVec S256x128 1) (s : FVec Ideal S256x1024 .f32) (k : Fin 8 → Ideal .f32) (e : Fin 8) : FVec Ideal S1x128 .f32 :=
  divf (broadcast S1x128 (Scalar.ofBits .f32 0x3F800000#32))
    (addf (shapeCast S1x128 (multiReduction .add [0] S128 (weight M s k e) 0x00000000#32 reduces_S256x128_S128 (.inl rfl) rfl) shapeCasts_S128_S1x128)
      (exp2 (subf (broadcast S1x128 (Scalar.mulf (k e) kLog)) (topOf M s k e))))

/-- The values of group `g`, features by keys. -/
def valsT (g : Fin 4) (vp vc : FVec Ideal S128x256 .bf16) : FVec Ideal S64x256 .bf16 :=
  concatenate S64x256 1
    [⟨S64x128, extractStridedSlice S64x128 ![64 * (g : ℕ), 0] (transpose S256x128 [1, 0] (shapeCast S128x256 vp shapeCasts_S128x256_S128x256) transposes_S128x256_p1_0_S256x128) (cutV_le g)⟩,
     ⟨S64x128, extractStridedSlice S64x128 ![64 * (g : ℕ), 0] (transpose S256x128 [1, 0] (shapeCast S128x256 vc shapeCasts_S128x256_S128x256) transposes_S128x256_p1_0_S256x128) (cutV_le g)⟩]
    concatenates_S64x128_S64x128_S64x256_d1

/-- The weighted sums of the values, for eight heads side by side. -/
def mixed (M : IVec S256x128 1) (s : FVec Ideal S256x1024 .f32) (k : Fin 8 → Ideal .f32) (v : FVec Ideal S64x256 .bf16) : FVec Ideal S64x1024 .f32 :=
  matmul dot_S64x256_S256x1024_S64x1024_1_0_0_1_n_n none v
    (concatenate S256x1024 1 [⟨S256x128, truncf .bf16 (weight M s k 0) bitsLt_bf16_f32⟩, ⟨S256x128, truncf .bf16 (weight M s k 1) bitsLt_bf16_f32⟩,
      ⟨S256x128, truncf .bf16 (weight M s k 2) bitsLt_bf16_f32⟩, ⟨S256x128, truncf .bf16 (weight M s k 3) bitsLt_bf16_f32⟩,
      ⟨S256x128, truncf .bf16 (weight M s k 4) bitsLt_bf16_f32⟩, ⟨S256x128, truncf .bf16 (weight M s k 5) bitsLt_bf16_f32⟩,
      ⟨S256x128, truncf .bf16 (weight M s k 6) bitsLt_bf16_f32⟩, ⟨S256x128, truncf .bf16 (weight M s k 7) bitsLt_bf16_f32⟩]
      concatenates_S256x128_S256x128_S256x128_S256x128_S256x128_S256x128_S256x128_S256x128_S256x1024_d1)
    (constant S64x1024 .f32 0x00000000#32)

/-- Head `e`'s output, features by queries. -/
def headOut (M : IVec S256x128 1) (s : FVec Ideal S256x1024 .f32) (k : Fin 8 → Ideal .f32) (v : FVec Ideal S64x256 .bf16) (e : Fin 8) : FVec Ideal S64x128 .f32 :=
  mulf (extractStridedSlice S64x128 ![0, 128 * (e : ℕ)] (mixed M s k v) (cutO_le e)) (broadcastTo S64x128 (recip M s k e) broadcasts_S1x128_S64x128)

/-- What one store writes: heads `e` and `e'` of group `g` for 128 queries. -/
def pairPay (g : Fin 4) (e e' : Fin 8) (M : IVec S256x128 1) (kp kc : FVec Ideal S128x64 .bf16) (vp vc : FVec Ideal S128x256 .bf16)
    (q : Fin 4 → FVec Ideal S128x128 .bf16) (k : Fin 8 → Ideal .f32) : FVec Ideal S128x128 .bf16 :=
  transpose S128x128 [1, 0]
    (truncf .bf16 (concatenate S128x128 0 [⟨S64x128, headOut M (scores kp kc q) k (valsT g vp vc) e⟩, ⟨S64x128, headOut M (scores kp kc q) k (valsT g vp vc) e'⟩]
      concatenates_S64x128_S64x128_S128x128_d0) bitsLt_bf16_f32) transposes_S128x128_p1_0_S128x128

theorem kLog_attn : kLog = Attn.kLog := kLog_eq.trans Attn.kLog_eq.symm

theorem kMask_attn : kMask = Attn.kMask := kMask_eq.trans Attn.kMask_eq.symm

theorem scores_attn (kp kc : FVec Ideal S128x64 .bf16) (q : Fin 4 → FVec Ideal S128x128 .bf16) : scores kp kc q = Attn.scores kp kc q := rfl

theorem masked_attn (M : IVec S256x128 1) (s : FVec Ideal S256x1024 .f32) (e : Fin 8) : masked M s e = Attn.masked M s e := by
  unfold masked Attn.masked
  rw [kMask_attn]

theorem topOf_attn (M : IVec S256x128 1) (s : FVec Ideal S256x1024 .f32) (k : Fin 8 → Ideal .f32) (e : Fin 8) : topOf M s k e = Attn.topOf M s k e := by
  unfold topOf Attn.topOf
  rw [masked_attn, kLog_attn]

theorem weight_attn (M : IVec S256x128 1) (s : FVec Ideal S256x1024 .f32) (k : Fin 8 → Ideal .f32) (e : Fin 8) : weight M s k e = Attn.weight M s k e := by
  unfold weight Attn.weight
  rw [masked_attn, topOf_attn]

theorem recip_attn (M : IVec S256x128 1) (s : FVec Ideal S256x1024 .f32) (k : Fin 8 → Ideal .f32) (e : Fin 8) : recip M s k e = Attn.recip M s k e := by
  unfold recip Attn.recip
  rw [weight_attn, topOf_attn, kLog_attn]

theorem valsT_attn (g : Fin 4) (vp vc : FVec Ideal S128x256 .bf16) : valsT g vp vc = Attn.valsT g vp vc := rfl

theorem mixed_attn (M : IVec S256x128 1) (s : FVec Ideal S256x1024 .f32) (k : Fin 8 → Ideal .f32) (v : FVec Ideal S64x256 .bf16) : mixed M s k v = Attn.mixed M s k v := by
  unfold mixed Attn.mixed
  rw [show weight M s k = Attn.weight M s k from funext (weight_attn M s k)]
  rfl

theorem headOut_attn (M : IVec S256x128 1) (s : FVec Ideal S256x1024 .f32) (k : Fin 8 → Ideal .f32) (v : FVec Ideal S64x256 .bf16) (e : Fin 8) : headOut M s k v e = Attn.headOut M s k v e := by
  unfold headOut Attn.headOut
  rw [mixed_attn, recip_attn]

/-- The store is that of `_gates_attn_a`. -/
theorem pairPay_attn (g : Fin 4) (e e' : Fin 8) (M : IVec S256x128 1) (kp kc : FVec Ideal S128x64 .bf16) (vp vc : FVec Ideal S128x256 .bf16)
    (q : Fin 4 → FVec Ideal S128x128 .bf16) (k : Fin 8 → Ideal .f32) : pairPay g e e' M kp kc vp vc q k = Attn.pairPay g e e' M kp kc vp vc q k := by
  unfold pairPay Attn.pairPay
  rw [headOut_attn, headOut_attn, scores_attn, valsT_attn]

end Cert.Fh
-- ==== Proof.FhBlock.lean ====
/- What one step of `_vt_attn_a` writes into its attention block, at an index: the same function of the loaded blocks as in
   `_gates_attn_a`. -/
module

public import proofs.«01_k».proof.Proof.KernelBlock
public import proofs.«01_k».proof.Proof.FhStore
public import proofs.«01_k».proof.Proof.Gen.FirstHalfIdeal.Value

@[expose] public section

set_option maxRecDepth 2048

noncomputable section

namespace Cert.Fh

open Idealize.ShloMosaic Idealize.ShloMosaic.TcCoe Idealize.SL.Sem
open Cert.FirstHalfIdeal Cert.FirstHalfIdeal.Gen WordCmp

/-- The number of a step's first block in its sequence, as the kernel's words compute it. -/
def blockNo (i : grid0.Coords) : BitVec 32 :=
  Scalar.remsi (Scalar.muli (Scalar.addi (Scalar.muli (BitVec.ofNat 32 (i 0).val) 2#32) (BitVec.ofNat 32 (i 1).val)) 2#32) 32#32

/-- Whether a step's first block has a block before it in its sequence. -/
def hasPrev (i : grid0.Coords) : BitVec 1 :=
  Scalar.cmpi .ne (Scalar.select (Scalar.andi (Scalar.xori (Scalar.cmpi .slt (blockNo i) 0#32) 0#1) (Scalar.cmpi .ne (blockNo i) 0#32))
    (Scalar.addi (blockNo i) 32#32) (blockNo i)) 0#32

/-- The window of a block's mask: 128 keys ending at the query. -/
def window : IVec S256x128 1 :=
  andi (cmpi .sle (iota Kind.tc S256x128 32 [0] iota_S256x128_d0_w32) (addi (broadcast S256x128 128#32) (iota Kind.tc S256x128 32 [1] iota_S256x128_d1_w32)))
    (cmpi .sgt (iota Kind.tc S256x128 32 [0] iota_S256x128_d0_w32) (iota Kind.tc S256x128 32 [1] iota_S256x128_d1_w32))

/-- The window of a step's first block, cut at the start of a sequence. -/
def cut (i : grid0.Coords) : IVec S256x128 1 :=
  andi window (ori (cmpi .sge (iota Kind.tc S256x128 32 [0] iota_S256x128_d0_w32) (broadcast S256x128 128#32)) (broadcast S256x128 (hasPrev i)))

theorem hasPrev_eq : ∀ t : Fin grid0.N, hasPrev (grid0.coords t) = 1#1 ↔ (64 + 2 * (t : ℕ)) % 32 ≠ 0 := by
  decide +kernel

/-- The mask of a step's second block: a window of 128 keys ending at the query. -/
theorem mask1_at (t : ℕ) (j : Fin 256) (l : Fin 128) :
    window (ix2 j l : S256x128.Idx) = 1#1
      ↔ (j : ℕ) ≤ 128 + (l : ℕ) ∧ (l : ℕ) < j ∧ (128 ≤ (j : ℕ) ∨ ((1 : Fin 2) : ℕ) = 1 ∨ (64 + 2 * t) % 32 ≠ 0) := by
  pointwise [window]
  rw [Attn.window_bits]
  exact ⟨fun h => ⟨h.1, h.2, .inr (.inl trivial)⟩, fun h => ⟨h.1, h.2.1⟩⟩

/-- The mask of a step's first block: the same window, cut at the start of a sequence. -/
theorem mask0_at (t : Fin grid0.N) (j : Fin 256) (l : Fin 128) :
    cut (grid0.coords t) (ix2 j l : S256x128.Idx) = 1#1
      ↔ (j : ℕ) ≤ 128 + (l : ℕ) ∧ (l : ℕ) < j ∧ (128 ≤ (j : ℕ) ∨ ((0 : Fin 2) : ℕ) = 1 ∨ (64 + 2 * (t : ℕ)) % 32 ≠ 0) := by
  pointwise [cut, window]
  rw [IntOp.andi_eq_one, Attn.window_bits, IntOp.ori_eq_one, show (128#32) = BitVec.ofNat 32 128 from rfl, cmpi_sge_ofNat_eq_one_iff (by omega) (by omega), and_assoc,
    hasPrev_eq]
  simp

section Stores

variable {sg : RefSig} {κ : Kind} {sp : Space} {M5 : Memref sg κ sp S256x512 .bf16} {M3 : Memref sg κ sp S256x2048 .bf16}

/-- A store of a step's first block. -/
theorem store0 (w : M5.IsWhole) (w' : M3.IsWhole) (t : ℕ) (sk : Vec Ideal S32 .f32) (Q : Vec Ideal S256x2048 .bf16) (kvp : Vec Ideal S128x512 .bf16) (kvc : Vec Ideal S256x512 .bf16)
    (M : IVec S256x128 1) (hM : ∀ (j : Fin 256) (l : Fin 128), M (ix2 j l : S256x128.Idx) = 1#1 ↔ (j : ℕ) ≤ 128 + (l : ℕ) ∧ (l : ℕ) < j ∧ (128 ≤ (j : ℕ) ∨ ((0 : Fin 2) : ℕ) = 1 ∨ (64 + 2 * t) % 32 ≠ 0))
    (g pr : Fin 4) (x : S128x128.Idx) (y : S256x2048.Idx) (h0 : (y 0 : ℕ) = (x 0 : ℕ)) (h1 : (y 1 : ℕ) = 512 * (g : ℕ) + 128 * (pr : ℕ) + (x 1 : ℕ)) :
    pairPay g ⟨2 * (pr : ℕ), by omega⟩ ⟨2 * (pr : ℕ) + 1, by omega⟩ M (Attn.keyP kvp g) (Attn.keyL w kvc 0 g) (Attn.valP kvp) (Attn.valL w kvc 0)
      (Attn.qryL w' Q 0 g) (fun e => Attn.sinkL sk ⟨8 * (g : ℕ) + e, by omega⟩) x = Attn.blockAt t sk Q kvp kvc (y 0) (y 1) :=
  (congrFun (pairPay_attn ..) x).trans (Attn.store0 w w' t sk Q kvp kvc M hM g pr x y h0 h1)

/-- A store of a step's second block. -/
theorem store1 (w : M5.IsWhole) (w' : M3.IsWhole) (t : ℕ) (sk : Vec Ideal S32 .f32) (Q : Vec Ideal S256x2048 .bf16) (kvp : Vec Ideal S128x512 .bf16) (kvc : Vec Ideal S256x512 .bf16)
    (M : IVec S256x128 1) (hM : ∀ (j : Fin 256) (l : Fin 128), M (ix2 j l : S256x128.Idx) = 1#1 ↔ (j : ℕ) ≤ 128 + (l : ℕ) ∧ (l : ℕ) < j ∧ (128 ≤ (j : ℕ) ∨ ((1 : Fin 2) : ℕ) = 1 ∨ (64 + 2 * t) % 32 ≠ 0))
    (g pr : Fin 4) (x : S128x128.Idx) (y : S256x2048.Idx) (h0 : (y 0 : ℕ) = 128 * ((1 : Fin 2) : ℕ) + (x 0 : ℕ)) (h1 : (y 1 : ℕ) = 512 * (g : ℕ) + 128 * (pr : ℕ) + (x 1 : ℕ)) :
    pairPay g ⟨2 * (pr : ℕ), by omega⟩ ⟨2 * (pr : ℕ) + 1, by omega⟩
      M (Attn.keyL w kvc 0 g) (Attn.keyL w kvc 1 g) (Attn.valL w kvc 0) (Attn.valL w kvc 1)
      (Attn.qryL w' Q 1 g) (fun e => Attn.sinkL sk ⟨8 * (g : ℕ) + e, by omega⟩) x = Attn.blockAt t sk Q kvp kvc (y 0) (y 1) :=
  (congrFun (pairPay_attn ..) x).trans (Attn.store1 w w' t sk Q kvp kvc M hM g pr x y h0 h1)

end Stores

variable (m : (ℓ : Loc nD τ sig) → Buf (Elt Ideal) ℓ)

attribute [local irreducible] View.readAt

set_option maxHeartbeats 4000000 in
/-- A step's attention block, from the blocks of its windows. -/
theorem after7 (c : Dev nD) (t : Fin cfg0.N) (y : S256x2048.Idx) :
    (dats m 0 c).after 7 t y = Attn.blockAt t (iblk m c 0 t) (X0_3 m c t) (iblk m c 4 t) (iblk m c 5 t) (y 0) (y 1) := by
  rw [after0_7]; unfold outsAt0; frame_out
  rw [(hs0_4 t).read_unread, (hs0_0 t).read_unread]
  have S0 := store0 (hs0_5 t) (hs0_3 t) t (iblk m c 0 t) (X0_3 m c t) (iblk m c 4 t) (iblk m c 5 t) _ (mask0_at t)
  have S1 := store1 (hs0_5 t) (hs0_3 t) t (iblk m c 0 t) (X0_3 m c t) (iblk m c 4 t) (iblk m c 5 t) _ (mask1_at t)
  unfold cut hasPrev blockNo window at S0
  unfold window at S1
  generalize andi (cmpi .sle (iota Kind.tc S256x128 32 [0] iota_S256x128_d0_w32) (addi (broadcast S256x128 128#32) (iota Kind.tc S256x128 32 [1] iota_S256x128_d1_w32)))
    (cmpi .sgt (iota Kind.tc S256x128 32 [0] iota_S256x128_d0_w32) (iota Kind.tc S256x128 32 [1] iota_S256x128_d1_w32)) = M1 at S0 S1 ⊢
  generalize andi M1 _ = M0 at S0 ⊢
  canon_tiles x h
  exacts [S1 3 3 x y h0 h1, S1 3 2 x y h0 h1, S1 3 1 x y h0 h1, S1 3 0 x y h0 h1,
    S1 2 3 x y h0 h1, S1 2 2 x y h0 h1, S1 2 1 x y h0 h1, S1 2 0 x y h0 h1,
    S1 1 3 x y h0 h1, S1 1 2 x y h0 h1, S1 1 1 x y h0 h1, S1 1 0 x y h0 h1,
    S1 0 3 x y h0 h1, S1 0 2 x y h0 h1, S1 0 1 x y h0 h1, S1 0 0 x y h0 (h1.trans (Nat.zero_add _).symm),
    S0 3 3 x y h0 h1, S0 3 2 x y h0 h1, S0 3 1 x y h0 h1, S0 3 0 x y h0 h1,
    S0 2 3 x y h0 h1, S0 2 2 x y h0 h1, S0 2 1 x y h0 h1, S0 2 0 x y h0 h1,
    S0 1 3 x y h0 h1, S0 1 2 x y h0 h1, S0 1 1 x y h0 h1, S0 1 0 x y h0 h1,
    S0 0 3 x y h0 h1, S0 0 2 x y h0 h1, S0 0 1 x y h0 h1, S0 0 0 x y h0 (h1.trans (Nat.zero_add _).symm)]

end Cert.Fh
-- ==== Proof.FhResult.lean ====
/- The second array of `_vt_attn_a`, whose first half is attention, against the reference. -/
module

public import proofs.«01_k».proof.Proof.FhBlock
public import proofs.«01_k».proof.Proof.Agree
public import proofs.«01_k».proof.Proof.Gen.RefFirstHalfIdeal.Run
public import Idealize.ShloMosaic.Lib.Pipeline.ValueKit.Partial

@[expose] public section

set_option maxRecDepth 8192

noncomputable section

namespace Cert.Fh.Ref

open Idealize.ShloMosaic Idealize.ShloMosaic.TcCoe Idealize.SL.Sem
open Cert.RefFirstHalfIdeal Cert.RefFirstHalfIdeal.Gen Cert.RefFirstHalfIdeal.Value

/-- The reference's result: the attention in the rows below 8192, `old` in the others. -/
def firstR (att old : FVec Ideal S16384x2048 .bf16) : FVec Ideal S16384x2048 .bf16 :=
  concatenate S16384x2048 0
      [⟨S8192x2048, extractStridedSlice S8192x2048 ![0, 0] att slices_S16384x2048_S8192x2048_0_0⟩,
       ⟨S8192x2048, extractStridedSlice S8192x2048 ![8192, 0] old slices_S16384x2048_S8192x2048_8192_0⟩] concatenates_S8192x2048_S8192x2048_S16384x2048_d0

theorem firstR_at (att old : FVec Ideal S16384x2048 .bf16) (R : Fin 16384) (C : Fin 2048) :
    firstR att old (ix2 R C : S16384x2048.Idx) = if (R : ℕ) < 8192 then att (ix2 R C) else old (ix2 R C) := by
  pointwise [firstR]
  by_cases h : (R : ℕ) < 8192
  · refine (dif_pos h).trans (Eq.trans (congrArg att ((ix2_inj ..).2 ⟨Fin.ext ?_, Fin.ext ?_⟩)) (if_pos h).symm) <;> simp only [] <;> omega
  · refine (dif_neg h).trans (Eq.trans (congrArg old ((ix2_inj ..).2 ⟨Fin.ext ?_, Fin.ext ?_⟩)) (if_neg h).symm) <;> simp only [] <;> omega

/-- The reference's result is the attention of `Attn.Ref` over its old second half. -/
theorem res_eq (m : (ℓ : Loc nD τ sig) → Buf (Elt Ideal) ℓ) (c : Dev nD) :
    res_out0 m c = firstR (Attn.Ref.attR (m ((c.tc : Thread nD τ).loc main_arg2)) (m ((c.tc : Thread nD τ).loc main_arg3)) (m ((c.tc : Thread nD τ).loc main_arg4)) (m ((c.tc : Thread nD τ).loc main_arg5)))
      (m ((c.tc : Thread nD τ).loc main_arg6)) := rfl

end Cert.Fh.Ref

namespace Cert.Fh

open Idealize.ShloMosaic Idealize.ShloMosaic.TcCoe Idealize.SL.Sem
open Cert.FirstHalfIdeal Cert.FirstHalfIdeal.Gen

variable (m : (ℓ : Loc nD τ sig) → Buf (Elt Ideal) ℓ)

theorem V_packed (c : Dev nD) : V m c main_v11 = Attn.packed (m ((c.tc : Thread nD τ).loc main_arg2)) (m ((c.tc : Thread nD τ).loc main_arg3)) (m ((c.tc : Thread nD τ).loc main_arg4)) := by
  show StableHlo.after hostOps0 _ (Proc.devRef .tc main_v11) = _
  unfold hostOps0
  open StableHlo in after_results
  rfl

theorem V_old (c : Dev nD) : V m c main_v12_1 = m ((c.tc : Thread nD τ).loc main_arg6) := by
  entry_read
  rfl

theorem idx0_3 : ∀ t : Fin cfg0.N, win0_3.index t = ![t.val, 0] := (by decide +kernel : ∀ t : Fin grid0.N, win0_3.index t = ![t.val, 0])
theorem idx0_4 : ∀ t : Fin cfg0.N, win0_4.index t = ![2 * t.val - 1, 4] := (by decide +kernel : ∀ t : Fin grid0.N, win0_4.index t = ![2 * t.val - 1, 4])
theorem idx0_5 : ∀ t : Fin cfg0.N, win0_5.index t = ![t.val, 4] := (by decide +kernel : ∀ t : Fin grid0.N, win0_5.index t = ![t.val, 4])
theorem idx0_7 : ∀ t : Fin cfg0.N, win0_7.index t = ![t.val, 0] := (by decide +kernel : ∀ t : Fin grid0.N, win0_7.index t = ![t.val, 0])

theorem blk0 (c : Dev nD) (t : Fin cfg0.N) (h : Fin 32) : iblk m c 0 t (ix1 h : S32.Idx) = V m c main_arg5 (ix1 h : S32.Idx) := by
  have e : ∀ t : Fin cfg0.N, win0_0.index t = ![0] := (by decide +kernel : ∀ t : Fin grid0.N, win0_0.index t = ![0])
  blk_simp [iblk]
  blk_ext [e t]

theorem blk4 (c : Dev nD) (t : Fin cfg0.N) (ht : 128 ≤ 256 * t.val) (r : Fin 128) (w : Fin 512) :
    iblk m c 4 t (ix2 r w : S128x512.Idx) = V m c main_v11 (ix2 ⟨256 * t.val - 128 + r, by have : t.val < 32 := t.isLt; omega⟩ ⟨2048 + w, by omega⟩ : S16384x2560.Idx) := by
  blk_simp [iblk]
  blk_ext [idx0_4 t]

theorem blk5 (c : Dev nD) (t : Fin cfg0.N) (r : Fin 256) (w : Fin 512) :
    iblk m c 5 t (ix2 r w : S256x512.Idx) = V m c main_v11 (ix2 ⟨256 * t.val + r, by have : t.val < 32 := t.isLt; omega⟩ ⟨2048 + w, by omega⟩ : S16384x2560.Idx) := by
  blk_simp [iblk]
  blk_ext [idx0_5 t]

theorem blk3 (c : Dev nD) (t : Fin cfg0.N) (r : Fin 256) (w : Fin 2048) :
    X0_3 m c t (ix2 r w : S256x2048.Idx) = V m c main_v11 (ix2 ⟨256 * t.val + r, by have : t.val < 32 := t.isLt; omega⟩ ⟨w, by omega⟩ : S16384x2560.Idx) := by
  unfold X0_3 Pipeline.Window.fill
  rw [dif_pos (moved0_3 t _)]
  have e : ∀ (y : (win0_3.xblock (grid0.coords t)).Idx) (a : Fin 2), (((win0_3.blk t).view.emb y a : Fin _) : ℕ) = win0_3.index t a * (S256x2048.size a) + (y a : ℕ) := fun y a =>
    ValueKit.view_emb_slice_whole_unit_val main_v11 _ _ _ y a
  unfold iblk
  refine congrArg (V m c main_v11) ?_
  funext a
  apply Fin.ext
  refine (e _ a).trans ?_
  rw [idx0_3 t]
  have h0 : t.val * 256 + r.val = 256 * t.val + r.val := by omega
  match a with
  | ⟨0, _⟩ => exact h0
  | ⟨1, _⟩ => exact (congrArg (· + w.val) (Nat.zero_mul 2048)).trans (Nat.zero_add _)

/-- The call's second output is the reference's, where queries, keys and sinks are finite. -/
theorem arr7 (c : Dev nD) (hq : ∀ i, ∃ r : ℝ, (m ((c.tc : Thread nD τ).loc main_arg2) : FVec Ideal S4x4096x32x64 .f32) i = (r : EReal))
    (hk : ∀ i, ∃ r : ℝ, (m ((c.tc : Thread nD τ).loc main_arg3) : FVec Ideal S4x4096x4x64 .f32) i = (r : EReal))
    (hs : ∀ i, ∃ r : ℝ, (m ((c.tc : Thread nD τ).loc main_arg5) : FVec Ideal S32 .f32) i = (r : EReal)) :
    (dats m 0 c).arrAt 7 cfg0.N = (Ref.firstR
      (Attn.Ref.attR (m ((c.tc : Thread nD τ).loc main_arg2)) (m ((c.tc : Thread nD τ).loc main_arg3)) (m ((c.tc : Thread nD τ).loc main_arg4)) (m ((c.tc : Thread nD τ).loc main_arg5)))
      (m ((c.tc : Thread nD τ).loc main_arg6)) : S16384x2048.Idx → EReal) := by
  have h : (dats m 0 c).arrAt 7 cfg0.N = fun i : S16384x2048.Idx => if (i 0 : ℕ) < 8192 then
      (Attn.Ref.attR (m ((c.tc : Thread nD τ).loc main_arg2)) (m ((c.tc : Thread nD τ).loc main_arg3)) (m ((c.tc : Thread nD τ).loc main_arg4)) (m ((c.tc : Thread nD τ).loc main_arg5)) : S16384x2048.Idx → EReal) i
      else V m c main_v12_1 i := by
    refine (dats m 0 c).arrAt_eq_of_coversWhere 7 _ (fun β => β 0 < 32) (by decide +kernel) (fun t hf y => ?_) (fun j => by blk_simp [Pipeline.Window.cell_apply]; omega)
    have ht : t.val < 32 := t.isLt
    obtain ⟨a, b, rfl⟩ : ∃ (a : Fin 256) (b : Fin 2048), y = (ix2 a b : S256x2048.Idx) := ⟨y 0, y 1, (ix2_eta (y : S256x2048.Idx)).symm⟩
    have e : ((cfg0.win 7).blk t).view.emb (ix2 a b : S256x2048.Idx) = (ix2 ⟨256 * t.val + a, by omega⟩ b : S16384x2048.Idx) := by
      blk_ext [idx0_7 t]
    rw [e]
    blk_simp
    refine (after7 m c t (ix2 a b)).trans ?_
    exact Attn.blockAt_eq _ _ _ _ hq hk hs 0 t.val (by norm_num) (by omega) _ _ _ _ (fun h => (blk0 m c t h).trans (congrFun (V_main_arg5 m c) _))
      (fun r w => (blk3 m c t r w).trans ((congrFun (V_packed m c) _).trans (congrArg _ ((ix2_inj ..).2 ⟨Fin.ext (by simp only []; omega), rfl⟩))))
      (fun h r w => (blk4 m c t (by omega) r w).trans ((congrFun (V_packed m c) _).trans (congrArg _ ((ix2_inj ..).2 ⟨Fin.ext (by simp only []; omega), rfl⟩))))
      (fun r w => (blk5 m c t r w).trans ((congrFun (V_packed m c) _).trans (congrArg _ ((ix2_inj ..).2 ⟨Fin.ext (by simp only []; omega), rfl⟩)))) a b _ (by simp only []; omega)
  rw [h]
  funext i
  obtain ⟨R, C, rfl⟩ : ∃ (R : Fin 16384) (C : Fin 2048), i = (ix2 R C : S16384x2048.Idx) := ⟨i 0, i 1, (ix2_eta i).symm⟩
  rw [Ref.firstR_at, V_old]
  rfl

end Cert.Fh
-- ==== Proof.lean ====
/- The proof of the claims, call by call: that the kernel (as printed and idealized) and the reference run and leave their
   arguments unchanged, that the idealized kernel is the printed one (with two named constants in the first program and the last,
   which hold the sliding-window attention, and with none in the others), and that it computes the reference's results: in those
   two wherever queries, keys and sinks are finite, in the others everywhere. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.RefFfnUpIdeal.Run
public import proofs.«01_k».proof.Proof.Gen.RefFfnUpIdeal
public import proofs.«01_k».proof.Proof.Gen.DownLn
public import proofs.«01_k».proof.Proof.Gen.DownLn.Frame
public import proofs.«01_k».proof.Proof.Gen.DownLnIdeal
public import proofs.«01_k».proof.Proof.Gen.DownLnIdeal.Frame
public import proofs.«01_k».proof.Proof.Gen.DownLnIdeal.Value
public import proofs.«01_k».proof.Proof.Gen.RefDownLnIdeal.Run
public import proofs.«01_k».proof.Proof.Gen.RefDownLnIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.RefMergeIdeal.Run
public import proofs.«01_k».proof.Proof.Gen.RefMergeIdeal
public import proofs.«01_k».proof.Proof.Gen.OutLn
public import proofs.«01_k».proof.Proof.Gen.OutLn.Frame
public import proofs.«01_k».proof.Proof.Gen.OutLnIdeal
public import proofs.«01_k».proof.Proof.Gen.OutLnIdeal.Frame
public import proofs.«01_k».proof.Proof.Gen.OutLnIdeal.Value
public import proofs.«01_k».proof.Proof.Gen.RefOutLnIdeal.Run
public import proofs.«01_k».proof.Proof.Gen.RefOutLnIdeal
public import proofs.«01_k».proof.Proof.Gen.ProjQk
public import proofs.«01_k».proof.Proof.Gen.ProjQk.Frame
public import proofs.«01_k».proof.Proof.Gen.ProjQkIdeal
public import proofs.«01_k».proof.Proof.Gen.ProjQkIdeal.Frame
public import proofs.«01_k».proof.Proof.Gen.ProjQkIdeal.Value
public import proofs.«01_k».proof.Proof.Gen.RefProjQkIdeal.Run
public import proofs.«01_k».proof.Proof.Gen.RefProjQkIdeal
public import proofs.«01_k».proof.Proof.Gen.ProjA
public import proofs.«01_k».proof.Proof.Gen.ProjA.Frame
public import proofs.«01_k».proof.Proof.Gen.ProjAIdeal
public import proofs.«01_k».proof.Proof.Gen.ProjAIdeal.Frame
public import proofs.«01_k».proof.Proof.Gen.ProjAIdeal.Value
public import proofs.«01_k».proof.Proof.Gen.RefProjAIdeal.Run
public import proofs.«01_k».proof.Proof.Gen.RefProjAIdeal
public import proofs.«01_k».proof.Proof.Gen.VtAttn
public import proofs.«01_k».proof.Proof.Gen.VtAttn.Frame
public import proofs.«01_k».proof.Proof.Gen.VtAttnIdeal
public import proofs.«01_k».proof.Proof.Gen.VtAttnIdeal.Frame
public import proofs.«01_k».proof.Proof.Gen.VtAttnIdeal.Value
public import proofs.«01_k».proof.Proof.Gen.RefVtAttnIdeal.Run
public import proofs.«01_k».proof.Proof.Gen.RefVtAttnIdeal
public import proofs.«01_k».proof.Proof.Gen.FirstHalf
public import proofs.«01_k».proof.Proof.Gen.FirstHalf.Frame
public import proofs.«01_k».proof.Proof.Gen.FirstHalfIdeal
public import proofs.«01_k».proof.Proof.Gen.FirstHalfIdeal.Frame
public import proofs.«01_k».proof.Proof.Gen.FirstHalfIdeal.Value
public import proofs.«01_k».proof.Proof.Gen.RefFirstHalfIdeal.Run
public import proofs.«01_k».proof.Proof.Gen.RefFirstHalfIdeal
public import proofs.«01_k».proof.Proof.Finite
public import proofs.«01_k».proof.Proof.Result
public import proofs.«01_k».proof.Proof.FfnResult
public import proofs.«01_k».proof.Proof.DownBlock
public import proofs.«01_k».proof.Proof.MergeBlock
public import proofs.«01_k».proof.Proof.OutBlock
public import proofs.«01_k».proof.Proof.QkResult
public import proofs.«01_k».proof.Proof.PaResult
public import proofs.«01_k».proof.Proof.VtResult
public import proofs.«01_k».proof.Proof.FhResult
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

/-- The precondition, element by element. -/
theorem reals (m : (ℓ : Loc Cert.KernelIdeal.nD Cert.KernelIdeal.τ Cert.KernelIdeal.sig) → Buf (Elt Ideal) ℓ)
    (h : Cert.Pre_KernelIdeal_finite (hPre_finite := Cert.Attn.finiteFacts) m) (c : Dev Cert.KernelIdeal.nD) :
    (∀ i, ∃ r : ℝ, (m ((c.tc : Thread Cert.KernelIdeal.nD Cert.KernelIdeal.τ).loc Cert.KernelIdeal.main_arg2) : FVec Ideal Cert.KernelIdeal.S4x4096x32x64 .f32) i = (r : EReal))
    ∧ (∀ i, ∃ r : ℝ, (m ((c.tc : Thread Cert.KernelIdeal.nD Cert.KernelIdeal.τ).loc Cert.KernelIdeal.main_arg3) : FVec Ideal Cert.KernelIdeal.S4x4096x4x64 .f32) i = (r : EReal))
    ∧ (∀ i, ∃ r : ℝ, (m ((c.tc : Thread Cert.KernelIdeal.nD Cert.KernelIdeal.τ).loc Cert.KernelIdeal.main_arg5) : FVec Ideal Cert.KernelIdeal.S32 .f32) i = (r : EReal)) :=
  ⟨Cert.Attn.real_of_lt _ _ (fun _ => Cert.Attn.inf_bits) (h c).1, Cert.Attn.real_of_lt _ _ (fun _ => Cert.Attn.inf_bits) (h c).2.1, Cert.Attn.real_of_lt _ _ (fun _ => Cert.Attn.inf_bits) (h c).2.2⟩

theorem algebraic : Cert.algebraic_KernelIdeal_ReferenceIdeal_pre_finite (hPre_finite := Cert.Attn.finiteFacts) := by
  intro m ρ m' ρ' hpre hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩) (Cert.ReferenceIdeal.Value.run (F := Ideal) m' ρ')
  · obtain ⟨h0, h1, -⟩ := hagree c
    rw [h0, h1]
    exact (Cert.Attn.arr6 m c).symm
  · obtain ⟨-, -, h2, h3, h4, h5, h6⟩ := hagree c
    obtain ⟨hq, hk, hs⟩ := reals m hpre c
    refine (Cert.Attn.Ref.res_eq m' c).trans ?_
    rw [h2, h3, h4, h5, h6]
    exact (Cert.Attn.arr7 m c hq hk hs).symm

theorem frame_p2 : Cert.quiescent_FfnUp := fun m ρ _ => Cert.FfnUp.Gen.frame m ρ

theorem frame_pi2 : Cert.quiescent_FfnUpIdeal := fun m ρ _ => Cert.FfnUpIdeal.Gen.frame m ρ

theorem frame_ri2 : Cert.quiescent_RefFfnUpIdeal := fun m ρ _ =>
  (θ_run Cert.RefFfnUpIdeal.defs _ _).mono (fun r h => ⟨fun c => (h c).2, Idealize.ShloMosaic.sem_eq_zero_of_no_sems (by decide) r.2⟩)
    (Cert.RefFfnUpIdeal.Value.run (F := Ideal) m ρ)

theorem algebraic2 : Cert.algebraic_FfnUpIdeal_RefFfnUpIdeal := by
  intro m ρ m' ρ' _ hagree
  refine ⟨_, Cert.FfnUpIdeal.Value.run_blocks (F := Ideal) m ρ, ?_⟩
  refine (θ_run Cert.RefFfnUpIdeal.defs _ _).mono (fun _ h c => ⟨(h c).1.trans ?_, (h c).2⟩) (Cert.RefFfnUpIdeal.Value.run (F := Ideal) m' ρ')
  obtain ⟨h0, h1, h2, h3⟩ := hagree c
  refine (Cert.Ffn.Ref.res_eq m' c).trans ?_
  rw [h0, h1, h2, h3]
  exact (Cert.Ffn.arr8 m c).symm

theorem frame_p3 : Cert.quiescent_DownLn := fun m ρ _ => Cert.DownLn.Gen.frame m ρ

theorem frame_pi3 : Cert.quiescent_DownLnIdeal := fun m ρ _ => Cert.DownLnIdeal.Gen.frame m ρ

theorem frame_ri3 : Cert.quiescent_RefDownLnIdeal := fun m ρ _ =>
  (θ_run Cert.RefDownLnIdeal.defs _ _).mono (fun r h => ⟨fun c => (h c).2, Idealize.ShloMosaic.sem_eq_zero_of_no_sems (by decide) r.2⟩)
    (Cert.RefDownLnIdeal.Value.run (F := Ideal) m ρ)

theorem algebraic3 : Cert.algebraic_DownLnIdeal_RefDownLnIdeal := by
  intro m ρ m' ρ' _ hagree
  refine ⟨_, Cert.DownLnIdeal.Value.run_blocks (F := Ideal) m ρ, ?_⟩
  refine (θ_run Cert.RefDownLnIdeal.defs _ _).mono (fun _ h c => ⟨(h c).1.trans ?_, (h c).2⟩) (Cert.RefDownLnIdeal.Value.run (F := Ideal) m' ρ')
  obtain ⟨h0, h1, h2, h3, h4⟩ := hagree c
  rw [h0, h1, h2, h3, h4]
  exact (Cert.Down.arr5 m c).symm

theorem frame_p4 : Cert.quiescent_Merge := fun m ρ _ => Cert.Merge.Gen.frame m ρ

theorem frame_pi4 : Cert.quiescent_MergeIdeal := fun m ρ _ => Cert.MergeIdeal.Gen.frame m ρ

theorem frame_ri4 : Cert.quiescent_RefMergeIdeal := fun m ρ _ =>
  (θ_run Cert.RefMergeIdeal.defs _ _).mono (fun r h => ⟨fun c => (h c).2, Idealize.ShloMosaic.sem_eq_zero_of_no_sems (by decide) r.2⟩)
    (Cert.RefMergeIdeal.Value.run (F := Ideal) m ρ)

theorem algebraic4 : Cert.algebraic_MergeIdeal_RefMergeIdeal := by
  intro m ρ m' ρ' _ hagree
  refine ⟨_, Cert.MergeIdeal.Value.run_blocks (F := Ideal) m ρ, ?_⟩
  refine (θ_run Cert.RefMergeIdeal.defs _ _).mono (fun _ h c => ⟨(h c).1.trans ?_, (h c).2⟩) (Cert.RefMergeIdeal.Value.run (F := Ideal) m' ρ')
  obtain ⟨h0, h1, h2, h3, h4⟩ := hagree c
  rw [h0, h1, h2, h3, h4]
  exact (Cert.Merge.arr6 m c).symm

theorem frame_p5 : Cert.quiescent_OutLn := fun m ρ _ => Cert.OutLn.Gen.frame m ρ

theorem frame_pi5 : Cert.quiescent_OutLnIdeal := fun m ρ _ => Cert.OutLnIdeal.Gen.frame m ρ

theorem frame_ri5 : Cert.quiescent_RefOutLnIdeal := fun m ρ _ =>
  (θ_run Cert.RefOutLnIdeal.defs _ _).mono (fun r h => ⟨fun c => (h c).2.2, Idealize.ShloMosaic.sem_eq_zero_of_no_sems (by decide) r.2⟩)
    (Cert.RefOutLnIdeal.Value.run (F := Ideal) m ρ)

theorem algebraic5 : Cert.algebraic_OutLnIdeal_RefOutLnIdeal := by
  intro m ρ m' ρ' _ hagree
  refine ⟨_, _, Cert.OutLnIdeal.Value.run_blocks (F := Ideal) m ρ, ?_⟩
  refine (θ_run Cert.RefOutLnIdeal.defs _ _).mono (fun _ h c => ⟨(h c).1.trans ?_, (h c).2.1.trans ?_, (h c).2.2⟩) (Cert.RefOutLnIdeal.Value.run (F := Ideal) m' ρ')
  · obtain ⟨h0, h1, h2, h3, h4⟩ := hagree c
    rw [h0, h1, h2, h3, h4]
    exact (Cert.Out.arr5 m c).symm
  · obtain ⟨h0, h1, h2, h3, h4⟩ := hagree c
    rw [h0, h1, h2, h3, h4]
    exact (Cert.Out.arr6 m c).symm

theorem frame_p6 : Cert.quiescent_ProjQk := fun m ρ _ => Cert.ProjQk.Gen.frame m ρ

theorem frame_pi6 : Cert.quiescent_ProjQkIdeal := fun m ρ _ => Cert.ProjQkIdeal.Gen.frame m ρ

theorem frame_ri6 : Cert.quiescent_RefProjQkIdeal := fun m ρ _ =>
  (θ_run Cert.RefProjQkIdeal.defs _ _).mono (fun r h => ⟨fun c => (h c).2.2, Idealize.ShloMosaic.sem_eq_zero_of_no_sems (by decide) r.2⟩)
    (Cert.RefProjQkIdeal.Value.run (F := Ideal) m ρ)

theorem algebraic6 : Cert.algebraic_ProjQkIdeal_RefProjQkIdeal := by
  intro m ρ m' ρ' _ hagree
  refine ⟨_, _, Cert.ProjQkIdeal.Value.run_blocks (F := Ideal) m ρ, ?_⟩
  refine (θ_run Cert.RefProjQkIdeal.defs _ _).mono (fun _ h c => ⟨(h c).1.trans ?_, (h c).2.1.trans ?_, (h c).2.2⟩) (Cert.RefProjQkIdeal.Value.run (F := Ideal) m' ρ')
  · obtain ⟨h0, h1⟩ := hagree c
    refine (Cert.Qk.Ref.res0_eq m' c).trans ?_
    rw [h0, h1]
    exact (Cert.Qk.arr3 m c).symm
  · obtain ⟨h0, h1⟩ := hagree c
    refine (Cert.Qk.Ref.res1_eq m' c).trans ?_
    rw [h0, h1]
    exact (Cert.Qk.arr4 m c).symm

theorem frame_p7 : Cert.quiescent_ProjA := fun m ρ _ => Cert.ProjA.Gen.frame m ρ

theorem frame_pi7 : Cert.quiescent_ProjAIdeal := fun m ρ _ => Cert.ProjAIdeal.Gen.frame m ρ

theorem frame_ri7 : Cert.quiescent_RefProjAIdeal := fun m ρ _ =>
  (θ_run Cert.RefProjAIdeal.defs _ _).mono (fun r h => ⟨fun c => (h c).2, Idealize.ShloMosaic.sem_eq_zero_of_no_sems (by decide) r.2⟩)
    (Cert.RefProjAIdeal.Value.run (F := Ideal) m ρ)

theorem algebraic7 : Cert.algebraic_ProjAIdeal_RefProjAIdeal := by
  intro m ρ m' ρ' _ hagree
  refine ⟨_, Cert.ProjAIdeal.Value.run_blocks (F := Ideal) m ρ, ?_⟩
  refine (θ_run Cert.RefProjAIdeal.defs _ _).mono (fun _ h c => ⟨(h c).1.trans ?_, (h c).2⟩) (Cert.RefProjAIdeal.Value.run (F := Ideal) m' ρ')
  obtain ⟨h0, h1⟩ := hagree c
  refine (Cert.Pa.Ref.res_eq m' c).trans ?_
  rw [h0, h1]
  exact (Cert.Pa.arr3 m c).symm

theorem frame_p8 : Cert.quiescent_VtAttn := fun m ρ _ => Cert.VtAttn.Gen.frame m ρ

theorem frame_pi8 : Cert.quiescent_VtAttnIdeal := fun m ρ _ => Cert.VtAttnIdeal.Gen.frame m ρ

theorem frame_ri8 : Cert.quiescent_RefVtAttnIdeal := fun m ρ _ =>
  (θ_run Cert.RefVtAttnIdeal.defs _ _).mono (fun r h => ⟨fun c => (h c).2, Idealize.ShloMosaic.sem_eq_zero_of_no_sems (by decide) r.2⟩)
    (Cert.RefVtAttnIdeal.Value.run (F := Ideal) m ρ)

theorem algebraic8 : Cert.algebraic_VtAttnIdeal_RefVtAttnIdeal := by
  intro m ρ m' ρ' _ hagree
  refine ⟨fun c => (Cert.VtAttnIdeal.Gen.dats m 0 c).arrAt 6 Cert.VtAttnIdeal.cfg0.N,
    (θ_run Cert.VtAttnIdeal.defs _ _).mono (fun _ h c => ⟨(h c).1, (h c).2.2⟩) (Cert.VtAttnIdeal.Value.run_blocks (F := Ideal) m ρ), ?_⟩
  refine (θ_run Cert.RefVtAttnIdeal.defs _ _).mono (fun _ h c => ⟨(h c).1.trans ?_, (h c).2⟩) (Cert.RefVtAttnIdeal.Value.run (F := Ideal) m' ρ')
  obtain ⟨h0, h1, -⟩ := hagree c
  rw [h0, h1]
  exact (Cert.Vt.arr6 m c).symm

theorem frame_p9 : Cert.quiescent_FirstHalf := fun m ρ _ => Cert.FirstHalf.Gen.frame m ρ

theorem frame_pi9 : Cert.quiescent_FirstHalfIdeal := fun m ρ _ => Cert.FirstHalfIdeal.Gen.frame m ρ

theorem frame_ri9 : Cert.quiescent_RefFirstHalfIdeal := fun m ρ _ =>
  (θ_run Cert.RefFirstHalfIdeal.defs _ _).mono (fun r h => ⟨fun c => (h c).2, Idealize.ShloMosaic.sem_eq_zero_of_no_sems (by decide) r.2⟩)
    (Cert.RefFirstHalfIdeal.Value.run (F := Ideal) m ρ)

theorem preserves9 : Cert.preserves_FirstHalf_FirstHalfIdeal :=
  ⟨IdealRules.named_const.statement Cert.FirstHalfIdeal.κ "log2e" .f32 0x3FB8AA3B#32 (((Real.log 2)⁻¹ : ℝ) : EReal) rfl,
   IdealRules.named_const.statement Cert.FirstHalfIdeal.κ "mask" .f32 0xF149F2CA#32 ⊥ rfl⟩

/-- The precondition of the last program, element by element. -/
theorem reals9 (m : (ℓ : Loc Cert.FirstHalfIdeal.nD Cert.FirstHalfIdeal.τ Cert.FirstHalfIdeal.sig) → Buf (Elt Ideal) ℓ)
    (h : Cert.Pre_FirstHalfIdeal_finite (hPre_finite := Cert.Attn.finiteFacts) m) (c : Dev Cert.FirstHalfIdeal.nD) :
    (∀ i, ∃ r : ℝ, (m ((c.tc : Thread Cert.FirstHalfIdeal.nD Cert.FirstHalfIdeal.τ).loc Cert.FirstHalfIdeal.main_arg2) : FVec Ideal Cert.FirstHalfIdeal.S4x4096x32x64 .f32) i = (r : EReal))
    ∧ (∀ i, ∃ r : ℝ, (m ((c.tc : Thread Cert.FirstHalfIdeal.nD Cert.FirstHalfIdeal.τ).loc Cert.FirstHalfIdeal.main_arg3) : FVec Ideal Cert.FirstHalfIdeal.S4x4096x4x64 .f32) i = (r : EReal))
    ∧ (∀ i, ∃ r : ℝ, (m ((c.tc : Thread Cert.FirstHalfIdeal.nD Cert.FirstHalfIdeal.τ).loc Cert.FirstHalfIdeal.main_arg5) : FVec Ideal Cert.FirstHalfIdeal.S32 .f32) i = (r : EReal)) :=
  ⟨Cert.Attn.real_of_lt _ _ (fun _ => Cert.Attn.inf_bits) (h c).1, Cert.Attn.real_of_lt _ _ (fun _ => Cert.Attn.inf_bits) (h c).2.1, Cert.Attn.real_of_lt _ _ (fun _ => Cert.Attn.inf_bits) (h c).2.2⟩

theorem algebraic9 : Cert.algebraic_FirstHalfIdeal_RefFirstHalfIdeal_pre_finite (hPre_finite := Cert.Attn.finiteFacts) := by
  intro m ρ m' ρ' hpre hagree
  refine ⟨fun c => (Cert.FirstHalfIdeal.Gen.dats m 0 c).arrAt 7 Cert.FirstHalfIdeal.cfg0.N,
    (θ_run Cert.FirstHalfIdeal.defs _ _).mono (fun _ h c => (h c).2) (Cert.FirstHalfIdeal.Value.run_blocks (F := Ideal) m ρ), ?_⟩
  refine (θ_run Cert.RefFirstHalfIdeal.defs _ _).mono (fun _ h c => ⟨(h c).1.trans ?_, (h c).2⟩) (Cert.RefFirstHalfIdeal.Value.run (F := Ideal) m' ρ')
  obtain ⟨-, -, h2, h3, h4, h5, h6⟩ := hagree c
  obtain ⟨hq, hk, hs⟩ := reals9 m hpre c
  refine (Cert.Fh.Ref.res_eq m' c).trans ?_
  rw [h2, h3, h4, h5, h6]
  exact (Cert.Fh.arr7 m c hq hk hs).symm

theorem claim : Cert.Claim :=
  ⟨Cert.Kernel.Gen.facts, Cert.KernelIdeal.Gen.facts, Cert.ReferenceIdeal.Gen.facts, Cert.FfnUp.Gen.facts, Cert.FfnUpIdeal.Gen.facts, Cert.RefFfnUpIdeal.Gen.facts,
    Cert.DownLn.Gen.facts, Cert.DownLnIdeal.Gen.facts, Cert.RefDownLnIdeal.Gen.facts,
    Cert.Merge.Gen.facts, Cert.MergeIdeal.Gen.facts, Cert.RefMergeIdeal.Gen.facts,
    Cert.OutLn.Gen.facts, Cert.OutLnIdeal.Gen.facts, Cert.RefOutLnIdeal.Gen.facts,
    Cert.ProjQk.Gen.facts, Cert.ProjQkIdeal.Gen.facts, Cert.RefProjQkIdeal.Gen.facts,
    Cert.ProjA.Gen.facts, Cert.ProjAIdeal.Gen.facts, Cert.RefProjAIdeal.Gen.facts,
    Cert.VtAttn.Gen.facts, Cert.VtAttnIdeal.Gen.facts, Cert.RefVtAttnIdeal.Gen.facts,
    Cert.FirstHalf.Gen.facts, Cert.FirstHalfIdeal.Gen.facts, Cert.RefFirstHalfIdeal.Gen.facts,
    Cert.Attn.finiteFacts,
    frame_p, frame_pi, fun m ρ _ => frame_pi m ρ trivial, frame_ri, fun m ρ _ => frame_ri m ρ trivial, frame_p2, frame_pi2, frame_ri2, frame_p3, frame_pi3, frame_ri3,
    frame_p4, frame_pi4, frame_ri4, frame_p5, frame_pi5, frame_ri5, frame_p6, frame_pi6, frame_ri6,
    frame_p7, frame_pi7, frame_ri7, frame_p8, frame_pi8, frame_ri8,
    frame_p9, frame_pi9, fun m ρ _ => frame_pi9 m ρ trivial, frame_ri9, fun m ρ _ => frame_ri9 m ρ trivial,
    preserves, algebraic, trivial, algebraic2, trivial, algebraic3, trivial, algebraic4, trivial, algebraic5, trivial, algebraic6, trivial, algebraic7, trivial, algebraic8,
    preserves9, algebraic9⟩

end Cert.Proof

end
